-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Block (m : (ℓ : Loc Cert.Block.nD Cert.Block.τ Cert.Block.sig) → Buf (Elt Bits) ℓ) : Prop :=
  True

def Pre_BlockIdeal (m : (ℓ : Loc Cert.BlockIdeal.nD Cert.BlockIdeal.τ Cert.BlockIdeal.sig) → Buf (Elt Ideal) ℓ) : Prop :=
  True

def Pre_BlockReferenceIdeal (m : (ℓ : Loc Cert.BlockReferenceIdeal.nD Cert.BlockReferenceIdeal.τ Cert.BlockReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Mods (m : (ℓ : Loc Cert.Mods.nD Cert.Mods.τ Cert.Mods.sig) → Buf (Elt Bits) ℓ) : Prop :=
  True

def Pre_ModsIdeal (m : (ℓ : Loc Cert.ModsIdeal.nD Cert.ModsIdeal.τ Cert.ModsIdeal.sig) → Buf (Elt Ideal) ℓ) : Prop :=
  True

def Pre_ModsReferenceIdeal (m : (ℓ : Loc Cert.ModsReferenceIdeal.nD Cert.ModsReferenceIdeal.τ Cert.ModsReferenceIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_ctx_scores [hPre_finite_ctx_scores : Cert.Pre_finite_ctx_scores.Facts] (m : (ℓ : Loc Cert.CtxIdeal.nD Cert.CtxIdeal.τ Cert.CtxIdeal.sig) → Buf (Elt Ideal) ℓ) : Prop :=
  ∀ c : Dev Cert.CtxIdeal.nD,
    (Cert.Pre_finite_ctx_scores.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3))).1 = (fun _ => 1#1)
    ∧ (Cert.Pre_finite_ctx_scores.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3))).2.1 = (fun _ => 1#1)
    ∧ (Cert.Pre_finite_ctx_scores.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3))).2.2 = (fun _ => 1#1)

def Pre_CtxReferenceIdeal (m : (ℓ : Loc Cert.CtxReferenceIdeal.nD Cert.CtxReferenceIdeal.τ Cert.CtxReferenceIdeal.sig) → Buf (Elt Ideal) ℓ) : Prop :=
  True

def Pre_CtxReferenceIdeal_finite_ctx_scores [hPre_finite_ctx_scores : Cert.Pre_finite_ctx_scores.Facts] (m : (ℓ : Loc Cert.CtxReferenceIdeal.nD Cert.CtxReferenceIdeal.τ Cert.CtxReferenceIdeal.sig) → Buf (Elt Ideal) ℓ) : Prop :=
  ∀ c : Dev Cert.CtxReferenceIdeal.nD,
    (Cert.Pre_finite_ctx_scores.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2)) (m ((c.tc : Thread Cert.CtxReferenceIdeal.nD Cert.CtxReferenceIdeal.τ).loc Cert.CtxReferenceIdeal.main_arg3))).1 = (fun _ => 1#1)
    ∧ (Cert.Pre_finite_ctx_scores.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2)) (m ((c.tc : Thread Cert.CtxReferenceIdeal.nD Cert.CtxReferenceIdeal.τ).loc Cert.CtxReferenceIdeal.main_arg3))).2.1 = (fun _ => 1#1)
    ∧ (Cert.Pre_finite_ctx_scores.fn (F := Ideal) (m ((c.tc : Thread Cert.CtxReferenceIdeal.nD Cert.CtxReferenceIdeal.τ).loc Cert.CtxReferenceIdeal.main_arg0)) (m ((c.tc : Thread Cert.CtxReferenceIdeal.nD Cert.CtxReferenceIdeal.τ).loc Cert.CtxReferenceIdeal.main_arg1)) (m ((c.tc : Thread Cert.CtxReferenceIdeal.nD Cert.CtxReferenceIdeal.τ).loc Cert.CtxReferenceIdeal.main_arg2)) (m ((c.tc : Thread Cert.CtxReferenceIdeal.nD Cert.CtxReferenceIdeal.τ).loc Cert.CtxReferenceIdeal.main_arg3))).2.2 = (fun _ => 1#1)

def Pre_BlockCtx (m : (ℓ : Loc Cert.BlockCtx.nD Cert.BlockCtx.τ Cert.BlockCtx.sig) → Buf (Elt Bits) ℓ) : Prop :=
  True

def Pre_BlockCtxIdeal (m : (ℓ : Loc Cert.BlockCtxIdeal.nD Cert.BlockCtxIdeal.τ Cert.BlockCtxIdeal.sig) → Buf (Elt Ideal) ℓ) : Prop :=
  True

def Pre_BlockCtxReferenceIdeal (m : (ℓ : Loc Cert.BlockCtxReferenceIdeal.nD Cert.BlockCtxReferenceIdeal.τ Cert.BlockCtxReferenceIdeal.sig) → Buf (Elt Ideal) ℓ) : Prop :=
  True

def Pre_InProjCtx (m : (ℓ : Loc Cert.InProjCtx.nD Cert.InProjCtx.τ Cert.InProjCtx.sig) → Buf (Elt Bits) ℓ) : Prop :=
  True

def Pre_InProjCtxIdeal (m : (ℓ : Loc Cert.InProjCtxIdeal.nD Cert.InProjCtxIdeal.τ Cert.InProjCtxIdeal.sig) → Buf (Elt Ideal) ℓ) : Prop :=
  True

def Pre_InProjCtxReferenceIdeal (m : (ℓ : Loc Cert.InProjCtxReferenceIdeal.nD Cert.InProjCtxReferenceIdeal.τ Cert.InProjCtxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Block [hBlock : Cert.Block.Facts] : Prop :=
  ∀ (m : (ℓ : Loc Cert.Block.nD Cert.Block.τ Cert.Block.sig) → Buf (Elt Bits) ℓ) (g : Dev Cert.Block.nD → PrngReg), Pre_Block m →
    θ_run (Cert.Block.defs (F := Bits)) (onTc (τ := Cert.Block.τ) (Cert.Block.main (F := Bits))) ⟨m, fun _ => 0, g⟩ (fun r => (∀ c : Dev Cert.Block.nD,
      r.2.mem ((c.tc : Thread Cert.Block.nD Cert.Block.τ).loc Cert.Block.main_arg0) = m ((c.tc : Thread Cert.Block.nD Cert.Block.τ).loc Cert.Block.main_arg0)
      ∧ r.2.mem ((c.tc : Thread Cert.Block.nD Cert.Block.τ).loc Cert.Block.main_arg1) = m ((c.tc : Thread Cert.Block.nD Cert.Block.τ).loc Cert.Block.main_arg1)
      ∧ r.2.mem ((c.tc : Thread Cert.Block.nD Cert.Block.τ).loc Cert.Block.main_arg2) = m ((c.tc : Thread Cert.Block.nD Cert.Block.τ).loc Cert.Block.main_arg2)
      ∧ r.2.mem ((c.tc : Thread Cert.Block.nD Cert.Block.τ).loc Cert.Block.main_arg3) = m ((c.tc : Thread Cert.Block.nD Cert.Block.τ).loc Cert.Block.main_arg3)
      ∧ r.2.mem ((c.tc : Thread Cert.Block.nD Cert.Block.τ).loc Cert.Block.main_arg4) = m ((c.tc : Thread Cert.Block.nD Cert.Block.τ).loc Cert.Block.main_arg4)
      ∧ r.2.mem ((c.tc : Thread Cert.Block.nD Cert.Block.τ).loc Cert.Block.main_arg5) = m ((c.tc : Thread Cert.Block.nD Cert.Block.τ).loc Cert.Block.main_arg5)
      ∧ r.2.mem ((c.tc : Thread Cert.Block.nD Cert.Block.τ).loc Cert.Block.main_arg6) = m ((c.tc : Thread Cert.Block.nD Cert.Block.τ).loc Cert.Block.main_arg6)
      ∧ r.2.mem ((c.tc : Thread Cert.Block.nD Cert.Block.τ).loc Cert.Block.main_arg7) = m ((c.tc : Thread Cert.Block.nD Cert.Block.τ).loc Cert.Block.main_arg7)
      ∧ r.2.mem ((c.tc : Thread Cert.Block.nD Cert.Block.τ).loc Cert.Block.main_arg8) = m ((c.tc : Thread Cert.Block.nD Cert.Block.τ).loc Cert.Block.main_arg8)
      ∧ r.2.mem ((c.tc : Thread Cert.Block.nD Cert.Block.τ).loc Cert.Block.main_arg9) = m ((c.tc : Thread Cert.Block.nD Cert.Block.τ).loc Cert.Block.main_arg9)
      ∧ r.2.mem ((c.tc : Thread Cert.Block.nD Cert.Block.τ).loc Cert.Block.main_arg10) = m ((c.tc : Thread Cert.Block.nD Cert.Block.τ).loc Cert.Block.main_arg10)
      ∧ r.2.mem ((c.tc : Thread Cert.Block.nD Cert.Block.τ).loc Cert.Block.main_arg11) = m ((c.tc : Thread Cert.Block.nD Cert.Block.τ).loc Cert.Block.main_arg11)
      ∧ r.2.mem ((c.tc : Thread Cert.Block.nD Cert.Block.τ).loc Cert.Block.main_arg12) = m ((c.tc : Thread Cert.Block.nD Cert.Block.τ).loc Cert.Block.main_arg12)
      ∧ r.2.mem ((c.tc : Thread Cert.Block.nD Cert.Block.τ).loc Cert.Block.main_arg13) = m ((c.tc : Thread Cert.Block.nD Cert.Block.τ).loc Cert.Block.main_arg13)
      ∧ r.2.mem ((c.tc : Thread Cert.Block.nD Cert.Block.τ).loc Cert.Block.main_arg14) = m ((c.tc : Thread Cert.Block.nD Cert.Block.τ).loc Cert.Block.main_arg14))
      ∧ r.2.sem = fun _ => 0)

def quiescent_BlockIdeal [hBlockIdeal : Cert.BlockIdeal.Facts] : Prop :=
  ∀ (m : (ℓ : Loc Cert.BlockIdeal.nD Cert.BlockIdeal.τ Cert.BlockIdeal.sig) → Buf (Elt Ideal) ℓ) (g : Dev Cert.BlockIdeal.nD → PrngReg), Pre_BlockIdeal m →
    θ_run (Cert.BlockIdeal.defs (F := Ideal)) (onTc (τ := Cert.BlockIdeal.τ) (Cert.BlockIdeal.main (F := Ideal))) ⟨m, fun _ => 0, g⟩ (fun r => (∀ c : Dev Cert.BlockIdeal.nD,
      r.2.mem ((c.tc : Thread Cert.BlockIdeal.nD Cert.BlockIdeal.τ).loc Cert.BlockIdeal.main_arg0) = m ((c.tc : Thread Cert.BlockIdeal.nD Cert.BlockIdeal.τ).loc Cert.BlockIdeal.main_arg0)
      ∧ r.2.mem ((c.tc : Thread Cert.BlockIdeal.nD Cert.BlockIdeal.τ).loc Cert.BlockIdeal.main_arg1) = m ((c.tc : Thread Cert.BlockIdeal.nD Cert.BlockIdeal.τ).loc Cert.BlockIdeal.main_arg1)
      ∧ r.2.mem ((c.tc : Thread Cert.BlockIdeal.nD Cert.BlockIdeal.τ).loc Cert.BlockIdeal.main_arg2) = m ((c.tc : Thread Cert.BlockIdeal.nD Cert.BlockIdeal.τ).loc Cert.BlockIdeal.main_arg2)
      ∧ r.2.mem ((c.tc : Thread Cert.BlockIdeal.nD Cert.BlockIdeal.τ).loc Cert.BlockIdeal.main_arg3) = m ((c.tc : Thread Cert.BlockIdeal.nD Cert.BlockIdeal.τ).loc Cert.BlockIdeal.main_arg3)
      ∧ r.2.mem ((c.tc : Thread Cert.BlockIdeal.nD Cert.BlockIdeal.τ).loc Cert.BlockIdeal.main_arg4) = m ((c.tc : Thread Cert.BlockIdeal.nD Cert.BlockIdeal.τ).loc Cert.BlockIdeal.main_arg4)
      ∧ r.2.mem ((c.tc : Thread Cert.BlockIdeal.nD Cert.BlockIdeal.τ).loc Cert.BlockIdeal.main_arg5) = m ((c.tc : Thread Cert.BlockIdeal.nD Cert.BlockIdeal.τ).loc Cert.BlockIdeal.main_arg5)
      ∧ r.2.mem ((c.tc : Thread Cert.BlockIdeal.nD Cert.BlockIdeal.τ).loc Cert.BlockIdeal.main_arg6) = m ((c.tc : Thread Cert.BlockIdeal.nD Cert.BlockIdeal.τ).loc Cert.BlockIdeal.main_arg6)
      ∧ r.2.mem ((c.tc : Thread Cert.BlockIdeal.nD Cert.BlockIdeal.τ).loc Cert.BlockIdeal.main_arg7) = m ((c.tc : Thread Cert.BlockIdeal.nD Cert.BlockIdeal.τ).loc Cert.BlockIdeal.main_arg7)
      ∧ r.2.mem ((c.tc : Thread Cert.BlockIdeal.nD Cert.BlockIdeal.τ).loc Cert.BlockIdeal.main_arg8) = m ((c.tc : Thread Cert.BlockIdeal.nD Cert.BlockIdeal.τ).loc Cert.BlockIdeal.main_arg8)
      ∧ r.2.mem ((c.tc : Thread Cert.BlockIdeal.nD Cert.BlockIdeal.τ).loc Cert.BlockIdeal.main_arg9) = m ((c.tc : Thread Cert.BlockIdeal.nD Cert.BlockIdeal.τ).loc Cert.BlockIdeal.main_arg9)
      ∧ r.2.mem ((c.tc : Thread Cert.BlockIdeal.nD Cert.BlockIdeal.τ).loc Cert.BlockIdeal.main_arg10) = m ((c.tc : Thread Cert.BlockIdeal.nD Cert.BlockIdeal.τ).loc Cert.BlockIdeal.main_arg10)
      ∧ r.2.mem ((c.tc : Thread Cert.BlockIdeal.nD Cert.BlockIdeal.τ).loc Cert.BlockIdeal.main_arg11) = m ((c.tc : Thread Cert.BlockIdeal.nD Cert.BlockIdeal.τ).loc Cert.BlockIdeal.main_arg11)
      ∧ r.2.mem ((c.tc : Thread Cert.BlockIdeal.nD Cert.BlockIdeal.τ).loc Cert.BlockIdeal.main_arg12) = m ((c.tc : Thread Cert.BlockIdeal.nD Cert.BlockIdeal.τ).loc Cert.BlockIdeal.main_arg12)
      ∧ r.2.mem ((c.tc : Thread Cert.BlockIdeal.nD Cert.BlockIdeal.τ).loc Cert.BlockIdeal.main_arg13) = m ((c.tc : Thread Cert.BlockIdeal.nD Cert.BlockIdeal.τ).loc Cert.BlockIdeal.main_arg13)
      ∧ r.2.mem ((c.tc : Thread Cert.BlockIdeal.nD Cert.BlockIdeal.τ).loc Cert.BlockIdeal.main_arg14) = m ((c.tc : Thread Cert.BlockIdeal.nD Cert.BlockIdeal.τ).loc Cert.BlockIdeal.main_arg14))
      ∧ r.2.sem = fun _ => 0)

def quiescent_BlockReferenceIdeal [hBlockReferenceIdeal : Cert.BlockReferenceIdeal.Facts] : Prop :=
  ∀ (m : (ℓ : Loc Cert.BlockReferenceIdeal.nD Cert.BlockReferenceIdeal.τ Cert.BlockReferenceIdeal.sig) → Buf (Elt Ideal) ℓ) (g : Dev Cert.BlockReferenceIdeal.nD → PrngReg), Pre_BlockReferenceIdeal m →
    θ_run (Cert.BlockReferenceIdeal.defs (F := Ideal)) (onTc (τ := Cert.BlockReferenceIdeal.τ) (Cert.BlockReferenceIdeal.main (F := Ideal))) ⟨m, fun _ => 0, g⟩ (fun r => (∀ c : Dev Cert.BlockReferenceIdeal.nD,
      r.2.mem ((c.tc : Thread Cert.BlockReferenceIdeal.nD Cert.BlockReferenceIdeal.τ).loc Cert.BlockReferenceIdeal.main_arg0) = m ((c.tc : Thread Cert.BlockReferenceIdeal.nD Cert.BlockReferenceIdeal.τ).loc Cert.BlockReferenceIdeal.main_arg0)
      ∧ r.2.mem ((c.tc : Thread Cert.BlockReferenceIdeal.nD Cert.BlockReferenceIdeal.τ).loc Cert.BlockReferenceIdeal.main_arg1) = m ((c.tc : Thread Cert.BlockReferenceIdeal.nD Cert.BlockReferenceIdeal.τ).loc Cert.BlockReferenceIdeal.main_arg1)
      ∧ r.2.mem ((c.tc : Thread Cert.BlockReferenceIdeal.nD Cert.BlockReferenceIdeal.τ).loc Cert.BlockReferenceIdeal.main_arg2) = m ((c.tc : Thread Cert.BlockReferenceIdeal.nD Cert.BlockReferenceIdeal.τ).loc Cert.BlockReferenceIdeal.main_arg2)
      ∧ r.2.mem ((c.tc : Thread Cert.BlockReferenceIdeal.nD Cert.BlockReferenceIdeal.τ).loc Cert.BlockReferenceIdeal.main_arg3) = m ((c.tc : Thread Cert.BlockReferenceIdeal.nD Cert.BlockReferenceIdeal.τ).loc Cert.BlockReferenceIdeal.main_arg3)
      ∧ r.2.mem ((c.tc : Thread Cert.BlockReferenceIdeal.nD Cert.BlockReferenceIdeal.τ).loc Cert.BlockReferenceIdeal.main_arg4) = m ((c.tc : Thread Cert.BlockReferenceIdeal.nD Cert.BlockReferenceIdeal.τ).loc Cert.BlockReferenceIdeal.main_arg4)
      ∧ r.2.mem ((c.tc : Thread Cert.BlockReferenceIdeal.nD Cert.BlockReferenceIdeal.τ).loc Cert.BlockReferenceIdeal.main_arg5) = m ((c.tc : Thread Cert.BlockReferenceIdeal.nD Cert.BlockReferenceIdeal.τ).loc Cert.BlockReferenceIdeal.main_arg5)
      ∧ r.2.mem ((c.tc : Thread Cert.BlockReferenceIdeal.nD Cert.BlockReferenceIdeal.τ).loc Cert.BlockReferenceIdeal.main_arg6) = m ((c.tc : Thread Cert.BlockReferenceIdeal.nD Cert.BlockReferenceIdeal.τ).loc Cert.BlockReferenceIdeal.main_arg6)
      ∧ r.2.mem ((c.tc : Thread Cert.BlockReferenceIdeal.nD Cert.BlockReferenceIdeal.τ).loc Cert.BlockReferenceIdeal.main_arg7) = m ((c.tc : Thread Cert.BlockReferenceIdeal.nD Cert.BlockReferenceIdeal.τ).loc Cert.BlockReferenceIdeal.main_arg7)
      ∧ r.2.mem ((c.tc : Thread Cert.BlockReferenceIdeal.nD Cert.BlockReferenceIdeal.τ).loc Cert.BlockReferenceIdeal.main_arg8) = m ((c.tc : Thread Cert.BlockReferenceIdeal.nD Cert.BlockReferenceIdeal.τ).loc Cert.BlockReferenceIdeal.main_arg8)
      ∧ r.2.mem ((c.tc : Thread Cert.BlockReferenceIdeal.nD Cert.BlockReferenceIdeal.τ).loc Cert.BlockReferenceIdeal.main_arg9) = m ((c.tc : Thread Cert.BlockReferenceIdeal.nD Cert.BlockReferenceIdeal.τ).loc Cert.BlockReferenceIdeal.main_arg9)
      ∧ r.2.mem ((c.tc : Thread Cert.BlockReferenceIdeal.nD Cert.BlockReferenceIdeal.τ).loc Cert.BlockReferenceIdeal.main_arg10) = m ((c.tc : Thread Cert.BlockReferenceIdeal.nD Cert.BlockReferenceIdeal.τ).loc Cert.BlockReferenceIdeal.main_arg10)
      ∧ r.2.mem ((c.tc : Thread Cert.BlockReferenceIdeal.nD Cert.BlockReferenceIdeal.τ).loc Cert.BlockReferenceIdeal.main_arg11) = m ((c.tc : Thread Cert.BlockReferenceIdeal.nD Cert.BlockReferenceIdeal.τ).loc Cert.BlockReferenceIdeal.main_arg11)
      ∧ r.2.mem ((c.tc : Thread Cert.BlockReferenceIdeal.nD Cert.BlockReferenceIdeal.τ).loc Cert.BlockReferenceIdeal.main_arg12) = m ((c.tc : Thread Cert.BlockReferenceIdeal.nD Cert.BlockReferenceIdeal.τ).loc Cert.BlockReferenceIdeal.main_arg12)
      ∧ r.2.mem ((c.tc : Thread Cert.BlockReferenceIdeal.nD Cert.BlockReferenceIdeal.τ).loc Cert.BlockReferenceIdeal.main_arg13) = m ((c.tc : Thread Cert.BlockReferenceIdeal.nD Cert.BlockReferenceIdeal.τ).loc Cert.BlockReferenceIdeal.main_arg13)
      ∧ r.2.mem ((c.tc : Thread Cert.BlockReferenceIdeal.nD Cert.BlockReferenceIdeal.τ).loc Cert.BlockReferenceIdeal.main_arg14) = m ((c.tc : Thread Cert.BlockReferenceIdeal.nD Cert.BlockReferenceIdeal.τ).loc Cert.BlockReferenceIdeal.main_arg14))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_Mods [hMods : Cert.Mods.Facts] : Prop :=
  ∀ (m : (ℓ : Loc Cert.Mods.nD Cert.Mods.τ Cert.Mods.sig) → Buf (Elt Bits) ℓ) (g : Dev Cert.Mods.nD → PrngReg), Pre_Mods m →
    θ_run (Cert.Mods.defs (F := Bits)) (onTc (τ := Cert.Mods.τ) (Cert.Mods.main (F := Bits))) ⟨m, fun _ => 0, g⟩ (fun r => (∀ c : Dev Cert.Mods.nD,
      r.2.mem ((c.tc : Thread Cert.Mods.nD Cert.Mods.τ).loc Cert.Mods.main_arg0) = m ((c.tc : Thread Cert.Mods.nD Cert.Mods.τ).loc Cert.Mods.main_arg0)
      ∧ r.2.mem ((c.tc : Thread Cert.Mods.nD Cert.Mods.τ).loc Cert.Mods.main_arg1) = m ((c.tc : Thread Cert.Mods.nD Cert.Mods.τ).loc Cert.Mods.main_arg1)
      ∧ r.2.mem ((c.tc : Thread Cert.Mods.nD Cert.Mods.τ).loc Cert.Mods.main_arg2) = m ((c.tc : Thread Cert.Mods.nD Cert.Mods.τ).loc Cert.Mods.main_arg2))
      ∧ r.2.sem = fun _ => 0)

def quiescent_ModsIdeal [hModsIdeal : Cert.ModsIdeal.Facts] : Prop :=
  ∀ (m : (ℓ : Loc Cert.ModsIdeal.nD Cert.ModsIdeal.τ Cert.ModsIdeal.sig) → Buf (Elt Ideal) ℓ) (g : Dev Cert.ModsIdeal.nD → PrngReg), Pre_ModsIdeal m →
    θ_run (Cert.ModsIdeal.defs (F := Ideal)) (onTc (τ := Cert.ModsIdeal.τ) (Cert.ModsIdeal.main (F := Ideal))) ⟨m, fun _ => 0, g⟩ (fun r => (∀ c : Dev Cert.ModsIdeal.nD,
      r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
      ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
      ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ r.2.sem = fun _ => 0)

def quiescent_ModsReferenceIdeal [hModsReferenceIdeal : Cert.ModsReferenceIdeal.Facts] : Prop :=
  ∀ (m : (ℓ : Loc Cert.ModsReferenceIdeal.nD Cert.ModsReferenceIdeal.τ Cert.ModsReferenceIdeal.sig) → Buf (Elt Ideal) ℓ) (g : Dev Cert.ModsReferenceIdeal.nD → PrngReg), Pre_ModsReferenceIdeal m →
    θ_run (Cert.ModsReferenceIdeal.defs (F := Ideal)) (onTc (τ := Cert.ModsReferenceIdeal.τ) (Cert.ModsReferenceIdeal.main (F := Ideal))) ⟨m, fun _ => 0, g⟩ (fun r => (∀ c : Dev Cert.ModsReferenceIdeal.nD,
      r.2.mem ((c.tc : Thread Cert.ModsReferenceIdeal.nD Cert.ModsReferenceIdeal.τ).loc Cert.ModsReferenceIdeal.main_arg0) = m ((c.tc : Thread Cert.ModsReferenceIdeal.nD Cert.ModsReferenceIdeal.τ).loc Cert.ModsReferenceIdeal.main_arg0)
      ∧ r.2.mem ((c.tc : Thread Cert.ModsReferenceIdeal.nD Cert.ModsReferenceIdeal.τ).loc Cert.ModsReferenceIdeal.main_arg1) = m ((c.tc : Thread Cert.ModsReferenceIdeal.nD Cert.ModsReferenceIdeal.τ).loc Cert.ModsReferenceIdeal.main_arg1)
      ∧ r.2.mem ((c.tc : Thread Cert.ModsReferenceIdeal.nD Cert.ModsReferenceIdeal.τ).loc Cert.ModsReferenceIdeal.main_arg2) = m ((c.tc : Thread Cert.ModsReferenceIdeal.nD Cert.ModsReferenceIdeal.τ).loc Cert.ModsReferenceIdeal.main_arg2))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ r.2.sem = fun _ => 0)

def quiescent_CtxIdeal_pre_finite_ctx_scores [hCtxIdeal : Cert.CtxIdeal.Facts] [hPre_finite_ctx_scores : Cert.Pre_finite_ctx_scores.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_ctx_scores m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3))
      ∧ r.2.sem = fun _ => 0)

def quiescent_CtxReferenceIdeal_pre_finite_ctx_scores [hCtxReferenceIdeal : Cert.CtxReferenceIdeal.Facts] [hPre_finite_ctx_scores : Cert.Pre_finite_ctx_scores.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal_finite_ctx_scores m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3))
      ∧ r.2.sem = fun _ => 0)

def quiescent_BlockCtx [hBlockCtx : Cert.BlockCtx.Facts] : Prop :=
  ∀ (m : (ℓ : Loc Cert.BlockCtx.nD Cert.BlockCtx.τ Cert.BlockCtx.sig) → Buf (Elt Bits) ℓ) (g : Dev Cert.BlockCtx.nD → PrngReg), Pre_BlockCtx m →
    θ_run (Cert.BlockCtx.defs (F := Bits)) (onTc (τ := Cert.BlockCtx.τ) (Cert.BlockCtx.main (F := Bits))) ⟨m, fun _ => 0, g⟩ (fun r => (∀ c : Dev Cert.BlockCtx.nD,
      r.2.mem ((c.tc : Thread Cert.BlockCtx.nD Cert.BlockCtx.τ).loc Cert.BlockCtx.main_arg0) = m ((c.tc : Thread Cert.BlockCtx.nD Cert.BlockCtx.τ).loc Cert.BlockCtx.main_arg0)
      ∧ r.2.mem ((c.tc : Thread Cert.BlockCtx.nD Cert.BlockCtx.τ).loc Cert.BlockCtx.main_arg1) = m ((c.tc : Thread Cert.BlockCtx.nD Cert.BlockCtx.τ).loc Cert.BlockCtx.main_arg1)
      ∧ r.2.mem ((c.tc : Thread Cert.BlockCtx.nD Cert.BlockCtx.τ).loc Cert.BlockCtx.main_arg2) = m ((c.tc : Thread Cert.BlockCtx.nD Cert.BlockCtx.τ).loc Cert.BlockCtx.main_arg2)
      ∧ r.2.mem ((c.tc : Thread Cert.BlockCtx.nD Cert.BlockCtx.τ).loc Cert.BlockCtx.main_arg3) = m ((c.tc : Thread Cert.BlockCtx.nD Cert.BlockCtx.τ).loc Cert.BlockCtx.main_arg3)
      ∧ r.2.mem ((c.tc : Thread Cert.BlockCtx.nD Cert.BlockCtx.τ).loc Cert.BlockCtx.main_arg4) = m ((c.tc : Thread Cert.BlockCtx.nD Cert.BlockCtx.τ).loc Cert.BlockCtx.main_arg4)
      ∧ r.2.mem ((c.tc : Thread Cert.BlockCtx.nD Cert.BlockCtx.τ).loc Cert.BlockCtx.main_arg5) = m ((c.tc : Thread Cert.BlockCtx.nD Cert.BlockCtx.τ).loc Cert.BlockCtx.main_arg5)
      ∧ r.2.mem ((c.tc : Thread Cert.BlockCtx.nD Cert.BlockCtx.τ).loc Cert.BlockCtx.main_arg6) = m ((c.tc : Thread Cert.BlockCtx.nD Cert.BlockCtx.τ).loc Cert.BlockCtx.main_arg6)
      ∧ r.2.mem ((c.tc : Thread Cert.BlockCtx.nD Cert.BlockCtx.τ).loc Cert.BlockCtx.main_arg7) = m ((c.tc : Thread Cert.BlockCtx.nD Cert.BlockCtx.τ).loc Cert.BlockCtx.main_arg7)
      ∧ r.2.mem ((c.tc : Thread Cert.BlockCtx.nD Cert.BlockCtx.τ).loc Cert.BlockCtx.main_arg8) = m ((c.tc : Thread Cert.BlockCtx.nD Cert.BlockCtx.τ).loc Cert.BlockCtx.main_arg8)
      ∧ r.2.mem ((c.tc : Thread Cert.BlockCtx.nD Cert.BlockCtx.τ).loc Cert.BlockCtx.main_arg9) = m ((c.tc : Thread Cert.BlockCtx.nD Cert.BlockCtx.τ).loc Cert.BlockCtx.main_arg9)
      ∧ r.2.mem ((c.tc : Thread Cert.BlockCtx.nD Cert.BlockCtx.τ).loc Cert.BlockCtx.main_arg10) = m ((c.tc : Thread Cert.BlockCtx.nD Cert.BlockCtx.τ).loc Cert.BlockCtx.main_arg10)
      ∧ r.2.mem ((c.tc : Thread Cert.BlockCtx.nD Cert.BlockCtx.τ).loc Cert.BlockCtx.main_arg11) = m ((c.tc : Thread Cert.BlockCtx.nD Cert.BlockCtx.τ).loc Cert.BlockCtx.main_arg11)
      ∧ r.2.mem ((c.tc : Thread Cert.BlockCtx.nD Cert.BlockCtx.τ).loc Cert.BlockCtx.main_arg12) = m ((c.tc : Thread Cert.BlockCtx.nD Cert.BlockCtx.τ).loc Cert.BlockCtx.main_arg12)
      ∧ r.2.mem ((c.tc : Thread Cert.BlockCtx.nD Cert.BlockCtx.τ).loc Cert.BlockCtx.main_arg13) = m ((c.tc : Thread Cert.BlockCtx.nD Cert.BlockCtx.τ).loc Cert.BlockCtx.main_arg13)
      ∧ r.2.mem ((c.tc : Thread Cert.BlockCtx.nD Cert.BlockCtx.τ).loc Cert.BlockCtx.main_arg14) = m ((c.tc : Thread Cert.BlockCtx.nD Cert.BlockCtx.τ).loc Cert.BlockCtx.main_arg14))
      ∧ r.2.sem = fun _ => 0)

def quiescent_BlockCtxIdeal [hBlockCtxIdeal : Cert.BlockCtxIdeal.Facts] : Prop :=
  ∀ (m : (ℓ : Loc Cert.BlockCtxIdeal.nD Cert.BlockCtxIdeal.τ Cert.BlockCtxIdeal.sig) → Buf (Elt Ideal) ℓ) (g : Dev Cert.BlockCtxIdeal.nD → PrngReg), Pre_BlockCtxIdeal m →
    θ_run (Cert.BlockCtxIdeal.defs (F := Ideal)) (onTc (τ := Cert.BlockCtxIdeal.τ) (Cert.BlockCtxIdeal.main (F := Ideal))) ⟨m, fun _ => 0, g⟩ (fun r => (∀ c : Dev Cert.BlockCtxIdeal.nD,
      r.2.mem ((c.tc : Thread Cert.BlockCtxIdeal.nD Cert.BlockCtxIdeal.τ).loc Cert.BlockCtxIdeal.main_arg0) = m ((c.tc : Thread Cert.BlockCtxIdeal.nD Cert.BlockCtxIdeal.τ).loc Cert.BlockCtxIdeal.main_arg0)
      ∧ r.2.mem ((c.tc : Thread Cert.BlockCtxIdeal.nD Cert.BlockCtxIdeal.τ).loc Cert.BlockCtxIdeal.main_arg1) = m ((c.tc : Thread Cert.BlockCtxIdeal.nD Cert.BlockCtxIdeal.τ).loc Cert.BlockCtxIdeal.main_arg1)
      ∧ r.2.mem ((c.tc : Thread Cert.BlockCtxIdeal.nD Cert.BlockCtxIdeal.τ).loc Cert.BlockCtxIdeal.main_arg2) = m ((c.tc : Thread Cert.BlockCtxIdeal.nD Cert.BlockCtxIdeal.τ).loc Cert.BlockCtxIdeal.main_arg2)
      ∧ r.2.mem ((c.tc : Thread Cert.BlockCtxIdeal.nD Cert.BlockCtxIdeal.τ).loc Cert.BlockCtxIdeal.main_arg3) = m ((c.tc : Thread Cert.BlockCtxIdeal.nD Cert.BlockCtxIdeal.τ).loc Cert.BlockCtxIdeal.main_arg3)
      ∧ r.2.mem ((c.tc : Thread Cert.BlockCtxIdeal.nD Cert.BlockCtxIdeal.τ).loc Cert.BlockCtxIdeal.main_arg4) = m ((c.tc : Thread Cert.BlockCtxIdeal.nD Cert.BlockCtxIdeal.τ).loc Cert.BlockCtxIdeal.main_arg4)
      ∧ r.2.mem ((c.tc : Thread Cert.BlockCtxIdeal.nD Cert.BlockCtxIdeal.τ).loc Cert.BlockCtxIdeal.main_arg5) = m ((c.tc : Thread Cert.BlockCtxIdeal.nD Cert.BlockCtxIdeal.τ).loc Cert.BlockCtxIdeal.main_arg5)
      ∧ r.2.mem ((c.tc : Thread Cert.BlockCtxIdeal.nD Cert.BlockCtxIdeal.τ).loc Cert.BlockCtxIdeal.main_arg6) = m ((c.tc : Thread Cert.BlockCtxIdeal.nD Cert.BlockCtxIdeal.τ).loc Cert.BlockCtxIdeal.main_arg6)
      ∧ r.2.mem ((c.tc : Thread Cert.BlockCtxIdeal.nD Cert.BlockCtxIdeal.τ).loc Cert.BlockCtxIdeal.main_arg7) = m ((c.tc : Thread Cert.BlockCtxIdeal.nD Cert.BlockCtxIdeal.τ).loc Cert.BlockCtxIdeal.main_arg7)
      ∧ r.2.mem ((c.tc : Thread Cert.BlockCtxIdeal.nD Cert.BlockCtxIdeal.τ).loc Cert.BlockCtxIdeal.main_arg8) = m ((c.tc : Thread Cert.BlockCtxIdeal.nD Cert.BlockCtxIdeal.τ).loc Cert.BlockCtxIdeal.main_arg8)
      ∧ r.2.mem ((c.tc : Thread Cert.BlockCtxIdeal.nD Cert.BlockCtxIdeal.τ).loc Cert.BlockCtxIdeal.main_arg9) = m ((c.tc : Thread Cert.BlockCtxIdeal.nD Cert.BlockCtxIdeal.τ).loc Cert.BlockCtxIdeal.main_arg9)
      ∧ r.2.mem ((c.tc : Thread Cert.BlockCtxIdeal.nD Cert.BlockCtxIdeal.τ).loc Cert.BlockCtxIdeal.main_arg10) = m ((c.tc : Thread Cert.BlockCtxIdeal.nD Cert.BlockCtxIdeal.τ).loc Cert.BlockCtxIdeal.main_arg10)
      ∧ r.2.mem ((c.tc : Thread Cert.BlockCtxIdeal.nD Cert.BlockCtxIdeal.τ).loc Cert.BlockCtxIdeal.main_arg11) = m ((c.tc : Thread Cert.BlockCtxIdeal.nD Cert.BlockCtxIdeal.τ).loc Cert.BlockCtxIdeal.main_arg11)
      ∧ r.2.mem ((c.tc : Thread Cert.BlockCtxIdeal.nD Cert.BlockCtxIdeal.τ).loc Cert.BlockCtxIdeal.main_arg12) = m ((c.tc : Thread Cert.BlockCtxIdeal.nD Cert.BlockCtxIdeal.τ).loc Cert.BlockCtxIdeal.main_arg12)
      ∧ r.2.mem ((c.tc : Thread Cert.BlockCtxIdeal.nD Cert.BlockCtxIdeal.τ).loc Cert.BlockCtxIdeal.main_arg13) = m ((c.tc : Thread Cert.BlockCtxIdeal.nD Cert.BlockCtxIdeal.τ).loc Cert.BlockCtxIdeal.main_arg13)
      ∧ r.2.mem ((c.tc : Thread Cert.BlockCtxIdeal.nD Cert.BlockCtxIdeal.τ).loc Cert.BlockCtxIdeal.main_arg14) = m ((c.tc : Thread Cert.BlockCtxIdeal.nD Cert.BlockCtxIdeal.τ).loc Cert.BlockCtxIdeal.main_arg14))
      ∧ r.2.sem = fun _ => 0)

def quiescent_BlockCtxReferenceIdeal [hBlockCtxReferenceIdeal : Cert.BlockCtxReferenceIdeal.Facts] : Prop :=
  ∀ (m : (ℓ : Loc Cert.BlockCtxReferenceIdeal.nD Cert.BlockCtxReferenceIdeal.τ Cert.BlockCtxReferenceIdeal.sig) → Buf (Elt Ideal) ℓ) (g : Dev Cert.BlockCtxReferenceIdeal.nD → PrngReg), Pre_BlockCtxReferenceIdeal m →
    θ_run (Cert.BlockCtxReferenceIdeal.defs (F := Ideal)) (onTc (τ := Cert.BlockCtxReferenceIdeal.τ) (Cert.BlockCtxReferenceIdeal.main (F := Ideal))) ⟨m, fun _ => 0, g⟩ (fun r => (∀ c : Dev Cert.BlockCtxReferenceIdeal.nD,
      r.2.mem ((c.tc : Thread Cert.BlockCtxReferenceIdeal.nD Cert.BlockCtxReferenceIdeal.τ).loc Cert.BlockCtxReferenceIdeal.main_arg0) = m ((c.tc : Thread Cert.BlockCtxReferenceIdeal.nD Cert.BlockCtxReferenceIdeal.τ).loc Cert.BlockCtxReferenceIdeal.main_arg0)
      ∧ r.2.mem ((c.tc : Thread Cert.BlockCtxReferenceIdeal.nD Cert.BlockCtxReferenceIdeal.τ).loc Cert.BlockCtxReferenceIdeal.main_arg1) = m ((c.tc : Thread Cert.BlockCtxReferenceIdeal.nD Cert.BlockCtxReferenceIdeal.τ).loc Cert.BlockCtxReferenceIdeal.main_arg1)
      ∧ r.2.mem ((c.tc : Thread Cert.BlockCtxReferenceIdeal.nD Cert.BlockCtxReferenceIdeal.τ).loc Cert.BlockCtxReferenceIdeal.main_arg2) = m ((c.tc : Thread Cert.BlockCtxReferenceIdeal.nD Cert.BlockCtxReferenceIdeal.τ).loc Cert.BlockCtxReferenceIdeal.main_arg2)
      ∧ r.2.mem ((c.tc : Thread Cert.BlockCtxReferenceIdeal.nD Cert.BlockCtxReferenceIdeal.τ).loc Cert.BlockCtxReferenceIdeal.main_arg3) = m ((c.tc : Thread Cert.BlockCtxReferenceIdeal.nD Cert.BlockCtxReferenceIdeal.τ).loc Cert.BlockCtxReferenceIdeal.main_arg3)
      ∧ r.2.mem ((c.tc : Thread Cert.BlockCtxReferenceIdeal.nD Cert.BlockCtxReferenceIdeal.τ).loc Cert.BlockCtxReferenceIdeal.main_arg4) = m ((c.tc : Thread Cert.BlockCtxReferenceIdeal.nD Cert.BlockCtxReferenceIdeal.τ).loc Cert.BlockCtxReferenceIdeal.main_arg4)
      ∧ r.2.mem ((c.tc : Thread Cert.BlockCtxReferenceIdeal.nD Cert.BlockCtxReferenceIdeal.τ).loc Cert.BlockCtxReferenceIdeal.main_arg5) = m ((c.tc : Thread Cert.BlockCtxReferenceIdeal.nD Cert.BlockCtxReferenceIdeal.τ).loc Cert.BlockCtxReferenceIdeal.main_arg5)
      ∧ r.2.mem ((c.tc : Thread Cert.BlockCtxReferenceIdeal.nD Cert.BlockCtxReferenceIdeal.τ).loc Cert.BlockCtxReferenceIdeal.main_arg6) = m ((c.tc : Thread Cert.BlockCtxReferenceIdeal.nD Cert.BlockCtxReferenceIdeal.τ).loc Cert.BlockCtxReferenceIdeal.main_arg6)
      ∧ r.2.mem ((c.tc : Thread Cert.BlockCtxReferenceIdeal.nD Cert.BlockCtxReferenceIdeal.τ).loc Cert.BlockCtxReferenceIdeal.main_arg7) = m ((c.tc : Thread Cert.BlockCtxReferenceIdeal.nD Cert.BlockCtxReferenceIdeal.τ).loc Cert.BlockCtxReferenceIdeal.main_arg7)
      ∧ r.2.mem ((c.tc : Thread Cert.BlockCtxReferenceIdeal.nD Cert.BlockCtxReferenceIdeal.τ).loc Cert.BlockCtxReferenceIdeal.main_arg8) = m ((c.tc : Thread Cert.BlockCtxReferenceIdeal.nD Cert.BlockCtxReferenceIdeal.τ).loc Cert.BlockCtxReferenceIdeal.main_arg8)
      ∧ r.2.mem ((c.tc : Thread Cert.BlockCtxReferenceIdeal.nD Cert.BlockCtxReferenceIdeal.τ).loc Cert.BlockCtxReferenceIdeal.main_arg9) = m ((c.tc : Thread Cert.BlockCtxReferenceIdeal.nD Cert.BlockCtxReferenceIdeal.τ).loc Cert.BlockCtxReferenceIdeal.main_arg9)
      ∧ r.2.mem ((c.tc : Thread Cert.BlockCtxReferenceIdeal.nD Cert.BlockCtxReferenceIdeal.τ).loc Cert.BlockCtxReferenceIdeal.main_arg10) = m ((c.tc : Thread Cert.BlockCtxReferenceIdeal.nD Cert.BlockCtxReferenceIdeal.τ).loc Cert.BlockCtxReferenceIdeal.main_arg10)
      ∧ r.2.mem ((c.tc : Thread Cert.BlockCtxReferenceIdeal.nD Cert.BlockCtxReferenceIdeal.τ).loc Cert.BlockCtxReferenceIdeal.main_arg11) = m ((c.tc : Thread Cert.BlockCtxReferenceIdeal.nD Cert.BlockCtxReferenceIdeal.τ).loc Cert.BlockCtxReferenceIdeal.main_arg11)
      ∧ r.2.mem ((c.tc : Thread Cert.BlockCtxReferenceIdeal.nD Cert.BlockCtxReferenceIdeal.τ).loc Cert.BlockCtxReferenceIdeal.main_arg12) = m ((c.tc : Thread Cert.BlockCtxReferenceIdeal.nD Cert.BlockCtxReferenceIdeal.τ).loc Cert.BlockCtxReferenceIdeal.main_arg12)
      ∧ r.2.mem ((c.tc : Thread Cert.BlockCtxReferenceIdeal.nD Cert.BlockCtxReferenceIdeal.τ).loc Cert.BlockCtxReferenceIdeal.main_arg13) = m ((c.tc : Thread Cert.BlockCtxReferenceIdeal.nD Cert.BlockCtxReferenceIdeal.τ).loc Cert.BlockCtxReferenceIdeal.main_arg13)
      ∧ r.2.mem ((c.tc : Thread Cert.BlockCtxReferenceIdeal.nD Cert.BlockCtxReferenceIdeal.τ).loc Cert.BlockCtxReferenceIdeal.main_arg14) = m ((c.tc : Thread Cert.BlockCtxReferenceIdeal.nD Cert.BlockCtxReferenceIdeal.τ).loc Cert.BlockCtxReferenceIdeal.main_arg14))
      ∧ r.2.sem = fun _ => 0)

def quiescent_InProjCtx [hInProjCtx : Cert.InProjCtx.Facts] : Prop :=
  ∀ (m : (ℓ : Loc Cert.InProjCtx.nD Cert.InProjCtx.τ Cert.InProjCtx.sig) → Buf (Elt Bits) ℓ) (g : Dev Cert.InProjCtx.nD → PrngReg), Pre_InProjCtx m →
    θ_run (Cert.InProjCtx.defs (F := Bits)) (onTc (τ := Cert.InProjCtx.τ) (Cert.InProjCtx.main (F := Bits))) ⟨m, fun _ => 0, g⟩ (fun r => (∀ c : Dev Cert.InProjCtx.nD,
      r.2.mem ((c.tc : Thread Cert.InProjCtx.nD Cert.InProjCtx.τ).loc Cert.InProjCtx.main_arg0) = m ((c.tc : Thread Cert.InProjCtx.nD Cert.InProjCtx.τ).loc Cert.InProjCtx.main_arg0)
      ∧ r.2.mem ((c.tc : Thread Cert.InProjCtx.nD Cert.InProjCtx.τ).loc Cert.InProjCtx.main_arg1) = m ((c.tc : Thread Cert.InProjCtx.nD Cert.InProjCtx.τ).loc Cert.InProjCtx.main_arg1)
      ∧ r.2.mem ((c.tc : Thread Cert.InProjCtx.nD Cert.InProjCtx.τ).loc Cert.InProjCtx.main_arg2) = m ((c.tc : Thread Cert.InProjCtx.nD Cert.InProjCtx.τ).loc Cert.InProjCtx.main_arg2)
      ∧ r.2.mem ((c.tc : Thread Cert.InProjCtx.nD Cert.InProjCtx.τ).loc Cert.InProjCtx.main_arg3) = m ((c.tc : Thread Cert.InProjCtx.nD Cert.InProjCtx.τ).loc Cert.InProjCtx.main_arg3))
      ∧ r.2.sem = fun _ => 0)

def quiescent_InProjCtxIdeal [hInProjCtxIdeal : Cert.InProjCtxIdeal.Facts] : Prop :=
  ∀ (m : (ℓ : Loc Cert.InProjCtxIdeal.nD Cert.InProjCtxIdeal.τ Cert.InProjCtxIdeal.sig) → Buf (Elt Ideal) ℓ) (g : Dev Cert.InProjCtxIdeal.nD → PrngReg), Pre_InProjCtxIdeal m →
    θ_run (Cert.InProjCtxIdeal.defs (F := Ideal)) (onTc (τ := Cert.InProjCtxIdeal.τ) (Cert.InProjCtxIdeal.main (F := Ideal))) ⟨m, fun _ => 0, g⟩ (fun r => (∀ c : Dev Cert.InProjCtxIdeal.nD,
      r.2.mem ((c.tc : Thread Cert.InProjCtxIdeal.nD Cert.InProjCtxIdeal.τ).loc Cert.InProjCtxIdeal.main_arg0) = m ((c.tc : Thread Cert.InProjCtxIdeal.nD Cert.InProjCtxIdeal.τ).loc Cert.InProjCtxIdeal.main_arg0)
      ∧ r.2.mem ((c.tc : Thread Cert.InProjCtxIdeal.nD Cert.InProjCtxIdeal.τ).loc Cert.InProjCtxIdeal.main_arg1) = m ((c.tc : Thread Cert.InProjCtxIdeal.nD Cert.InProjCtxIdeal.τ).loc Cert.InProjCtxIdeal.main_arg1)
      ∧ r.2.mem ((c.tc : Thread Cert.InProjCtxIdeal.nD Cert.InProjCtxIdeal.τ).loc Cert.InProjCtxIdeal.main_arg2) = m ((c.tc : Thread Cert.InProjCtxIdeal.nD Cert.InProjCtxIdeal.τ).loc Cert.InProjCtxIdeal.main_arg2)
      ∧ r.2.mem ((c.tc : Thread Cert.InProjCtxIdeal.nD Cert.InProjCtxIdeal.τ).loc Cert.InProjCtxIdeal.main_arg3) = m ((c.tc : Thread Cert.InProjCtxIdeal.nD Cert.InProjCtxIdeal.τ).loc Cert.InProjCtxIdeal.main_arg3))
      ∧ r.2.sem = fun _ => 0)

def quiescent_InProjCtxReferenceIdeal [hInProjCtxReferenceIdeal : Cert.InProjCtxReferenceIdeal.Facts] : Prop :=
  ∀ (m : (ℓ : Loc Cert.InProjCtxReferenceIdeal.nD Cert.InProjCtxReferenceIdeal.τ Cert.InProjCtxReferenceIdeal.sig) → Buf (Elt Ideal) ℓ) (g : Dev Cert.InProjCtxReferenceIdeal.nD → PrngReg), Pre_InProjCtxReferenceIdeal m →
    θ_run (Cert.InProjCtxReferenceIdeal.defs (F := Ideal)) (onTc (τ := Cert.InProjCtxReferenceIdeal.τ) (Cert.InProjCtxReferenceIdeal.main (F := Ideal))) ⟨m, fun _ => 0, g⟩ (fun r => (∀ c : Dev Cert.InProjCtxReferenceIdeal.nD,
      r.2.mem ((c.tc : Thread Cert.InProjCtxReferenceIdeal.nD Cert.InProjCtxReferenceIdeal.τ).loc Cert.InProjCtxReferenceIdeal.main_arg0) = m ((c.tc : Thread Cert.InProjCtxReferenceIdeal.nD Cert.InProjCtxReferenceIdeal.τ).loc Cert.InProjCtxReferenceIdeal.main_arg0)
      ∧ r.2.mem ((c.tc : Thread Cert.InProjCtxReferenceIdeal.nD Cert.InProjCtxReferenceIdeal.τ).loc Cert.InProjCtxReferenceIdeal.main_arg1) = m ((c.tc : Thread Cert.InProjCtxReferenceIdeal.nD Cert.InProjCtxReferenceIdeal.τ).loc Cert.InProjCtxReferenceIdeal.main_arg1)
      ∧ r.2.mem ((c.tc : Thread Cert.InProjCtxReferenceIdeal.nD Cert.InProjCtxReferenceIdeal.τ).loc Cert.InProjCtxReferenceIdeal.main_arg2) = m ((c.tc : Thread Cert.InProjCtxReferenceIdeal.nD Cert.InProjCtxReferenceIdeal.τ).loc Cert.InProjCtxReferenceIdeal.main_arg2)
      ∧ r.2.mem ((c.tc : Thread Cert.InProjCtxReferenceIdeal.nD Cert.InProjCtxReferenceIdeal.τ).loc Cert.InProjCtxReferenceIdeal.main_arg3) = m ((c.tc : Thread Cert.InProjCtxReferenceIdeal.nD Cert.InProjCtxReferenceIdeal.τ).loc Cert.InProjCtxReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Block_BlockIdeal : Prop :=
  True

def algebraic_BlockIdeal_BlockReferenceIdeal [hBlockIdeal : Cert.BlockIdeal.Facts] [hBlockReferenceIdeal : Cert.BlockReferenceIdeal.Facts] : Prop :=
  ∀ (m : (ℓ : Loc Cert.BlockIdeal.nD Cert.BlockIdeal.τ Cert.BlockIdeal.sig) → Buf (Elt Ideal) ℓ) (g : Dev Cert.BlockIdeal.nD → PrngReg)
    (m' : (ℓ : Loc Cert.BlockReferenceIdeal.nD Cert.BlockReferenceIdeal.τ Cert.BlockReferenceIdeal.sig) → Buf (Elt Ideal) ℓ) (g' : Dev Cert.BlockReferenceIdeal.nD → PrngReg), Pre_BlockIdeal m →
    (∀ c : Dev Cert.BlockIdeal.nD,
      m' ((c.tc : Thread Cert.BlockReferenceIdeal.nD Cert.BlockReferenceIdeal.τ).loc Cert.BlockReferenceIdeal.main_arg0) = m ((c.tc : Thread Cert.BlockIdeal.nD Cert.BlockIdeal.τ).loc Cert.BlockIdeal.main_arg0)
      ∧ m' ((c.tc : Thread Cert.BlockReferenceIdeal.nD Cert.BlockReferenceIdeal.τ).loc Cert.BlockReferenceIdeal.main_arg1) = m ((c.tc : Thread Cert.BlockIdeal.nD Cert.BlockIdeal.τ).loc Cert.BlockIdeal.main_arg1)
      ∧ m' ((c.tc : Thread Cert.BlockReferenceIdeal.nD Cert.BlockReferenceIdeal.τ).loc Cert.BlockReferenceIdeal.main_arg2) = m ((c.tc : Thread Cert.BlockIdeal.nD Cert.BlockIdeal.τ).loc Cert.BlockIdeal.main_arg2)
      ∧ m' ((c.tc : Thread Cert.BlockReferenceIdeal.nD Cert.BlockReferenceIdeal.τ).loc Cert.BlockReferenceIdeal.main_arg3) = m ((c.tc : Thread Cert.BlockIdeal.nD Cert.BlockIdeal.τ).loc Cert.BlockIdeal.main_arg3)
      ∧ m' ((c.tc : Thread Cert.BlockReferenceIdeal.nD Cert.BlockReferenceIdeal.τ).loc Cert.BlockReferenceIdeal.main_arg4) = m ((c.tc : Thread Cert.BlockIdeal.nD Cert.BlockIdeal.τ).loc Cert.BlockIdeal.main_arg4)
      ∧ m' ((c.tc : Thread Cert.BlockReferenceIdeal.nD Cert.BlockReferenceIdeal.τ).loc Cert.BlockReferenceIdeal.main_arg5) = m ((c.tc : Thread Cert.BlockIdeal.nD Cert.BlockIdeal.τ).loc Cert.BlockIdeal.main_arg5)
      ∧ m' ((c.tc : Thread Cert.BlockReferenceIdeal.nD Cert.BlockReferenceIdeal.τ).loc Cert.BlockReferenceIdeal.main_arg6) = m ((c.tc : Thread Cert.BlockIdeal.nD Cert.BlockIdeal.τ).loc Cert.BlockIdeal.main_arg6)
      ∧ m' ((c.tc : Thread Cert.BlockReferenceIdeal.nD Cert.BlockReferenceIdeal.τ).loc Cert.BlockReferenceIdeal.main_arg7) = m ((c.tc : Thread Cert.BlockIdeal.nD Cert.BlockIdeal.τ).loc Cert.BlockIdeal.main_arg7)
      ∧ m' ((c.tc : Thread Cert.BlockReferenceIdeal.nD Cert.BlockReferenceIdeal.τ).loc Cert.BlockReferenceIdeal.main_arg8) = m ((c.tc : Thread Cert.BlockIdeal.nD Cert.BlockIdeal.τ).loc Cert.BlockIdeal.main_arg8)
      ∧ m' ((c.tc : Thread Cert.BlockReferenceIdeal.nD Cert.BlockReferenceIdeal.τ).loc Cert.BlockReferenceIdeal.main_arg9) = m ((c.tc : Thread Cert.BlockIdeal.nD Cert.BlockIdeal.τ).loc Cert.BlockIdeal.main_arg9)
      ∧ m' ((c.tc : Thread Cert.BlockReferenceIdeal.nD Cert.BlockReferenceIdeal.τ).loc Cert.BlockReferenceIdeal.main_arg10) = m ((c.tc : Thread Cert.BlockIdeal.nD Cert.BlockIdeal.τ).loc Cert.BlockIdeal.main_arg10)
      ∧ m' ((c.tc : Thread Cert.BlockReferenceIdeal.nD Cert.BlockReferenceIdeal.τ).loc Cert.BlockReferenceIdeal.main_arg11) = m ((c.tc : Thread Cert.BlockIdeal.nD Cert.BlockIdeal.τ).loc Cert.BlockIdeal.main_arg11)
      ∧ m' ((c.tc : Thread Cert.BlockReferenceIdeal.nD Cert.BlockReferenceIdeal.τ).loc Cert.BlockReferenceIdeal.main_arg12) = m ((c.tc : Thread Cert.BlockIdeal.nD Cert.BlockIdeal.τ).loc Cert.BlockIdeal.main_arg12)
      ∧ m' ((c.tc : Thread Cert.BlockReferenceIdeal.nD Cert.BlockReferenceIdeal.τ).loc Cert.BlockReferenceIdeal.main_arg13) = m ((c.tc : Thread Cert.BlockIdeal.nD Cert.BlockIdeal.τ).loc Cert.BlockIdeal.main_arg13)
      ∧ m' ((c.tc : Thread Cert.BlockReferenceIdeal.nD Cert.BlockReferenceIdeal.τ).loc Cert.BlockReferenceIdeal.main_arg14) = m ((c.tc : Thread Cert.BlockIdeal.nD Cert.BlockIdeal.τ).loc Cert.BlockIdeal.main_arg14)) →
    ∃ (v0 : (c : Dev Cert.BlockIdeal.nD) → Buf (Elt Ideal) ((c.tc : Thread Cert.BlockIdeal.nD Cert.BlockIdeal.τ).loc Cert.BlockIdeal.main_v7)),
      θ_run (Cert.BlockIdeal.defs (F := Ideal)) (onTc (τ := Cert.BlockIdeal.τ) (Cert.BlockIdeal.main (F := Ideal))) ⟨m, fun _ => 0, g⟩ (fun r => ∀ c : Dev Cert.BlockIdeal.nD,
          r.2.mem ((c.tc : Thread Cert.BlockIdeal.nD Cert.BlockIdeal.τ).loc Cert.BlockIdeal.main_v7) = v0 c
          ∧ r.2.mem ((c.tc : Thread Cert.BlockIdeal.nD Cert.BlockIdeal.τ).loc Cert.BlockIdeal.main_arg0) = m ((c.tc : Thread Cert.BlockIdeal.nD Cert.BlockIdeal.τ).loc Cert.BlockIdeal.main_arg0)
          ∧ r.2.mem ((c.tc : Thread Cert.BlockIdeal.nD Cert.BlockIdeal.τ).loc Cert.BlockIdeal.main_arg1) = m ((c.tc : Thread Cert.BlockIdeal.nD Cert.BlockIdeal.τ).loc Cert.BlockIdeal.main_arg1)
          ∧ r.2.mem ((c.tc : Thread Cert.BlockIdeal.nD Cert.BlockIdeal.τ).loc Cert.BlockIdeal.main_arg2) = m ((c.tc : Thread Cert.BlockIdeal.nD Cert.BlockIdeal.τ).loc Cert.BlockIdeal.main_arg2)
          ∧ r.2.mem ((c.tc : Thread Cert.BlockIdeal.nD Cert.BlockIdeal.τ).loc Cert.BlockIdeal.main_arg3) = m ((c.tc : Thread Cert.BlockIdeal.nD Cert.BlockIdeal.τ).loc Cert.BlockIdeal.main_arg3)
          ∧ r.2.mem ((c.tc : Thread Cert.BlockIdeal.nD Cert.BlockIdeal.τ).loc Cert.BlockIdeal.main_arg4) = m ((c.tc : Thread Cert.BlockIdeal.nD Cert.BlockIdeal.τ).loc Cert.BlockIdeal.main_arg4)
          ∧ r.2.mem ((c.tc : Thread Cert.BlockIdeal.nD Cert.BlockIdeal.τ).loc Cert.BlockIdeal.main_arg5) = m ((c.tc : Thread Cert.BlockIdeal.nD Cert.BlockIdeal.τ).loc Cert.BlockIdeal.main_arg5)
          ∧ r.2.mem ((c.tc : Thread Cert.BlockIdeal.nD Cert.BlockIdeal.τ).loc Cert.BlockIdeal.main_arg6) = m ((c.tc : Thread Cert.BlockIdeal.nD Cert.BlockIdeal.τ).loc Cert.BlockIdeal.main_arg6)
          ∧ r.2.mem ((c.tc : Thread Cert.BlockIdeal.nD Cert.BlockIdeal.τ).loc Cert.BlockIdeal.main_arg7) = m ((c.tc : Thread Cert.BlockIdeal.nD Cert.BlockIdeal.τ).loc Cert.BlockIdeal.main_arg7)
          ∧ r.2.mem ((c.tc : Thread Cert.BlockIdeal.nD Cert.BlockIdeal.τ).loc Cert.BlockIdeal.main_arg8) = m ((c.tc : Thread Cert.BlockIdeal.nD Cert.BlockIdeal.τ).loc Cert.BlockIdeal.main_arg8)
          ∧ r.2.mem ((c.tc : Thread Cert.BlockIdeal.nD Cert.BlockIdeal.τ).loc Cert.BlockIdeal.main_arg9) = m ((c.tc : Thread Cert.BlockIdeal.nD Cert.BlockIdeal.τ).loc Cert.BlockIdeal.main_arg9)
          ∧ r.2.mem ((c.tc : Thread Cert.BlockIdeal.nD Cert.BlockIdeal.τ).loc Cert.BlockIdeal.main_arg10) = m ((c.tc : Thread Cert.BlockIdeal.nD Cert.BlockIdeal.τ).loc Cert.BlockIdeal.main_arg10)
          ∧ r.2.mem ((c.tc : Thread Cert.BlockIdeal.nD Cert.BlockIdeal.τ).loc Cert.BlockIdeal.main_arg11) = m ((c.tc : Thread Cert.BlockIdeal.nD Cert.BlockIdeal.τ).loc Cert.BlockIdeal.main_arg11)
          ∧ r.2.mem ((c.tc : Thread Cert.BlockIdeal.nD Cert.BlockIdeal.τ).loc Cert.BlockIdeal.main_arg12) = m ((c.tc : Thread Cert.BlockIdeal.nD Cert.BlockIdeal.τ).loc Cert.BlockIdeal.main_arg12)
          ∧ r.2.mem ((c.tc : Thread Cert.BlockIdeal.nD Cert.BlockIdeal.τ).loc Cert.BlockIdeal.main_arg13) = m ((c.tc : Thread Cert.BlockIdeal.nD Cert.BlockIdeal.τ).loc Cert.BlockIdeal.main_arg13)
          ∧ r.2.mem ((c.tc : Thread Cert.BlockIdeal.nD Cert.BlockIdeal.τ).loc Cert.BlockIdeal.main_arg14) = m ((c.tc : Thread Cert.BlockIdeal.nD Cert.BlockIdeal.τ).loc Cert.BlockIdeal.main_arg14))
      ∧ θ_run (Cert.BlockReferenceIdeal.defs (F := Ideal)) (onTc (τ := Cert.BlockReferenceIdeal.τ) (Cert.BlockReferenceIdeal.main (F := Ideal))) ⟨m', fun _ => 0, g'⟩ (fun r => ∀ c : Dev Cert.BlockReferenceIdeal.nD,
          r.2.mem ((c.tc : Thread Cert.BlockReferenceIdeal.nD Cert.BlockReferenceIdeal.τ).loc Cert.BlockReferenceIdeal.main_v123) = v0 c
          ∧ r.2.mem ((c.tc : Thread Cert.BlockReferenceIdeal.nD Cert.BlockReferenceIdeal.τ).loc Cert.BlockReferenceIdeal.main_arg0) = m' ((c.tc : Thread Cert.BlockReferenceIdeal.nD Cert.BlockReferenceIdeal.τ).loc Cert.BlockReferenceIdeal.main_arg0)
          ∧ r.2.mem ((c.tc : Thread Cert.BlockReferenceIdeal.nD Cert.BlockReferenceIdeal.τ).loc Cert.BlockReferenceIdeal.main_arg1) = m' ((c.tc : Thread Cert.BlockReferenceIdeal.nD Cert.BlockReferenceIdeal.τ).loc Cert.BlockReferenceIdeal.main_arg1)
          ∧ r.2.mem ((c.tc : Thread Cert.BlockReferenceIdeal.nD Cert.BlockReferenceIdeal.τ).loc Cert.BlockReferenceIdeal.main_arg2) = m' ((c.tc : Thread Cert.BlockReferenceIdeal.nD Cert.BlockReferenceIdeal.τ).loc Cert.BlockReferenceIdeal.main_arg2)
          ∧ r.2.mem ((c.tc : Thread Cert.BlockReferenceIdeal.nD Cert.BlockReferenceIdeal.τ).loc Cert.BlockReferenceIdeal.main_arg3) = m' ((c.tc : Thread Cert.BlockReferenceIdeal.nD Cert.BlockReferenceIdeal.τ).loc Cert.BlockReferenceIdeal.main_arg3)
          ∧ r.2.mem ((c.tc : Thread Cert.BlockReferenceIdeal.nD Cert.BlockReferenceIdeal.τ).loc Cert.BlockReferenceIdeal.main_arg4) = m' ((c.tc : Thread Cert.BlockReferenceIdeal.nD Cert.BlockReferenceIdeal.τ).loc Cert.BlockReferenceIdeal.main_arg4)
          ∧ r.2.mem ((c.tc : Thread Cert.BlockReferenceIdeal.nD Cert.BlockReferenceIdeal.τ).loc Cert.BlockReferenceIdeal.main_arg5) = m' ((c.tc : Thread Cert.BlockReferenceIdeal.nD Cert.BlockReferenceIdeal.τ).loc Cert.BlockReferenceIdeal.main_arg5)
          ∧ r.2.mem ((c.tc : Thread Cert.BlockReferenceIdeal.nD Cert.BlockReferenceIdeal.τ).loc Cert.BlockReferenceIdeal.main_arg6) = m' ((c.tc : Thread Cert.BlockReferenceIdeal.nD Cert.BlockReferenceIdeal.τ).loc Cert.BlockReferenceIdeal.main_arg6)
          ∧ r.2.mem ((c.tc : Thread Cert.BlockReferenceIdeal.nD Cert.BlockReferenceIdeal.τ).loc Cert.BlockReferenceIdeal.main_arg7) = m' ((c.tc : Thread Cert.BlockReferenceIdeal.nD Cert.BlockReferenceIdeal.τ).loc Cert.BlockReferenceIdeal.main_arg7)
          ∧ r.2.mem ((c.tc : Thread Cert.BlockReferenceIdeal.nD Cert.BlockReferenceIdeal.τ).loc Cert.BlockReferenceIdeal.main_arg8) = m' ((c.tc : Thread Cert.BlockReferenceIdeal.nD Cert.BlockReferenceIdeal.τ).loc Cert.BlockReferenceIdeal.main_arg8)
          ∧ r.2.mem ((c.tc : Thread Cert.BlockReferenceIdeal.nD Cert.BlockReferenceIdeal.τ).loc Cert.BlockReferenceIdeal.main_arg9) = m' ((c.tc : Thread Cert.BlockReferenceIdeal.nD Cert.BlockReferenceIdeal.τ).loc Cert.BlockReferenceIdeal.main_arg9)
          ∧ r.2.mem ((c.tc : Thread Cert.BlockReferenceIdeal.nD Cert.BlockReferenceIdeal.τ).loc Cert.BlockReferenceIdeal.main_arg10) = m' ((c.tc : Thread Cert.BlockReferenceIdeal.nD Cert.BlockReferenceIdeal.τ).loc Cert.BlockReferenceIdeal.main_arg10)
          ∧ r.2.mem ((c.tc : Thread Cert.BlockReferenceIdeal.nD Cert.BlockReferenceIdeal.τ).loc Cert.BlockReferenceIdeal.main_arg11) = m' ((c.tc : Thread Cert.BlockReferenceIdeal.nD Cert.BlockReferenceIdeal.τ).loc Cert.BlockReferenceIdeal.main_arg11)
          ∧ r.2.mem ((c.tc : Thread Cert.BlockReferenceIdeal.nD Cert.BlockReferenceIdeal.τ).loc Cert.BlockReferenceIdeal.main_arg12) = m' ((c.tc : Thread Cert.BlockReferenceIdeal.nD Cert.BlockReferenceIdeal.τ).loc Cert.BlockReferenceIdeal.main_arg12)
          ∧ r.2.mem ((c.tc : Thread Cert.BlockReferenceIdeal.nD Cert.BlockReferenceIdeal.τ).loc Cert.BlockReferenceIdeal.main_arg13) = m' ((c.tc : Thread Cert.BlockReferenceIdeal.nD Cert.BlockReferenceIdeal.τ).loc Cert.BlockReferenceIdeal.main_arg13)
          ∧ r.2.mem ((c.tc : Thread Cert.BlockReferenceIdeal.nD Cert.BlockReferenceIdeal.τ).loc Cert.BlockReferenceIdeal.main_arg14) = m' ((c.tc : Thread Cert.BlockReferenceIdeal.nD Cert.BlockReferenceIdeal.τ).loc Cert.BlockReferenceIdeal.main_arg14))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v54_0)) (v1 : (c : Dev Cert.InProjIdeal.nD) → Buf (Elt Ideal) ((c.tc : Thread Cert.InProjIdeal.nD Cert.InProjIdeal.τ).loc Cert.InProjIdeal.main_v54_1)) (v2 : (c : Dev Cert.InProjIdeal.nD) → Buf (Elt Ideal) ((c.tc : Thread Cert.InProjIdeal.nD Cert.InProjIdeal.τ).loc Cert.InProjIdeal.main_v54_2)) (v3 : (c : Dev Cert.InProjIdeal.nD) → Buf (Elt Ideal) ((c.tc : Thread Cert.InProjIdeal.nD Cert.InProjIdeal.τ).loc Cert.InProjIdeal.main_v54_3)) (v4 : (c : Dev Cert.InProjIdeal.nD) → Buf (Elt Ideal) ((c.tc : Thread Cert.InProjIdeal.nD Cert.InProjIdeal.τ).loc Cert.InProjIdeal.main_v54_4)) (v5 : (c : Dev Cert.InProjIdeal.nD) → Buf (Elt Ideal) ((c.tc : Thread Cert.InProjIdeal.nD Cert.InProjIdeal.τ).loc Cert.InProjIdeal.main_v54_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v54_0) = v0 c
          ∧ r.2.mem ((c.tc : Thread Cert.InProjIdeal.nD Cert.InProjIdeal.τ).loc Cert.InProjIdeal.main_v54_1) = v1 c
          ∧ r.2.mem ((c.tc : Thread Cert.InProjIdeal.nD Cert.InProjIdeal.τ).loc Cert.InProjIdeal.main_v54_2) = v2 c
          ∧ r.2.mem ((c.tc : Thread Cert.InProjIdeal.nD Cert.InProjIdeal.τ).loc Cert.InProjIdeal.main_v54_3) = v3 c
          ∧ r.2.mem ((c.tc : Thread Cert.InProjIdeal.nD Cert.InProjIdeal.τ).loc Cert.InProjIdeal.main_v54_4) = v4 c
          ∧ r.2.mem ((c.tc : Thread Cert.InProjIdeal.nD Cert.InProjIdeal.τ).loc Cert.InProjIdeal.main_v54_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v156) = v0 c
          ∧ r.2.mem ((c.tc : Thread Cert.InProjReferenceIdeal.nD Cert.InProjReferenceIdeal.τ).loc Cert.InProjReferenceIdeal.main_v157) = v1 c
          ∧ r.2.mem ((c.tc : Thread Cert.InProjReferenceIdeal.nD Cert.InProjReferenceIdeal.τ).loc Cert.InProjReferenceIdeal.main_v158) = v2 c
          ∧ r.2.mem ((c.tc : Thread Cert.InProjReferenceIdeal.nD Cert.InProjReferenceIdeal.τ).loc Cert.InProjReferenceIdeal.main_v60) = v3 c
          ∧ r.2.mem ((c.tc : Thread Cert.InProjReferenceIdeal.nD Cert.InProjReferenceIdeal.τ).loc Cert.InProjReferenceIdeal.main_v159) = v4 c
          ∧ r.2.mem ((c.tc : Thread Cert.InProjReferenceIdeal.nD Cert.InProjReferenceIdeal.τ).loc Cert.InProjReferenceIdeal.main_v63) = v5 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_Mods_ModsIdeal : Prop :=
  True

def algebraic_ModsIdeal_ModsReferenceIdeal [hModsIdeal : Cert.ModsIdeal.Facts] [hModsReferenceIdeal : Cert.ModsReferenceIdeal.Facts] : Prop :=
  ∀ (m : (ℓ : Loc Cert.ModsIdeal.nD Cert.ModsIdeal.τ Cert.ModsIdeal.sig) → Buf (Elt Ideal) ℓ) (g : Dev Cert.ModsIdeal.nD → PrngReg)
    (m' : (ℓ : Loc Cert.ModsReferenceIdeal.nD Cert.ModsReferenceIdeal.τ Cert.ModsReferenceIdeal.sig) → Buf (Elt Ideal) ℓ) (g' : Dev Cert.ModsReferenceIdeal.nD → PrngReg), Pre_ModsIdeal m →
    (∀ c : Dev Cert.ModsIdeal.nD,
      m' ((c.tc : Thread Cert.ModsReferenceIdeal.nD Cert.ModsReferenceIdeal.τ).loc Cert.ModsReferenceIdeal.main_arg0) = m ((c.tc : Thread Cert.ModsIdeal.nD Cert.ModsIdeal.τ).loc Cert.ModsIdeal.main_arg0)
      ∧ m' ((c.tc : Thread Cert.ModsReferenceIdeal.nD Cert.ModsReferenceIdeal.τ).loc Cert.ModsReferenceIdeal.main_arg1) = m ((c.tc : Thread Cert.ModsIdeal.nD Cert.ModsIdeal.τ).loc Cert.ModsIdeal.main_arg1)
      ∧ m' ((c.tc : Thread Cert.ModsReferenceIdeal.nD Cert.ModsReferenceIdeal.τ).loc Cert.ModsReferenceIdeal.main_arg2) = m ((c.tc : Thread Cert.ModsIdeal.nD Cert.ModsIdeal.τ).loc Cert.ModsIdeal.main_arg2)) →
    ∃ (v0 : (c : Dev Cert.ModsIdeal.nD) → Buf (Elt Ideal) ((c.tc : Thread Cert.ModsIdeal.nD Cert.ModsIdeal.τ).loc Cert.ModsIdeal.main_v1)),
      θ_run (Cert.ModsIdeal.defs (F := Ideal)) (onTc (τ := Cert.ModsIdeal.τ) (Cert.ModsIdeal.main (F := Ideal))) ⟨m, fun _ => 0, g⟩ (fun r => ∀ c : Dev Cert.ModsIdeal.nD,
          r.2.mem ((c.tc : Thread Cert.ModsIdeal.nD Cert.ModsIdeal.τ).loc Cert.ModsIdeal.main_v1) = v0 c
          ∧ r.2.mem ((c.tc : Thread Cert.ModsIdeal.nD Cert.ModsIdeal.τ).loc Cert.ModsIdeal.main_arg0) = m ((c.tc : Thread Cert.ModsIdeal.nD Cert.ModsIdeal.τ).loc Cert.ModsIdeal.main_arg0)
          ∧ r.2.mem ((c.tc : Thread Cert.ModsIdeal.nD Cert.ModsIdeal.τ).loc Cert.ModsIdeal.main_arg1) = m ((c.tc : Thread Cert.ModsIdeal.nD Cert.ModsIdeal.τ).loc Cert.ModsIdeal.main_arg1)
          ∧ r.2.mem ((c.tc : Thread Cert.ModsIdeal.nD Cert.ModsIdeal.τ).loc Cert.ModsIdeal.main_arg2) = m ((c.tc : Thread Cert.ModsIdeal.nD Cert.ModsIdeal.τ).loc Cert.ModsIdeal.main_arg2))
      ∧ θ_run (Cert.ModsReferenceIdeal.defs (F := Ideal)) (onTc (τ := Cert.ModsReferenceIdeal.τ) (Cert.ModsReferenceIdeal.main (F := Ideal))) ⟨m', fun _ => 0, g'⟩ (fun r => ∀ c : Dev Cert.ModsReferenceIdeal.nD,
          r.2.mem ((c.tc : Thread Cert.ModsReferenceIdeal.nD Cert.ModsReferenceIdeal.τ).loc Cert.ModsReferenceIdeal.main_v5) = v0 c
          ∧ r.2.mem ((c.tc : Thread Cert.ModsReferenceIdeal.nD Cert.ModsReferenceIdeal.τ).loc Cert.ModsReferenceIdeal.main_arg0) = m' ((c.tc : Thread Cert.ModsReferenceIdeal.nD Cert.ModsReferenceIdeal.τ).loc Cert.ModsReferenceIdeal.main_arg0)
          ∧ r.2.mem ((c.tc : Thread Cert.ModsReferenceIdeal.nD Cert.ModsReferenceIdeal.τ).loc Cert.ModsReferenceIdeal.main_arg1) = m' ((c.tc : Thread Cert.ModsReferenceIdeal.nD Cert.ModsReferenceIdeal.τ).loc Cert.ModsReferenceIdeal.main_arg1)
          ∧ r.2.mem ((c.tc : Thread Cert.ModsReferenceIdeal.nD Cert.ModsReferenceIdeal.τ).loc Cert.ModsReferenceIdeal.main_arg2) = m' ((c.tc : Thread Cert.ModsReferenceIdeal.nD Cert.ModsReferenceIdeal.τ).loc Cert.ModsReferenceIdeal.main_arg2))

def preserves_Ctx_CtxIdeal : Prop :=
  True

def algebraic_CtxIdeal_CtxReferenceIdeal_pre_finite_ctx_scores [hCtxIdeal : Cert.CtxIdeal.Facts] [hCtxReferenceIdeal : Cert.CtxReferenceIdeal.Facts] [hPre_finite_ctx_scores : Cert.Pre_finite_ctx_scores.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxIdeal_finite_ctx_scores m →
    (∀ c : Dev Cert.CtxIdeal.nD,
      m' ((c.tc : Thread Cert.CtxReferenceIdeal.nD Cert.CtxReferenceIdeal.τ).loc Cert.CtxReferenceIdeal.main_arg0) = m ((c.tc : Thread Cert.CtxIdeal.nD Cert.CtxIdeal.τ).loc Cert.CtxIdeal.main_arg0)
      ∧ m' ((c.tc : Thread Cert.CtxReferenceIdeal.nD Cert.CtxReferenceIdeal.τ).loc Cert.CtxReferenceIdeal.main_arg1) = m ((c.tc : Thread Cert.CtxIdeal.nD Cert.CtxIdeal.τ).loc Cert.CtxIdeal.main_arg1)
      ∧ m' ((c.tc : Thread Cert.CtxReferenceIdeal.nD Cert.CtxReferenceIdeal.τ).loc Cert.CtxReferenceIdeal.main_arg2) = m ((c.tc : Thread Cert.CtxIdeal.nD Cert.CtxIdeal.τ).loc Cert.CtxIdeal.main_arg2)
      ∧ m' ((c.tc : Thread Cert.CtxReferenceIdeal.nD Cert.CtxReferenceIdeal.τ).loc Cert.CtxReferenceIdeal.main_arg3) = m ((c.tc : Thread Cert.CtxIdeal.nD Cert.CtxIdeal.τ).loc Cert.CtxIdeal.main_arg3)) →
    ∃ (v0 : (c : Dev Cert.CtxIdeal.nD) → Buf (Elt Ideal) ((c.tc : Thread Cert.CtxIdeal.nD Cert.CtxIdeal.τ).loc Cert.CtxIdeal.main_v5)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v5) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v26) = v0 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2)
          ∧ r.2.mem ((c.tc : Thread Cert.CtxReferenceIdeal.nD Cert.CtxReferenceIdeal.τ).loc Cert.CtxReferenceIdeal.main_arg3) = m' ((c.tc : Thread Cert.CtxReferenceIdeal.nD Cert.CtxReferenceIdeal.τ).loc Cert.CtxReferenceIdeal.main_arg3))

def preserves_BlockCtx_BlockCtxIdeal : Prop :=
  True

def algebraic_BlockCtxIdeal_BlockCtxReferenceIdeal [hBlockCtxIdeal : Cert.BlockCtxIdeal.Facts] [hBlockCtxReferenceIdeal : Cert.BlockCtxReferenceIdeal.Facts] : Prop :=
  ∀ (m : (ℓ : Loc Cert.BlockCtxIdeal.nD Cert.BlockCtxIdeal.τ Cert.BlockCtxIdeal.sig) → Buf (Elt Ideal) ℓ) (g : Dev Cert.BlockCtxIdeal.nD → PrngReg)
    (m' : (ℓ : Loc Cert.BlockCtxReferenceIdeal.nD Cert.BlockCtxReferenceIdeal.τ Cert.BlockCtxReferenceIdeal.sig) → Buf (Elt Ideal) ℓ) (g' : Dev Cert.BlockCtxReferenceIdeal.nD → PrngReg), Pre_BlockCtxIdeal m →
    (∀ c : Dev Cert.BlockCtxIdeal.nD,
      m' ((c.tc : Thread Cert.BlockCtxReferenceIdeal.nD Cert.BlockCtxReferenceIdeal.τ).loc Cert.BlockCtxReferenceIdeal.main_arg0) = m ((c.tc : Thread Cert.BlockCtxIdeal.nD Cert.BlockCtxIdeal.τ).loc Cert.BlockCtxIdeal.main_arg0)
      ∧ m' ((c.tc : Thread Cert.BlockCtxReferenceIdeal.nD Cert.BlockCtxReferenceIdeal.τ).loc Cert.BlockCtxReferenceIdeal.main_arg1) = m ((c.tc : Thread Cert.BlockCtxIdeal.nD Cert.BlockCtxIdeal.τ).loc Cert.BlockCtxIdeal.main_arg1)
      ∧ m' ((c.tc : Thread Cert.BlockCtxReferenceIdeal.nD Cert.BlockCtxReferenceIdeal.τ).loc Cert.BlockCtxReferenceIdeal.main_arg2) = m ((c.tc : Thread Cert.BlockCtxIdeal.nD Cert.BlockCtxIdeal.τ).loc Cert.BlockCtxIdeal.main_arg2)
      ∧ m' ((c.tc : Thread Cert.BlockCtxReferenceIdeal.nD Cert.BlockCtxReferenceIdeal.τ).loc Cert.BlockCtxReferenceIdeal.main_arg3) = m ((c.tc : Thread Cert.BlockCtxIdeal.nD Cert.BlockCtxIdeal.τ).loc Cert.BlockCtxIdeal.main_arg3)
      ∧ m' ((c.tc : Thread Cert.BlockCtxReferenceIdeal.nD Cert.BlockCtxReferenceIdeal.τ).loc Cert.BlockCtxReferenceIdeal.main_arg4) = m ((c.tc : Thread Cert.BlockCtxIdeal.nD Cert.BlockCtxIdeal.τ).loc Cert.BlockCtxIdeal.main_arg4)
      ∧ m' ((c.tc : Thread Cert.BlockCtxReferenceIdeal.nD Cert.BlockCtxReferenceIdeal.τ).loc Cert.BlockCtxReferenceIdeal.main_arg5) = m ((c.tc : Thread Cert.BlockCtxIdeal.nD Cert.BlockCtxIdeal.τ).loc Cert.BlockCtxIdeal.main_arg5)
      ∧ m' ((c.tc : Thread Cert.BlockCtxReferenceIdeal.nD Cert.BlockCtxReferenceIdeal.τ).loc Cert.BlockCtxReferenceIdeal.main_arg6) = m ((c.tc : Thread Cert.BlockCtxIdeal.nD Cert.BlockCtxIdeal.τ).loc Cert.BlockCtxIdeal.main_arg6)
      ∧ m' ((c.tc : Thread Cert.BlockCtxReferenceIdeal.nD Cert.BlockCtxReferenceIdeal.τ).loc Cert.BlockCtxReferenceIdeal.main_arg7) = m ((c.tc : Thread Cert.BlockCtxIdeal.nD Cert.BlockCtxIdeal.τ).loc Cert.BlockCtxIdeal.main_arg7)
      ∧ m' ((c.tc : Thread Cert.BlockCtxReferenceIdeal.nD Cert.BlockCtxReferenceIdeal.τ).loc Cert.BlockCtxReferenceIdeal.main_arg8) = m ((c.tc : Thread Cert.BlockCtxIdeal.nD Cert.BlockCtxIdeal.τ).loc Cert.BlockCtxIdeal.main_arg8)
      ∧ m' ((c.tc : Thread Cert.BlockCtxReferenceIdeal.nD Cert.BlockCtxReferenceIdeal.τ).loc Cert.BlockCtxReferenceIdeal.main_arg9) = m ((c.tc : Thread Cert.BlockCtxIdeal.nD Cert.BlockCtxIdeal.τ).loc Cert.BlockCtxIdeal.main_arg9)
      ∧ m' ((c.tc : Thread Cert.BlockCtxReferenceIdeal.nD Cert.BlockCtxReferenceIdeal.τ).loc Cert.BlockCtxReferenceIdeal.main_arg10) = m ((c.tc : Thread Cert.BlockCtxIdeal.nD Cert.BlockCtxIdeal.τ).loc Cert.BlockCtxIdeal.main_arg10)
      ∧ m' ((c.tc : Thread Cert.BlockCtxReferenceIdeal.nD Cert.BlockCtxReferenceIdeal.τ).loc Cert.BlockCtxReferenceIdeal.main_arg11) = m ((c.tc : Thread Cert.BlockCtxIdeal.nD Cert.BlockCtxIdeal.τ).loc Cert.BlockCtxIdeal.main_arg11)
      ∧ m' ((c.tc : Thread Cert.BlockCtxReferenceIdeal.nD Cert.BlockCtxReferenceIdeal.τ).loc Cert.BlockCtxReferenceIdeal.main_arg12) = m ((c.tc : Thread Cert.BlockCtxIdeal.nD Cert.BlockCtxIdeal.τ).loc Cert.BlockCtxIdeal.main_arg12)
      ∧ m' ((c.tc : Thread Cert.BlockCtxReferenceIdeal.nD Cert.BlockCtxReferenceIdeal.τ).loc Cert.BlockCtxReferenceIdeal.main_arg13) = m ((c.tc : Thread Cert.BlockCtxIdeal.nD Cert.BlockCtxIdeal.τ).loc Cert.BlockCtxIdeal.main_arg13)
      ∧ m' ((c.tc : Thread Cert.BlockCtxReferenceIdeal.nD Cert.BlockCtxReferenceIdeal.τ).loc Cert.BlockCtxReferenceIdeal.main_arg14) = m ((c.tc : Thread Cert.BlockCtxIdeal.nD Cert.BlockCtxIdeal.τ).loc Cert.BlockCtxIdeal.main_arg14)) →
    ∃ (v0 : (c : Dev Cert.BlockCtxIdeal.nD) → Buf (Elt Ideal) ((c.tc : Thread Cert.BlockCtxIdeal.nD Cert.BlockCtxIdeal.τ).loc Cert.BlockCtxIdeal.main_v9)),
      θ_run (Cert.BlockCtxIdeal.defs (F := Ideal)) (onTc (τ := Cert.BlockCtxIdeal.τ) (Cert.BlockCtxIdeal.main (F := Ideal))) ⟨m, fun _ => 0, g⟩ (fun r => ∀ c : Dev Cert.BlockCtxIdeal.nD,
          r.2.mem ((c.tc : Thread Cert.BlockCtxIdeal.nD Cert.BlockCtxIdeal.τ).loc Cert.BlockCtxIdeal.main_v9) = v0 c
          ∧ r.2.mem ((c.tc : Thread Cert.BlockCtxIdeal.nD Cert.BlockCtxIdeal.τ).loc Cert.BlockCtxIdeal.main_arg0) = m ((c.tc : Thread Cert.BlockCtxIdeal.nD Cert.BlockCtxIdeal.τ).loc Cert.BlockCtxIdeal.main_arg0)
          ∧ r.2.mem ((c.tc : Thread Cert.BlockCtxIdeal.nD Cert.BlockCtxIdeal.τ).loc Cert.BlockCtxIdeal.main_arg1) = m ((c.tc : Thread Cert.BlockCtxIdeal.nD Cert.BlockCtxIdeal.τ).loc Cert.BlockCtxIdeal.main_arg1)
          ∧ r.2.mem ((c.tc : Thread Cert.BlockCtxIdeal.nD Cert.BlockCtxIdeal.τ).loc Cert.BlockCtxIdeal.main_arg2) = m ((c.tc : Thread Cert.BlockCtxIdeal.nD Cert.BlockCtxIdeal.τ).loc Cert.BlockCtxIdeal.main_arg2)
          ∧ r.2.mem ((c.tc : Thread Cert.BlockCtxIdeal.nD Cert.BlockCtxIdeal.τ).loc Cert.BlockCtxIdeal.main_arg3) = m ((c.tc : Thread Cert.BlockCtxIdeal.nD Cert.BlockCtxIdeal.τ).loc Cert.BlockCtxIdeal.main_arg3)
          ∧ r.2.mem ((c.tc : Thread Cert.BlockCtxIdeal.nD Cert.BlockCtxIdeal.τ).loc Cert.BlockCtxIdeal.main_arg4) = m ((c.tc : Thread Cert.BlockCtxIdeal.nD Cert.BlockCtxIdeal.τ).loc Cert.BlockCtxIdeal.main_arg4)
          ∧ r.2.mem ((c.tc : Thread Cert.BlockCtxIdeal.nD Cert.BlockCtxIdeal.τ).loc Cert.BlockCtxIdeal.main_arg5) = m ((c.tc : Thread Cert.BlockCtxIdeal.nD Cert.BlockCtxIdeal.τ).loc Cert.BlockCtxIdeal.main_arg5)
          ∧ r.2.mem ((c.tc : Thread Cert.BlockCtxIdeal.nD Cert.BlockCtxIdeal.τ).loc Cert.BlockCtxIdeal.main_arg6) = m ((c.tc : Thread Cert.BlockCtxIdeal.nD Cert.BlockCtxIdeal.τ).loc Cert.BlockCtxIdeal.main_arg6)
          ∧ r.2.mem ((c.tc : Thread Cert.BlockCtxIdeal.nD Cert.BlockCtxIdeal.τ).loc Cert.BlockCtxIdeal.main_arg7) = m ((c.tc : Thread Cert.BlockCtxIdeal.nD Cert.BlockCtxIdeal.τ).loc Cert.BlockCtxIdeal.main_arg7)
          ∧ r.2.mem ((c.tc : Thread Cert.BlockCtxIdeal.nD Cert.BlockCtxIdeal.τ).loc Cert.BlockCtxIdeal.main_arg8) = m ((c.tc : Thread Cert.BlockCtxIdeal.nD Cert.BlockCtxIdeal.τ).loc Cert.BlockCtxIdeal.main_arg8)
          ∧ r.2.mem ((c.tc : Thread Cert.BlockCtxIdeal.nD Cert.BlockCtxIdeal.τ).loc Cert.BlockCtxIdeal.main_arg9) = m ((c.tc : Thread Cert.BlockCtxIdeal.nD Cert.BlockCtxIdeal.τ).loc Cert.BlockCtxIdeal.main_arg9)
          ∧ r.2.mem ((c.tc : Thread Cert.BlockCtxIdeal.nD Cert.BlockCtxIdeal.τ).loc Cert.BlockCtxIdeal.main_arg10) = m ((c.tc : Thread Cert.BlockCtxIdeal.nD Cert.BlockCtxIdeal.τ).loc Cert.BlockCtxIdeal.main_arg10)
          ∧ r.2.mem ((c.tc : Thread Cert.BlockCtxIdeal.nD Cert.BlockCtxIdeal.τ).loc Cert.BlockCtxIdeal.main_arg11) = m ((c.tc : Thread Cert.BlockCtxIdeal.nD Cert.BlockCtxIdeal.τ).loc Cert.BlockCtxIdeal.main_arg11)
          ∧ r.2.mem ((c.tc : Thread Cert.BlockCtxIdeal.nD Cert.BlockCtxIdeal.τ).loc Cert.BlockCtxIdeal.main_arg12) = m ((c.tc : Thread Cert.BlockCtxIdeal.nD Cert.BlockCtxIdeal.τ).loc Cert.BlockCtxIdeal.main_arg12)
          ∧ r.2.mem ((c.tc : Thread Cert.BlockCtxIdeal.nD Cert.BlockCtxIdeal.τ).loc Cert.BlockCtxIdeal.main_arg13) = m ((c.tc : Thread Cert.BlockCtxIdeal.nD Cert.BlockCtxIdeal.τ).loc Cert.BlockCtxIdeal.main_arg13)
          ∧ r.2.mem ((c.tc : Thread Cert.BlockCtxIdeal.nD Cert.BlockCtxIdeal.τ).loc Cert.BlockCtxIdeal.main_arg14) = m ((c.tc : Thread Cert.BlockCtxIdeal.nD Cert.BlockCtxIdeal.τ).loc Cert.BlockCtxIdeal.main_arg14))
      ∧ θ_run (Cert.BlockCtxReferenceIdeal.defs (F := Ideal)) (onTc (τ := Cert.BlockCtxReferenceIdeal.τ) (Cert.BlockCtxReferenceIdeal.main (F := Ideal))) ⟨m', fun _ => 0, g'⟩ (fun r => ∀ c : Dev Cert.BlockCtxReferenceIdeal.nD,
          r.2.mem ((c.tc : Thread Cert.BlockCtxReferenceIdeal.nD Cert.BlockCtxReferenceIdeal.τ).loc Cert.BlockCtxReferenceIdeal.main_v127) = v0 c
          ∧ r.2.mem ((c.tc : Thread Cert.BlockCtxReferenceIdeal.nD Cert.BlockCtxReferenceIdeal.τ).loc Cert.BlockCtxReferenceIdeal.main_arg0) = m' ((c.tc : Thread Cert.BlockCtxReferenceIdeal.nD Cert.BlockCtxReferenceIdeal.τ).loc Cert.BlockCtxReferenceIdeal.main_arg0)
          ∧ r.2.mem ((c.tc : Thread Cert.BlockCtxReferenceIdeal.nD Cert.BlockCtxReferenceIdeal.τ).loc Cert.BlockCtxReferenceIdeal.main_arg1) = m' ((c.tc : Thread Cert.BlockCtxReferenceIdeal.nD Cert.BlockCtxReferenceIdeal.τ).loc Cert.BlockCtxReferenceIdeal.main_arg1)
          ∧ r.2.mem ((c.tc : Thread Cert.BlockCtxReferenceIdeal.nD Cert.BlockCtxReferenceIdeal.τ).loc Cert.BlockCtxReferenceIdeal.main_arg2) = m' ((c.tc : Thread Cert.BlockCtxReferenceIdeal.nD Cert.BlockCtxReferenceIdeal.τ).loc Cert.BlockCtxReferenceIdeal.main_arg2)
          ∧ r.2.mem ((c.tc : Thread Cert.BlockCtxReferenceIdeal.nD Cert.BlockCtxReferenceIdeal.τ).loc Cert.BlockCtxReferenceIdeal.main_arg3) = m' ((c.tc : Thread Cert.BlockCtxReferenceIdeal.nD Cert.BlockCtxReferenceIdeal.τ).loc Cert.BlockCtxReferenceIdeal.main_arg3)
          ∧ r.2.mem ((c.tc : Thread Cert.BlockCtxReferenceIdeal.nD Cert.BlockCtxReferenceIdeal.τ).loc Cert.BlockCtxReferenceIdeal.main_arg4) = m' ((c.tc : Thread Cert.BlockCtxReferenceIdeal.nD Cert.BlockCtxReferenceIdeal.τ).loc Cert.BlockCtxReferenceIdeal.main_arg4)
          ∧ r.2.mem ((c.tc : Thread Cert.BlockCtxReferenceIdeal.nD Cert.BlockCtxReferenceIdeal.τ).loc Cert.BlockCtxReferenceIdeal.main_arg5) = m' ((c.tc : Thread Cert.BlockCtxReferenceIdeal.nD Cert.BlockCtxReferenceIdeal.τ).loc Cert.BlockCtxReferenceIdeal.main_arg5)
          ∧ r.2.mem ((c.tc : Thread Cert.BlockCtxReferenceIdeal.nD Cert.BlockCtxReferenceIdeal.τ).loc Cert.BlockCtxReferenceIdeal.main_arg6) = m' ((c.tc : Thread Cert.BlockCtxReferenceIdeal.nD Cert.BlockCtxReferenceIdeal.τ).loc Cert.BlockCtxReferenceIdeal.main_arg6)
          ∧ r.2.mem ((c.tc : Thread Cert.BlockCtxReferenceIdeal.nD Cert.BlockCtxReferenceIdeal.τ).loc Cert.BlockCtxReferenceIdeal.main_arg7) = m' ((c.tc : Thread Cert.BlockCtxReferenceIdeal.nD Cert.BlockCtxReferenceIdeal.τ).loc Cert.BlockCtxReferenceIdeal.main_arg7)
          ∧ r.2.mem ((c.tc : Thread Cert.BlockCtxReferenceIdeal.nD Cert.BlockCtxReferenceIdeal.τ).loc Cert.BlockCtxReferenceIdeal.main_arg8) = m' ((c.tc : Thread Cert.BlockCtxReferenceIdeal.nD Cert.BlockCtxReferenceIdeal.τ).loc Cert.BlockCtxReferenceIdeal.main_arg8)
          ∧ r.2.mem ((c.tc : Thread Cert.BlockCtxReferenceIdeal.nD Cert.BlockCtxReferenceIdeal.τ).loc Cert.BlockCtxReferenceIdeal.main_arg9) = m' ((c.tc : Thread Cert.BlockCtxReferenceIdeal.nD Cert.BlockCtxReferenceIdeal.τ).loc Cert.BlockCtxReferenceIdeal.main_arg9)
          ∧ r.2.mem ((c.tc : Thread Cert.BlockCtxReferenceIdeal.nD Cert.BlockCtxReferenceIdeal.τ).loc Cert.BlockCtxReferenceIdeal.main_arg10) = m' ((c.tc : Thread Cert.BlockCtxReferenceIdeal.nD Cert.BlockCtxReferenceIdeal.τ).loc Cert.BlockCtxReferenceIdeal.main_arg10)
          ∧ r.2.mem ((c.tc : Thread Cert.BlockCtxReferenceIdeal.nD Cert.BlockCtxReferenceIdeal.τ).loc Cert.BlockCtxReferenceIdeal.main_arg11) = m' ((c.tc : Thread Cert.BlockCtxReferenceIdeal.nD Cert.BlockCtxReferenceIdeal.τ).loc Cert.BlockCtxReferenceIdeal.main_arg11)
          ∧ r.2.mem ((c.tc : Thread Cert.BlockCtxReferenceIdeal.nD Cert.BlockCtxReferenceIdeal.τ).loc Cert.BlockCtxReferenceIdeal.main_arg12) = m' ((c.tc : Thread Cert.BlockCtxReferenceIdeal.nD Cert.BlockCtxReferenceIdeal.τ).loc Cert.BlockCtxReferenceIdeal.main_arg12)
          ∧ r.2.mem ((c.tc : Thread Cert.BlockCtxReferenceIdeal.nD Cert.BlockCtxReferenceIdeal.τ).loc Cert.BlockCtxReferenceIdeal.main_arg13) = m' ((c.tc : Thread Cert.BlockCtxReferenceIdeal.nD Cert.BlockCtxReferenceIdeal.τ).loc Cert.BlockCtxReferenceIdeal.main_arg13)
          ∧ r.2.mem ((c.tc : Thread Cert.BlockCtxReferenceIdeal.nD Cert.BlockCtxReferenceIdeal.τ).loc Cert.BlockCtxReferenceIdeal.main_arg14) = m' ((c.tc : Thread Cert.BlockCtxReferenceIdeal.nD Cert.BlockCtxReferenceIdeal.τ).loc Cert.BlockCtxReferenceIdeal.main_arg14))

def preserves_InProjCtx_InProjCtxIdeal : Prop :=
  True

def algebraic_InProjCtxIdeal_InProjCtxReferenceIdeal [hInProjCtxIdeal : Cert.InProjCtxIdeal.Facts] [hInProjCtxReferenceIdeal : Cert.InProjCtxReferenceIdeal.Facts] : Prop :=
  ∀ (m : (ℓ : Loc Cert.InProjCtxIdeal.nD Cert.InProjCtxIdeal.τ Cert.InProjCtxIdeal.sig) → Buf (Elt Ideal) ℓ) (g : Dev Cert.InProjCtxIdeal.nD → PrngReg)
    (m' : (ℓ : Loc Cert.InProjCtxReferenceIdeal.nD Cert.InProjCtxReferenceIdeal.τ Cert.InProjCtxReferenceIdeal.sig) → Buf (Elt Ideal) ℓ) (g' : Dev Cert.InProjCtxReferenceIdeal.nD → PrngReg), Pre_InProjCtxIdeal m →
    (∀ c : Dev Cert.InProjCtxIdeal.nD,
      m' ((c.tc : Thread Cert.InProjCtxReferenceIdeal.nD Cert.InProjCtxReferenceIdeal.τ).loc Cert.InProjCtxReferenceIdeal.main_arg0) = m ((c.tc : Thread Cert.InProjCtxIdeal.nD Cert.InProjCtxIdeal.τ).loc Cert.InProjCtxIdeal.main_arg0)
      ∧ m' ((c.tc : Thread Cert.InProjCtxReferenceIdeal.nD Cert.InProjCtxReferenceIdeal.τ).loc Cert.InProjCtxReferenceIdeal.main_arg1) = m ((c.tc : Thread Cert.InProjCtxIdeal.nD Cert.InProjCtxIdeal.τ).loc Cert.InProjCtxIdeal.main_arg1)
      ∧ m' ((c.tc : Thread Cert.InProjCtxReferenceIdeal.nD Cert.InProjCtxReferenceIdeal.τ).loc Cert.InProjCtxReferenceIdeal.main_arg2) = m ((c.tc : Thread Cert.InProjCtxIdeal.nD Cert.InProjCtxIdeal.τ).loc Cert.InProjCtxIdeal.main_arg2)
      ∧ m' ((c.tc : Thread Cert.InProjCtxReferenceIdeal.nD Cert.InProjCtxReferenceIdeal.τ).loc Cert.InProjCtxReferenceIdeal.main_arg3) = m ((c.tc : Thread Cert.InProjCtxIdeal.nD Cert.InProjCtxIdeal.τ).loc Cert.InProjCtxIdeal.main_arg3)) →
    ∃ (v0 : (c : Dev Cert.InProjCtxIdeal.nD) → Buf (Elt Ideal) ((c.tc : Thread Cert.InProjCtxIdeal.nD Cert.InProjCtxIdeal.τ).loc Cert.InProjCtxIdeal.main_v56_0)) (v1 : (c : Dev Cert.InProjCtxIdeal.nD) → Buf (Elt Ideal) ((c.tc : Thread Cert.InProjCtxIdeal.nD Cert.InProjCtxIdeal.τ).loc Cert.InProjCtxIdeal.main_v56_1)) (v2 : (c : Dev Cert.InProjCtxIdeal.nD) → Buf (Elt Ideal) ((c.tc : Thread Cert.InProjCtxIdeal.nD Cert.InProjCtxIdeal.τ).loc Cert.InProjCtxIdeal.main_v56_2)) (v3 : (c : Dev Cert.InProjCtxIdeal.nD) → Buf (Elt Ideal) ((c.tc : Thread Cert.InProjCtxIdeal.nD Cert.InProjCtxIdeal.τ).loc Cert.InProjCtxIdeal.main_v56_3)) (v4 : (c : Dev Cert.InProjCtxIdeal.nD) → Buf (Elt Ideal) ((c.tc : Thread Cert.InProjCtxIdeal.nD Cert.InProjCtxIdeal.τ).loc Cert.InProjCtxIdeal.main_v56_4)) (v5 : (c : Dev Cert.InProjCtxIdeal.nD) → Buf (Elt Ideal) ((c.tc : Thread Cert.InProjCtxIdeal.nD Cert.InProjCtxIdeal.τ).loc Cert.InProjCtxIdeal.main_v56_5)),
      θ_run (Cert.InProjCtxIdeal.defs (F := Ideal)) (onTc (τ := Cert.InProjCtxIdeal.τ) (Cert.InProjCtxIdeal.main (F := Ideal))) ⟨m, fun _ => 0, g⟩ (fun r => ∀ c : Dev Cert.InProjCtxIdeal.nD,
          r.2.mem ((c.tc : Thread Cert.InProjCtxIdeal.nD Cert.InProjCtxIdeal.τ).loc Cert.InProjCtxIdeal.main_v56_0) = v0 c
          ∧ r.2.mem ((c.tc : Thread Cert.InProjCtxIdeal.nD Cert.InProjCtxIdeal.τ).loc Cert.InProjCtxIdeal.main_v56_1) = v1 c
          ∧ r.2.mem ((c.tc : Thread Cert.InProjCtxIdeal.nD Cert.InProjCtxIdeal.τ).loc Cert.InProjCtxIdeal.main_v56_2) = v2 c
          ∧ r.2.mem ((c.tc : Thread Cert.InProjCtxIdeal.nD Cert.InProjCtxIdeal.τ).loc Cert.InProjCtxIdeal.main_v56_3) = v3 c
          ∧ r.2.mem ((c.tc : Thread Cert.InProjCtxIdeal.nD Cert.InProjCtxIdeal.τ).loc Cert.InProjCtxIdeal.main_v56_4) = v4 c
          ∧ r.2.mem ((c.tc : Thread Cert.InProjCtxIdeal.nD Cert.InProjCtxIdeal.τ).loc Cert.InProjCtxIdeal.main_v56_5) = v5 c
          ∧ r.2.mem ((c.tc : Thread Cert.InProjCtxIdeal.nD Cert.InProjCtxIdeal.τ).loc Cert.InProjCtxIdeal.main_arg0) = m ((c.tc : Thread Cert.InProjCtxIdeal.nD Cert.InProjCtxIdeal.τ).loc Cert.InProjCtxIdeal.main_arg0)
          ∧ r.2.mem ((c.tc : Thread Cert.InProjCtxIdeal.nD Cert.InProjCtxIdeal.τ).loc Cert.InProjCtxIdeal.main_arg1) = m ((c.tc : Thread Cert.InProjCtxIdeal.nD Cert.InProjCtxIdeal.τ).loc Cert.InProjCtxIdeal.main_arg1)
          ∧ r.2.mem ((c.tc : Thread Cert.InProjCtxIdeal.nD Cert.InProjCtxIdeal.τ).loc Cert.InProjCtxIdeal.main_arg2) = m ((c.tc : Thread Cert.InProjCtxIdeal.nD Cert.InProjCtxIdeal.τ).loc Cert.InProjCtxIdeal.main_arg2)
          ∧ r.2.mem ((c.tc : Thread Cert.InProjCtxIdeal.nD Cert.InProjCtxIdeal.τ).loc Cert.InProjCtxIdeal.main_arg3) = m ((c.tc : Thread Cert.InProjCtxIdeal.nD Cert.InProjCtxIdeal.τ).loc Cert.InProjCtxIdeal.main_arg3))
      ∧ θ_run (Cert.InProjCtxReferenceIdeal.defs (F := Ideal)) (onTc (τ := Cert.InProjCtxReferenceIdeal.τ) (Cert.InProjCtxReferenceIdeal.main (F := Ideal))) ⟨m', fun _ => 0, g'⟩ (fun r => ∀ c : Dev Cert.InProjCtxReferenceIdeal.nD,
          r.2.mem ((c.tc : Thread Cert.InProjCtxReferenceIdeal.nD Cert.InProjCtxReferenceIdeal.τ).loc Cert.InProjCtxReferenceIdeal.main_v39) = v0 c
          ∧ r.2.mem ((c.tc : Thread Cert.InProjCtxReferenceIdeal.nD Cert.InProjCtxReferenceIdeal.τ).loc Cert.InProjCtxReferenceIdeal.main_v40) = v1 c
          ∧ r.2.mem ((c.tc : Thread Cert.InProjCtxReferenceIdeal.nD Cert.InProjCtxReferenceIdeal.τ).loc Cert.InProjCtxReferenceIdeal.main_v41) = v2 c
          ∧ r.2.mem ((c.tc : Thread Cert.InProjCtxReferenceIdeal.nD Cert.InProjCtxReferenceIdeal.τ).loc Cert.InProjCtxReferenceIdeal.main_v33) = v3 c
          ∧ r.2.mem ((c.tc : Thread Cert.InProjCtxReferenceIdeal.nD Cert.InProjCtxReferenceIdeal.τ).loc Cert.InProjCtxReferenceIdeal.main_v42) = v4 c
          ∧ r.2.mem ((c.tc : Thread Cert.InProjCtxReferenceIdeal.nD Cert.InProjCtxReferenceIdeal.τ).loc Cert.InProjCtxReferenceIdeal.main_v36) = v5 c
          ∧ r.2.mem ((c.tc : Thread Cert.InProjCtxReferenceIdeal.nD Cert.InProjCtxReferenceIdeal.τ).loc Cert.InProjCtxReferenceIdeal.main_arg0) = m' ((c.tc : Thread Cert.InProjCtxReferenceIdeal.nD Cert.InProjCtxReferenceIdeal.τ).loc Cert.InProjCtxReferenceIdeal.main_arg0)
          ∧ r.2.mem ((c.tc : Thread Cert.InProjCtxReferenceIdeal.nD Cert.InProjCtxReferenceIdeal.τ).loc Cert.InProjCtxReferenceIdeal.main_arg1) = m' ((c.tc : Thread Cert.InProjCtxReferenceIdeal.nD Cert.InProjCtxReferenceIdeal.τ).loc Cert.InProjCtxReferenceIdeal.main_arg1)
          ∧ r.2.mem ((c.tc : Thread Cert.InProjCtxReferenceIdeal.nD Cert.InProjCtxReferenceIdeal.τ).loc Cert.InProjCtxReferenceIdeal.main_arg2) = m' ((c.tc : Thread Cert.InProjCtxReferenceIdeal.nD Cert.InProjCtxReferenceIdeal.τ).loc Cert.InProjCtxReferenceIdeal.main_arg2)
          ∧ r.2.mem ((c.tc : Thread Cert.InProjCtxReferenceIdeal.nD Cert.InProjCtxReferenceIdeal.τ).loc Cert.InProjCtxReferenceIdeal.main_arg3) = m' ((c.tc : Thread Cert.InProjCtxReferenceIdeal.nD Cert.InProjCtxReferenceIdeal.τ).loc Cert.InProjCtxReferenceIdeal.main_arg3))

def Claim : Prop :=
  ∃ (hKernel : Cert.Kernel.Facts) (hKernelIdeal : Cert.KernelIdeal.Facts) (hReferenceIdeal : Cert.ReferenceIdeal.Facts) (hBlock : Cert.Block.Facts) (hBlockIdeal : Cert.BlockIdeal.Facts) (hBlockReferenceIdeal : Cert.BlockReferenceIdeal.Facts) (hInProj : Cert.InProj.Facts) (hInProjIdeal : Cert.InProjIdeal.Facts) (hInProjReferenceIdeal : Cert.InProjReferenceIdeal.Facts) (hMods : Cert.Mods.Facts) (hModsIdeal : Cert.ModsIdeal.Facts) (hModsReferenceIdeal : Cert.ModsReferenceIdeal.Facts) (hCtx : Cert.Ctx.Facts) (hCtxIdeal : Cert.CtxIdeal.Facts) (hCtxReferenceIdeal : Cert.CtxReferenceIdeal.Facts) (hBlockCtx : Cert.BlockCtx.Facts) (hBlockCtxIdeal : Cert.BlockCtxIdeal.Facts) (hBlockCtxReferenceIdeal : Cert.BlockCtxReferenceIdeal.Facts) (hInProjCtx : Cert.InProjCtx.Facts) (hInProjCtxIdeal : Cert.InProjCtxIdeal.Facts) (hInProjCtxReferenceIdeal : Cert.InProjCtxReferenceIdeal.Facts) (hPre_finite_scores : Cert.Pre_finite_scores.Facts) (hPre_finite_ctx_scores : Cert.Pre_finite_ctx_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Block (hBlock := hBlock)
    ∧ quiescent_BlockIdeal (hBlockIdeal := hBlockIdeal)
    ∧ quiescent_BlockReferenceIdeal (hBlockReferenceIdeal := hBlockReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Mods (hMods := hMods)
    ∧ quiescent_ModsIdeal (hModsIdeal := hModsIdeal)
    ∧ quiescent_ModsReferenceIdeal (hModsReferenceIdeal := hModsReferenceIdeal)
    ∧ quiescent_Ctx (hCtx := hCtx)
    ∧ quiescent_CtxIdeal (hCtxIdeal := hCtxIdeal)
    ∧ quiescent_CtxIdeal_pre_finite_ctx_scores (hCtxIdeal := hCtxIdeal) (hPre_finite_ctx_scores := hPre_finite_ctx_scores)
    ∧ quiescent_CtxReferenceIdeal (hCtxReferenceIdeal := hCtxReferenceIdeal)
    ∧ quiescent_CtxReferenceIdeal_pre_finite_ctx_scores (hCtxReferenceIdeal := hCtxReferenceIdeal) (hPre_finite_ctx_scores := hPre_finite_ctx_scores)
    ∧ quiescent_BlockCtx (hBlockCtx := hBlockCtx)
    ∧ quiescent_BlockCtxIdeal (hBlockCtxIdeal := hBlockCtxIdeal)
    ∧ quiescent_BlockCtxReferenceIdeal (hBlockCtxReferenceIdeal := hBlockCtxReferenceIdeal)
    ∧ quiescent_InProjCtx (hInProjCtx := hInProjCtx)
    ∧ quiescent_InProjCtxIdeal (hInProjCtxIdeal := hInProjCtxIdeal)
    ∧ quiescent_InProjCtxReferenceIdeal (hInProjCtxReferenceIdeal := hInProjCtxReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Block_BlockIdeal
    ∧ algebraic_BlockIdeal_BlockReferenceIdeal (hBlockIdeal := hBlockIdeal) (hBlockReferenceIdeal := hBlockReferenceIdeal)
    ∧ preserves_InProj_InProjIdeal
    ∧ algebraic_InProjIdeal_InProjReferenceIdeal (hInProjIdeal := hInProjIdeal) (hInProjReferenceIdeal := hInProjReferenceIdeal)
    ∧ preserves_Mods_ModsIdeal
    ∧ algebraic_ModsIdeal_ModsReferenceIdeal (hModsIdeal := hModsIdeal) (hModsReferenceIdeal := hModsReferenceIdeal)
    ∧ preserves_Ctx_CtxIdeal
    ∧ algebraic_CtxIdeal_CtxReferenceIdeal_pre_finite_ctx_scores (hCtxIdeal := hCtxIdeal) (hCtxReferenceIdeal := hCtxReferenceIdeal) (hPre_finite_ctx_scores := hPre_finite_ctx_scores)
    ∧ preserves_BlockCtx_BlockCtxIdeal
    ∧ algebraic_BlockCtxIdeal_BlockCtxReferenceIdeal (hBlockCtxIdeal := hBlockCtxIdeal) (hBlockCtxReferenceIdeal := hBlockCtxReferenceIdeal)
    ∧ preserves_InProjCtx_InProjCtxIdeal
    ∧ algebraic_InProjCtxIdeal_InProjCtxReferenceIdeal (hInProjCtxIdeal := hInProjCtxIdeal) (hInProjCtxReferenceIdeal := hInProjCtxReferenceIdeal)
-- ==== Pre_finite_ctx_scores.lean ====
abbrev S8 : Shape := ⟨1, ![8]⟩
abbrev S32x256x512 : Shape := ⟨3, ![32, 256, 512]⟩
abbrev S32x256x128 : Shape := ⟨3, ![32, 256, 128]⟩
abbrev S_ : Shape := ⟨0, ![]⟩

class Facts : Prop where
  bcast_S_S8 : S_.BroadcastsInDim S8 (![] : Fin 0 → Fin S8.rank)
  bcast_S_S32x256x512 : S_.BroadcastsInDim S32x256x512 (![] : Fin 0 → Fin S32x256x512.rank)
  bcast_S_S32x256x128 : S_.BroadcastsInDim S32x256x128 (![] : Fin 0 → Fin S32x256x128.rank)

variable [Facts]

def fn {F : FTy → Type} [FloatOps F] (main_arg0 : FVec F S8 .f32) (main_arg1 : FVec F S32x256x512 .f32) (main_arg2 : FVec F S32x256x128 .f32) (main_arg3 : FVec F S32x256x128 .f32) : IVec S8 1 × IVec S32x256x512 1 × IVec S32x256x128 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S32x256x512 .f32 := Host.absf main_arg1
  let main_cst_0 : FVec F S_ .f32 := constant S_ .f32 0x7F800000#32
  let main_v4 : FVec F S32x256x512 .f32 := broadcastInDim S32x256x512 ![] bcast_S_S32x256x512 main_cst_0
  let main_v5 : IVec S32x256x512 1 := cmpf .olt main_v3 main_v4
  let main_v6 : FVec F S32x256x128 .f32 := Host.absf main_arg2
  let main_cst_1 : FVec F S_ .f32 := constant S_ .f32 0x7F800000#32
  let main_v7 : FVec F S32x256x128 .f32 := broadcastInDim S32x256x128 ![] bcast_S_S32x256x128 main_cst_1
  let main_v8 : IVec S32x256x128 1 := cmpf .olt main_v6 main_v7
  (main_v2, main_v5, main_v8)
-- ==== Pre_finite_scores.lean ====
abbrev S8 : Shape := ⟨1, ![8]⟩
abbrev S32x2048x512 : Shape := ⟨3, ![32, 2048, 512]⟩
abbrev S32x2048x128 : Shape := ⟨3, ![32, 2048, 128]⟩
abbrev S32x256x128 : Shape := ⟨3, ![32, 256, 128]⟩
abbrev S_ : Shape := ⟨0, ![]⟩

class Facts : Prop where
  bcast_S_S8 : S_.BroadcastsInDim S8 (![] : Fin 0 → Fin S8.rank)
  bcast_S_S32x2048x512 : S_.BroadcastsInDim S32x2048x512 (![] : Fin 0 → Fin S32x2048x512.rank)
  bcast_S_S32x2048x128 : S_.BroadcastsInDim S32x2048x128 (![] : Fin 0 → Fin S32x2048x128.rank)
  bcast_S_S32x256x128 : S_.BroadcastsInDim S32x256x128 (![] : Fin 0 → Fin S32x256x128.rank)

variable [Facts]

def fn {F : FTy → Type} [FloatOps F] (main_arg0 : FVec F S8 .f32) (main_arg1 : FVec F S32x2048x512 .f32) (main_arg2 : FVec F S32x2048x128 .f32) (main_arg3 : FVec F S32x2048x128 .f32) (main_arg4 : FVec F S32x256x128 .f32) (main_arg5 : FVec F S32x256x128 .f32) : IVec S8 1 × IVec S32x2048x512 1 × IVec S32x2048x128 1 × IVec S32x256x128 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S32x2048x512 .f32 := Host.absf main_arg1
  let main_cst_0 : FVec F S_ .f32 := constant S_ .f32 0x7F800000#32
  let main_v4 : FVec F S32x2048x512 .f32 := broadcastInDim S32x2048x512 ![] bcast_S_S32x2048x512 main_cst_0
  let main_v5 : IVec S32x2048x512 1 := cmpf .olt main_v3 main_v4
  let main_v6 : FVec F S32x2048x128 .f32 := Host.absf main_arg2
  let main_cst_1 : FVec F S_ .f32 := constant S_ .f32 0x7F800000#32
  let main_v7 : FVec F S32x2048x128 .f32 := broadcastInDim S32x2048x128 ![] bcast_S_S32x2048x128 main_cst_1
  let main_v8 : IVec S32x2048x128 1 := cmpf .olt main_v6 main_v7
  let main_v9 : FVec F S32x256x128 .f32 := Host.absf main_arg4
  let main_cst_2 : FVec F S_ .f32 := constant S_ .f32 0x7F800000#32
  let main_v10 : FVec F S32x256x128 .f32 := broadcastInDim S32x256x128 ![] bcast_S_S32x256x128 main_cst_2
  let main_v11 : IVec S32x256x128 1 := cmpf .olt main_v9 main_v10
  (main_v2, main_v5, main_v8, main_v11)
-- ==== Kernel.lean ====
abbrev S8 : Shape := ⟨1, ![8]⟩
abbrev S32x2048x512 : Shape := ⟨3, ![32, 2048, 512]⟩
abbrev S32x2048x128 : Shape := ⟨3, ![32, 2048, 128]⟩
abbrev S32x256x128 : Shape := ⟨3, ![32, 256, 128]⟩
abbrev S_ : Shape := ⟨0, ![]⟩
abbrev S1x128x512 : Shape := ⟨3, ![1, 128, 512]⟩
abbrev S1x128x128 : Shape := ⟨3, ![1, 128, 128]⟩
abbrev S1x256x128 : Shape := ⟨3, ![1, 256, 128]⟩
abbrev S128x128 : Shape := ⟨2, ![128, 128]⟩
abbrev S256x128 : Shape := ⟨2, ![256, 128]⟩
abbrev S640x128 : Shape := ⟨2, ![640, 128]⟩
abbrev S128x512 : Shape := ⟨2, ![128, 512]⟩
abbrev S512x640 : Shape := ⟨2, ![512, 640]⟩
abbrev S128x64 : Shape := ⟨2, ![128, 64]⟩
abbrev S512x64 : Shape := ⟨2, ![512, 64]⟩
abbrev S640x64 : Shape := ⟨2, ![640, 64]⟩
abbrev S1 : Shape := ⟨1, ![1]⟩
abbrev S128x1 : Shape := ⟨2, ![128, 1]⟩
abbrev S512x1 : Shape := ⟨2, ![512, 1]⟩
abbrev S512 : Shape := ⟨1, ![512]⟩

abbrev nBuf : Space → Nat
  | .hbm => 15
  | .vmem => 20
  | .smem => 1
  | _ => 0

abbrev bufTy : (tb : Table) → Fin (tcTables nBuf tb) → BufTy
  | .hbm, ⟨0, _⟩ => ⟨S8, .f32⟩
  | .hbm, ⟨1, _⟩ => ⟨S32x2048x512, .f32⟩
  | .hbm, ⟨2, _⟩ => ⟨S32x2048x128, .f32⟩
  | .hbm, ⟨3, _⟩ => ⟨S32x2048x128, .f32⟩
  | .hbm, ⟨4, _⟩ => ⟨S32x256x128, .f32⟩
  | .hbm, ⟨5, _⟩ => ⟨S32x256x128, .f32⟩
  | .hbm, ⟨6, _⟩ => ⟨S_, .f32⟩
  | .hbm, ⟨7, _⟩ => ⟨S32x2048x512, .f32⟩
  | .hbm, ⟨8, _⟩ => ⟨S32x2048x512, .f32⟩
  | .hbm, ⟨9, _⟩ => ⟨S32x2048x512, .bf16⟩
  | .hbm, ⟨10, _⟩ => ⟨S32x2048x128, .bf16⟩
  | .hbm, ⟨11, _⟩ => ⟨S32x2048x128, .bf16⟩
  | .hbm, ⟨12, _⟩ => ⟨S32x256x128, .bf16⟩
  | .hbm, ⟨13, _⟩ => ⟨S32x256x128, .bf16⟩
  | .hbm, ⟨14, _⟩ => ⟨S32x2048x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x128x512, .bf16⟩
  | .local _ .vmem, ⟨19, _⟩ => ⟨S1x128x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![32, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8 : Shape := ⟨1, ![8]⟩
abbrev S32x2048x512 : Shape := ⟨3, ![32, 2048, 512]⟩
abbrev S32x2048x128 : Shape := ⟨3, ![32, 2048, 128]⟩
abbrev S32x256x128 : Shape := ⟨3, ![32, 256, 128]⟩
abbrev S32x2048x2x4x64 : Shape := ⟨5, ![32, 2048, 2, 4, 64]⟩
abbrev S32x2048x2x64 : Shape := ⟨4, ![32, 2048, 2, 64]⟩
abbrev S32x256x2x64 : Shape := ⟨4, ![32, 256, 2, 64]⟩
abbrev S2x4 : Shape := ⟨2, ![2, 4]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S32x2x2048x2048x4 : Shape := ⟨5, ![32, 2, 2048, 2048, 4]⟩
abbrev S32x2x4x2048x2048 : Shape := ⟨5, ![32, 2, 4, 2048, 2048]⟩
abbrev S32x2x256x2048x4 : Shape := ⟨5, ![32, 2, 256, 2048, 4]⟩
abbrev S32x2x4x2048x256 : Shape := ⟨5, ![32, 2, 4, 2048, 256]⟩
abbrev S1x2x4x1x1 : Shape := ⟨5, ![1, 2, 4, 1, 1]⟩
abbrev S32x2x4x2048x1 : Shape := ⟨5, ![32, 2, 4, 2048, 1]⟩
abbrev S32x2x4x2048x2305 : Shape := ⟨5, ![32, 2, 4, 2048, 2305]⟩
abbrev S32x2x4x2048 : Shape := ⟨4, ![32, 2, 4, 2048]⟩
abbrev S32x2x64x4x2048 : Shape := ⟨5, ![32, 2, 64, 4, 2048]⟩

abbrev nBuf : Space → Nat
  | .hbm => 63
  | .vmem => 0
  | .smem => 0
  | _ => 0

abbrev bufTy : (tb : Table) → Fin (tcTables nBuf tb) → BufTy
  | .hbm, ⟨0, _⟩ => ⟨S8, .f32⟩
  | .hbm, ⟨1, _⟩ => ⟨S32x2048x512, .f32⟩
  | .hbm, ⟨2, _⟩ => ⟨S32x2048x128, .f32⟩
  | .hbm, ⟨3, _⟩ => ⟨S32x2048x128, .f32⟩
  | .hbm, ⟨4, _⟩ => ⟨S32x256x128, .f32⟩
  | .hbm, ⟨5, _⟩ => ⟨S32x256x128, .f32⟩
  | .hbm, ⟨6, _⟩ => ⟨S32x2048x2x4x64, .f32⟩
  | .hbm, ⟨7, _⟩ => ⟨S32x2048x2x64, .f32⟩
  | .hbm, ⟨8, _⟩ => ⟨S32x2048x2x64, .f32⟩
  | .hbm, ⟨9, _⟩ => ⟨S32x256x2x64, .f32⟩
  | .hbm, ⟨10, _⟩ => ⟨S32x256x2x64, .f32⟩
  | .hbm, ⟨11, _⟩ => ⟨S2x4, .f32⟩
  | .hbm, ⟨12, _⟩ => ⟨S2048, .i32⟩
  | .hbm, ⟨13, _⟩ => ⟨S2048x1, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S32x2x2048x2048x4, .f32⟩
  | .hbm, ⟨23, _⟩ => ⟨S32x2x4x2048x2048, .f32⟩
  | .hbm, ⟨24, _⟩ => ⟨S_, .f32⟩
  | .hbm, ⟨25, _⟩ => ⟨S32x2x4x2048x2048, .f32⟩
  | .hbm, ⟨26, _⟩ => ⟨S32x2x4x2048x2048, .f32⟩
  | .hbm, ⟨27, _⟩ => ⟨S_, .f32⟩
  | .hbm, ⟨28, _⟩ => ⟨S_, .f32⟩
  | .hbm, ⟨29, _⟩ => ⟨S32x2x4x2048x2048, .i1⟩
  | .hbm, ⟨30, _⟩ => ⟨S32x2x4x2048x2048, .f32⟩
  | .hbm, ⟨31, _⟩ => ⟨S32x2x4x2048x2048, .f32⟩
  | .hbm, ⟨32, _⟩ => ⟨S32x2x256x2048x4, .f32⟩
  | .hbm, ⟨33, _⟩ => ⟨S32x2x4x2048x256, .f32⟩
  | .hbm, ⟨34, _⟩ => ⟨S_, .f32⟩
  | .hbm, ⟨35, _⟩ => ⟨S32x2x4x2048x256, .f32⟩
  | .hbm, ⟨36, _⟩ => ⟨S32x2x4x2048x256, .f32⟩
  | .hbm, ⟨37, _⟩ => ⟨S1x2x4x1x1, .f32⟩
  | .hbm, ⟨38, _⟩ => ⟨S32x2x4x2048x1, .f32⟩
  | .hbm, ⟨39, _⟩ => ⟨S32x2x4x2048x2305, .f32⟩
  | .hbm, ⟨40, _⟩ => ⟨S_, .f32⟩
  | .hbm, ⟨41, _⟩ => ⟨S32x2x4x2048, .f32⟩
  | .hbm, ⟨42, _⟩ => ⟨S_, .f32⟩
  | .hbm, ⟨43, _⟩ => ⟨S32x2x4x2048, .f32⟩
  | .hbm, ⟨44, _⟩ => ⟨S32x2x4x2048, .f32⟩
  | .hbm, ⟨45, _⟩ => ⟨S32x2x4x2048x1, .f32⟩
  | .hbm, ⟨46, _⟩ => ⟨S32x2x4x2048x2305, .f32⟩
  | .hbm, ⟨47, _⟩ => ⟨S32x2x4x2048x2305, .f32⟩
  | .hbm, ⟨48, _⟩ => ⟨S32x2x4x2048x2305, .f32⟩
  | .hbm, ⟨49, _⟩ => ⟨S_, .f32⟩
  | .hbm, ⟨50, _⟩ => ⟨S32x2x4x2048, .f32⟩
  | .hbm, ⟨51, _⟩ => ⟨S32x2x4x2048x1, .f32⟩
  | .hbm, ⟨52, _⟩ => ⟨S32x2x4x2048x2305, .f32⟩
  | .hbm, ⟨53, _⟩ => ⟨S32x2x4x2048x2305, .f32⟩
  | .hbm, ⟨54, _⟩ => ⟨S32x2x4x2048x2048, .f32⟩
  | .hbm, ⟨55, _⟩ => ⟨S32x2x4x2048x256, .f32⟩
  | .hbm, ⟨56, _⟩ => ⟨S32x2x64x4x2048, .f32⟩
  | .hbm, ⟨57, _⟩ => ⟨S32x2048x2x4x64, .f32⟩
  | .hbm, ⟨58, _⟩ => ⟨S32x2x64x4x2048, .f32⟩
  | .hbm, ⟨59, _⟩ => ⟨S32x2048x2x4x64, .f32⟩
  | .hbm, ⟨60, _⟩ => ⟨S32x2048x2x4x64, .f32⟩
  | .hbm, ⟨61, _⟩ => ⟨S32x2048x512, .f32⟩
  | .hbm, ⟨62, _⟩ => ⟨S32x2048x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Block.lean ====
abbrev S32x2048x1024 : Shape := ⟨3, ![32, 2048, 1024]⟩
abbrev S32x2048x512 : Shape := ⟨3, ![32, 2048, 512]⟩
abbrev S32x2048x256 : Shape := ⟨3, ![32, 2048, 256]⟩
abbrev S2x32x2048x256 : Shape := ⟨4, ![2, 32, 2048, 256]⟩
abbrev S32x6x1024 : Shape := ⟨3, ![32, 6, 1024]⟩
abbrev S4x1024 : Shape := ⟨2, ![4, 1024]⟩
abbrev S3x256 : Shape := ⟨2, ![3, 256]⟩
abbrev S256 : Shape := ⟨1, ![256]⟩
abbrev S256x256 : Shape := ⟨2, ![256, 256]⟩
abbrev S1024x1024 : Shape := ⟨2, ![1024, 1024]⟩
abbrev S1024x4096 : Shape := ⟨2, ![1024, 4096]⟩
abbrev S4096x1024 : Shape := ⟨2, ![4096, 1024]⟩
abbrev S1x256 : Shape := ⟨2, ![1, 256]⟩
abbrev S1x512x1024 : Shape := ⟨3, ![1, 512, 1024]⟩
abbrev S1x512x512 : Shape := ⟨3, ![1, 512, 512]⟩
abbrev S1x512x256 : Shape := ⟨3, ![1, 512, 256]⟩
abbrev S1x8x256 : Shape := ⟨3, ![1, 8, 256]⟩
abbrev S2x1x512x256 : Shape := ⟨4, ![2, 1, 512, 256]⟩
abbrev S1x6x1024 : Shape := ⟨3, ![1, 6, 1024]⟩
abbrev S6x1024 : Shape := ⟨2, ![6, 1024]⟩
abbrev S512x256 : Shape := ⟨2, ![512, 256]⟩
abbrev S8x256 : Shape := ⟨2, ![8, 256]⟩
abbrev S512x1 : Shape := ⟨2, ![512, 1]⟩
abbrev S1x1x512x256 : Shape := ⟨4, ![1, 1, 512, 256]⟩
abbrev S512x512 : Shape := ⟨2, ![512, 512]⟩
abbrev S512x1024 : Shape := ⟨2, ![512, 1024]⟩
abbrev S256x1024 : Shape := ⟨2, ![256, 1024]⟩
abbrev S1x1024 : Shape := ⟨2, ![1, 1024]⟩
abbrev S512 : Shape := ⟨1, ![512]⟩

abbrev nBuf : Space → Nat
  | .hbm => 23
  | .vmem => 28
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .f32⟩
  | .hbm, ⟨2, _⟩ => ⟨S32x2048x256, .f32⟩
  | .hbm, ⟨3, _⟩ => ⟨S32x2048x256, .f32⟩
  | .hbm, ⟨4, _⟩ => ⟨S2x32x2048x256, .f32⟩
  | .hbm, ⟨5, _⟩ => ⟨S32x2048x256, .f32⟩
  | .hbm, ⟨6, _⟩ => ⟨S32x6x1024, .f32⟩
  | .hbm, ⟨7, _⟩ => ⟨S4x1024, .f32⟩
  | .hbm, ⟨8, _⟩ => ⟨S3x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S1024x1024, .f32⟩
  | .hbm, ⟨13, _⟩ => ⟨S1024x4096, .f32⟩
  | .hbm, ⟨14, _⟩ => ⟨S4096x1024, .f32⟩
  | .hbm, ⟨15, _⟩ => ⟨S32x2048x512, .bf16⟩
  | .hbm, ⟨16, _⟩ => ⟨S1x256, .f32⟩
  | .hbm, ⟨17, _⟩ => ⟨S256x256, .bf16⟩
  | .hbm, ⟨18, _⟩ => ⟨S1x256, .f32⟩
  | .hbm, ⟨19, _⟩ => ⟨S1024x1024, .bf16⟩
  | .hbm, ⟨20, _⟩ => ⟨S1024x4096, .bf16⟩
  | .hbm, ⟨21, _⟩ => ⟨S4096x1024, .bf16⟩
  | .hbm, ⟨22, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x8x256, .f32⟩
  | .local _ .vmem, ⟨9, _⟩ => ⟨S1x8x256, .f32⟩
  | .local _ .vmem, ⟨10, _⟩ => ⟨S1x8x256, .f32⟩
  | .local _ .vmem, ⟨11, _⟩ => ⟨S1x8x256, .f32⟩
  | .local _ .vmem, ⟨12, _⟩ => ⟨S2x1x512x256, .f32⟩
  | .local _ .vmem, ⟨13, _⟩ => ⟨S2x1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x6x1024, .f32⟩
  | .local _ .vmem, ⟨17, _⟩ => ⟨S1x6x1024, .f32⟩
  | .local _ .vmem, ⟨18, _⟩ => ⟨S4x1024, .f32⟩
  | .local _ .vmem, ⟨19, _⟩ => ⟨S3x256, .f32⟩
  | .local _ .vmem, ⟨20, _⟩ => ⟨S1x256, .f32⟩
  | .local _ .vmem, ⟨21, _⟩ => ⟨S256x256, .bf16⟩
  | .local _ .vmem, ⟨22, _⟩ => ⟨S1x256, .f32⟩
  | .local _ .vmem, ⟨23, _⟩ => ⟨S1024x1024, .bf16⟩
  | .local _ .vmem, ⟨24, _⟩ => ⟨S1024x4096, .bf16⟩
  | .local _ .vmem, ⟨25, _⟩ => ⟨S4096x1024, .bf16⟩
  | .local _ .vmem, ⟨26, _⟩ => ⟨S1x512x1024, .f32⟩
  | .local _ .vmem, ⟨27, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg1.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg1.toNat, v2.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4096x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== BlockReferenceIdeal.lean ====
abbrev S32x2048x1024 : Shape := ⟨3, ![32, 2048, 1024]⟩
abbrev S32x2048x512 : Shape := ⟨3, ![32, 2048, 512]⟩
abbrev S32x2048x256 : Shape := ⟨3, ![32, 2048, 256]⟩
abbrev S2x32x2048x256 : Shape := ⟨4, ![2, 32, 2048, 256]⟩
abbrev S32x6x1024 : Shape := ⟨3, ![32, 6, 1024]⟩
abbrev S4x1024 : Shape := ⟨2, ![4, 1024]⟩
abbrev S3x256 : Shape := ⟨2, ![3, 256]⟩
abbrev S256 : Shape := ⟨1, ![256]⟩
abbrev S256x256 : Shape := ⟨2, ![256, 256]⟩
abbrev S1024x1024 : Shape := ⟨2, ![1024, 1024]⟩
abbrev S1024x4096 : Shape := ⟨2, ![1024, 4096]⟩
abbrev S4096x1024 : Shape := ⟨2, ![4096, 1024]⟩
abbrev S32x1x1024 : Shape := ⟨3, ![32, 1, 1024]⟩
abbrev S1x1024 : Shape := ⟨2, ![1, 1024]⟩
abbrev S1024 : Shape := ⟨1, ![1024]⟩
abbrev S_ : Shape := ⟨0, ![]⟩
abbrev S32x2050x256 : Shape := ⟨3, ![32, 2050, 256]⟩
abbrev S1x256 : Shape := ⟨2, ![1, 256]⟩
abbrev S1x1x256 : Shape := ⟨3, ![1, 1, 256]⟩
abbrev S1x32x2048x256 : Shape := ⟨4, ![1, 32, 2048, 256]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩

abbrev nBuf : Space → Nat
  | .hbm => 159
  | .vmem => 0
  | .smem => 0
  | _ => 0

abbrev hbmTy0_0 (i : Nat) : BufTy := match i % 128 with
  | 0 => ⟨S32x2048x1024, .f32⟩
  | 1 => ⟨S32x2048x512, .f32⟩
  | 2 => ⟨S32x2048x256, .f32⟩
  | 3 => ⟨S32x2048x256, .f32⟩
  | 4 => ⟨S2x32x2048x256, .f32⟩
  | 5 => ⟨S32x2048x256, .f32⟩
  | 6 => ⟨S32x6x1024, .f32⟩
  | 7 => ⟨S4x1024, .f32⟩
  | 8 => ⟨S3x256, .f32⟩
  | 9 => ⟨S256, .f32⟩
  | 10 => ⟨S256x256, .f32⟩
  | 11 => ⟨S256, .f32⟩
  | 12 => ⟨S1024x1024, .f32⟩
  | 13 => ⟨S1024x4096, .f32⟩
  | 14 => ⟨S4096x1024, .f32⟩
  | 15 => ⟨S32x1x1024, .f32⟩
  | 16 => ⟨S32x1x1024, .f32⟩
  | 17 => ⟨S32x1x1024, .f32⟩
  | 18 => ⟨S32x1x1024, .f32⟩
  | 19 => ⟨S32x1x1024, .f32⟩
  | 20 => ⟨S32x1x1024, .f32⟩
  | 21 => ⟨S1x1024, .f32⟩
  | 22 => ⟨S1024, .f32⟩
  | 23 => ⟨S1x1024, .f32⟩
  | 24 => ⟨S1024, .f32⟩
  | 25 => ⟨S1x1024, .f32⟩
  | 26 => ⟨S1024, .f32⟩
  | 27 => ⟨S_, .i32⟩
  | 28 => ⟨S_, .f32⟩
  | 29 => ⟨S32x2050x256, .f32⟩
  | 30 => ⟨S32x2048x256, .f32⟩
  | 31 => ⟨S1x256, .f32⟩
  | 32 => ⟨S256, .f32⟩
  | 33 => ⟨S1x1x256, .f32⟩
  | 34 => ⟨S32x2048x256, .f32⟩
  | 35 => ⟨S32x2048x256, .f32⟩
  | 36 => ⟨S32x2048x256, .f32⟩
  | 37 => ⟨S1x256, .f32⟩
  | 38 => ⟨S256, .f32⟩
  | 39 => ⟨S1x1x256, .f32⟩
  | 40 => ⟨S32x2048x256, .f32⟩
  | 41 => ⟨S32x2048x256, .f32⟩
  | 42 => ⟨S32x2048x256, .f32⟩
  | 43 => ⟨S32x2048x256, .f32⟩
  | 44 => ⟨S1x256, .f32⟩
  | 45 => ⟨S256, .f32⟩
  | 46 => ⟨S1x1x256, .f32⟩
  | 47 => ⟨S32x2048x256, .f32⟩
  | 48 => ⟨S32x2048x256, .f32⟩
  | 49 => ⟨S32x2048x256, .f32⟩
  | 50 => ⟨S32x2048x256, .f32⟩
  | 51 => ⟨S1x32x2048x256, .f32⟩
  | 52 => ⟨S32x2048x256, .f32⟩
  | 53 => ⟨S1x32x2048x256, .f32⟩
  | 54 => ⟨S32x2048x256, .f32⟩
  | 55 => ⟨S32x2048x256, .f32⟩
  | 56 => ⟨S1x1x256, .f32⟩
  | 57 => ⟨S32x2048x256, .f32⟩
  | 58 => ⟨S32x2048x256, .f32⟩
  | 59 => ⟨S32x2048x256, .f32⟩
  | 60 => ⟨S32x2048x256, .f32⟩
  | 61 => ⟨S32x2048x256, .f32⟩
  | 62 => ⟨S_, .f32⟩
  | 63 => ⟨S32x2048x256, .f32⟩
  | 64 => ⟨S32x2048x256, .f32⟩
  | 65 => ⟨S32x2048x256, .f32⟩
  | 66 => ⟨S_, .f32⟩
  | 67 => ⟨S32x2048x256, .f32⟩
  | 68 => ⟨S32x2048x256, .f32⟩
  | 69 => ⟨S32x2048x256, .f32⟩
  | 70 => ⟨S_, .f32⟩
  | 71 => ⟨S32x2048x256, .f32⟩
  | 72 => ⟨S32x2048x256, .f32⟩
  | 73 => ⟨S_, .f32⟩
  | 74 => ⟨S32x2048x256, .f32⟩
  | 75 => ⟨S32x2048x256, .f32⟩
  | 76 => ⟨S32x2048x256, .f32⟩
  | 77 => ⟨S32x2048x256, .f32⟩
  | 78 => ⟨S1x1x256, .f32⟩
  | 79 => ⟨S32x2048x256, .f32⟩
  | 80 => ⟨S32x2048x256, .f32⟩
  | 81 => ⟨S32x2048x256, .f32⟩
  | 82 => ⟨S32x2048x256, .f32⟩
  | 83 => ⟨S_, .f32⟩
  | 84 => ⟨S32x2048x256, .f32⟩
  | 85 => ⟨S32x2048x256, .f32⟩
  | 86 => ⟨S_, .f32⟩
  | 87 => ⟨S32x2048x256, .f32⟩
  | 88 => ⟨S32x2048x256, .f32⟩
  | 89 => ⟨S32x2048x256, .f32⟩
  | 90 => ⟨S32x2048x1024, .f32⟩
  | 91 => ⟨S32x2048x1024, .f32⟩
  | 92 => ⟨S32x2048x1024, .f32⟩
  | 93 => ⟨S_, .f32⟩
  | 94 => ⟨S32x2048, .f32⟩
  | 95 => ⟨S32x2048x1, .f32⟩
  | 96 => ⟨S_, .f32⟩
  | 97 => ⟨S32x2048x1, .f32⟩
  | 98 => ⟨S32x2048x1, .f32⟩
  | 99 => ⟨S_, .f32⟩
  | 100 => ⟨S32x2048x1, .f32⟩
  | 101 => ⟨S32x2048x1, .f32⟩
  | 102 => ⟨S32x2048x1, .f32⟩
  | 103 => ⟨S32x2048x1024, .f32⟩
  | 104 => ⟨S32x2048x1024, .f32⟩
  | 105 => ⟨S1x1x1024, .f32⟩
  | 106 => ⟨S32x2048x1024, .f32⟩
  | 107 => ⟨S32x2048x1024, .f32⟩
  | 108 => ⟨S32x2048x1024, .f32⟩
  | 109 => ⟨S32x2048x1024, .f32⟩
  | 110 => ⟨S32x2048x1024, .f32⟩
  | 111 => ⟨S32x2048x1024, .f32⟩
  | 112 => ⟨S_, .f32⟩
  | 113 => ⟨S32x2048, .f32⟩
  | 114 => ⟨S32x2048x1, .f32⟩
  | 115 => ⟨S_, .f32⟩
  | 116 => ⟨S32x2048x1, .f32⟩
  | 117 => ⟨S32x2048x1, .f32⟩
  | 118 => ⟨S_, .f32⟩
  | 119 => ⟨S32x2048x1, .f32⟩
  | 120 => ⟨S32x2048x1, .f32⟩
  | 121 => ⟨S32x2048x1, .f32⟩
  | 122 => ⟨S32x2048x1024, .f32⟩
  | 123 => ⟨S32x2048x1024, .f32⟩
  | 124 => ⟨S1x1x1024, .f32⟩
  | 125 => ⟨S32x2048x1024, .f32⟩
  | 126 => ⟨S32x2048x1024, .f32⟩
  | 127 => ⟨S_, .f32⟩
  | _ => ⟨S32x2048x1024, .f32⟩

abbrev hbmTy0_1 (i : Nat) : BufTy := match i % 128 with
  | 0 => ⟨S32x1x1024, .f32⟩
  | 1 => ⟨S32x1x1024, .f32⟩
  | 2 => ⟨S32x2048x1024, .f32⟩
  | 3 => ⟨S32x2048x1024, .f32⟩
  | 4 => ⟨S32x2048x1024, .f32⟩
  | 5 => ⟨S32x2048x1024, .f32⟩
  | 6 => ⟨S32x2048x4096, .f32⟩
  | 7 => ⟨S_, .f32⟩
  | 8 => ⟨S32x2048x4096, .f32⟩
  | 9 => ⟨S32x2048x4096, .f32⟩
  | 10 => ⟨S32x2048x4096, .f32⟩
  | 11 => ⟨S32x2048x1024, .f32⟩
  | 12 => ⟨S32x2048x1024, .f32⟩
  | 13 => ⟨S_, .f32⟩
  | 14 => ⟨S32x2048, .f32⟩
  | 15 => ⟨S32x2048x1, .f32⟩
  | 16 => ⟨S_, .f32⟩
  | 17 => ⟨S32x2048x1, .f32⟩
  | 18 => ⟨S32x2048x1, .f32⟩
  | 19 => ⟨S_, .f32⟩
  | 20 => ⟨S32x2048x1, .f32⟩
  | 21 => ⟨S32x2048x1, .f32⟩
  | 22 => ⟨S32x2048x1, .f32⟩
  | 23 => ⟨S32x2048x1024, .f32⟩
  | 24 => ⟨S32x2048x1024, .f32⟩
  | 25 => ⟨S1x1x1024, .f32⟩
  | 26 => ⟨S32x2048x1024, .f32⟩
  | 27 => ⟨S32x2048x1024, .f32⟩
  | 28 => ⟨S32x2048x1024, .f32⟩
  | 29 => ⟨S32x2048x1024, .f32⟩
  | 30 => ⟨S32x2048x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_call0_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_1 : Ref sig .tc := ⟨.hbm, 70, rfl⟩
abbrev main_v51 : Ref sig .tc := ⟨.hbm, 71, rfl⟩
abbrev main_v52 : Ref sig .tc := ⟨.hbm, 72, rfl⟩
abbrev main_cst_2 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_3 : Ref sig .tc := ⟨.hbm, 83, rfl⟩
abbrev main_v62 : Ref sig .tc := ⟨.hbm, 84, rfl⟩
abbrev main_v63 : Ref sig .tc := ⟨.hbm, 85, rfl⟩
abbrev main_cst_4 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_5 : Ref sig .tc := ⟨.hbm, 93, rfl⟩
abbrev main_v70 : Ref sig .tc := ⟨.hbm, 94, rfl⟩
abbrev main_v71 : Ref sig .tc := ⟨.hbm, 95, rfl⟩
abbrev main_cst_6 : Ref sig .tc := ⟨.hbm, 96, rfl⟩
abbrev main_v72 : Ref sig .tc := ⟨.hbm, 97, rfl⟩
abbrev main_v73 : Ref sig .tc := ⟨.hbm, 98, rfl⟩
abbrev main_cst_7 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_8 : Ref sig .tc := ⟨.hbm, 112, rfl⟩
abbrev main_v86 : Ref sig .tc := ⟨.hbm, 113, rfl⟩
abbrev main_v87 : Ref sig .tc := ⟨.hbm, 114, rfl⟩
abbrev main_cst_9 : Ref sig .tc := ⟨.hbm, 115, rfl⟩
abbrev main_v88 : Ref sig .tc := ⟨.hbm, 116, rfl⟩
abbrev main_v89 : Ref sig .tc := ⟨.hbm, 117, rfl⟩
abbrev main_cst_10 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_11 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_call1_cst : Ref sig .tc := ⟨.hbm, 135, rfl⟩
abbrev main_call1_v0 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_12 : Ref sig .tc := ⟨.hbm, 141, rfl⟩
abbrev main_v109 : Ref sig .tc := ⟨.hbm, 142, rfl⟩
abbrev main_v110 : Ref sig .tc := ⟨.hbm, 143, rfl⟩
abbrev main_cst_13 : Ref sig .tc := ⟨.hbm, 144, rfl⟩
abbrev main_v111 : Ref sig .tc := ⟨.hbm, 145, rfl⟩
abbrev main_v112 : Ref sig .tc := ⟨.hbm, 146, rfl⟩
abbrev main_cst_14 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩

abbrev nD : Nat := 1
abbrev τ : Topo := Topo.v7x

variable {F : FTy → Type} [FloatOps F]
-- ==== InProj.lean ====
abbrev S32x2048x1024 : Shape := ⟨3, ![32, 2048, 1024]⟩
abbrev S32x6x1024 : Shape := ⟨3, ![32, 6, 1024]⟩
abbrev S4x1024 : Shape := ⟨2, ![4, 1024]⟩
abbrev S1024x1792 : Shape := ⟨2, ![1024, 1792]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S512 : Shape := ⟨1, ![512]⟩
abbrev S128 : Shape := ⟨1, ![128]⟩
abbrev S640 : Shape := ⟨1, ![640]⟩
abbrev S1x2048x1x64 : Shape := ⟨4, ![1, 2048, 1, 64]⟩
abbrev S1x2048x10x64 : Shape := ⟨4, ![1, 2048, 10, 64]⟩
abbrev S2048x640 : Shape := ⟨2, ![2048, 640]⟩
abbrev S1x640 : Shape := ⟨2, ![1, 640]⟩
abbrev S256x640 : Shape := ⟨2, ![256, 640]⟩
abbrev S32x2048x512 : Shape := ⟨3, ![32, 2048, 512]⟩
abbrev S32x2048x128 : Shape := ⟨3, ![32, 2048, 128]⟩
abbrev S32x2048x256 : Shape := ⟨3, ![32, 2048, 256]⟩
abbrev S1x512x1024 : Shape := ⟨3, ![1, 512, 1024]⟩
abbrev S1x6x1024 : Shape := ⟨3, ![1, 6, 1024]⟩
abbrev S512x640 : Shape := ⟨2, ![512, 640]⟩
abbrev S1x512x512 : Shape := ⟨3, ![1, 512, 512]⟩
abbrev S1x512x128 : Shape := ⟨3, ![1, 512, 128]⟩
abbrev S1x512x256 : Shape := ⟨3, ![1, 512, 256]⟩
abbrev S6x1024 : Shape := ⟨2, ![6, 1024]⟩
abbrev S512x1024 : Shape := ⟨2, ![512, 1024]⟩
abbrev S1x1024 : Shape := ⟨2, ![1, 1024]⟩
abbrev S512x1 : Shape := ⟨2, ![512, 1]⟩
abbrev S512x1792 : Shape := ⟨2, ![512, 1792]⟩
abbrev S1x128 : Shape := ⟨2, ![1, 128]⟩
abbrev S512x128 : Shape := ⟨2, ![512, 128]⟩
abbrev S512x256 : Shape := ⟨2, ![512, 256]⟩

abbrev nBuf : Space → Nat
  | .hbm => 69
  | .vmem => 22
  | .smem => 0
  | _ => 0

abbrev bufTy : (tb : Table) → Fin (tcTables nBuf tb) → BufTy
  | .hbm, ⟨0, _⟩ => ⟨S32x2048x1024, .f32⟩
  | .hbm, ⟨1, _⟩ => ⟨S32x6x1024, .f32⟩
  | .hbm, ⟨2, _⟩ => ⟨S4x1024, .f32⟩
  | .hbm, ⟨3, _⟩ => ⟨S1024x1792, .f32⟩
  | .hbm, ⟨4, _⟩ => ⟨S32, .i32⟩
  | .hbm, ⟨5, _⟩ => ⟨S32x1, .i32⟩
  | .hbm, ⟨6, _⟩ => ⟨S32x64, .i32⟩
  | .hbm, ⟨7, _⟩ => ⟨S2048, .i32⟩
  | .hbm, ⟨8, _⟩ => ⟨S64, .i32⟩
  | .hbm, ⟨9, _⟩ => ⟨S1x64, .i32⟩
  | .hbm, ⟨10, _⟩ => ⟨S32x64, .i32⟩
  | .hbm, ⟨11, _⟩ => ⟨S2048, .i32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S2048x1, .i32⟩
  | .hbm, ⟨21, _⟩ => ⟨S2048x1, .f32⟩
  | .hbm, ⟨22, _⟩ => ⟨S1x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x1, .i32⟩
  | .hbm, ⟨27, _⟩ => ⟨S2048x1, .f32⟩
  | .hbm, ⟨28, _⟩ => ⟨S1x16, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S2048x64, .f32⟩
  | .hbm, ⟨35, _⟩ => ⟨S2048x16, .f32⟩
  | .hbm, ⟨36, _⟩ => ⟨S2048x16, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x64, .f32⟩
  | .hbm, ⟨42, _⟩ => ⟨S_, .f32⟩
  | .hbm, ⟨43, _⟩ => ⟨S512, .f32⟩
  | .hbm, ⟨44, _⟩ => ⟨S_, .f32⟩
  | .hbm, ⟨45, _⟩ => ⟨S128, .f32⟩
  | .hbm, ⟨46, _⟩ => ⟨S640, .f32⟩
  | .hbm, ⟨47, _⟩ => ⟨S1x2048x1x64, .f32⟩
  | .hbm, ⟨48, _⟩ => ⟨S1x2048x10x64, .f32⟩
  | .hbm, ⟨49, _⟩ => ⟨S2048x640, .f32⟩
  | .hbm, ⟨50, _⟩ => ⟨S1x640, .f32⟩
  | .hbm, ⟨51, _⟩ => ⟨S2048x640, .f32⟩
  | .hbm, ⟨52, _⟩ => ⟨S2048x640, .f32⟩
  | .hbm, ⟨53, _⟩ => ⟨S1x2048x1x64, .f32⟩
  | .hbm, ⟨54, _⟩ => ⟨S1x2048x10x64, .f32⟩
  | .hbm, ⟨55, _⟩ => ⟨S2048x640, .f32⟩
  | .hbm, ⟨56, _⟩ => ⟨S1x640, .f32⟩
  | .hbm, ⟨57, _⟩ => ⟨S2048x640, .f32⟩
  | .hbm, ⟨58, _⟩ => ⟨S2048x640, .f32⟩
  | .hbm, ⟨59, _⟩ => ⟨S256x640, .f32⟩
  | .hbm, ⟨60, _⟩ => ⟨S_, .f32⟩
  | .hbm, ⟨61, _⟩ => ⟨S256x640, .f32⟩
  | .hbm, ⟨62, _⟩ => ⟨S1024x1792, .bf16⟩
  | .hbm, ⟨63, _⟩ => ⟨S32x2048x512, .bf16⟩
  | .hbm, ⟨64, _⟩ => ⟨S32x2048x128, .bf16⟩
  | .hbm, ⟨65, _⟩ => ⟨S32x2048x128, .bf16⟩
  | .hbm, ⟨66, _⟩ => ⟨S32x2048x256, .f32⟩
  | .hbm, ⟨67, _⟩ => ⟨S32x2048x256, .f32⟩
  | .hbm, ⟨68, _⟩ => ⟨S32x2048x256, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x1792, .bf16⟩
  | .local _ .vmem, ⟨6, _⟩ => ⟨S512x640, .f32⟩
  | .local _ .vmem, ⟨7, _⟩ => ⟨S512x640, .f32⟩
  | .local _ .vmem, ⟨8, _⟩ => ⟨S512x640, .f32⟩
  | .local _ .vmem, ⟨9, _⟩ => ⟨S512x640, .f32⟩
  | .local _ .vmem, ⟨10, _⟩ => ⟨S1x512x512, .bf16⟩
  | .local _ .vmem, ⟨11, _⟩ => ⟨S1x512x512, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_3 : Ref sig .tc := ⟨.hbm, 60, rfl⟩
abbrev main_v52 : Ref sig .tc := ⟨.hbm, 61, rfl⟩
abbrev main_v53 : Ref sig .tc := ⟨.hbm, 62, rfl⟩
abbrev main_v54_0 : Ref sig .tc := ⟨.hbm, 63, rfl⟩
abbrev main_v54_1 : Ref sig .tc := ⟨.hbm, 64, rfl⟩
abbrev main_v54_2 : Ref sig .tc := ⟨.hbm, 65, rfl⟩
abbrev main_v54_3 : Ref sig .tc := ⟨.hbm, 66, rfl⟩
abbrev main_v54_4 : Ref sig .tc := ⟨.hbm, 67, rfl⟩
abbrev main_v54_5 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InProjReferenceIdeal.lean ====
abbrev S32x2048x1024 : Shape := ⟨3, ![32, 2048, 1024]⟩
abbrev S32x6x1024 : Shape := ⟨3, ![32, 6, 1024]⟩
abbrev S4x1024 : Shape := ⟨2, ![4, 1024]⟩
abbrev S1024x1792 : Shape := ⟨2, ![1024, 1792]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S32x1x1024 : Shape := ⟨3, ![32, 1, 1024]⟩
abbrev S1x1024 : Shape := ⟨2, ![1, 1024]⟩
abbrev S1024 : Shape := ⟨1, ![1024]⟩
abbrev S32x2048 : Shape := ⟨2, ![32, 2048]⟩
abbrev S32x2048x1 : Shape := ⟨3, ![32, 2048, 1]⟩
abbrev S1x1x1024 : Shape := ⟨3, ![1, 1, 1024]⟩
abbrev S32x2048x1792 : Shape := ⟨3, ![32, 2048, 1792]⟩
abbrev S32x2048x512 : Shape := ⟨3, ![32, 2048, 512]⟩
abbrev S32x2048x128 : Shape := ⟨3, ![32, 2048, 128]⟩
abbrev S32x2048x256 : Shape := ⟨3, ![32, 2048, 256]⟩
abbrev S32x2048x8x64 : Shape := ⟨4, ![32, 2048, 8, 64]⟩
abbrev S2048x1x32 : Shape := ⟨3, ![2048, 1, 32]⟩
abbrev S32x2048x8x32 : Shape := ⟨4, ![32, 2048, 8, 32]⟩
abbrev S2048x1x16 : Shape := ⟨3, ![2048, 1, 16]⟩
abbrev S32x2048x8x16 : Shape := ⟨4, ![32, 2048, 8, 16]⟩
abbrev S1x2048x1x16 : Shape := ⟨4, ![1, 2048, 1, 16]⟩
abbrev S32x2048x2x64 : Shape := ⟨4, ![32, 2048, 2, 64]⟩
abbrev S32x2048x2x32 : Shape := ⟨4, ![32, 2048, 2, 32]⟩
abbrev S32x2048x2x16 : Shape := ⟨4, ![32, 2048, 2, 16]⟩

abbrev nBuf : Space → Nat
  | .hbm => 171
  | .vmem => 0
  | .smem => 0
  | _ => 0

abbrev hbmTy0_0 (i : Nat) : BufTy := match i % 128 with
  | 0 => ⟨S32x2048x1024, .f32⟩
  | 1 => ⟨S32x6x1024, .f32⟩
  | 2 => ⟨S4x1024, .f32⟩
  | 3 => ⟨S1024x1792, .f32⟩
  | 4 => ⟨S32, .i32⟩
  | 5 => ⟨S32x1, .i32⟩
  | 6 => ⟨S32x64, .i32⟩
  | 7 => ⟨S2048, .i32⟩
  | 8 => ⟨S64, .i32⟩
  | 9 => ⟨S1x64, .i32⟩
  | 10 => ⟨S32x64, .i32⟩
  | 11 => ⟨S2048, .i32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S2048x1, .i32⟩
  | 21 => ⟨S2048x1, .f32⟩
  | 22 => ⟨S1x16, .f32⟩
  | 23 => ⟨S2048x16, .f32⟩
  | 24 => ⟨S2048x16, .f32⟩
  | 25 => ⟨S2048x16, .f32⟩
  | 26 => ⟨S2048x1, .i32⟩
  | 27 => ⟨S2048x1, .f32⟩
  | 28 => ⟨S1x16, .f32⟩
  | 29 => ⟨S2048x16, .f32⟩
  | 30 => ⟨S2048x16, .f32⟩
  | 31 => ⟨S2048x16, .f32⟩
  | 32 => ⟨S2048x32, .f32⟩
  | 33 => ⟨S2048x32, .f32⟩
  | 34 => ⟨S2048x32, .f32⟩
  | 35 => ⟨S32x1x1024, .f32⟩
  | 36 => ⟨S32x1x1024, .f32⟩
  | 37 => ⟨S32x1x1024, .f32⟩
  | 38 => ⟨S32x1x1024, .f32⟩
  | 39 => ⟨S32x1x1024, .f32⟩
  | 40 => ⟨S32x1x1024, .f32⟩
  | 41 => ⟨S1x1024, .f32⟩
  | 42 => ⟨S1024, .f32⟩
  | 43 => ⟨S32x2048x1024, .f32⟩
  | 44 => ⟨S_, .f32⟩
  | 45 => ⟨S32x2048, .f32⟩
  | 46 => ⟨S32x2048x1, .f32⟩
  | 47 => ⟨S_, .f32⟩
  | 48 => ⟨S32x2048x1, .f32⟩
  | 49 => ⟨S32x2048x1, .f32⟩
  | 50 => ⟨S_, .f32⟩
  | 51 => ⟨S32x2048x1, .f32⟩
  | 52 => ⟨S32x2048x1, .f32⟩
  | 53 => ⟨S32x2048x1, .f32⟩
  | 54 => ⟨S32x2048x1024, .f32⟩
  | 55 => ⟨S32x2048x1024, .f32⟩
  | 56 => ⟨S1x1x1024, .f32⟩
  | 57 => ⟨S32x2048x1024, .f32⟩
  | 58 => ⟨S32x2048x1024, .f32⟩
  | 59 => ⟨S_, .f32⟩
  | 60 => ⟨S32x1x1024, .f32⟩
  | 61 => ⟨S32x1x1024, .f32⟩
  | 62 => ⟨S32x2048x1024, .f32⟩
  | 63 => ⟨S32x2048x1024, .f32⟩
  | 64 => ⟨S32x2048x1024, .f32⟩
  | 65 => ⟨S32x2048x1024, .f32⟩
  | 66 => ⟨S32x2048x1792, .f32⟩
  | 67 => ⟨S32x2048x512, .f32⟩
  | 68 => ⟨S32x2048x128, .f32⟩
  | 69 => ⟨S32x2048x128, .f32⟩
  | 70 => ⟨S32x2048x256, .f32⟩
  | 71 => ⟨S32x2048x256, .f32⟩
  | 72 => ⟨S32x2048x256, .f32⟩
  | 73 => ⟨S32x2048x256, .f32⟩
  | 74 => ⟨S32x2048x8x64, .f32⟩
  | 75 => ⟨S2048x1x32, .f32⟩
  | 76 => ⟨S2048x1x32, .f32⟩
  | 77 => ⟨S32x2048x8x32, .f32⟩
  | 78 => ⟨S2048x1x16, .f32⟩
  | 79 => ⟨S2048x1x16, .f32⟩
  | 80 => ⟨S32x2048x8x16, .f32⟩
  | 81 => ⟨S32x2048x8x16, .f32⟩
  | 82 => ⟨S1x2048x1x16, .f32⟩
  | 83 => ⟨S32x2048x8x16, .f32⟩
  | 84 => ⟨S32x2048x8x16, .f32⟩
  | 85 => ⟨S1x2048x1x16, .f32⟩
  | 86 => ⟨S32x2048x8x16, .f32⟩
  | 87 => ⟨S32x2048x8x16, .f32⟩
  | 88 => ⟨S32x2048x8x16, .f32⟩
  | 89 => ⟨S1x2048x1x16, .f32⟩
  | 90 => ⟨S32x2048x8x16, .f32⟩
  | 91 => ⟨S32x2048x8x16, .f32⟩
  | 92 => ⟨S1x2048x1x16, .f32⟩
  | 93 => ⟨S32x2048x8x16, .f32⟩
  | 94 => ⟨S32x2048x8x16, .f32⟩
  | 95 => ⟨S32x2048x8x16, .f32⟩
  | 96 => ⟨S32x2048x8x32, .f32⟩
  | 97 => ⟨S32x2048x8x32, .f32⟩
  | 98 => ⟨S2048x1x16, .f32⟩
  | 99 => ⟨S2048x1x16, .f32⟩
  | 100 => ⟨S32x2048x8x16, .f32⟩
  | 101 => ⟨S32x2048x8x16, .f32⟩
  | 102 => ⟨S1x2048x1x16, .f32⟩
  | 103 => ⟨S32x2048x8x16, .f32⟩
  | 104 => ⟨S32x2048x8x16, .f32⟩
  | 105 => ⟨S1x2048x1x16, .f32⟩
  | 106 => ⟨S32x2048x8x16, .f32⟩
  | 107 => ⟨S32x2048x8x16, .f32⟩
  | 108 => ⟨S32x2048x8x16, .f32⟩
  | 109 => ⟨S1x2048x1x16, .f32⟩
  | 110 => ⟨S32x2048x8x16, .f32⟩
  | 111 => ⟨S32x2048x8x16, .f32⟩
  | 112 => ⟨S1x2048x1x16, .f32⟩
  | 113 => ⟨S32x2048x8x16, .f32⟩
  | 114 => ⟨S32x2048x8x16, .f32⟩
  | 115 => ⟨S32x2048x8x16, .f32⟩
  | 116 => ⟨S32x2048x8x32, .f32⟩
  | 117 => ⟨S32x2048x8x64, .f32⟩
  | 118 => ⟨S32x2048x512, .f32⟩
  | 119 => ⟨S32x2048x2x64, .f32⟩
  | 120 => ⟨S2048x1x32, .f32⟩
  | 121 => ⟨S2048x1x32, .f32⟩
  | 122 => ⟨S32x2048x2x32, .f32⟩
  | 123 => ⟨S2048x1x16, .f32⟩
  | 124 => ⟨S2048x1x16, .f32⟩
  | 125 => ⟨S32x2048x2x16, .f32⟩
  | 126 => ⟨S32x2048x2x16, .f32⟩
  | 127 => ⟨S1x2048x1x16, .f32⟩
  | _ => ⟨S32x2048x1024, .f32⟩

abbrev hbmTy0_1 (i : Nat) : BufTy := match i % 128 with
  | 0 => ⟨S32x2048x2x16, .f32⟩
  | 1 => ⟨S32x2048x2x16, .f32⟩
  | 2 => ⟨S1x2048x1x16, .f32⟩
  | 3 => ⟨S32x2048x2x16, .f32⟩
  | 4 => ⟨S32x2048x2x16, .f32⟩
  | 5 => ⟨S32x2048x2x16, .f32⟩
  | 6 => ⟨S1x2048x1x16, .f32⟩
  | 7 => ⟨S32x2048x2x16, .f32⟩
  | 8 => ⟨S32x2048x2x16, .f32⟩
  | 9 => ⟨S1x2048x1x16, .f32⟩
  | 10 => ⟨S32x2048x2x16, .f32⟩
  | 11 => ⟨S32x2048x2x16, .f32⟩
  | 12 => ⟨S32x2048x2x16, .f32⟩
  | 13 => ⟨S32x2048x2x32, .f32⟩
  | 14 => ⟨S32x2048x2x32, .f32⟩
  | 15 => ⟨S2048x1x16, .f32⟩
  | 16 => ⟨S2048x1x16, .f32⟩
  | 17 => ⟨S32x2048x2x16, .f32⟩
  | 18 => ⟨S32x2048x2x16, .f32⟩
  | 19 => ⟨S1x2048x1x16, .f32⟩
  | 20 => ⟨S32x2048x2x16, .f32⟩
  | 21 => ⟨S32x2048x2x16, .f32⟩
  | 22 => ⟨S1x2048x1x16, .f32⟩
  | 23 => ⟨S32x2048x2x16, .f32⟩
  | 24 => ⟨S32x2048x2x16, .f32⟩
  | 25 => ⟨S32x2048x2x16, .f32⟩
  | 26 => ⟨S1x2048x1x16, .f32⟩
  | 27 => ⟨S32x2048x2x16, .f32⟩
  | 28 => ⟨S32x2048x2x16, .f32⟩
  | 29 => ⟨S1x2048x1x16, .f32⟩
  | 30 => ⟨S32x2048x2x16, .f32⟩
  | 31 => ⟨S32x2048x2x16, .f32⟩
  | 32 => ⟨S32x2048x2x16, .f32⟩
  | 33 => ⟨S32x2048x2x32, .f32⟩
  | 34 => ⟨S32x2048x2x64, .f32⟩
  | 35 => ⟨S32x2048x128, .f32⟩
  | 36 => ⟨S_, .f32⟩
  | 37 => ⟨S32x2048x512, .f32⟩
  | 38 => ⟨S32x2048x512, .f32⟩
  | 39 => ⟨S32x2048x512, .bf16⟩
  | 40 => ⟨S32x2048x128, .bf16⟩
  | 41 => ⟨S32x2048x128, .bf16⟩
  | 42 => ⟨S32x2048x256, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_1 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_cst_5 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩

abbrev nD : Nat := 1
abbrev τ : Topo := Topo.v7x

variable {F : FTy → Type} [FloatOps F]
-- ==== Mods.lean ====
abbrev S40x1024 : Shape := ⟨2, ![40, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x40x6144 : Shape := ⟨3, ![4, 40, 6144]⟩
abbrev S1x1024x1024 : Shape := ⟨3, ![1, 1024, 1024]⟩
abbrev S1x1x1024 : Shape := ⟨3, ![1, 1, 1024]⟩
abbrev S1x40x1024 : Shape := ⟨3, ![1, 40, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x40x6144, .f32⟩
  | .local _ .vmem, ⟨0, _⟩ => ⟨S40x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x40x1024, .f32⟩
  | .local _ .vmem, ⟨6, _⟩ => ⟨S1x40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModsReferenceIdeal.lean ====
abbrev S40x1024 : Shape := ⟨2, ![40, 1024]⟩
abbrev S4x1024x6144 : Shape := ⟨3, ![4, 1024, 6144]⟩
abbrev S4x6144 : Shape := ⟨2, ![4, 6144]⟩
abbrev S_ : Shape := ⟨0, ![]⟩
abbrev S4x6144x40 : Shape := ⟨3, ![4, 6144, 40]⟩
abbrev S4x40x6144 : Shape := ⟨3, ![4, 40, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S4x1024x6144, .f32⟩
  | .hbm, ⟨2, _⟩ => ⟨S4x6144, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S4x6144x40, .f32⟩
  | .hbm, ⟨13, _⟩ => ⟨S4x40x6144, .f32⟩
  | .hbm, ⟨14, _⟩ => ⟨S4x1x6144, .f32⟩
  | .hbm, ⟨15, _⟩ => ⟨S4x40x6144, .f32⟩
  | .hbm, ⟨16, _⟩ => ⟨S4x40x6144, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Ctx.lean ====
abbrev S8 : Shape := ⟨1, ![8]⟩
abbrev S32x256x512 : Shape := ⟨3, ![32, 256, 512]⟩
abbrev S32x256x128 : Shape := ⟨3, ![32, 256, 128]⟩
abbrev S_ : Shape := ⟨0, ![]⟩
abbrev S1x256x512 : Shape := ⟨3, ![1, 256, 512]⟩
abbrev S1x256x128 : Shape := ⟨3, ![1, 256, 128]⟩
abbrev S256x128 : Shape := ⟨2, ![256, 128]⟩
abbrev S256x512 : Shape := ⟨2, ![256, 512]⟩
abbrev S256x64 : Shape := ⟨2, ![256, 64]⟩
abbrev S1024x64 : Shape := ⟨2, ![1024, 64]⟩
abbrev S1024x256 : Shape := ⟨2, ![1024, 256]⟩
abbrev S1 : Shape := ⟨1, ![1]⟩
abbrev S256x1 : Shape := ⟨2, ![256, 1]⟩
abbrev S1024x1 : Shape := ⟨2, ![1024, 1]⟩
abbrev S1024 : Shape := ⟨1, ![1024]⟩

abbrev nBuf : Space → Nat
  | .hbm => 11
  | .vmem => 8
  | .smem => 1
  | _ => 0

abbrev bufTy : (tb : Table) → Fin (tcTables nBuf tb) → BufTy
  | .hbm, ⟨0, _⟩ => ⟨S8, .f32⟩
  | .hbm, ⟨1, _⟩ => ⟨S32x256x512, .f32⟩
  | .hbm, ⟨2, _⟩ => ⟨S32x256x128, .f32⟩
  | .hbm, ⟨3, _⟩ => ⟨S32x256x128, .f32⟩
  | .hbm, ⟨4, _⟩ => ⟨S_, .f32⟩
  | .hbm, ⟨5, _⟩ => ⟨S32x256x512, .f32⟩
  | .hbm, ⟨6, _⟩ => ⟨S32x256x512, .f32⟩
  | .hbm, ⟨7, _⟩ => ⟨S32x256x512, .bf16⟩
  | .hbm, ⟨8, _⟩ => ⟨S32x256x128, .bf16⟩
  | .hbm, ⟨9, _⟩ => ⟨S32x256x128, .bf16⟩
  | .hbm, ⟨10, _⟩ => ⟨S32x256x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x512, .bf16⟩
  | .local _ .vmem, ⟨7, _⟩ => ⟨S1x256x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CtxReferenceIdeal.lean ====
abbrev S8 : Shape := ⟨1, ![8]⟩
abbrev S32x256x512 : Shape := ⟨3, ![32, 256, 512]⟩
abbrev S32x256x128 : Shape := ⟨3, ![32, 256, 128]⟩
abbrev S32x256x2x4x64 : Shape := ⟨5, ![32, 256, 2, 4, 64]⟩
abbrev S32x256x2x64 : Shape := ⟨4, ![32, 256, 2, 64]⟩
abbrev S2x4 : Shape := ⟨2, ![2, 4]⟩
abbrev S32x2x256x256x4 : Shape := ⟨5, ![32, 2, 256, 256, 4]⟩
abbrev S32x2x4x256x256 : Shape := ⟨5, ![32, 2, 4, 256, 256]⟩
abbrev S_ : Shape := ⟨0, ![]⟩
abbrev S1x2x4x1x1 : Shape := ⟨5, ![1, 2, 4, 1, 1]⟩
abbrev S32x2x4x256x1 : Shape := ⟨5, ![32, 2, 4, 256, 1]⟩
abbrev S32x2x4x256x257 : Shape := ⟨5, ![32, 2, 4, 256, 257]⟩
abbrev S32x2x4x256 : Shape := ⟨4, ![32, 2, 4, 256]⟩
abbrev S32x2x64x4x256 : Shape := ⟨5, ![32, 2, 64, 4, 256]⟩

abbrev nBuf : Space → Nat
  | .hbm => 35
  | .vmem => 0
  | .smem => 0
  | _ => 0

abbrev bufTy : (tb : Table) → Fin (tcTables nBuf tb) → BufTy
  | .hbm, ⟨0, _⟩ => ⟨S8, .f32⟩
  | .hbm, ⟨1, _⟩ => ⟨S32x256x512, .f32⟩
  | .hbm, ⟨2, _⟩ => ⟨S32x256x128, .f32⟩
  | .hbm, ⟨3, _⟩ => ⟨S32x256x128, .f32⟩
  | .hbm, ⟨4, _⟩ => ⟨S32x256x2x4x64, .f32⟩
  | .hbm, ⟨5, _⟩ => ⟨S32x256x2x64, .f32⟩
  | .hbm, ⟨6, _⟩ => ⟨S32x256x2x64, .f32⟩
  | .hbm, ⟨7, _⟩ => ⟨S2x4, .f32⟩
  | .hbm, ⟨8, _⟩ => ⟨S32x2x256x256x4, .f32⟩
  | .hbm, ⟨9, _⟩ => ⟨S32x2x4x256x256, .f32⟩
  | .hbm, ⟨10, _⟩ => ⟨S_, .f32⟩
  | .hbm, ⟨11, _⟩ => ⟨S32x2x4x256x256, .f32⟩
  | .hbm, ⟨12, _⟩ => ⟨S32x2x4x256x256, .f32⟩
  | .hbm, ⟨13, _⟩ => ⟨S1x2x4x1x1, .f32⟩
  | .hbm, ⟨14, _⟩ => ⟨S32x2x4x256x1, .f32⟩
  | .hbm, ⟨15, _⟩ => ⟨S32x2x4x256x257, .f32⟩
  | .hbm, ⟨16, _⟩ => ⟨S_, .f32⟩
  | .hbm, ⟨17, _⟩ => ⟨S32x2x4x256, .f32⟩
  | .hbm, ⟨18, _⟩ => ⟨S_, .f32⟩
  | .hbm, ⟨19, _⟩ => ⟨S32x2x4x256, .f32⟩
  | .hbm, ⟨20, _⟩ => ⟨S32x2x4x256, .f32⟩
  | .hbm, ⟨21, _⟩ => ⟨S32x2x4x256x1, .f32⟩
  | .hbm, ⟨22, _⟩ => ⟨S32x2x4x256x257, .f32⟩
  | .hbm, ⟨23, _⟩ => ⟨S32x2x4x256x257, .f32⟩
  | .hbm, ⟨24, _⟩ => ⟨S32x2x4x256x257, .f32⟩
  | .hbm, ⟨25, _⟩ => ⟨S_, .f32⟩
  | .hbm, ⟨26, _⟩ => ⟨S32x2x4x256, .f32⟩
  | .hbm, ⟨27, _⟩ => ⟨S32x2x4x256x1, .f32⟩
  | .hbm, ⟨28, _⟩ => ⟨S32x2x4x256x257, .f32⟩
  | .hbm, ⟨29, _⟩ => ⟨S32x2x4x256x257, .f32⟩
  | .hbm, ⟨30, _⟩ => ⟨S32x2x4x256x256, .f32⟩
  | .hbm, ⟨31, _⟩ => ⟨S32x2x64x4x256, .f32⟩
  | .hbm, ⟨32, _⟩ => ⟨S32x256x2x4x64, .f32⟩
  | .hbm, ⟨33, _⟩ => ⟨S32x256x512, .f32⟩
  | .hbm, ⟨34, _⟩ => ⟨S32x256x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== BlockCtx.lean ====
abbrev S32x256x1024 : Shape := ⟨3, ![32, 256, 1024]⟩
abbrev S32x256x512 : Shape := ⟨3, ![32, 256, 512]⟩
abbrev S32x256x256 : Shape := ⟨3, ![32, 256, 256]⟩
abbrev S2x32x256x256 : Shape := ⟨4, ![2, 32, 256, 256]⟩
abbrev S6144 : Shape := ⟨1, ![6144]⟩
abbrev S4x1024 : Shape := ⟨2, ![4, 1024]⟩
abbrev S3x256 : Shape := ⟨2, ![3, 256]⟩
abbrev S256 : Shape := ⟨1, ![256]⟩
abbrev S256x256 : Shape := ⟨2, ![256, 256]⟩
abbrev S1024x1024 : Shape := ⟨2, ![1024, 1024]⟩
abbrev S1024x4096 : Shape := ⟨2, ![1024, 4096]⟩
abbrev S4096x1024 : Shape := ⟨2, ![4096, 1024]⟩
abbrev S1x6x1024 : Shape := ⟨3, ![1, 6, 1024]⟩
abbrev S32x6x1024 : Shape := ⟨3, ![32, 6, 1024]⟩
abbrev S1x256 : Shape := ⟨2, ![1, 256]⟩
abbrev S1x256x1024 : Shape := ⟨3, ![1, 256, 1024]⟩
abbrev S1x256x512 : Shape := ⟨3, ![1, 256, 512]⟩
abbrev S1x256x256 : Shape := ⟨3, ![1, 256, 256]⟩
abbrev S1x8x256 : Shape := ⟨3, ![1, 8, 256]⟩
abbrev S2x1x256x256 : Shape := ⟨4, ![2, 1, 256, 256]⟩
abbrev S6x1024 : Shape := ⟨2, ![6, 1024]⟩
abbrev S8x256 : Shape := ⟨2, ![8, 256]⟩
abbrev S256x1 : Shape := ⟨2, ![256, 1]⟩
abbrev S1x1x256x256 : Shape := ⟨4, ![1, 1, 256, 256]⟩
abbrev S256x512 : Shape := ⟨2, ![256, 512]⟩
abbrev S512x1024 : Shape := ⟨2, ![512, 1024]⟩
abbrev S256x1024 : Shape := ⟨2, ![256, 1024]⟩
abbrev S1x1024 : Shape := ⟨2, ![1, 1024]⟩

abbrev nBuf : Space → Nat
  | .hbm => 25
  | .vmem => 28
  | .smem => 0
  | _ => 0

abbrev bufTy : (tb : Table) → Fin (tcTables nBuf tb) → BufTy
  | .hbm, ⟨0, _⟩ => ⟨S32x256x1024, .f32⟩
  | .hbm, ⟨1, _⟩ => ⟨S32x256x512, .f32⟩
  | .hbm, ⟨2, _⟩ => ⟨S32x256x256, .f32⟩
  | .hbm, ⟨3, _⟩ => ⟨S32x256x256, .f32⟩
  | .hbm, ⟨4, _⟩ => ⟨S2x32x256x256, .f32⟩
  | .hbm, ⟨5, _⟩ => ⟨S32x256x256, .f32⟩
  | .hbm, ⟨6, _⟩ => ⟨S6144, .f32⟩
  | .hbm, ⟨7, _⟩ => ⟨S4x1024, .f32⟩
  | .hbm, ⟨8, _⟩ => ⟨S3x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S1024x1024, .f32⟩
  | .hbm, ⟨13, _⟩ => ⟨S1024x4096, .f32⟩
  | .hbm, ⟨14, _⟩ => ⟨S4096x1024, .f32⟩
  | .hbm, ⟨15, _⟩ => ⟨S1x6x1024, .f32⟩
  | .hbm, ⟨16, _⟩ => ⟨S32x6x1024, .f32⟩
  | .hbm, ⟨17, _⟩ => ⟨S32x256x512, .bf16⟩
  | .hbm, ⟨18, _⟩ => ⟨S1x256, .f32⟩
  | .hbm, ⟨19, _⟩ => ⟨S256x256, .bf16⟩
  | .hbm, ⟨20, _⟩ => ⟨S1x256, .f32⟩
  | .hbm, ⟨21, _⟩ => ⟨S1024x1024, .bf16⟩
  | .hbm, ⟨22, _⟩ => ⟨S1024x4096, .bf16⟩
  | .hbm, ⟨23, _⟩ => ⟨S4096x1024, .bf16⟩
  | .hbm, ⟨24, _⟩ => ⟨S32x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x8x256, .f32⟩
  | .local _ .vmem, ⟨9, _⟩ => ⟨S1x8x256, .f32⟩
  | .local _ .vmem, ⟨10, _⟩ => ⟨S1x8x256, .f32⟩
  | .local _ .vmem, ⟨11, _⟩ => ⟨S1x8x256, .f32⟩
  | .local _ .vmem, ⟨12, _⟩ => ⟨S2x1x256x256, .f32⟩
  | .local _ .vmem, ⟨13, _⟩ => ⟨S2x1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x6x1024, .f32⟩
  | .local _ .vmem, ⟨17, _⟩ => ⟨S1x6x1024, .f32⟩
  | .local _ .vmem, ⟨18, _⟩ => ⟨S4x1024, .f32⟩
  | .local _ .vmem, ⟨19, _⟩ => ⟨S3x256, .f32⟩
  | .local _ .vmem, ⟨20, _⟩ => ⟨S1x256, .f32⟩
  | .local _ .vmem, ⟨21, _⟩ => ⟨S256x256, .bf16⟩
  | .local _ .vmem, ⟨22, _⟩ => ⟨S1x256, .f32⟩
  | .local _ .vmem, ⟨23, _⟩ => ⟨S1024x1024, .bf16⟩
  | .local _ .vmem, ⟨24, _⟩ => ⟨S1024x4096, .bf16⟩
  | .local _ .vmem, ⟨25, _⟩ => ⟨S4096x1024, .bf16⟩
  | .local _ .vmem, ⟨26, _⟩ => ⟨S1x256x1024, .f32⟩
  | .local _ .vmem, ⟨27, _⟩ => ⟨S1x256x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg1.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c31_i32 : BitVec 32 := 31#32
  let v2 : BitVec 32 := Scalar.minsi v1 c31_i32
  let c0_i32 : BitVec 32 := 0#32
  let c0_i32_0 : BitVec 32 := 0#32
  ![arg1.toNat, v2.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4096x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== BlockCtxReferenceIdeal.lean ====
abbrev S32x256x1024 : Shape := ⟨3, ![32, 256, 1024]⟩
abbrev S32x256x512 : Shape := ⟨3, ![32, 256, 512]⟩
abbrev S32x256x256 : Shape := ⟨3, ![32, 256, 256]⟩
abbrev S2x32x256x256 : Shape := ⟨4, ![2, 32, 256, 256]⟩
abbrev S6144 : Shape := ⟨1, ![6144]⟩
abbrev S4x1024 : Shape := ⟨2, ![4, 1024]⟩
abbrev S3x256 : Shape := ⟨2, ![3, 256]⟩
abbrev S256 : Shape := ⟨1, ![256]⟩
abbrev S256x256 : Shape := ⟨2, ![256, 256]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S_ : Shape := ⟨0, ![]⟩
abbrev S32x258x256 : Shape := ⟨3, ![32, 258, 256]⟩
abbrev S1x256 : Shape := ⟨2, ![1, 256]⟩
abbrev S1x1x256 : Shape := ⟨3, ![1, 1, 256]⟩
abbrev S1x32x256x256 : Shape := ⟨4, ![1, 32, 256, 256]⟩
abbrev S32x256 : Shape := ⟨2, ![32, 256]⟩
abbrev S32x256x1 : Shape := ⟨3, ![32, 256, 1]⟩
abbrev S1x1x1024 : Shape := ⟨3, ![1, 1, 1024]⟩
abbrev S32x256x4096 : Shape := ⟨3, ![32, 256, 4096]⟩

abbrev nBuf : Space → Nat
  | .hbm => 163
  | .vmem => 0
  | .smem => 0
  | _ => 0

abbrev hbmTy0_0 (i : Nat) : BufTy := match i % 128 with
  | 0 => ⟨S32x256x1024, .f32⟩
  | 1 => ⟨S32x256x512, .f32⟩
  | 2 => ⟨S32x256x256, .f32⟩
  | 3 => ⟨S32x256x256, .f32⟩
  | 4 => ⟨S2x32x256x256, .f32⟩
  | 5 => ⟨S32x256x256, .f32⟩
  | 6 => ⟨S6144, .f32⟩
  | 7 => ⟨S4x1024, .f32⟩
  | 8 => ⟨S3x256, .f32⟩
  | 9 => ⟨S256, .f32⟩
  | 10 => ⟨S256x256, .f32⟩
  | 11 => ⟨S256, .f32⟩
  | 12 => ⟨S1024x1024, .f32⟩
  | 13 => ⟨S1024x4096, .f32⟩
  | 14 => ⟨S4096x1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1x1024, .f32⟩
  | 22 => ⟨S1024, .f32⟩
  | 23 => ⟨S1x1024, .f32⟩
  | 24 => ⟨S1024, .f32⟩
  | 25 => ⟨S1x1024, .f32⟩
  | 26 => ⟨S1024, .f32⟩
  | 27 => ⟨S_, .i32⟩
  | 28 => ⟨S_, .f32⟩
  | 29 => ⟨S32x258x256, .f32⟩
  | 30 => ⟨S32x256x256, .f32⟩
  | 31 => ⟨S1x256, .f32⟩
  | 32 => ⟨S256, .f32⟩
  | 33 => ⟨S1x1x256, .f32⟩
  | 34 => ⟨S32x256x256, .f32⟩
  | 35 => ⟨S32x256x256, .f32⟩
  | 36 => ⟨S32x256x256, .f32⟩
  | 37 => ⟨S1x256, .f32⟩
  | 38 => ⟨S256, .f32⟩
  | 39 => ⟨S1x1x256, .f32⟩
  | 40 => ⟨S32x256x256, .f32⟩
  | 41 => ⟨S32x256x256, .f32⟩
  | 42 => ⟨S32x256x256, .f32⟩
  | 43 => ⟨S32x256x256, .f32⟩
  | 44 => ⟨S1x256, .f32⟩
  | 45 => ⟨S256, .f32⟩
  | 46 => ⟨S1x1x256, .f32⟩
  | 47 => ⟨S32x256x256, .f32⟩
  | 48 => ⟨S32x256x256, .f32⟩
  | 49 => ⟨S32x256x256, .f32⟩
  | 50 => ⟨S32x256x256, .f32⟩
  | 51 => ⟨S1x32x256x256, .f32⟩
  | 52 => ⟨S32x256x256, .f32⟩
  | 53 => ⟨S1x32x256x256, .f32⟩
  | 54 => ⟨S32x256x256, .f32⟩
  | 55 => ⟨S32x256x256, .f32⟩
  | 56 => ⟨S1x1x256, .f32⟩
  | 57 => ⟨S32x256x256, .f32⟩
  | 58 => ⟨S32x256x256, .f32⟩
  | 59 => ⟨S32x256x256, .f32⟩
  | 60 => ⟨S32x256x256, .f32⟩
  | 61 => ⟨S32x256x256, .f32⟩
  | 62 => ⟨S_, .f32⟩
  | 63 => ⟨S32x256x256, .f32⟩
  | 64 => ⟨S32x256x256, .f32⟩
  | 65 => ⟨S32x256x256, .f32⟩
  | 66 => ⟨S_, .f32⟩
  | 67 => ⟨S32x256x256, .f32⟩
  | 68 => ⟨S32x256x256, .f32⟩
  | 69 => ⟨S32x256x256, .f32⟩
  | 70 => ⟨S_, .f32⟩
  | 71 => ⟨S32x256x256, .f32⟩
  | 72 => ⟨S32x256x256, .f32⟩
  | 73 => ⟨S_, .f32⟩
  | 74 => ⟨S32x256x256, .f32⟩
  | 75 => ⟨S32x256x256, .f32⟩
  | 76 => ⟨S32x256x256, .f32⟩
  | 77 => ⟨S32x256x256, .f32⟩
  | 78 => ⟨S1x1x256, .f32⟩
  | 79 => ⟨S32x256x256, .f32⟩
  | 80 => ⟨S32x256x256, .f32⟩
  | 81 => ⟨S32x256x256, .f32⟩
  | 82 => ⟨S32x256x256, .f32⟩
  | 83 => ⟨S_, .f32⟩
  | 84 => ⟨S32x256x256, .f32⟩
  | 85 => ⟨S32x256x256, .f32⟩
  | 86 => ⟨S_, .f32⟩
  | 87 => ⟨S32x256x256, .f32⟩
  | 88 => ⟨S32x256x256, .f32⟩
  | 89 => ⟨S32x256x256, .f32⟩
  | 90 => ⟨S32x256x1024, .f32⟩
  | 91 => ⟨S32x256x1024, .f32⟩
  | 92 => ⟨S32x256x1024, .f32⟩
  | 93 => ⟨S_, .f32⟩
  | 94 => ⟨S32x256, .f32⟩
  | 95 => ⟨S32x256x1, .f32⟩
  | 96 => ⟨S_, .f32⟩
  | 97 => ⟨S32x256x1, .f32⟩
  | 98 => ⟨S32x256x1, .f32⟩
  | 99 => ⟨S_, .f32⟩
  | 100 => ⟨S32x256x1, .f32⟩
  | 101 => ⟨S32x256x1, .f32⟩
  | 102 => ⟨S32x256x1, .f32⟩
  | 103 => ⟨S32x256x1024, .f32⟩
  | 104 => ⟨S32x256x1024, .f32⟩
  | 105 => ⟨S1x1x1024, .f32⟩
  | 106 => ⟨S32x256x1024, .f32⟩
  | 107 => ⟨S32x256x1024, .f32⟩
  | 108 => ⟨S1x1x1024, .f32⟩
  | 109 => ⟨S32x256x1024, .f32⟩
  | 110 => ⟨S32x256x1024, .f32⟩
  | 111 => ⟨S32x256x1024, .f32⟩
  | 112 => ⟨S32x256x1024, .f32⟩
  | 113 => ⟨S_, .f32⟩
  | 114 => ⟨S32x256, .f32⟩
  | 115 => ⟨S32x256x1, .f32⟩
  | 116 => ⟨S_, .f32⟩
  | 117 => ⟨S32x256x1, .f32⟩
  | 118 => ⟨S32x256x1, .f32⟩
  | 119 => ⟨S_, .f32⟩
  | 120 => ⟨S32x256x1, .f32⟩
  | 121 => ⟨S32x256x1, .f32⟩
  | 122 => ⟨S32x256x1, .f32⟩
  | 123 => ⟨S32x256x1024, .f32⟩
  | 124 => ⟨S32x256x1024, .f32⟩
  | 125 => ⟨S1x1x1024, .f32⟩
  | 126 => ⟨S32x256x1024, .f32⟩
  | 127 => ⟨S32x256x1024, .f32⟩
  | _ => ⟨S32x256x1024, .f32⟩

abbrev hbmTy0_1 (i : Nat) : BufTy := match i % 128 with
  | 0 => ⟨S_, .f32⟩
  | 1 => ⟨S1024, .f32⟩
  | 2 => ⟨S1024, .f32⟩
  | 3 => ⟨S1x1x1024, .f32⟩
  | 4 => ⟨S32x256x1024, .f32⟩
  | 5 => ⟨S32x256x1024, .f32⟩
  | 6 => ⟨S1x1x1024, .f32⟩
  | 7 => ⟨S32x256x1024, .f32⟩
  | 8 => ⟨S32x256x1024, .f32⟩
  | 9 => ⟨S32x256x4096, .f32⟩
  | 10 => ⟨S_, .f32⟩
  | 11 => ⟨S32x256x4096, .f32⟩
  | 12 => ⟨S32x256x4096, .f32⟩
  | 13 => ⟨S32x256x4096, .f32⟩
  | 14 => ⟨S32x256x1024, .f32⟩
  | 15 => ⟨S32x256x1024, .f32⟩
  | 16 => ⟨S_, .f32⟩
  | 17 => ⟨S32x256, .f32⟩
  | 18 => ⟨S32x256x1, .f32⟩
  | 19 => ⟨S_, .f32⟩
  | 20 => ⟨S32x256x1, .f32⟩
  | 21 => ⟨S32x256x1, .f32⟩
  | 22 => ⟨S_, .f32⟩
  | 23 => ⟨S32x256x1, .f32⟩
  | 24 => ⟨S32x256x1, .f32⟩
  | 25 => ⟨S32x256x1, .f32⟩
  | 26 => ⟨S32x256x1024, .f32⟩
  | 27 => ⟨S32x256x1024, .f32⟩
  | 28 => ⟨S1x1x1024, .f32⟩
  | 29 => ⟨S32x256x1024, .f32⟩
  | 30 => ⟨S32x256x1024, .f32⟩
  | 31 => ⟨S1x1x1024, .f32⟩
  | 32 => ⟨S32x256x1024, .f32⟩
  | 33 => ⟨S32x256x1024, .f32⟩
  | 34 => ⟨S32x256x1024, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_call0_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_1 : Ref sig .tc := ⟨.hbm, 70, rfl⟩
abbrev main_v51 : Ref sig .tc := ⟨.hbm, 71, rfl⟩
abbrev main_v52 : Ref sig .tc := ⟨.hbm, 72, rfl⟩
abbrev main_cst_2 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_3 : Ref sig .tc := ⟨.hbm, 83, rfl⟩
abbrev main_v62 : Ref sig .tc := ⟨.hbm, 84, rfl⟩
abbrev main_v63 : Ref sig .tc := ⟨.hbm, 85, rfl⟩
abbrev main_cst_4 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_5 : Ref sig .tc := ⟨.hbm, 93, rfl⟩
abbrev main_v70 : Ref sig .tc := ⟨.hbm, 94, rfl⟩
abbrev main_v71 : Ref sig .tc := ⟨.hbm, 95, rfl⟩
abbrev main_cst_6 : Ref sig .tc := ⟨.hbm, 96, rfl⟩
abbrev main_v72 : Ref sig .tc := ⟨.hbm, 97, rfl⟩
abbrev main_v73 : Ref sig .tc := ⟨.hbm, 98, rfl⟩
abbrev main_cst_7 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_8 : Ref sig .tc := ⟨.hbm, 113, rfl⟩
abbrev main_v87 : Ref sig .tc := ⟨.hbm, 114, rfl⟩
abbrev main_v88 : Ref sig .tc := ⟨.hbm, 115, rfl⟩
abbrev main_cst_9 : Ref sig .tc := ⟨.hbm, 116, rfl⟩
abbrev main_v89 : Ref sig .tc := ⟨.hbm, 117, rfl⟩
abbrev main_v90 : Ref sig .tc := ⟨.hbm, 118, rfl⟩
abbrev main_cst_10 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_11 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_call1_cst : Ref sig .tc := ⟨.hbm, 138, rfl⟩
abbrev main_call1_v0 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_12 : Ref sig .tc := ⟨.hbm, 144, rfl⟩
abbrev main_v112 : Ref sig .tc := ⟨.hbm, 145, rfl⟩
abbrev main_v113 : Ref sig .tc := ⟨.hbm, 146, rfl⟩
abbrev main_cst_13 : Ref sig .tc := ⟨.hbm, 147, rfl⟩
abbrev main_v114 : Ref sig .tc := ⟨.hbm, 148, rfl⟩
abbrev main_v115 : Ref sig .tc := ⟨.hbm, 149, rfl⟩
abbrev main_cst_14 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩

abbrev nD : Nat := 1
abbrev τ : Topo := Topo.v7x

variable {F : FTy → Type} [FloatOps F]
-- ==== InProjCtx.lean ====
abbrev S32x256x1024 : Shape := ⟨3, ![32, 256, 1024]⟩
abbrev S6144 : Shape := ⟨1, ![6144]⟩
abbrev S4x1024 : Shape := ⟨2, ![4, 1024]⟩
abbrev S1024x1792 : Shape := ⟨2, ![1024, 1792]⟩
abbrev S1x6x1024 : Shape := ⟨3, ![1, 6, 1024]⟩
abbrev S32x6x1024 : Shape := ⟨3, ![32, 6, 1024]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S512 : Shape := ⟨1, ![512]⟩
abbrev S128 : Shape := ⟨1, ![128]⟩
abbrev S640 : Shape := ⟨1, ![640]⟩
abbrev S1x2048x1x64 : Shape := ⟨4, ![1, 2048, 1, 64]⟩
abbrev S1x2048x10x64 : Shape := ⟨4, ![1, 2048, 10, 64]⟩
abbrev S2048x640 : Shape := ⟨2, ![2048, 640]⟩
abbrev S1x640 : Shape := ⟨2, ![1, 640]⟩
abbrev S256x640 : Shape := ⟨2, ![256, 640]⟩
abbrev S32x256x512 : Shape := ⟨3, ![32, 256, 512]⟩
abbrev S32x256x128 : Shape := ⟨3, ![32, 256, 128]⟩
abbrev S32x256x256 : Shape := ⟨3, ![32, 256, 256]⟩
abbrev S1x256x1024 : Shape := ⟨3, ![1, 256, 1024]⟩
abbrev S1x256x512 : Shape := ⟨3, ![1, 256, 512]⟩
abbrev S1x256x128 : Shape := ⟨3, ![1, 256, 128]⟩
abbrev S1x256x256 : Shape := ⟨3, ![1, 256, 256]⟩
abbrev S6x1024 : Shape := ⟨2, ![6, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S256x1792 : Shape := ⟨2, ![256, 1792]⟩
abbrev S1x128 : Shape := ⟨2, ![1, 128]⟩
abbrev S256x128 : Shape := ⟨2, ![256, 128]⟩
abbrev S256x256 : Shape := ⟨2, ![256, 256]⟩

abbrev nBuf : Space → Nat
  | .hbm => 71
  | .vmem => 20
  | .smem => 0
  | _ => 0

abbrev bufTy : (tb : Table) → Fin (tcTables nBuf tb) → BufTy
  | .hbm, ⟨0, _⟩ => ⟨S32x256x1024, .f32⟩
  | .hbm, ⟨1, _⟩ => ⟨S6144, .f32⟩
  | .hbm, ⟨2, _⟩ => ⟨S4x1024, .f32⟩
  | .hbm, ⟨3, _⟩ => ⟨S1024x1792, .f32⟩
  | .hbm, ⟨4, _⟩ => ⟨S1x6x1024, .f32⟩
  | .hbm, ⟨5, _⟩ => ⟨S32x6x1024, .f32⟩
  | .hbm, ⟨6, _⟩ => ⟨S32, .i32⟩
  | .hbm, ⟨7, _⟩ => ⟨S32x1, .i32⟩
  | .hbm, ⟨8, _⟩ => ⟨S32x64, .i32⟩
  | .hbm, ⟨9, _⟩ => ⟨S2048, .i32⟩
  | .hbm, ⟨10, _⟩ => ⟨S64, .i32⟩
  | .hbm, ⟨11, _⟩ => ⟨S1x64, .i32⟩
  | .hbm, ⟨12, _⟩ => ⟨S32x64, .i32⟩
  | .hbm, ⟨13, _⟩ => ⟨S2048, .i32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S2048x1, .i32⟩
  | .hbm, ⟨23, _⟩ => ⟨S2048x1, .f32⟩
  | .hbm, ⟨24, _⟩ => ⟨S1x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x1, .i32⟩
  | .hbm, ⟨29, _⟩ => ⟨S2048x1, .f32⟩
  | .hbm, ⟨30, _⟩ => ⟨S1x16, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x64, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S2048x64, .f32⟩
  | .hbm, ⟨44, _⟩ => ⟨S_, .f32⟩
  | .hbm, ⟨45, _⟩ => ⟨S512, .f32⟩
  | .hbm, ⟨46, _⟩ => ⟨S_, .f32⟩
  | .hbm, ⟨47, _⟩ => ⟨S128, .f32⟩
  | .hbm, ⟨48, _⟩ => ⟨S640, .f32⟩
  | .hbm, ⟨49, _⟩ => ⟨S1x2048x1x64, .f32⟩
  | .hbm, ⟨50, _⟩ => ⟨S1x2048x10x64, .f32⟩
  | .hbm, ⟨51, _⟩ => ⟨S2048x640, .f32⟩
  | .hbm, ⟨52, _⟩ => ⟨S1x640, .f32⟩
  | .hbm, ⟨53, _⟩ => ⟨S2048x640, .f32⟩
  | .hbm, ⟨54, _⟩ => ⟨S2048x640, .f32⟩
  | .hbm, ⟨55, _⟩ => ⟨S1x2048x1x64, .f32⟩
  | .hbm, ⟨56, _⟩ => ⟨S1x2048x10x64, .f32⟩
  | .hbm, ⟨57, _⟩ => ⟨S2048x640, .f32⟩
  | .hbm, ⟨58, _⟩ => ⟨S1x640, .f32⟩
  | .hbm, ⟨59, _⟩ => ⟨S2048x640, .f32⟩
  | .hbm, ⟨60, _⟩ => ⟨S2048x640, .f32⟩
  | .hbm, ⟨61, _⟩ => ⟨S256x640, .f32⟩
  | .hbm, ⟨62, _⟩ => ⟨S_, .f32⟩
  | .hbm, ⟨63, _⟩ => ⟨S256x640, .f32⟩
  | .hbm, ⟨64, _⟩ => ⟨S1024x1792, .bf16⟩
  | .hbm, ⟨65, _⟩ => ⟨S32x256x512, .bf16⟩
  | .hbm, ⟨66, _⟩ => ⟨S32x256x128, .bf16⟩
  | .hbm, ⟨67, _⟩ => ⟨S32x256x128, .bf16⟩
  | .hbm, ⟨68, _⟩ => ⟨S32x256x256, .f32⟩
  | .hbm, ⟨69, _⟩ => ⟨S32x256x256, .f32⟩
  | .hbm, ⟨70, _⟩ => ⟨S32x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x1792, .bf16⟩
  | .local _ .vmem, ⟨6, _⟩ => ⟨S256x640, .f32⟩
  | .local _ .vmem, ⟨7, _⟩ => ⟨S256x640, .f32⟩
  | .local _ .vmem, ⟨8, _⟩ => ⟨S1x256x512, .bf16⟩
  | .local _ .vmem, ⟨9, _⟩ => ⟨S1x256x512, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_1 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_3 : Ref sig .tc := ⟨.hbm, 62, rfl⟩
abbrev main_v54 : Ref sig .tc := ⟨.hbm, 63, rfl⟩
abbrev main_v55 : Ref sig .tc := ⟨.hbm, 64, rfl⟩
abbrev main_v56_0 : Ref sig .tc := ⟨.hbm, 65, rfl⟩
abbrev main_v56_1 : Ref sig .tc := ⟨.hbm, 66, rfl⟩
abbrev main_v56_2 : Ref sig .tc := ⟨.hbm, 67, rfl⟩
abbrev main_v56_3 : Ref sig .tc := ⟨.hbm, 68, rfl⟩
abbrev main_v56_4 : Ref sig .tc := ⟨.hbm, 69, rfl⟩
abbrev main_v56_5 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S256x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InProjCtxReferenceIdeal.lean ====
abbrev S32x256x1024 : Shape := ⟨3, ![32, 256, 1024]⟩
abbrev S6144 : Shape := ⟨1, ![6144]⟩
abbrev S4x1024 : Shape := ⟨2, ![4, 1024]⟩
abbrev S1024x1792 : Shape := ⟨2, ![1024, 1792]⟩
abbrev S1024 : Shape := ⟨1, ![1024]⟩
abbrev S1x1024 : Shape := ⟨2, ![1, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S32x256x1792 : Shape := ⟨3, ![32, 256, 1792]⟩
abbrev S32x256x512 : Shape := ⟨3, ![32, 256, 512]⟩
abbrev S32x256x128 : Shape := ⟨3, ![32, 256, 128]⟩
abbrev S32x256x256 : Shape := ⟨3, ![32, 256, 256]⟩

abbrev nBuf : Space → Nat
  | .hbm => 52
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S6144, .f32⟩
  | .hbm, ⟨2, _⟩ => ⟨S4x1024, .f32⟩
  | .hbm, ⟨3, _⟩ => ⟨S1024x1792, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S32x256x1024, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x1024, .f32⟩
  | .hbm, ⟨24, _⟩ => ⟨S32x256x1024, .f32⟩
  | .hbm, ⟨25, _⟩ => ⟨S1x1x1024, .f32⟩
  | .hbm, ⟨26, _⟩ => ⟨S32x256x1024, .f32⟩
  | .hbm, ⟨27, _⟩ => ⟨S32x256x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S32x256x1792, .f32⟩
  | .hbm, ⟨38, _⟩ => ⟨S32x256x512, .f32⟩
  | .hbm, ⟨39, _⟩ => ⟨S32x256x128, .f32⟩
  | .hbm, ⟨40, _⟩ => ⟨S32x256x128, .f32⟩
  | .hbm, ⟨41, _⟩ => ⟨S32x256x256, .f32⟩
  | .hbm, ⟨42, _⟩ => ⟨S32x256x256, .f32⟩
  | .hbm, ⟨43, _⟩ => ⟨S32x256x256, .f32⟩
  | .hbm, ⟨44, _⟩ => ⟨S32x256x256, .f32⟩
  | .hbm, ⟨45, _⟩ => ⟨S_, .f32⟩
  | .hbm, ⟨46, _⟩ => ⟨S32x256x512, .f32⟩
  | .hbm, ⟨47, _⟩ => ⟨S32x256x512, .f32⟩
  | .hbm, ⟨48, _⟩ => ⟨S32x256x512, .bf16⟩
  | .hbm, ⟨49, _⟩ => ⟨S32x256x128, .bf16⟩
  | .hbm, ⟨50, _⟩ => ⟨S32x256x128, .bf16⟩
  | .hbm, ⟨51, _⟩ => ⟨S32x256x256, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Proof.AttnBody.lean ====
/- The attention body's arithmetic, read at an index: each half (four heads that share one key and value head) is one
   function `half` of its stacked queries, keys, values, mask and sinks, and the stored block is its eight slices. -/
module

public import proofs.«01_k».proof.Proof.Gen.KernelIdeal.Skeleton
public import Idealize.ShloMosaic.PureOps.Ideal.Laws
public import Idealize.ShloMosaic.Lib.Pipeline.Value
public import Idealize.ShloMosaic.Lib.ValueIdx
public import Idealize.ShloMosaic.PureOps.IdealRules

@[expose] public section

noncomputable section

open scoped BigOperators

namespace Cert.Attn

open Idealize.ShloMosaic Idealize.ShloMosaic.ValueIdx Cert.KernelIdeal Cert.KernelIdeal.Gen

/-! ## One half: four stacked heads -/

/-- The masked scores. -/
def scores (mk : IVec S512x640 1) (qs : FVec Ideal S512x64 .bf16) (ks : FVec Ideal S640x64 .bf16) : FVec Ideal S512x640 .f32 :=
  select mk (matmul dot_S512x64_S640x64_S512x640_1_1_0_0_n_n none qs ks (constant S512x640 .f32 0x00000000#32))
    (broadcast S512x640 (Named.named (F := Ideal) κ "mask" 0xF149F2CA#32))

/-- Each row's maximum, the sink included. -/
def rowMax (s : FVec Ideal S512x640 .f32) (sk : FVec Ideal S512x1 .f32) : FVec Ideal S512x1 .f32 :=
  maximumf (shapeCast S512x1 (multiReduction .maximumf [1] S512 s 0xFF800000#32 reduces_S512x640_S512 (.inl rfl) rfl) shapeCasts_S512_S512x1) sk

/-- The exponentials. -/
def weights (s : FVec Ideal S512x640 .f32) (sk : FVec Ideal S512x1 .f32) : FVec Ideal S512x640 .f32 :=
  exp (subf s (broadcastTo S512x640 (rowMax s sk) broadcasts_S512x1_S512x640))

/-- Each row's denominator, the sink included. -/
def denoms (s : FVec Ideal S512x640 .f32) (sk : FVec Ideal S512x1 .f32) : FVec Ideal S512x1 .f32 :=
  addf (shapeCast S512x1 (multiReduction .add [1] S512 (weights s sk) 0x00000000#32 reduces_S512x640_S512 (.inl rfl) rfl) shapeCasts_S512_S512x1)
    (exp (subf sk (rowMax s sk)))

/-- One half's result. -/
def half (mk : IVec S512x640 1) (qs : FVec Ideal S512x64 .bf16) (ks vs : FVec Ideal S640x64 .bf16) (sk : FVec Ideal S512x1 .f32) :
    FVec Ideal S512x64 .f32 :=
  divf (matmul dot_S512x640_S640x64_S512x64_1_0_0_1_n_n none (truncf .bf16 (weights (scores mk qs ks) sk) bitsLt_bf16_f32) vs
      (constant S512x64 .f32 0x00000000#32))
    (broadcastTo S512x64 (denoms (scores mk qs ks) sk) broadcasts_S512x1_S512x64)

/-- A masked score at an index. -/
theorem scores_apply (mk : IVec S512x640 1) (qs : FVec Ideal S512x64 .bf16) (ks : FVec Ideal S640x64 .bf16) (a : Fin 512) (c : Fin 640) :
    scores mk qs ks (ix2 a c)
      = if mk (ix2 a c) = 1#1 then ∑ e : Fin 64, qs (ix2 a e) * ks (ix2 c e) else (⊥ : EReal) := by
  unfold scores
  rw [select_apply, broadcast_apply, IdealRules.named_const.ideal_named_scalar κ "mask" (φ := .f32) 0xF149F2CA#32 (⊥ : EReal) rfl]
  by_cases h : mk (ix2 a c) = 1#1
  · rw [if_pos h, h, select_one]
    refine (Ideal.matmul_constant_zero_apply _ none qs ks (ix2 a c)).trans ?_
    rw [← Equiv.sum_comp (contrEquiv1 dot_S512x64_S640x64_S512x640_1_1_0_0_n_n 64 rfl rfl).symm]
    refine Finset.sum_congr rfl fun e _ => ?_
    congr 2
    · funext d; match d with | ⟨0, _⟩ => rfl | ⟨1, _⟩ => rfl
    · funext d; match d with | ⟨0, _⟩ => rfl | ⟨1, _⟩ => rfl
  · rw [if_neg h, eq_zero_of_ne_one h, select_zero]

/-- A row's maximum. -/
theorem rowMax_apply (s : FVec Ideal S512x640 .f32) (sk : FVec Ideal S512x1 .f32) (a : Fin 512) :
    rowMax s sk (ix2 a 0) = max (Finset.univ.sup fun c : Fin 640 => s (ix2 a c)) (sk (ix2 a 0)) := by
  unfold rowMax
  rw [maximumf_apply, shapeCast_apply _ _ _ (ix1 a) (by rw [Shape.rowMajor_val_two, Shape.rowMajor_val_one]; simp)]
  refine congrArg₂ max ((Ideal.multiReduction_maximumf_single s _ _ _ _ (ix1 a)).trans ?_) rfl
  have hb : FloatOps.ofBits (F := Ideal) .f32 0xFF800000#32 = (⊥ : EReal) := by
    show Ideal.ofBits .f32 0xFF800000#32 = _
    simp [Ideal.ofBits, Ideal.ieee]
  rw [hb]
  show Finset.univ.sup _ = _
  refine Finset.sup_congr rfl fun c _ => ?_
  show s _ = s _
  congr 1
  funext d; match d with | ⟨0, _⟩ => rfl | ⟨1, _⟩ => rfl

/-- A weight. -/
theorem weights_apply (s : FVec Ideal S512x640 .f32) (sk : FVec Ideal S512x1 .f32) (a : Fin 512) (c : Fin 640) :
    weights s sk (ix2 a c) = Ideal.exp (s (ix2 a c) - rowMax s sk (ix2 a 0)) := by
  unfold weights
  show Ideal.exp (_ - _) = _
  rw [broadcastTo_apply _ _ (ix2 a c) (ix2 a 0) (by intro d; match d with | ⟨0, _⟩ => rfl | ⟨1, _⟩ => rfl)]

/-- A denominator. -/
theorem denoms_apply (s : FVec Ideal S512x640 .f32) (sk : FVec Ideal S512x1 .f32) (a : Fin 512) :
    denoms s sk (ix2 a 0) = (∑ c : Fin 640, Ideal.exp (s (ix2 a c) - rowMax s sk (ix2 a 0)))
      + Ideal.exp (sk (ix2 a 0) - rowMax s sk (ix2 a 0)) := by
  unfold denoms
  rw [addf_apply, shapeCast_apply _ _ _ (ix1 a) (by rw [Shape.rowMajor_val_two, Shape.rowMajor_val_one]; simp)]
  refine congrArg₂ (· + ·) ((Ideal.multiReduction_add_single (weights s sk) _ _ _ _ (ix1 a)).trans ?_) rfl
  refine Finset.sum_congr rfl fun c _ => ?_
  refine Eq.trans ?_ (weights_apply s sk a c)
  congr 1
  funext d; match d with | ⟨0, _⟩ => rfl | ⟨1, _⟩ => rfl

/-- One half's result at an index. -/
theorem half_apply (mk : IVec S512x640 1) (qs : FVec Ideal S512x64 .bf16) (ks vs : FVec Ideal S640x64 .bf16) (sk : FVec Ideal S512x1 .f32)
    (a : Fin 512) (d : Fin 64) :
    half mk qs ks vs sk (ix2 a d)
      = Ideal.div (∑ c : Fin 640, Ideal.exp (scores mk qs ks (ix2 a c) - rowMax (scores mk qs ks) sk (ix2 a 0)) * vs (ix2 c d))
          (denoms (scores mk qs ks) sk (ix2 a 0)) := by
  unfold half
  show Ideal.div _ _ = _
  rw [broadcastTo_apply _ _ (ix2 a d) (ix2 a 0) (by intro d; match d with | ⟨0, _⟩ => rfl | ⟨1, _⟩ => rfl)]
  congr 1
  refine (Ideal.matmul_constant_zero_apply _ none _ vs (ix2 a d)).trans ?_
  rw [← Equiv.sum_comp (contrEquiv1 dot_S512x640_S640x64_S512x64_1_0_0_1_n_n 640 rfl rfl).symm]
  refine Finset.sum_congr rfl fun c _ => ?_
  rw [← weights_apply]
  congr 2
  · show weights _ _ _ = _
    congr 1
    funext d; match d with | ⟨0, _⟩ => rfl | ⟨1, _⟩ => rfl
  · funext d; match d with | ⟨0, _⟩ => rfl | ⟨1, _⟩ => rfl

/-! ## The stacked operands -/

/-- Four heads' queries stacked: head `g` of the half is rows `128 g …`. -/
def stackQ (o : Fin 4 → Fin 2 → Nat) (ho : ∀ g, S128x512.Slices (o g) S128x64) (q : FVec Ideal S128x512 .bf16) : FVec Ideal S512x64 .bf16 :=
  concatenate S512x64 0 [⟨S128x64, extractStridedSlice S128x64 (o 0) q (ho 0)⟩, ⟨S128x64, extractStridedSlice S128x64 (o 1) q (ho 1)⟩,
    ⟨S128x64, extractStridedSlice S128x64 (o 2) q (ho 2)⟩, ⟨S128x64, extractStridedSlice S128x64 (o 3) q (ho 3)⟩]
    concatenates_S128x64_S128x64_S128x64_S128x64_S512x64_d0

theorem stackQ_apply (o : Fin 4 → Fin 2 → Nat) (ho : ∀ g, S128x512.Slices (o g) S128x64) (q : FVec Ideal S128x512 .bf16)
    (h0 : ∀ g, o g 0 = 0) (g : Fin 4) (r : Fin 128) (e : Fin 64) (hlt : o g 1 + e.val < 512) :
    stackQ o ho q (ix2 ⟨128 * g.val + r.val, by omega⟩ e) = q (ix2 r ⟨o g 1 + e.val, hlt⟩) := by
  unfold stackQ
  refine (concatenate_ofFn_apply (s₁ := S128x64) 0 (fun g : Fin 4 => extractStridedSlice S128x64 (o g) q (ho g))
    concatenates_S128x64_S128x64_S128x64_S128x64_S512x64_d0 rfl 128 rfl _ g ?_ (ix2 r e) ?_ ?_).trans ?_
  · show (128 * g.val + r.val) / 128 = g.val
    omega
  · show r.val = (128 * g.val + r.val) % 128
    omega
  · intro b hb
    match b with
    | ⟨0, _⟩ => exact absurd rfl hb
    | ⟨1, _⟩ => rfl
  · refine extractStridedSlice_apply _ _ _ _ _ fun a => ?_
    match a with
    | ⟨0, _⟩ => show r.val = o g 0 + r.val; rw [h0]; omega
    | ⟨1, _⟩ => rfl

/-- Four sinks as a column. -/
def stackS (x : Fin 4 → EReal) : FVec Ideal S512x1 .f32 :=
  concatenate S512x1 0 [⟨S128x1, broadcast S128x1 (x 0)⟩, ⟨S128x1, broadcast S128x1 (x 1)⟩, ⟨S128x1, broadcast S128x1 (x 2)⟩,
    ⟨S128x1, broadcast S128x1 (x 3)⟩] concatenates_S128x1_S128x1_S128x1_S128x1_S512x1_d0

theorem stackS_apply (x : Fin 4 → EReal) (g : Fin 4) (r : Fin 128) :
    stackS x (ix2 ⟨128 * g.val + r.val, by omega⟩ 0) = x g := by
  unfold stackS
  refine (concatenate_ofFn_apply (s₁ := S128x1) 0 (fun g : Fin 4 => broadcast S128x1 (x g))
    concatenates_S128x1_S128x1_S128x1_S128x1_S512x1_d0 rfl 128 rfl _ g ?_ (ix2 r 0) ?_ ?_).trans rfl
  · show (128 * g.val + r.val) / 128 = g.val
    omega
  · show r.val = (128 * g.val + r.val) % 128
    omega
  · intro b hb
    match b with
    | ⟨0, _⟩ => exact absurd rfl hb
    | ⟨1, _⟩ => rfl

/-- The block: eight heads' columns from the two halves. -/
def joined (x y : FVec Ideal S512x64 .f32) : FVec Ideal S128x512 .bf16 :=
  truncf .bf16 (concatenate S128x512 1
    [⟨S128x64, extractStridedSlice S128x64 ![0, 0] x slices_S512x64_o0_0_S128x64⟩, ⟨S128x64, extractStridedSlice S128x64 ![128, 0] x slices_S512x64_o128_0_S128x64⟩,
     ⟨S128x64, extractStridedSlice S128x64 ![256, 0] x slices_S512x64_o256_0_S128x64⟩, ⟨S128x64, extractStridedSlice S128x64 ![384, 0] x slices_S512x64_o384_0_S128x64⟩,
     ⟨S128x64, extractStridedSlice S128x64 ![0, 0] y slices_S512x64_o0_0_S128x64⟩, ⟨S128x64, extractStridedSlice S128x64 ![128, 0] y slices_S512x64_o128_0_S128x64⟩,
     ⟨S128x64, extractStridedSlice S128x64 ![256, 0] y slices_S512x64_o256_0_S128x64⟩, ⟨S128x64, extractStridedSlice S128x64 ![384, 0] y slices_S512x64_o384_0_S128x64⟩]
    concatenates_S128x64_S128x64_S128x64_S128x64_S128x64_S128x64_S128x64_S128x64_S128x512_d1) bitsLt_bf16_f32

theorem joined_apply (x y : FVec Ideal S512x64 .f32) (kv : Fin 2) (g : Fin 4) (r : Fin 128) (d : Fin 64) :
    joined x y (ix2 r ⟨256 * kv.val + 64 * g.val + d.val, by omega⟩)
      = (if kv = 0 then x else y) (ix2 ⟨128 * g.val + r.val, by omega⟩ d) := by
  have hs : ∀ g : Fin 4, S512x64.Slices ![128 * g.val, 0] S128x64 := fun g => by
    fin_cases g
    · exact slices_S512x64_o0_0_S128x64
    · exact slices_S512x64_o128_0_S128x64
    · exact slices_S512x64_o256_0_S128x64
    · exact slices_S512x64_o384_0_S128x64
  unfold joined
  rw [truncf_apply]
  refine (concatenate_ofFn_apply (s₁ := S128x64) 1
    (fun n : Fin 8 => extractStridedSlice S128x64 ![128 * (n.val % 4), 0] (if n.val / 4 = 0 then x else y) (hs ⟨n.val % 4, by omega⟩))
    concatenates_S128x64_S128x64_S128x64_S128x64_S128x64_S128x64_S128x64_S128x64_S128x512_d1 rfl 64 rfl _
      ⟨4 * kv.val + g.val, by omega⟩ ?_ (ix2 r d) ?_ ?_).trans ?_
  · show (256 * kv.val + 64 * g.val + d.val) / 64 = 4 * kv.val + g.val
    omega
  · show d.val = (256 * kv.val + 64 * g.val + d.val) % 64
    omega
  · intro b hb
    match b with
    | ⟨0, _⟩ => rfl
    | ⟨1, _⟩ => exact absurd rfl hb
  · have hq : (4 * kv.val + g.val) / 4 = kv.val := by omega
    have hr : (4 * kv.val + g.val) % 4 = g.val := by omega
    have hk : (if (4 * kv.val + g.val) / 4 = 0 then x else y) = if kv = 0 then x else y := by
      rw [hq]; fin_cases kv <;> rfl
    show extractStridedSlice S128x64 ![128 * ((4 * kv.val + g.val) % 4), 0] (if (4 * kv.val + g.val) / 4 = 0 then x else y) _ (ix2 r d) = _
    rw [hk]
    refine extractStridedSlice_apply _ _ _ _ _ fun a => ?_
    match a with
    | ⟨0, _⟩ => show 128 * g.val + r.val = 128 * ((4 * kv.val + g.val) % 4) + r.val; rw [hr]
    | ⟨1, _⟩ => show d.val = 0 + d.val; omega

end Cert.Attn

end
-- ==== Proof.AttnMath.lean ====
/- The attention's arithmetic on extended reals, away from any program: a positive real factor passes through a sum, the
   windowed row of 640 columns has the same sum and maximum as the row of all 2048 positions with the ones outside the
   window masked, and dividing after the weighted sum is dividing each weight. -/
module

public import Idealize.ShloMosaic.PureOps.Ideal.Laws

@[expose] public section

set_option backward.proofsInPublic true

noncomputable section

open scoped BigOperators

namespace Cert.Attn

open Idealize.ShloMosaic

/-- A nonnegative real factor passes through a finite sum. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A finite sum of reals is a real. -/
theorem sum_real {ι : Type*} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

/-- A finite sum of nonnegative reals is a nonnegative real. -/
theorem sum_real_nonneg {ι : Type*} (s : Finset ι) (f : ι → EReal) (h : ∀ i ∈ s, ∃ r : ℝ, 0 ≤ r ∧ f i = r) :
    ∃ r : ℝ, 0 ≤ r ∧ ∑ i ∈ s, f i = r := by
  obtain ⟨r, hr⟩ := sum_real s f fun i hi => (h i hi).imp fun _ h => h.2
  refine ⟨r, ?_, hr⟩
  have h0 : (0 : EReal) ≤ ∑ i ∈ s, f i := Finset.sum_nonneg fun i hi => by
    obtain ⟨x, hx, e⟩ := h i hi
    rw [e]; exact_mod_cast hx
  rw [hr] at h0
  exact_mod_cast h0

/-- The exponential of anything but `⊤`, less a real, is a nonnegative real. -/
theorem exp_sub_real (x : EReal) (m : ℝ) (hx : x ≠ ⊤) : ∃ r : ℝ, 0 ≤ r ∧ Ideal.exp (x - m) = r := by
  induction x with
  | bot => exact ⟨0, le_refl _, by rw [EReal.bot_sub, Ideal.exp_bot]; rfl⟩
  | coe x => exact ⟨Real.exp (x - m), (Real.exp_pos _).le, by rw [← EReal.coe_sub, Ideal.exp_coe]⟩
  | top => exact absurd rfl hx

/-! ## One row of the attention, written plainly -/

/-- The row's maximum. -/
def rowM (sm : Fin 2048 → EReal) (sc : Fin 256 → EReal) (sk : EReal) : EReal := max (max (Finset.univ.sup sm) (Finset.univ.sup sc)) sk

/-- The row's denominator. -/
def rowD (sm : Fin 2048 → EReal) (sc : Fin 256 → EReal) (sk : EReal) : EReal :=
  (∑ p, Ideal.exp (sm p - rowM sm sc sk)) + (∑ j, Ideal.exp (sc j - rowM sm sc sk)) + Ideal.exp (sk - rowM sm sc sk)

/-- The row's result. -/
def row (sm : Fin 2048 → EReal) (sc : Fin 256 → EReal) (sk : EReal) (v : Fin 2048 → EReal) (vc : Fin 256 → EReal) : EReal :=
  (∑ p, v p * Ideal.div (Ideal.exp (sm p - rowM sm sc sk)) (rowD sm sc sk))
    + ∑ j, vc j * Ideal.div (Ideal.exp (sc j - rowM sm sc sk)) (rowD sm sc sk)

/-- The maximum of finitely many values below `⊤` and a real is a real. -/
theorem rowM_real (sm : Fin 2048 → EReal) (sc : Fin 256 → EReal) (sk : EReal) (hs : ∀ p, sm p ≠ ⊤) (hc : ∀ j, sc j ≠ ⊤)
    (hk : ∃ r : ℝ, sk = r) : ∃ r : ℝ, rowM sm sc sk = r := by
  obtain ⟨k, rfl⟩ := hk
  have h1 : rowM sm sc k < ⊤ := by
    refine max_lt (max_lt ?_ ?_) (EReal.coe_lt_top k)
    · exact (Finset.sup_lt_iff bot_lt_top).mpr fun p _ => lt_top_iff_ne_top.mpr (hs p)
    · exact (Finset.sup_lt_iff bot_lt_top).mpr fun p _ => lt_top_iff_ne_top.mpr (hc p)
  have h2 : (⊥ : EReal) < rowM sm sc k := lt_of_lt_of_le (EReal.bot_lt_coe k) (le_max_right _ _)
  exact ⟨(rowM sm sc k).toReal, (EReal.coe_toReal h1.ne h2.ne').symm⟩

/-- Dividing the weighted sum by the denominator is weighting by the quotients. -/
theorem kernel_row (t w : Fin 640 → EReal) (sm : Fin 2048 → EReal) (sc : Fin 256 → EReal) (sk : EReal) (v : Fin 2048 → EReal)
    (vc : Fin 256 → EReal) (hs : ∀ p, sm p ≠ ⊤) (hc : ∀ j, sc j ≠ ⊤) (hk : ∃ r : ℝ, sk = r)
    (hsum : ∀ G : EReal → EReal → EReal, (∀ y, G ⊥ y = 0) → ∑ c, G (t c) (w c) = (∑ p, G (sm p) (v p)) + ∑ j, G (sc j) (vc j))
    (hsup : Finset.univ.sup t = max (Finset.univ.sup sm) (Finset.univ.sup sc)) :
    Ideal.div (∑ c, Ideal.exp (t c - max (Finset.univ.sup t) sk) * w c)
        ((∑ c, Ideal.exp (t c - max (Finset.univ.sup t) sk)) + Ideal.exp (sk - max (Finset.univ.sup t) sk))
      = row sm sc sk v vc := by
  have hM : max (Finset.univ.sup t) sk = rowM sm sc sk := by rw [hsup]; rfl
  rw [hM]
  obtain ⟨m, hm⟩ := rowM_real sm sc sk hs hc hk
  have hb : ∀ y : EReal, Ideal.exp ((⊥ : EReal) - rowM sm sc sk) * y = 0 := fun y => by
    rw [EReal.bot_sub, Ideal.exp_bot, zero_mul]
  have hD : (∑ c, Ideal.exp (t c - rowM sm sc sk)) + Ideal.exp (sk - rowM sm sc sk) = rowD sm sc sk := by
    unfold rowD
    rw [hsum (fun x _ => Ideal.exp (x - rowM sm sc sk)) fun y => by rw [EReal.bot_sub, Ideal.exp_bot]]
  rw [hD, hsum (fun x y => Ideal.exp (x - rowM sm sc sk) * y) hb]
  obtain ⟨d, hd0, hd⟩ : ∃ d : ℝ, 0 < d ∧ rowD sm sc sk = d := by
    obtain ⟨a, ha, ea⟩ := sum_real_nonneg Finset.univ (fun p => Ideal.exp (sm p - rowM sm sc sk)) fun p _ => by
      rw [hm]; exact exp_sub_real _ m (hs p)
    obtain ⟨b, hb, eb⟩ := sum_real_nonneg Finset.univ (fun j => Ideal.exp (sc j - rowM sm sc sk)) fun j _ => by
      rw [hm]; exact exp_sub_real _ m (hc j)
    obtain ⟨k, rfl⟩ := hk
    refine ⟨a + b + Real.exp (k - m), by have := Real.exp_pos (k - m); linarith, ?_⟩
    unfold rowD
    rw [ea, eb, hm, ← EReal.coe_sub, Ideal.exp_coe, EReal.coe_add, EReal.coe_add]
  unfold row
  rw [hd]
  have hdiv : ∀ x, Ideal.div x (d : EReal) = x * ((1 / d : ℝ) : EReal) := fun x => Ideal.div_coe hd0.ne' x
  have h1d : (0 : ℝ) ≤ 1 / d := by positivity
  simp only [hdiv]
  rw [EReal.right_distrib_of_nonneg_of_ne_top (by exact_mod_cast h1d) (EReal.coe_ne_top _), sum_mul_coe _ _ _ h1d,
    sum_mul_coe _ _ _ h1d]
  congr 1 <;> refine Finset.sum_congr rfl fun p _ => ?_
  · rw [mul_comm (Ideal.exp _) (v p), mul_assoc]
  · rw [mul_comm (Ideal.exp _) (vc p), mul_assoc]

/-! ## The window -/

/-- Column `c` of block `i`'s window is a position within reach of row `r`. -/
def valid (i r c : ℕ) : Prop := r ≤ c ∧ c ≤ r + 256 ∧ (0 < i ∨ 128 ≤ c) ∧ (i < 15 ∨ c < 256)

instance (i r c : ℕ) : Decidable (valid i r c) := by unfold valid; infer_instance

/-- Position `p` is within reach of position `n`. -/
def near (n p : ℕ) : Prop := p ≤ n + 128 ∧ n ≤ p + 128

instance (n p : ℕ) : Decidable (near n p) := by unfold near; infer_instance

section Window

variable (i r : ℕ) (hi : i < 16) (hr : r < 128) (t w : Fin 640 → EReal) (s v : Fin 2048 → EReal) (sc vc : Fin 256 → EReal)
  (hin : ∀ (c : ℕ) (hc : c < 384) (hp : 128 * i + c - 128 < 2048), valid i r c →
    t ⟨c, by omega⟩ = s ⟨128 * i + c - 128, hp⟩ ∧ w ⟨c, by omega⟩ = v ⟨128 * i + c - 128, hp⟩)
  (hout : ∀ (c : ℕ) (hc : c < 384), ¬ valid i r c → t ⟨c, by omega⟩ = ⊥)
  (hctx : ∀ j : Fin 256, t ⟨384 + j.val, by omega⟩ = sc j ∧ w ⟨384 + j.val, by omega⟩ = vc j)

include hi hr hin hout hctx

/-- The window's sums are the sums over all positions, those out of reach masked. -/
theorem window_sum (G : EReal → EReal → EReal) (hG : ∀ y, G ⊥ y = 0) :
    ∑ c, G (t c) (w c)
      = (∑ p : Fin 2048, G (if near (128 * i + r) p.val then s p else ⊥) (v p)) + ∑ j, G (sc j) (vc j) := by
  have hsplit : ∑ c, G (t c) (w c)
      = (∑ c : Fin 384, G (t ⟨c.val, by omega⟩) (w ⟨c.val, by omega⟩)) + ∑ j : Fin 256, G (t ⟨384 + j.val, by omega⟩) (w ⟨384 + j.val, by omega⟩) :=
    Fin.sum_univ_add (a := 384) (b := 256) fun c : Fin (384 + 256) => G (t c) (w c)
  rw [hsplit]
  congr 1
  · rw [← Finset.sum_filter_of_ne (p := fun c : Fin 384 => valid i r c.val) (fun c _ hc => by
        by_contra hv
        exact hc (by rw [hout c.val c.isLt hv, hG])),
      ← Finset.sum_filter_of_ne (p := fun p : Fin 2048 => near (128 * i + r) p.val) (s := Finset.univ)
        (f := fun p : Fin 2048 => G (if near (128 * i + r) p.val then s p else ⊥) (v p)) (fun p _ hp => by
        by_contra hv
        exact hp (by rw [if_neg hv, hG]))]
    refine Finset.sum_nbij' (fun c => (⟨min (128 * i + c.val - 128) 2047, by omega⟩ : Fin 2048))
      (fun p => (⟨min (p.val + 128 - 128 * i) 383, by omega⟩ : Fin 384)) ?_ ?_ ?_ ?_ ?_
    · intro c hc
      obtain ⟨h1, h2, h3, h4⟩ := (Finset.mem_filter.mp hc).2
      have := c.isLt
      refine Finset.mem_filter.mpr ⟨Finset.mem_univ _, ?_⟩
      show near (128 * i + r) (min (128 * i + c.val - 128) 2047)
      unfold near
      omega
    · intro p hp
      obtain ⟨h1, h2⟩ := (Finset.mem_filter.mp hp).2
      have := p.isLt
      refine Finset.mem_filter.mpr ⟨Finset.mem_univ _, ?_⟩
      show valid i r (min (p.val + 128 - 128 * i) 383)
      unfold valid
      omega
    · intro c hc
      obtain ⟨h1, h2, h3, h4⟩ := (Finset.mem_filter.mp hc).2
      have := c.isLt
      apply Fin.ext
      show min (min (128 * i + c.val - 128) 2047 + 128 - 128 * i) 383 = c.val
      omega
    · intro p hp
      obtain ⟨h1, h2⟩ := (Finset.mem_filter.mp hp).2
      have := p.isLt
      apply Fin.ext
      show min (128 * i + min (p.val + 128 - 128 * i) 383 - 128) 2047 = p.val
      omega
    · intro c hc
      replace hc := (Finset.mem_filter.mp hc).2
      have hlt := c.isLt
      obtain ⟨v1, v2, v3, v4⟩ := id hc
      have hp : 128 * i + c.val - 128 < 2048 := by omega
      have he : (⟨min (128 * i + c.val - 128) 2047, by omega⟩ : Fin 2048) = ⟨128 * i + c.val - 128, hp⟩ :=
        Fin.ext (by show min (128 * i + c.val - 128) 2047 = 128 * i + c.val - 128; omega)
      have hn : near (128 * i + r) (128 * i + c.val - 128) := by unfold near; omega
      obtain ⟨h1, h2⟩ := hin c.val hlt hp hc
      rw [h1, h2, he]
      show _ = G (if near (128 * i + r) (128 * i + c.val - 128) then _ else _) _
      rw [if_pos hn]
  · exact Finset.sum_congr rfl fun j _ => by rw [(hctx j).1, (hctx j).2]

/-- The window's maximum is the maximum over all positions, those out of reach masked. -/
theorem window_sup :
    Finset.univ.sup t
      = max (Finset.univ.sup fun p : Fin 2048 => if near (128 * i + r) p.val then s p else ⊥) (Finset.univ.sup sc) := by
  apply le_antisymm
  · refine Finset.sup_le fun c _ => ?_
    by_cases hc : c.val < 384
    · by_cases hv : valid i r c.val
      · have hp : 128 * i + c.val - 128 < 2048 := by unfold valid at hv; omega
        have hn : near (128 * i + r) (128 * i + c.val - 128) := by unfold near; unfold valid at hv; omega
        refine le_trans ?_ (le_max_left _ _)
        refine le_trans ?_ (Finset.le_sup (f := fun p : Fin 2048 => if near (128 * i + r) p.val then s p else ⊥)
          (Finset.mem_univ (⟨128 * i + c.val - 128, hp⟩ : Fin 2048)))
        show _ ≤ if near (128 * i + r) (128 * i + c.val - 128) then _ else _
        rw [if_pos hn]
        exact (hin c.val hc hp hv).1.le
      · exact le_trans (hout c.val hc hv).le bot_le
    · have hj : c.val - 384 < 256 := by have := c.isLt; omega
      refine le_trans ?_ (le_max_right _ _)
      refine le_trans (le_of_eq ?_) (Finset.le_sup (f := sc) (Finset.mem_univ ⟨c.val - 384, hj⟩))
      rw [← (hctx ⟨c.val - 384, hj⟩).1]
      congr 1
      exact Fin.ext (by show c.val = 384 + (c.val - 384); omega)
  · refine max_le (Finset.sup_le fun p _ => ?_) (Finset.sup_le fun j _ => ?_)
    · split_ifs with hn
      · have hlt := p.isLt
        unfold near at hn
        have hc : p.val + 128 - 128 * i < 384 := by omega
        have hv : valid i r (p.val + 128 - 128 * i) := by unfold valid; omega
        have hp : 128 * i + (p.val + 128 - 128 * i) - 128 < 2048 := by omega
        have he : (⟨128 * i + (p.val + 128 - 128 * i) - 128, hp⟩ : Fin 2048) = p := Fin.ext (by show _ - _ = _; omega)
        have h1 := (hin _ hc hp hv).1
        rw [he] at h1
        rw [← h1]
        exact Finset.le_sup (f := t) (Finset.mem_univ _)
      · exact bot_le
    · rw [← (hctx j).1]
      exact Finset.le_sup (f := t) (Finset.mem_univ _)

end Window

end Cert.Attn

end
-- ==== Proof.Tools.lean ====
/- Small general facts the three programs' value proofs share. -/
module

public import Idealize.ShloMosaic.PureOps.Ideal.Laws
public import Idealize.ShloMosaic.Lib.Pipeline.Value
public import Idealize.ShloMosaic.Lib.WholeRead
public import Idealize.ShloMosaic.Lib.ValueIdx

@[expose] public section

noncomputable section

namespace Cert.Tools

open Idealize.ShloMosaic Idealize.SL.Sem

/-- A load of the whole of a whole memref held at the contents that read `X` reads `X`. -/
theorem readAt_whole {sig : RefSig} {κ : Kind} {sp : Space} {s : Shape} {e : EltTy} {Val : EltTy → Type} {m : Memref sig κ sp s e}
    (h : m.IsWhole) (X : s.Idx → Val e) {off : Fin s.rank → Nat} (inb : ∀ a, off a + s.size a ≤ s.size a) :
    View.readAt Val m.view (Rect.unit off s.size inb).toLoadRect (h.unread X) = X := by
  funext x
  rw [h.readAt_unread]
  exact congrArg X (funext fun a => Fin.ext (by
    show off a + 1 * (x a).val = (x a).val
    have := inb a; omega))

/-- A load through a unit-stride rectangle, read at an index. -/
theorem ld_apply {Val : EltTy → Type} {S : Shape} {e : EltTy} (X : S.Idx → Val e) (off size : Fin S.rank → Nat)
    (inb : ∀ a, off a + size a ≤ S.size a) (x : (⟨S.rank, size⟩ : Shape).Idx) (k : S.Idx) (hk : ∀ a, (k a).val = off a + (x a).val) :
    View.ld X (Rect.unit off size inb) x = X k :=
  congrArg X (funext fun a => Fin.ext (by rw [hk a]; exact congrArg (off a + ·) (Nat.one_mul (x a).val)))

end Cert.Tools

end
-- ==== Proof.AttnKernel.lean ====
/- The attention kernel's stored block as one function of its input blocks. -/
module

public import proofs.«01_k».proof.Proof.Gen.KernelIdeal.Value
public import proofs.«01_k».proof.Proof.AttnBody
public import proofs.«01_k».proof.Proof.AttnMath
public import proofs.«01_k».proof.Proof.Tools
public import Idealize.ShloMosaic.Lib.WordCmp

@[expose] public section

noncomputable section

open scoped BigOperators

namespace Cert.Attn

open Idealize.ShloMosaic Idealize.ShloMosaic.WordCmp Idealize.ShloMosaic.ValueIdx Idealize.ShloMosaic.TcCoe Cert.KernelIdeal Cert.KernelIdeal.Gen

/-! ## The mask -/

/-- The mask of block `a1`'s window. -/
def mask (a1 : BitVec 32) : IVec S512x640 1 :=
  k0_pay6 a1 k0_pay5 (iota .tc S512x640 32 [1] iota_S512x640_d1_w32) (Scalar.select (Scalar.cmpi .sgt a1 0#32) 0#32 128#32) 15#32

theorem addi_at {s : Shape} {w : ℕ} (x y : IVec s w) (j : s.Idx) : addi x y j = IntOp.addi (x j) (y j) := rfl

theorem mask_apply (i : ℕ) (hi : i < 16) (a : Fin 512) (c : Fin 640) :
    mask (BitVec.ofNat 32 i) (ix2 a c) = 1#1 ↔ 384 ≤ c.val ∨ valid i (a.val % 128) c.val := by
  have hlo : Scalar.select (Scalar.cmpi .sgt (BitVec.ofNat 32 i) 0#32) 0#32 128#32 = BitVec.ofNat 32 (if 0 < i then 0 else 128) := by
    interval_cases i <;> rfl
  have hhi : Scalar.select (Scalar.cmpi .slt (BitVec.ofNat 32 i) 15#32) 384#32 256#32 = BitVec.ofNat 32 (if i < 15 then 384 else 256) := by
    interval_cases i <;> rfl
  have hR : IntOp.andi (BitVec.ofNat 32 a.val) 127#32 = BitVec.ofNat 32 (a.val % 128) := by
    apply BitVec.eq_of_toNat_eq
    show ((BitVec.ofNat 32 a.val) &&& 127#32).toNat = _
    have := a.isLt
    rw [BitVec.toNat_and, BitVec.toNat_ofNat, BitVec.toNat_ofNat, BitVec.toNat_ofNat, Nat.mod_eq_of_lt (by omega : a.val < 2 ^ 32),
      Nat.mod_eq_of_lt (by omega : a.val % 128 < 2 ^ 32)]
    exact Nat.and_two_pow_sub_one_eq_mod a.val 7
  have hRa : IntOp.addi (BitVec.ofNat 32 (a.val % 128)) 256#32 = BitVec.ofNat 32 (a.val % 128 + 256) := by
    apply BitVec.eq_of_toNat_eq
    show (BitVec.ofNat 32 (a.val % 128) + 256#32).toNat = _
    simp
  have hc := c.isLt
  have hr : a.val % 128 < 128 := Nat.mod_lt _ (by omega)
  have e : mask (BitVec.ofNat 32 i) (ix2 a c)
      = IntOp.ori (IntOp.cmpi .sge (BitVec.ofNat 32 c.val) (BitVec.ofNat 32 384))
          (IntOp.andi (IntOp.andi (IntOp.cmpi .sge (BitVec.ofNat 32 c.val) (BitVec.ofNat 32 (a.val % 128)))
              (IntOp.cmpi .sle (BitVec.ofNat 32 c.val) (BitVec.ofNat 32 (a.val % 128 + 256))))
            (IntOp.andi (IntOp.cmpi .sge (BitVec.ofNat 32 c.val) (BitVec.ofNat 32 (if 0 < i then 0 else 128)))
              (IntOp.cmpi .slt (BitVec.ofNat 32 c.val) (BitVec.ofNat 32 (if i < 15 then 384 else 256))))) := by
    rw [← hRa, ← hR, ← hlo, ← hhi]
    unfold mask k0_pay6 k0_pay5
    have h0 : (ix2 a c (0 : Fin 2)).val = a.val := rfl
    have h1 : (ix2 a c (1 : Fin 2)).val = c.val := rfl
    simp only [h0, h1, ori_at, andi_at, addi_at, cmpi_at, broadcast_apply, iota_at, List.foldl_cons, List.foldl_nil, Nat.zero_mul, Nat.zero_add]
  rw [e, cmpi_sge_ofNat (by omega) (by omega), cmpi_sge_ofNat (by omega) (by omega), cmpi_sle_ofNat (by omega) (by omega),
    cmpi_sge_ofNat (by omega) (by split_ifs <;> omega), cmpi_slt_ofNat (by omega) (by split_ifs <;> omega),
    andi_ofBool, andi_ofBool, andi_ofBool, ori_ofBool]
  have hb : ∀ b : Bool, BitVec.ofBool b = 1#1 ↔ b = true := by decide
  rw [hb]
  simp only [Bool.or_eq_true, Bool.and_eq_true, decide_eq_true_eq]
  unfold valid
  split_ifs <;> omega

/-! ## The block -/

/-- The offsets of the four heads of half `kv` among the query columns. -/
def offs (kv : Fin 2) (g : Fin 4) : Fin 2 → ℕ := ![0, 256 * kv.val + 64 * g.val]

theorem offs_slices (kv : Fin 2) : ∀ g, S128x512.Slices (offs kv g) S128x64 := fun g => by
  fin_cases kv <;> fin_cases g
  · exact slices_S128x512_o0_0_S128x64
  · exact slices_S128x512_o0_64_S128x64
  · exact slices_S128x512_o0_128_S128x64
  · exact slices_S128x512_o0_192_S128x64
  · exact slices_S128x512_o0_256_S128x64
  · exact slices_S128x512_o0_320_S128x64
  · exact slices_S128x512_o0_384_S128x64
  · exact slices_S128x512_o0_448_S128x64

theorem kv_slices (kv : Fin 2) : S640x128.Slices ![0, 64 * kv.val] S640x64 := by
  fin_cases kv
  · exact slices_S640x128_o0_0_S640x64
  · exact slices_S640x128_o0_64_S640x64

/-- The result of half `kv`, from the block's queries, keys, values and sinks. -/
def halfOf (a1 : BitVec 32) (x0 : FVec Ideal S8 .f32) (q : FVec Ideal S128x512 .bf16) (k v : FVec Ideal S640x128 .bf16) (kv : Fin 2) :
    FVec Ideal S512x64 .f32 :=
  half (mask a1) (stackQ (offs kv) (offs_slices kv) q) (extractStridedSlice S640x64 ![0, 64 * kv.val] k (kv_slices kv))
    (extractStridedSlice S640x64 ![0, 64 * kv.val] v (kv_slices kv)) (stackS fun g => x0 (ix1 ⟨4 * kv.val + g.val, by omega⟩))

/-- The stored block. -/
def block (a1 : BitVec 32) (x0 : FVec Ideal S8 .f32) (x1 : FVec Ideal S1x128x512 .bf16) (x2 x3 x4 x5 x6 x7 : FVec Ideal S1x128x128 .bf16)
    (x8 x9 : FVec Ideal S1x256x128 .bf16) : FVec Ideal S1x128x512 .bf16 :=
  k0_pay1 (joined (halfOf a1 x0 (k0_pay4 x1) (k0_pay2 x2 x3 x4 x8) (k0_pay3 x5 x6 x7 x9) 0)
    (halfOf a1 x0 (k0_pay4 x1) (k0_pay2 x2 x3 x4 x8) (k0_pay3 x5 x6 x7 x9) 1))

/-- The stored payload is the two halves joined. -/
theorem pay_eq (a1 : BitVec 32) (x0 : FVec Ideal S8 .f32) (q : FVec Ideal S128x512 .bf16) (k v : FVec Ideal S640x128 .bf16) :
    k0_pay14 k v q (mask a1)
      (k0_pay11 a1 k q k0_pay5 (iota .tc S512x640 32 [1] iota_S512x640_d1_w32) (Scalar.select (Scalar.cmpi .sgt a1 0#32) 0#32 128#32) 15#32
        (x0 (ix1 ⟨0, by omega⟩)) (x0 (ix1 ⟨1, by omega⟩)) (x0 (ix1 ⟨2, by omega⟩)) (x0 (ix1 ⟨3, by omega⟩)))
      (k0_pay12 a1 k q k0_pay5 (iota .tc S512x640 32 [1] iota_S512x640_d1_w32) (Scalar.select (Scalar.cmpi .sgt a1 0#32) 0#32 128#32) 15#32
        (x0 (ix1 ⟨0, by omega⟩)) (x0 (ix1 ⟨1, by omega⟩)) (x0 (ix1 ⟨2, by omega⟩)) (x0 (ix1 ⟨3, by omega⟩)))
      (k0_pay13 v) (constant S512x64 .f32 0x00000000#32)
      (x0 (ix1 ⟨4, by omega⟩)) (x0 (ix1 ⟨5, by omega⟩)) (x0 (ix1 ⟨6, by omega⟩)) (x0 (ix1 ⟨7, by omega⟩))
      = joined (halfOf a1 x0 q k v 0) (halfOf a1 x0 q k v 1) := rfl

/-- A scalar load of word `k` of the sinks reads that word. -/
theorem readAt_word {m : Memref sig .tc .smem S8 .f32} (h : m.IsWhole) (X : FVec Ideal S8 .f32) (k : ℕ) (hk : k < 8)
    (inb : ∀ a, (![k] : Fin 1 → ℕ) a + S1.size a ≤ S8.size a) (x : S1.Idx) :
    View.readAt (Elt Ideal) m.view (Rect.unit (s := S8) ![k] S1.size inb).toLoadRect (h.unread X) x = X (ix1 ⟨k, hk⟩) := by
  rw [h.readAt_unread]
  refine congrArg X (funext fun a => Fin.ext ?_)
  match a with
  | ⟨0, _⟩ =>
    have h0 : (x 0).val < 1 := (x 0).isLt
    show k + 1 * (x 0).val = k
    omega

/-- The body leaves the block in the output's staging buffer. -/
theorem out_eq (c : Dev nD) (i : grid0.Coords) (arg2 : Memref sig .tc .smem S8 .f32) (harg2 : arg2.IsWhole) (arg3 : Memref sig .tc .vmem S1x128x512 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x128x128 .bf16) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x128x128 .bf16) (harg9 : arg9.IsWhole) (arg10 : Memref sig .tc .vmem S1x256x128 .bf16) (harg10 : arg10.IsWhole) (arg11 : Memref sig .tc .vmem S1x256x128 .bf16) (harg11 : arg11.IsWhole) (arg12 : Memref sig .tc .vmem S1x128x512 .bf16) (harg12 : arg12.IsWhole)
    (x0 : Vec Ideal S8 .f32) (x1 : Vec Ideal S1x128x512 .bf16) (x2 : Vec Ideal S1x128x128 .bf16) (x3 : Vec Ideal S1x128x128 .bf16) (x4 : Vec Ideal S1x128x128 .bf16) (x5 : Vec Ideal S1x128x128 .bf16) (x6 : Vec Ideal S1x128x128 .bf16) (x7 : Vec Ideal S1x128x128 .bf16) (x8 : Vec Ideal S1x256x128 .bf16) (x9 : Vec Ideal S1x256x128 .bf16) :
    out0_A_10 (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 x9
      = block (BitVec.ofNat 32 (i 1).val) x0 x1 x2 x3 x4 x5 x6 x7 x8 x9 := by
  have hz : (![0, 0, 0] : Fin 3 → Nat) = fun _ => 0 := funext fun a => by fin_cases a <;> rfl
  unfold out0_A_10
  rw [View.read_writes_junk_eq_canon]
  dsimp only [kernelRun0_A]
  refine (View.canon_unit_zero hz inb_S1x128x512_S1x128x512_0_0_0 _).trans ?_
  refine congrArg k0_pay1 ?_
  simp only [kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r]
  rw [Tools.readAt_whole harg3 x1, Tools.readAt_whole harg4 x2, Tools.readAt_whole harg5 x3, Tools.readAt_whole harg6 x4, Tools.readAt_whole harg7 x5, Tools.readAt_whole harg8 x6, Tools.readAt_whole harg9 x7, Tools.readAt_whole harg10 x8, Tools.readAt_whole harg11 x9]
  rw [readAt_word harg2 x0 0 (by omega)]
  rw [readAt_word harg2 x0 1 (by omega)]
  rw [readAt_word harg2 x0 2 (by omega)]
  rw [readAt_word harg2 x0 3 (by omega)]
  rw [readAt_word harg2 x0 4 (by omega)]
  rw [readAt_word harg2 x0 5 (by omega)]
  rw [readAt_word harg2 x0 6 (by omega)]
  rw [readAt_word harg2 x0 7 (by omega)]
  exact pay_eq (BitVec.ofNat 32 (i 1).val) x0 _ _ _

end Cert.Attn

end
-- ==== Proof.AttnBlock.lean ====
/- The attention kernel's stored block at an index: one row of the attention, over the whole sequence. -/
module

public import proofs.«01_k».proof.Proof.AttnKernel

@[expose] public section

set_option backward.proofsInPublic true

noncomputable section

open scoped BigOperators

namespace Cert.Attn

open Idealize.ShloMosaic Idealize.ShloMosaic.ValueIdx Idealize.ShloMosaic.TcCoe Cert.KernelIdeal Cert.KernelIdeal.Gen

/-! ## The window's keys and values -/

/-- The pieces joined. -/
abbrev pieces (x : Fin 3 → FVec Ideal S1x128x128 .bf16) (y : FVec Ideal S1x256x128 .bf16) : List ((s : Shape) × (s.Idx → EReal)) :=
  [⟨S128x128, shapeCast S128x128 (x 0) shapeCasts_S1x128x128_S128x128⟩, ⟨S128x128, shapeCast S128x128 (x 1) shapeCasts_S1x128x128_S128x128⟩,
    ⟨S128x128, shapeCast S128x128 (x 2) shapeCasts_S1x128x128_S128x128⟩, ⟨S256x128, shapeCast S256x128 y shapeCasts_S1x256x128_S256x128⟩]

/-- A row of one of the three window blocks. -/
theorem pay2_block (x : Fin 3 → FVec Ideal S1x128x128 .bf16) (y : FVec Ideal S1x256x128 .bf16) (n : Fin 3) (r : Fin 128) (e : Fin 128) :
    k0_pay2 (x 0) (x 1) (x 2) y (ix2 ⟨128 * n.val + r.val, by omega⟩ e) = x n (ix3 0 r e) := by
  unfold k0_pay2
  refine (concatenate_apply_piece (s₁ := S128x128) 0 (pieces x y) concatenates_S128x128_S128x128_S128x128_S256x128_S640x128_d0 _ n.val
    (by have := n.isLt; show n.val < 4; omega) (shapeCast S128x128 (x n) shapeCasts_S1x128x128_S128x128) ?_ rfl (128 * n.val) ?_ (ix2 r e) ?_ ?_).trans ?_
  · fin_cases n <;> rfl
  · fin_cases n <;> rfl
  · intro b hb
    match b with
    | ⟨0, _⟩ => exact absurd rfl hb
    | ⟨1, _⟩ => rfl
  · rfl
  · exact shapeCast_apply _ _ _ (ix3 0 r e) (by rw [Shape.rowMajor_val_two, Shape.rowMajor_val_three]; simp)

/-- A row of the context block. -/
theorem pay2_ctx (x : Fin 3 → FVec Ideal S1x128x128 .bf16) (y : FVec Ideal S1x256x128 .bf16) (j : Fin 256) (e : Fin 128) :
    k0_pay2 (x 0) (x 1) (x 2) y (ix2 ⟨384 + j.val, by omega⟩ e) = y (ix3 0 j e) := by
  unfold k0_pay2
  refine (concatenate_apply_piece (s₁ := S256x128) 0 (pieces x y) concatenates_S128x128_S128x128_S128x128_S256x128_S640x128_d0 _ 3
    (by show 3 < 4; omega) (shapeCast S256x128 y shapeCasts_S1x256x128_S256x128) rfl rfl 384 rfl (ix2 j e) ?_ ?_).trans ?_
  · intro b hb
    match b with
    | ⟨0, _⟩ => exact absurd rfl hb
    | ⟨1, _⟩ => rfl
  · rfl
  · exact shapeCast_apply _ _ _ (ix3 0 j e) (by rw [Shape.rowMajor_val_two, Shape.rowMajor_val_three]; simp)

/-- One half's columns of the keys or the values. -/
theorem half_col (x : FVec Ideal S640x128 .bf16) (kv : Fin 2) (c : Fin 640) (e : Fin 64) :
    extractStridedSlice S640x64 ![0, 64 * kv.val] x (kv_slices kv) (ix2 c e) = x (ix2 c ⟨64 * kv.val + e.val, by omega⟩) :=
  extractStridedSlice_apply _ _ _ _ _ fun d => by
    match d with
    | ⟨0, _⟩ => show c.val = 0 + c.val; omega
    | ⟨1, _⟩ => rfl

/-! ## The block at an index -/

/-- The score of position `n`'s head `4 * kv + g` against row `p` of the keys of batch `b`. -/
def score {P : ℕ} (Q : FVec Ideal S32x2048x512 .bf16) (K : Fin 32 → Fin P → Fin 128 → EReal) (b : Fin 32) (n : Fin 2048) (kv : Fin 2) (g : Fin 4) (p : Fin P) : EReal :=
  ∑ e : Fin 64, Q (ix3 b n ⟨256 * kv.val + 64 * g.val + e.val, by omega⟩) * K b p ⟨64 * kv.val + e.val, by omega⟩

/-- The attention of position `n`, head `4 * kv + g`, at its column `d`. -/
def result (s : FVec Ideal S8 .f32) (Q : FVec Ideal S32x2048x512 .bf16) (K V : FVec Ideal S32x2048x128 .bf16) (KC VC : FVec Ideal S32x256x128 .bf16)
    (b : Fin 32) (n : Fin 2048) (kv : Fin 2) (g : Fin 4) (d : Fin 64) : EReal :=
  row (fun p => if near n.val p.val then score Q (fun b p e => K (ix3 b p e)) b n kv g p else ⊥)
    (score Q (fun b p e => KC (ix3 b p e)) b n kv g) (s (ix1 ⟨4 * kv.val + g.val, by omega⟩))
    (fun p => V (ix3 b p ⟨64 * kv.val + d.val, by omega⟩)) (fun j => VC (ix3 b j ⟨64 * kv.val + d.val, by omega⟩))

/-- The stacked queries at an index. -/
theorem stacked (x : FVec Ideal S1x128x512 .bf16) (kv : Fin 2) (g : Fin 4) (r : Fin 128) (e : Fin 64) :
    stackQ (offs kv) (offs_slices kv) (k0_pay4 x) (ix2 ⟨128 * g.val + r.val, by omega⟩ e)
      = x (ix3 0 r ⟨256 * kv.val + 64 * g.val + e.val, by omega⟩) := by
  refine (stackQ_apply (offs kv) (offs_slices kv) (k0_pay4 x) (fun _ => rfl) g r e (by show 256 * kv.val + 64 * g.val + e.val < 512; omega)).trans ?_
  unfold k0_pay4
  exact shapeCast_apply _ _ _ (ix3 0 r ⟨256 * kv.val + 64 * g.val + e.val, by omega⟩)
    (by rw [Shape.rowMajor_val_two, Shape.rowMajor_val_three]; simp [offs])

/-- The masked score of row `r` against row `c` of the window. -/
def scoreAt (i : ℕ) (b : Fin 32) (Q : FVec Ideal S32x2048x512 .bf16) (k : Fin 3 → FVec Ideal S1x128x128 .bf16) (x8 : FVec Ideal S1x256x128 .bf16)
    (n : Fin 2048) (r : Fin 128) (kv : Fin 2) (g : Fin 4) (c : Fin 640) : EReal :=
  if 384 ≤ c.val ∨ valid i r.val c.val then
    ∑ e : Fin 64, Q (ix3 b n ⟨256 * kv.val + 64 * g.val + e.val, by omega⟩)
      * k0_pay2 (F := Ideal) (k 0) (k 1) (k 2) x8 (ix2 c ⟨64 * kv.val + e.val, by omega⟩)
  else ⊥

/-- Row `c` of the window's values. -/
def valueAt (v : Fin 3 → FVec Ideal S1x128x128 .bf16) (x9 : FVec Ideal S1x256x128 .bf16) (kv : Fin 2) (d : Fin 64) (c : Fin 640) : EReal :=
  k0_pay2 (F := Ideal) (v 0) (v 1) (v 2) x9 (ix2 c ⟨64 * kv.val + d.val, by omega⟩)

section

variable (i : ℕ) (hi : i < 16) (b : Fin 32)
  (s : FVec Ideal S8 .f32) (Q : FVec Ideal S32x2048x512 .bf16) (K V : FVec Ideal S32x2048x128 .bf16) (KC VC : FVec Ideal S32x256x128 .bf16)
  (x1 : FVec Ideal S1x128x512 .bf16) (k v : Fin 3 → FVec Ideal S1x128x128 .bf16) (x8 x9 : FVec Ideal S1x256x128 .bf16)
  (hq : ∀ (r : Fin 128) (c : Fin 512), x1 (ix3 0 r c) = Q (ix3 b ⟨128 * i + r.val, by omega⟩ c))
  (hk : ∀ (n : Fin 3) (r : Fin 128) (e : Fin 128) (hp : 128 * i + (128 * n.val + r.val) - 128 < 2048), 128 ≤ 128 * i + (128 * n.val + r.val) →
    k n (ix3 0 r e) = K (ix3 b ⟨128 * i + (128 * n.val + r.val) - 128, hp⟩ e))
  (hv : ∀ (n : Fin 3) (r : Fin 128) (e : Fin 128) (hp : 128 * i + (128 * n.val + r.val) - 128 < 2048), 128 ≤ 128 * i + (128 * n.val + r.val) →
    v n (ix3 0 r e) = V (ix3 b ⟨128 * i + (128 * n.val + r.val) - 128, hp⟩ e))
  (hkc : ∀ (j : Fin 256) (e : Fin 128), x8 (ix3 0 j e) = KC (ix3 b j e))
  (hvc : ∀ (j : Fin 256) (e : Fin 128), x9 (ix3 0 j e) = VC (ix3 b j e))

include hi hq hk hv hkc hvc in
/-- The stored block at an index. -/
theorem block_apply (hs : ∀ n kv g p, score Q (fun b p e => K (ix3 b p e)) b n kv g p ≠ ⊤)
    (hc : ∀ n kv g p, score Q (fun b p e => KC (ix3 b p e)) b n kv g p ≠ ⊤) (hsk : ∀ h, ∃ x : ℝ, s h = x)
    (r : Fin 128) (kv : Fin 2) (g : Fin 4) (d : Fin 64) :
    block (BitVec.ofNat 32 i) s x1 (k 0) (k 1) (k 2) (v 0) (v 1) (v 2) x8 x9 (ix3 0 r ⟨256 * kv.val + 64 * g.val + d.val, by omega⟩)
      = result s Q K V KC VC b ⟨128 * i + r.val, by omega⟩ kv g d := by
  have hhalf : block (BitVec.ofNat 32 i) s x1 (k 0) (k 1) (k 2) (v 0) (v 1) (v 2) x8 x9 (ix3 0 r ⟨256 * kv.val + 64 * g.val + d.val, by omega⟩)
      = halfOf (BitVec.ofNat 32 i) s (k0_pay4 x1) (k0_pay2 (k 0) (k 1) (k 2) x8) (k0_pay2 (v 0) (v 1) (v 2) x9) kv (ix2 ⟨128 * g.val + r.val, by omega⟩ d) := by
    unfold block k0_pay1
    refine (shapeCast_apply _ _ _ (ix2 r ⟨256 * kv.val + 64 * g.val + d.val, by omega⟩)
      (by rw [Shape.rowMajor_val_two, Shape.rowMajor_val_three]; simp)).trans ?_
    rw [joined_apply]
    fin_cases kv <;> rfl
  rw [hhalf]
  have ha : (128 * g.val + r.val) % 128 = r.val := by omega
  have hsc : ∀ c : Fin 640, scores (mask (BitVec.ofNat 32 i)) (stackQ (offs kv) (offs_slices kv) (k0_pay4 x1))
        (extractStridedSlice S640x64 ![0, 64 * kv.val] (k0_pay2 (k 0) (k 1) (k 2) x8) (kv_slices kv)) (ix2 ⟨128 * g.val + r.val, by omega⟩ c)
      = if 384 ≤ c.val ∨ valid i r.val c.val then
          ∑ e : Fin 64, Q (ix3 b ⟨128 * i + r.val, by omega⟩ ⟨256 * kv.val + 64 * g.val + e.val, by omega⟩)
            * k0_pay2 (k 0) (k 1) (k 2) x8 (ix2 c ⟨64 * kv.val + e.val, by omega⟩)
        else (⊥ : EReal) := fun c => by
    rw [scores_apply]
    have hm := mask_apply i hi ⟨128 * g.val + r.val, by omega⟩ c
    simp only [ha] at hm
    refine if_congr hm (Finset.sum_congr rfl fun e _ => ?_) rfl
    rw [stacked x1 kv g r e, hq r _, half_col]
  have hkw : ∀ (c : ℕ) (hc : c < 384) (hp : 128 * i + c - 128 < 2048) (e : Fin 128), 128 ≤ 128 * i + c →
      k0_pay2 (k 0) (k 1) (k 2) x8 (ix2 ⟨c, by omega⟩ e) = K (ix3 b ⟨128 * i + c - 128, hp⟩ e)
      ∧ k0_pay2 (v 0) (v 1) (v 2) x9 (ix2 ⟨c, by omega⟩ e) = V (ix3 b ⟨128 * i + c - 128, hp⟩ e) := fun c hc hp e hlo => by
    obtain ⟨n, q, rfl⟩ : ∃ (n : Fin 3) (q : Fin 128), c = 128 * n.val + q.val :=
      ⟨⟨c / 128, by omega⟩, ⟨c % 128, by omega⟩, by show c = 128 * (c / 128) + c % 128; omega⟩
    exact ⟨(pay2_block k x8 n q e).trans (hk n q e hp hlo), (pay2_block v x9 n q e).trans (hv n q e hp hlo)⟩
  unfold halfOf
  rw [half_apply, denoms_apply, rowMax_apply, stackS_apply]
  simp only [hsc, half_col]
  show Ideal.div (∑ c, Ideal.exp (scoreAt i b Q k x8 ⟨128 * i + r.val, by omega⟩ r kv g c - max (Finset.univ.sup (scoreAt i b Q k x8 ⟨128 * i + r.val, by omega⟩ r kv g)) _) * valueAt v x9 kv d c)
    ((∑ c, Ideal.exp (scoreAt i b Q k x8 ⟨128 * i + r.val, by omega⟩ r kv g c - max (Finset.univ.sup (scoreAt i b Q k x8 ⟨128 * i + r.val, by omega⟩ r kv g)) _)) + _) = _
  have hin : ∀ (c : ℕ) (hc : c < 384) (hp : 128 * i + c - 128 < 2048), valid i r.val c →
      scoreAt i b Q k x8 ⟨128 * i + r.val, by omega⟩ r kv g ⟨c, by omega⟩ = score Q (fun b p e => K (ix3 b p e)) b ⟨128 * i + r.val, by omega⟩ kv g ⟨128 * i + c - 128, hp⟩
      ∧ valueAt v x9 kv d ⟨c, by omega⟩ = V (ix3 b ⟨128 * i + c - 128, hp⟩ ⟨64 * kv.val + d.val, by omega⟩) := fun c hc hp hval => by
    have hlo : 128 ≤ 128 * i + c := by unfold valid at hval; omega
    refine ⟨?_, (hkw c hc hp _ hlo).2⟩
    unfold scoreAt
    rw [if_pos (Or.inr hval)]
    exact Finset.sum_congr rfl fun e _ => congrArg _ (hkw c hc hp _ hlo).1
  have hout : ∀ (c : ℕ) (hc : c < 384), ¬ valid i r.val c → scoreAt i b Q k x8 ⟨128 * i + r.val, by omega⟩ r kv g ⟨c, by omega⟩ = ⊥ := fun c hc hval => by
    unfold scoreAt
    rw [if_neg (by rintro (h | h); exacts [absurd h (by show ¬ 384 ≤ c; omega), hval h])]
  have hctx : ∀ j : Fin 256, scoreAt i b Q k x8 ⟨128 * i + r.val, by omega⟩ r kv g ⟨384 + j.val, by omega⟩ = score Q (fun b p e => KC (ix3 b p e)) b ⟨128 * i + r.val, by omega⟩ kv g j
      ∧ valueAt v x9 kv d ⟨384 + j.val, by omega⟩ = VC (ix3 b j ⟨64 * kv.val + d.val, by omega⟩) := fun j => by
    refine ⟨?_, (pay2_ctx v x9 j _).trans (hvc j _)⟩
    unfold scoreAt
    rw [if_pos (Or.inl (Nat.le_add_right 384 j.val))]
    exact Finset.sum_congr rfl fun e _ => congrArg _ ((pay2_ctx k x8 j _).trans (hkc j _))
  exact kernel_row (scoreAt i b Q k x8 ⟨128 * i + r.val, by omega⟩ r kv g) (valueAt v x9 kv d)
    (fun p => if near (128 * i + r.val) p.val then score Q (fun b p e => K (ix3 b p e)) b ⟨128 * i + r.val, by omega⟩ kv g p else ⊥)
    (score Q (fun b p e => KC (ix3 b p e)) b ⟨128 * i + r.val, by omega⟩ kv g) (s (ix1 ⟨4 * kv.val + g.val, by omega⟩))
    (fun p => V (ix3 b p ⟨64 * kv.val + d.val, by omega⟩)) (fun j => VC (ix3 b j ⟨64 * kv.val + d.val, by omega⟩))
    (fun p => by split_ifs; exacts [hs _ _ _ _, bot_ne_top]) (fun j => hc _ _ _ j) (hsk _)
    (fun G hG => window_sum i r.val hi r.isLt (scoreAt i b Q k x8 ⟨128 * i + r.val, by omega⟩ r kv g) (valueAt v x9 kv d) (score Q (fun b p e => K (ix3 b p e)) b ⟨128 * i + r.val, by omega⟩ kv g)
      (fun p => V (ix3 b p ⟨64 * kv.val + d.val, by omega⟩)) (score Q (fun b p e => KC (ix3 b p e)) b ⟨128 * i + r.val, by omega⟩ kv g)
      (fun j => VC (ix3 b j ⟨64 * kv.val + d.val, by omega⟩)) hin hout hctx G hG) (window_sup i r.val hi r.isLt (scoreAt i b Q k x8 ⟨128 * i + r.val, by omega⟩ r kv g) (valueAt v x9 kv d) (score Q (fun b p e => K (ix3 b p e)) b ⟨128 * i + r.val, by omega⟩ kv g)
      (fun p => V (ix3 b p ⟨64 * kv.val + d.val, by omega⟩)) (score Q (fun b p e => KC (ix3 b p e)) b ⟨128 * i + r.val, by omega⟩ kv g)
      (fun j => VC (ix3 b j ⟨64 * kv.val + d.val, by omega⟩)) hin hout hctx)

end

end Cert.Attn

end
-- ==== Proof.AttnArray.lean ====
/- The attention kernel's result array as one function of the argument arrays. -/
module

public import proofs.«01_k».proof.Proof.AttnBlock

@[expose] public section

set_option backward.proofsInPublic true

noncomputable section

open scoped BigOperators

namespace Cert.Attn

open Idealize.ShloMosaic Idealize.ShloMosaic.ValueIdx Idealize.ShloMosaic.TcCoe Idealize.SL.Sem Cert.KernelIdeal Cert.KernelIdeal.Gen
  Cert.KernelIdeal.Value

/-- The array of `result`s. -/
def G (s : FVec Ideal S8 .f32) (Q : FVec Ideal S32x2048x512 .bf16) (K V : FVec Ideal S32x2048x128 .bf16) (KC VC : FVec Ideal S32x256x128 .bf16) :
    FVec Ideal S32x2048x512 .bf16 := fun j =>
  result s Q K V KC VC (j 0) (j 1) ⟨(j 2).val / 256, by have h : (j 2).val < 512 := (j 2).isLt; omega⟩
    ⟨(j 2).val / 64 % 4, by omega⟩ ⟨(j 2).val % 64, by omega⟩

theorem G_apply (s : FVec Ideal S8 .f32) (Q : FVec Ideal S32x2048x512 .bf16) (K V : FVec Ideal S32x2048x128 .bf16) (KC VC : FVec Ideal S32x256x128 .bf16)
    (b : Fin 32) (n : Fin 2048) (kv : Fin 2) (g : Fin 4) (d : Fin 64) :
    G s Q K V KC VC (ix3 b n ⟨256 * kv.val + 64 * g.val + d.val, by omega⟩) = result s Q K V KC VC b n kv g d := by
  have h1 : (256 * kv.val + 64 * g.val + d.val) / 256 = kv.val := by omega
  have h2 : (256 * kv.val + 64 * g.val + d.val) / 64 % 4 = g.val := by omega
  have h3 : (256 * kv.val + 64 * g.val + d.val) % 64 = d.val := by omega
  show result s Q K V KC VC b n ⟨(256 * kv.val + 64 * g.val + d.val) / 256, _⟩ ⟨(256 * kv.val + 64 * g.val + d.val) / 64 % 4, _⟩
    ⟨(256 * kv.val + 64 * g.val + d.val) % 64, _⟩ = _
  simp only [h1, h2, h3]

/-! ## The windows -/

/-- The batch of a grid point. -/
def bOf (t : Fin cfg0.N) : Fin 32 := ⟨t.val / 16, by have h : t.val < 512 := t.isLt; omega⟩

theorem coord (t : Fin cfg0.N) : (grid0.coords t 1).val = t.val % 16 :=
  (by decide +kernel : ∀ t : Fin grid0.N, (grid0.coords t 1).val = t.val % 16) t
theorem idx0 (t : Fin cfg0.N) : win0_0.index t (0 : Fin 1) = 0 :=
  (by decide +kernel : ∀ t : Fin grid0.N, win0_0.index t (0 : Fin 1) = 0) t
theorem idx1 (t : Fin cfg0.N) : win0_1.index t (0 : Fin 3) = t.val / 16 ∧ win0_1.index t (1 : Fin 3) = t.val % 16 ∧ win0_1.index t (2 : Fin 3) = 0 :=
  (by decide +kernel : ∀ t : Fin grid0.N, win0_1.index t (0 : Fin 3) = t.val / 16 ∧ win0_1.index t (1 : Fin 3) = t.val % 16 ∧ win0_1.index t (2 : Fin 3) = 0) t
theorem idx2 (t : Fin cfg0.N) : win0_2.index t (0 : Fin 3) = t.val / 16 ∧ win0_2.index t (1 : Fin 3) = t.val % 16 - 1 ∧ win0_2.index t (2 : Fin 3) = 0 :=
  (by decide +kernel : ∀ t : Fin grid0.N, win0_2.index t (0 : Fin 3) = t.val / 16 ∧ win0_2.index t (1 : Fin 3) = t.val % 16 - 1 ∧ win0_2.index t (2 : Fin 3) = 0) t
theorem idx4 (t : Fin cfg0.N) : win0_4.index t (0 : Fin 3) = t.val / 16 ∧ win0_4.index t (1 : Fin 3) = min (t.val % 16 + 1) 15 ∧ win0_4.index t (2 : Fin 3) = 0 :=
  (by decide +kernel : ∀ t : Fin grid0.N, win0_4.index t (0 : Fin 3) = t.val / 16 ∧ win0_4.index t (1 : Fin 3) = min (t.val % 16 + 1) 15 ∧ win0_4.index t (2 : Fin 3) = 0) t
theorem idx8 (t : Fin cfg0.N) : win0_8.index t (0 : Fin 3) = t.val / 16 ∧ win0_8.index t (1 : Fin 3) = 0 ∧ win0_8.index t (2 : Fin 3) = 0 :=
  (by decide +kernel : ∀ t : Fin grid0.N, win0_8.index t (0 : Fin 3) = t.val / 16 ∧ win0_8.index t (1 : Fin 3) = 0 ∧ win0_8.index t (2 : Fin 3) = 0) t

variable (m : (ℓ : Loc nD τ sig) → Buf (Elt Ideal) ℓ) (ρ : Dev nD → PrngReg)

/-- The sinks are read whole. -/
theorem iblk0_eq (c : Dev nD) (t : Fin cfg0.N) : iblk m c 0 t = V m c main_arg0 := by
  funext j
  show V m c main_arg0 (((cfg0.win 0).blk t).view.emb j) = V m c main_arg0 j
  refine congrArg (V m c main_arg0) (funext fun a => Fin.ext ?_)
  have e := idx0 t
  match a with
  | ⟨0, _⟩ => show win0_0.index t (0 : Fin 1) * 8 + 1 * (j 0).val = (j 0).val; omega

/-- A row of the query block. -/
theorem iblk1_apply (c : Dev nD) (t : Fin cfg0.N) (r : Fin 128) (e : Fin 512) :
    iblk m c 1 t (ix3 0 r e) = V m c main_v2 (ix3 (bOf t) ⟨128 * (t.val % 16) + r.val, by omega⟩ e) := by
  show V m c main_v2 (((cfg0.win 1).blk t).view.emb (ix3 0 r e)) = _
  refine congrArg (V m c main_v2) (funext fun a => Fin.ext ?_)
  obtain ⟨e0, e1, e2⟩ := idx1 t
  match a with
  | ⟨0, _⟩ => show win0_1.index t (0 : Fin 3) * 1 + 1 * 0 = t.val / 16; omega
  | ⟨1, _⟩ => show win0_1.index t (1 : Fin 3) * 128 + 1 * r.val = 128 * (t.val % 16) + r.val; omega
  | ⟨2, _⟩ => show win0_1.index t (2 : Fin 3) * 512 + 1 * e.val = e.val; omega

/-- A row of one of the three key or value blocks, where it is not clamped. -/
theorem row_of_window (t : Fin cfg0.N) (n : Fin 3) (r : Fin 128) (e : Fin 128) (hp : 128 * (t.val % 16) + (128 * n.val + r.val) - 128 < 2048)
    (hlo : 128 ≤ 128 * (t.val % 16) + (128 * n.val + r.val)) :
    (![((cfg0.win 2).blk t).view.emb (ix3 0 r e), ((cfg0.win 3).blk t).view.emb (ix3 0 r e), ((cfg0.win 4).blk t).view.emb (ix3 0 r e)] :
      Fin 3 → S32x2048x128.Idx) n = ix3 (bOf t) ⟨128 * (t.val % 16) + (128 * n.val + r.val) - 128, hp⟩ e := by
  obtain ⟨a0, a1, a2⟩ := idx2 t
  obtain ⟨b0, b1, b2⟩ := idx1 t
  obtain ⟨c0, c1, c2⟩ := idx4 t
  fin_cases n
  · refine funext fun a => Fin.ext ?_
    match a with
    | ⟨0, _⟩ => show win0_2.index t (0 : Fin 3) * 1 + 1 * 0 = t.val / 16; omega
    | ⟨1, _⟩ =>
      have hlo' : 128 ≤ 128 * (t.val % 16) + (128 * 0 + r.val) := hlo
      show win0_2.index t (1 : Fin 3) * 128 + 1 * r.val = 128 * (t.val % 16) + (128 * 0 + r.val) - 128
      omega
    | ⟨2, _⟩ => show win0_2.index t (2 : Fin 3) * 128 + 1 * e.val = e.val; omega
  · refine funext fun a => Fin.ext ?_
    match a with
    | ⟨0, _⟩ => show win0_1.index t (0 : Fin 3) * 1 + 1 * 0 = t.val / 16; omega
    | ⟨1, _⟩ =>
      show win0_1.index t (1 : Fin 3) * 128 + 1 * r.val = 128 * (t.val % 16) + (128 * 1 + r.val) - 128
      omega
    | ⟨2, _⟩ => show win0_1.index t (2 : Fin 3) * 128 + 1 * e.val = e.val; omega
  · refine funext fun a => Fin.ext ?_
    match a with
    | ⟨0, _⟩ => show win0_4.index t (0 : Fin 3) * 1 + 1 * 0 = t.val / 16; omega
    | ⟨1, _⟩ =>
      have hp' : 128 * (t.val % 16) + (128 * 2 + r.val) - 128 < 2048 := hp
      show win0_4.index t (1 : Fin 3) * 128 + 1 * r.val = 128 * (t.val % 16) + (128 * 2 + r.val) - 128
      omega
    | ⟨2, _⟩ => show win0_4.index t (2 : Fin 3) * 128 + 1 * e.val = e.val; omega

/-- A row of a context block. -/
theorem row_of_ctx (t : Fin cfg0.N) (j : Fin 256) (e : Fin 128) : ((cfg0.win 8).blk t).view.emb (ix3 0 j e) = (ix3 (bOf t) j e : S32x256x128.Idx) := by
  obtain ⟨a0, a1, a2⟩ := idx8 t
  refine funext fun a => Fin.ext ?_
  match a with
  | ⟨0, _⟩ => show win0_8.index t (0 : Fin 3) * 1 + 1 * 0 = t.val / 16; omega
  | ⟨1, _⟩ => show win0_8.index t (1 : Fin 3) * 256 + 1 * j.val = j.val; omega
  | ⟨2, _⟩ => show win0_8.index t (2 : Fin 3) * 128 + 1 * e.val = e.val; omega

/-- The place of the output block's entries. -/
theorem emb10 (t : Fin cfg0.N) (r : Fin 128) (e : Fin 512) :
    ((cfg0.win 10).blk t).view.emb (ix3 0 r e) = (ix3 (bOf t) ⟨128 * (t.val % 16) + r.val, by omega⟩ e : S32x2048x512.Idx) := by
  obtain ⟨e0, e1, e2⟩ := idx1 t
  refine funext fun a => Fin.ext ?_
  match a with
  | ⟨0, _⟩ => show win0_1.index t (0 : Fin 3) * 1 + 1 * 0 = t.val / 16; omega
  | ⟨1, _⟩ => show win0_1.index t (1 : Fin 3) * 128 + 1 * r.val = 128 * (t.val % 16) + r.val; omega
  | ⟨2, _⟩ => show win0_1.index t (2 : Fin 3) * 512 + 1 * e.val = e.val; omega

section

variable (c : Dev nD)
  (hs : ∀ b n kv g p, score (V m c main_v2) (fun b p e => V m c main_v3 (ix3 b p e)) b n kv g p ≠ ⊤)
  (hc : ∀ b n kv g p, score (V m c main_v2) (fun b p e => V m c main_v5 (ix3 b p e)) b n kv g p ≠ ⊤)
  (hsk : ∀ h, ∃ x : ℝ, @Eq EReal (V m c main_arg0 h) (x : EReal))

/-- The array that the kernel leaves. -/
abbrev GV : FVec Ideal S32x2048x512 .bf16 :=
  G (V m c main_arg0) (V m c main_v2) (V m c main_v3) (V m c main_v4) (V m c main_v5) (V m c main_v6)

include hs hc hsk

/-- What a point writes back is its block of the array. -/
theorem flushed_eq (t : Fin cfg0.N) : (dats m 0 c).flushed 10 t = ((cfg0.win 10).blk t).view.read (Elt Ideal) (GV m c) := by
  rw [flushed10_A, out_eq, coord]
  have hi : t.val % 16 < 16 := by omega
  funext j
  obtain ⟨a, r, e, rfl⟩ : ∃ (a : Fin 1) (r : Fin 128) (e : Fin 512), j = ix3 a r e := ⟨_, _, _, eq_ix3 _⟩
  obtain rfl : a = 0 := Subsingleton.elim _ _
  obtain ⟨kv, g, d, rfl⟩ : ∃ (kv : Fin 2) (g : Fin 4) (d : Fin 64), e = ⟨256 * kv.val + 64 * g.val + d.val, by omega⟩ :=
    ⟨⟨e.val / 256, by omega⟩, ⟨e.val / 64 % 4, by omega⟩, ⟨e.val % 64, by omega⟩, Fin.ext (by show e.val = 256 * (e.val / 256) + 64 * (e.val / 64 % 4) + e.val % 64; omega)⟩
  show block (BitVec.ofNat 32 (t.val % 16)) (iblk m c 0 t) (iblk m c 1 t) (iblk m c 2 t) (iblk m c 3 t) (iblk m c 4 t) (iblk m c 5 t) (iblk m c 6 t)
      (iblk m c 7 t) (iblk m c 8 t) (iblk m c 9 t) (ix3 0 r ⟨256 * kv.val + 64 * g.val + d.val, by omega⟩)
    = GV m c (((cfg0.win 10).blk t).view.emb (ix3 0 r ⟨256 * kv.val + 64 * g.val + d.val, by omega⟩))
  rw [emb10, iblk0_eq]
  refine Eq.trans ?_ (G_apply _ _ _ _ _ _ _ _ kv g d).symm
  exact block_apply (t.val % 16) hi (bOf t) (V m c main_arg0) (V m c main_v2) (V m c main_v3) (V m c main_v4) (V m c main_v5) (V m c main_v6)
    (iblk m c 1 t) ![iblk m c 2 t, iblk m c 3 t, iblk m c 4 t] ![iblk m c 5 t, iblk m c 6 t, iblk m c 7 t] (iblk m c 8 t) (iblk m c 9 t)
    (iblk1_apply m c t)
    (fun n r e hp hlo => by
      rw [← row_of_window t n r e hp hlo]
      fin_cases n <;> rfl)
    (fun n r e hp hlo => by
      rw [← row_of_window t n r e hp hlo]
      fin_cases n <;> rfl)
    (fun j e => congrArg (V m c main_v5) (row_of_ctx t j e)) (fun j e => congrArg (V m c main_v6) (row_of_ctx t j e))
    (hs _) (hc _) hsk r kv g d

/-- The array after the run. -/
theorem final : (dats m 0 c).arrAt 10 cfg0.N = GV m c := by
  refine (dats m 0 c).arrAt_eq_of_cover 10 (GV m c) (fun t _ => flushed_eq m c hs hc hsk t) fun i => ?_
  obtain ⟨b, n, e, rfl⟩ : ∃ (b : Fin 32) (n : Fin 2048) (e : Fin 512), i = ix3 b n e := ⟨_, _, _, eq_ix3 _⟩
  have hlt : 16 * b.val + n.val / 128 < 512 := by omega
  refine ⟨(⟨16 * b.val + n.val / 128, hlt⟩ : Fin cfg0.N), flush0_10 _, ?_⟩
  have h := ((cfg0.win 10).blk (⟨16 * b.val + n.val / 128, hlt⟩ : Fin cfg0.N)).view.emb_mem_set (ix3 0 (⟨n.val % 128, by omega⟩ : Fin 128) e)
  rw [emb10] at h
  have e1 : bOf (⟨16 * b.val + n.val / 128, hlt⟩ : Fin cfg0.N) = b := Fin.ext (by show (16 * b.val + n.val / 128) / 16 = b.val; omega)
  have e2 : (⟨128 * ((16 * b.val + n.val / 128) % 16) + n.val % 128, by omega⟩ : Fin 2048) = n := Fin.ext (by show 128 * ((16 * b.val + n.val / 128) % 16) + n.val % 128 = n.val; omega)
  rw [e1] at h
  dsimp only at h
  rw [e2] at h
  exact h

end

/-! ## The host's operations -/

/-- The queries as the kernel's call takes them. -/
def scaled (x : FVec Ideal S32x2048x512 .f32) : FVec Ideal S32x2048x512 .bf16 := fun j => x j * FloatOps.ofBits (F := Ideal) .f32 0x3E000000#32

theorem V_main_v2 (c : Dev nD) : V m c main_v2 = scaled (m ((c : Thread nD τ).loc main_arg1)) := by
  show StableHlo.after hostOps0 _ (Proc.devRef .tc main_v2) = _
  after_results
  rfl
theorem V_main_v3 (c : Dev nD) : V m c main_v3 = m ((c : Thread nD τ).loc main_arg2) := by
  show StableHlo.after hostOps0 _ (Proc.devRef .tc main_v3) = _
  after_results
  rfl
theorem V_main_v4 (c : Dev nD) : V m c main_v4 = m ((c : Thread nD τ).loc main_arg3) := by
  show StableHlo.after hostOps0 _ (Proc.devRef .tc main_v4) = _
  after_results
  rfl
theorem V_main_v5 (c : Dev nD) : V m c main_v5 = m ((c : Thread nD τ).loc main_arg4) := by
  show StableHlo.after hostOps0 _ (Proc.devRef .tc main_v5) = _
  after_results
  rfl
theorem V_main_v6 (c : Dev nD) : V m c main_v6 = m ((c : Thread nD τ).loc main_arg5) := by
  show StableHlo.after hostOps0 _ (Proc.devRef .tc main_v6) = _
  after_results
  rfl

end Cert.Attn

end
-- ==== Proof.AttnRef.lean ====
/- The reference attention read at an index: the same row. -/
module

public import proofs.«01_k».proof.Proof.Gen.ReferenceIdeal.Read
public import proofs.«01_k».proof.Proof.AttnArray
public import Idealize.ShloMosaic.Lib.KernelVsHost

@[expose] public section

set_option backward.proofsInPublic true

noncomputable section

open scoped BigOperators

namespace Cert.Attn

open Idealize.ShloMosaic Idealize.ShloMosaic.ValueIdx Idealize.ShloMosaic.WordCmp Cert.ReferenceIdeal Cert.ReferenceIdeal.Gen Cert.ReferenceIdeal.Read

/-! ## The mask -/

/-- The distance of two positions as the reference compares it. -/
theorem near_word (n p : ℕ) (hn : n < 2048) (hp : p < 2048) :
    IntOp.cmpi .sle (IntOp.absi (IntOp.subi (BitVec.ofNat 32 n) (BitVec.ofNat 32 p))) 128#32 = 1#1 ↔ near n p := by
  have key : ∀ k : ℕ, k < 2048 → (BitVec.ofNat 32 k).msb = false := fun k hk => by
    rw [BitVec.msb_eq_decide, BitVec.toNat_ofNat, Nat.mod_eq_of_lt (by omega)]
    exact decide_eq_false (by omega)
  have hd : IntOp.absi (IntOp.subi (BitVec.ofNat 32 n) (BitVec.ofNat 32 p)) = BitVec.ofNat 32 (n - p + (p - n)) := by
    rcases Nat.le_total p n with h | h
    · have e : IntOp.subi (BitVec.ofNat 32 n) (BitVec.ofNat 32 p) = BitVec.ofNat 32 (n - p + (p - n)) := by
        apply BitVec.eq_of_toNat_eq
        show (BitVec.ofNat 32 n - BitVec.ofNat 32 p).toNat = _
        rw [BitVec.toNat_sub, BitVec.toNat_ofNat, BitVec.toNat_ofNat, BitVec.toNat_ofNat]
        omega
      rw [e]
      unfold IntOp.absi
      rw [key _ (by omega)]
      rfl
    · rcases Nat.eq_or_lt_of_le h with h | h
      · subst h
        show (if (BitVec.ofNat 32 n - BitVec.ofNat 32 n).msb = true then _ else _) = _
        rw [BitVec.sub_self]
        simp [IntOp.subi]
      · have e : IntOp.subi (BitVec.ofNat 32 n) (BitVec.ofNat 32 p) = -BitVec.ofNat 32 (n - p + (p - n)) := by
          apply BitVec.eq_of_toNat_eq
          show (BitVec.ofNat 32 n - BitVec.ofNat 32 p).toNat = _
          rw [BitVec.toNat_sub, BitVec.toNat_neg, BitVec.toNat_ofNat, BitVec.toNat_ofNat, BitVec.toNat_ofNat]
          omega
        have hm : (-BitVec.ofNat 32 (n - p + (p - n))).msb = true := by
          rw [BitVec.msb_eq_decide, BitVec.toNat_neg, BitVec.toNat_ofNat]
          exact decide_eq_true (by omega)
        rw [e]
        unfold IntOp.absi
        rw [hm, if_pos rfl, BitVec.neg_neg]
  rw [hd, show (128#32 : BitVec 32) = BitVec.ofNat 32 128 from rfl, cmpi_sle_ofNat (by omega) (by omega), ofBool_decide_eq_one_iff]
  unfold near
  omega

section

variable (x0 : FVec Ideal S8 .f32) (x1 : FVec Ideal S32x2048x512 .f32) (x2 x3 : FVec Ideal S32x2048x128 .f32) (x4 x5 : FVec Ideal S32x256x128 .f32)

theorem c_eighth : FloatOps.ofBits (F := Ideal) .f32 0x3E000000#32 = ((1 / 8 : ℝ) : EReal) := by
  show Ideal.ofBits .f32 0x3E000000#32 = _
  simp [Ideal.ofBits, Ideal.ieee]
  rw [← EReal.coe_mul]
  norm_num

theorem c_negInf : FloatOps.ofBits (F := Ideal) .f32 0xFF800000#32 = (⊥ : EReal) := by
  show Ideal.ofBits .f32 0xFF800000#32 = _
  simp [Ideal.ofBits, Ideal.ieee]

/-- The reshaped queries at an index. -/
theorem ref_q (b : Fin 32) (n : Fin 2048) (kv : Fin 2) (g : Fin 4) (e : Fin 64) :
    val_main_v0 (F := Ideal) x1 (ix5 b n kv g e) = x1 (ix3 b n ⟨256 * kv.val + 64 * g.val + e.val, by omega⟩) := by
  rw [val_main_v0_apply]
  refine congrArg x1 (funext fun a => Fin.ext ?_)
  match a with
  | ⟨0, _⟩ => show ((((b.val * 2048 + n.val) * 2 + kv.val) * 4 + g.val) * 64 + e.val) / 1048576 = b.val; omega
  | ⟨1, _⟩ => show ((((b.val * 2048 + n.val) * 2 + kv.val) * 4 + g.val) * 64 + e.val) / 512 % 2048 = n.val; omega
  | ⟨2, _⟩ => show ((((b.val * 2048 + n.val) * 2 + kv.val) * 4 + g.val) * 64 + e.val) % 512 = 256 * kv.val + 64 * g.val + e.val; omega

/-- The reshaped keys (and values) at an index. -/
theorem ref_k (b : Fin 32) (n : Fin 2048) (kv : Fin 2) (e : Fin 64) :
    val_main_v1 (F := Ideal) x2 (ix4 b n kv e) = x2 (ix3 b n ⟨64 * kv.val + e.val, by omega⟩) := by
  rw [val_main_v1_apply]
  refine congrArg x2 (funext fun a => Fin.ext ?_)
  match a with
  | ⟨0, _⟩ => show (((b.val * 2048 + n.val) * 2 + kv.val) * 64 + e.val) / 262144 = b.val; omega
  | ⟨1, _⟩ => show (((b.val * 2048 + n.val) * 2 + kv.val) * 64 + e.val) / 128 % 2048 = n.val; omega
  | ⟨2, _⟩ => show (((b.val * 2048 + n.val) * 2 + kv.val) * 64 + e.val) % 128 = 64 * kv.val + e.val; omega

/-- The reshaped context keys (and values) at an index. -/
theorem ref_kc (b : Fin 32) (n : Fin 256) (kv : Fin 2) (e : Fin 64) :
    val_main_v3 (F := Ideal) x4 (ix4 b n kv e) = x4 (ix3 b n ⟨64 * kv.val + e.val, by omega⟩) := by
  rw [val_main_v3_apply]
  refine congrArg x4 (funext fun a => Fin.ext ?_)
  match a with
  | ⟨0, _⟩ => show (((b.val * 256 + n.val) * 2 + kv.val) * 64 + e.val) / 32768 = b.val; omega
  | ⟨1, _⟩ => show (((b.val * 256 + n.val) * 2 + kv.val) * 64 + e.val) / 128 % 256 = n.val; omega
  | ⟨2, _⟩ => show (((b.val * 256 + n.val) * 2 + kv.val) * 64 + e.val) % 128 = 64 * kv.val + e.val; omega

/-- The masked score. -/
theorem ref_main (b : Fin 32) (kv : Fin 2) (g : Fin 4) (n p : Fin 2048) :
    val_main_v19 (F := Ideal) x1 x2 (ix5 b kv g n p)
      = if near n.val p.val then score (scaled x1) (fun b p e => x2 (ix3 b p e)) b n kv g p else (⊥ : EReal) := by
  rw [val_main_v19_apply, val_main_call0_v1_apply, val_main_call0_v2_apply, val_main_call0_v0_apply, val_main_cst_0_apply, c_negInf]
  have hm : val_main_v14 (F := Ideal) (idx_main_call0_v1 (ix5 b kv g n p)) = 1#1 ↔ near n.val p.val := by
    rw [val_main_v14_apply, val_main_v12_apply, val_main_v11_apply, val_main_v9_apply, val_main_v7_apply, val_main_v6_apply, val_main_v10_apply,
      val_main_v8_apply, val_main_v6_apply, val_main_v13_apply, val_main_c_apply]
    exact near_word n.val p.val n.isLt p.isLt
  have hs : val_main_v18 (F := Ideal) x1 x2 (ix5 b kv g n p) = score (scaled x1) (fun b p e => x2 (ix3 b p e)) b n kv g p := by
    rw [val_main_v18_apply, val_main_v16_apply, val_main_v15_apply, val_main_v17_apply, val_main_cst_apply]
    show (_ : EReal) * _ = _
    rw [c_eighth, sum_mul_coe _ _ _ (by norm_num)]
    refine Finset.sum_congr rfl fun e _ => ?_
    have e1 : val_main_v1 (F := Ideal) x2 (lidx_main_v15 (idx_main_v16 (ix5 b kv g n p)) e) = x2 (ix3 b p ⟨64 * kv.val + e.val, by omega⟩) := by
      rw [← ref_k x2 b p kv e]
      refine congrArg _ (funext fun a => ?_)
      match a with | ⟨0, _⟩ => rfl | ⟨1, _⟩ => rfl | ⟨2, _⟩ => rfl | ⟨3, _⟩ => rfl
    have e2 : val_main_v0 (F := Ideal) x1 (ridx_main_v15 (idx_main_v16 (ix5 b kv g n p)) e)
        = x1 (ix3 b n ⟨256 * kv.val + 64 * g.val + e.val, by omega⟩) := by
      rw [← ref_q x1 b n kv g e]
      refine congrArg _ (funext fun a => ?_)
      match a with | ⟨0, _⟩ => rfl | ⟨1, _⟩ => rfl | ⟨2, _⟩ => rfl | ⟨3, _⟩ => rfl | ⟨4, _⟩ => rfl
    rw [e1, e2]
    unfold scaled
    rw [c_eighth]
    show x2 _ * x1 _ * _ = x1 _ * _ * x2 _
    rw [mul_comm (x2 _) (x1 _), mul_right_comm]
  rw [hs]
  by_cases h : near n.val p.val
  · rw [if_pos h, hm.mpr h, ValueIdx.select_one]
  · rw [if_neg h, eq_zero_of_ne_one fun e => h (hm.mp e), ValueIdx.select_zero]

/-- The context score. -/
theorem ref_ctx (b : Fin 32) (kv : Fin 2) (g : Fin 4) (n : Fin 2048) (j : Fin 256) :
    val_main_v23 (F := Ideal) x1 x4 (ix5 b kv g n j) = score (scaled x1) (fun b p e => x4 (ix3 b p e)) b n kv g j := by
  rw [val_main_v23_apply, val_main_v21_apply, val_main_v20_apply, val_main_v22_apply, val_main_cst_1_apply]
  show (_ : EReal) * _ = _
  rw [c_eighth, sum_mul_coe _ _ _ (by norm_num)]
  refine Finset.sum_congr rfl fun e _ => ?_
  have e1 : val_main_v3 (F := Ideal) x4 (lidx_main_v20 (idx_main_v21 (ix5 b kv g n j)) e) = x4 (ix3 b j ⟨64 * kv.val + e.val, by omega⟩) := by
    rw [← ref_kc x4 b j kv e]
    refine congrArg _ (funext fun a => ?_)
    match a with | ⟨0, _⟩ => rfl | ⟨1, _⟩ => rfl | ⟨2, _⟩ => rfl | ⟨3, _⟩ => rfl
  have e2 : val_main_v0 (F := Ideal) x1 (ridx_main_v20 (idx_main_v21 (ix5 b kv g n j)) e)
      = x1 (ix3 b n ⟨256 * kv.val + 64 * g.val + e.val, by omega⟩) := by
    rw [← ref_q x1 b n kv g e]
    refine congrArg _ (funext fun a => ?_)
    match a with | ⟨0, _⟩ => rfl | ⟨1, _⟩ => rfl | ⟨2, _⟩ => rfl | ⟨3, _⟩ => rfl | ⟨4, _⟩ => rfl
  rw [e1, e2]
  unfold scaled
  rw [c_eighth]
  show x4 _ * x1 _ * _ = x1 _ * _ * x4 _
  rw [mul_comm (x4 _) (x1 _), mul_right_comm]

/-- The sink's logit. -/
theorem ref_sink (b : Fin 32) (kv : Fin 2) (g : Fin 4) (n : Fin 2048) :
    val_main_v25 (F := Ideal) x0 (ix5 b kv g n 0) = x0 (ix1 ⟨4 * kv.val + g.val, by omega⟩) := by
  rw [val_main_v25_apply, val_main_v24_apply, val_main_v5_apply]
  refine congrArg x0 (funext fun a => Fin.ext ?_)
  match a with
  | ⟨0, _⟩ => show kv.val * 4 + g.val = 4 * kv.val + g.val; omega

/-! ## The joined logits -/

/-- The row's scores against the sequence, the context and the sink. -/
abbrev sMain (b : Fin 32) (kv : Fin 2) (g : Fin 4) (n : Fin 2048) : Fin 2048 → EReal := fun p =>
  if near n.val p.val then score (scaled x1) (fun b p e => x2 (ix3 b p e)) b n kv g p else ⊥
abbrev sCtx (b : Fin 32) (kv : Fin 2) (g : Fin 4) (n : Fin 2048) : Fin 256 → EReal := score (scaled x1) (fun b p e => x4 (ix3 b p e)) b n kv g
abbrev sSink (kv : Fin 2) (g : Fin 4) : EReal := x0 (ix1 ⟨4 * kv.val + g.val, by omega⟩)

/-- Three arrays joined along the last axis. -/
abbrev logitParts (y1 : S32x2x4x2048x2048.Idx → EReal) (y2 : S32x2x4x2048x256.Idx → EReal) (y3 : S32x2x4x2048x1.Idx → EReal) :
    List ((s : Shape) × (s.Idx → EReal)) :=
  [⟨S32x2x4x2048x2048, y1⟩, ⟨S32x2x4x2048x256, y2⟩, ⟨S32x2x4x2048x1, y3⟩]

/-- An index of the joined array off the last axis. -/
theorem off_last {N K : ℕ} (b : Fin 32) (kv : Fin 2) (g : Fin 4) (n : Fin 2048) (p : Fin N) (q : Fin K) :
    ∀ a : Fin 5, a ≠ 4 → ((ix5 b kv g n p : (⟨5, ![32, 2, 4, 2048, N]⟩ : Shape).Idx) a).val
      = ((ix5 b kv g n q : (⟨5, ![32, 2, 4, 2048, K]⟩ : Shape).Idx) a).val := fun a ha => by
  match a with
  | ⟨0, _⟩ => rfl
  | ⟨1, _⟩ => rfl
  | ⟨2, _⟩ => rfl
  | ⟨3, _⟩ => rfl
  | ⟨4, _⟩ => exact absurd rfl ha

section
variable (y1 : S32x2x4x2048x2048.Idx → EReal) (y2 : S32x2x4x2048x256.Idx → EReal) (y3 : S32x2x4x2048x1.Idx → EReal)
  (b : Fin 32) (kv : Fin 2) (g : Fin 4) (n : Fin 2048)

theorem parts_main (p : Fin 2048) :
    concatenate S32x2x4x2048x2305 4 (logitParts y1 y2 y3) concatenates_S32x2x4x2048x2048_S32x2x4x2048x256_S32x2x4x2048x1_S32x2x4x2048x2305_d4
      (ix5 b kv g n ⟨p.val, by omega⟩) = y1 (ix5 b kv g n p) :=
  concatenate_apply_piece (t := S32x2x4x2048x2305) 4 (logitParts y1 y2 y3) _ _ 0 (by show 0 < 3; omega) S32x2x4x2048x2048 y1 rfl rfl 0 rfl
    (ix5 b kv g n p) (off_last b kv g n p _) (Nat.zero_add _)

theorem parts_ctx (j : Fin 256) :
    concatenate S32x2x4x2048x2305 4 (logitParts y1 y2 y3) concatenates_S32x2x4x2048x2048_S32x2x4x2048x256_S32x2x4x2048x1_S32x2x4x2048x2305_d4
      (ix5 b kv g n ⟨2048 + j.val, by omega⟩) = y2 (ix5 b kv g n j) :=
  concatenate_apply_piece (t := S32x2x4x2048x2305) 4 (logitParts y1 y2 y3) _ _ 1 (by show 1 < 3; omega) S32x2x4x2048x256 y2 rfl rfl 2048
    (by simp) (ix5 b kv g n j) (off_last b kv g n j _) rfl

theorem parts_sink :
    concatenate S32x2x4x2048x2305 4 (logitParts y1 y2 y3) concatenates_S32x2x4x2048x2048_S32x2x4x2048x256_S32x2x4x2048x1_S32x2x4x2048x2305_d4
      (ix5 b kv g n ⟨2304, by omega⟩) = y3 (ix5 b kv g n 0) :=
  concatenate_apply_piece (t := S32x2x4x2048x2305) 4 (logitParts y1 y2 y3) _ _ 2 (by show 2 < 3; omega) S32x2x4x2048x1 y3 rfl rfl 2304
    (by simp) (ix5 b kv g n 0) (off_last b kv g n 0 _) rfl
end

theorem joined_main (b : Fin 32) (kv : Fin 2) (g : Fin 4) (n p : Fin 2048) :
    val_main_v26 (F := Ideal) x0 x1 x2 x4 (ix5 b kv g n ⟨p.val, by omega⟩) = sMain x1 x2 b kv g n p :=
  (parts_main _ _ _ b kv g n p).trans (ref_main x1 x2 b kv g n p)

theorem joined_ctx (b : Fin 32) (kv : Fin 2) (g : Fin 4) (n : Fin 2048) (j : Fin 256) :
    val_main_v26 (F := Ideal) x0 x1 x2 x4 (ix5 b kv g n ⟨2048 + j.val, by omega⟩) = sCtx x1 x4 b kv g n j :=
  (parts_ctx _ _ _ b kv g n j).trans (ref_ctx x1 x4 b kv g n j)

theorem joined_sink (b : Fin 32) (kv : Fin 2) (g : Fin 4) (n : Fin 2048) :
    val_main_v26 (F := Ideal) x0 x1 x2 x4 (ix5 b kv g n ⟨2304, by omega⟩) = sSink x0 kv g :=
  (parts_sink _ _ _ b kv g n).trans (ref_sink x0 b kv g n)

/-- A sum over the joined logits. -/
theorem sum_joined (f : Fin 2305 → EReal) :
    ∑ k, f k = (∑ p : Fin 2048, f ⟨p.val, by omega⟩) + (∑ j : Fin 256, f ⟨2048 + j.val, by omega⟩) + f ⟨2304, by omega⟩ := by
  have h1 : ∑ k, f k = (∑ q : Fin 2304, f ⟨q.val, by omega⟩) + ∑ u : Fin 1, f ⟨2304 + u.val, by omega⟩ :=
    Fin.sum_univ_add (a := 2304) (b := 1) fun k : Fin (2304 + 1) => f k
  have h2 : (∑ q : Fin 2304, f ⟨q.val, by omega⟩) = (∑ p : Fin 2048, f ⟨p.val, by omega⟩) + ∑ j : Fin 256, f ⟨2048 + j.val, by omega⟩ :=
    Fin.sum_univ_add (a := 2048) (b := 256) fun q : Fin (2048 + 256) => f ⟨q.val, by omega⟩
  rw [h1, h2, Fin.sum_univ_one]
  rfl

set_option maxRecDepth 20000 in
/-- The maximum of the joined logits. -/
theorem sup_joined (f : Fin 2305 → EReal) :
    Finset.univ.sup f = max (max (Finset.univ.sup fun p : Fin 2048 => f ⟨p.val, by omega⟩) (Finset.univ.sup fun j : Fin 256 => f ⟨2048 + j.val, by omega⟩))
      (f ⟨2304, by omega⟩) := by
  apply le_antisymm
  · refine Finset.sup_le fun k _ => ?_
    by_cases h1 : k.val < 2048
    · exact le_max_of_le_left (le_max_of_le_left (Finset.le_sup (f := fun p : Fin 2048 => f ⟨p.val, by omega⟩) (Finset.mem_univ ⟨k.val, h1⟩)))
    · by_cases h2 : k.val < 2304
      · have e : k = ⟨2048 + (k.val - 2048), by omega⟩ := Fin.ext (by show k.val = 2048 + (k.val - 2048); omega)
        rw [e]
        exact le_max_of_le_left (le_max_of_le_right (Finset.le_sup (f := fun j : Fin 256 => f ⟨2048 + j.val, by omega⟩) (Finset.mem_univ ⟨k.val - 2048, by omega⟩)))
      · have e : k = ⟨2304, by omega⟩ := Fin.ext (by show k.val = 2304; omega)
        rw [e]
        exact le_max_right _ _
  · refine max_le (max_le (Finset.sup_le fun p _ => ?_) (Finset.sup_le fun j _ => ?_)) ?_ <;> exact Finset.le_sup (Finset.mem_univ _)

set_option maxRecDepth 20000 in
/-- The row's maximum. -/
theorem ref_max (b : Fin 32) (kv : Fin 2) (g : Fin 4) (n : Fin 2048) :
    val_main_v29 (F := Ideal) x0 x1 x2 x4 (ix4 b kv g n) = rowM (sMain x1 x2 b kv g n) (sCtx x1 x4 b kv g n) (sSink x0 kv g) := by
  rw [val_main_v29_apply, val_main_v28_apply, val_main_cst_3_apply, c_negInf]
  show max (⊥ : EReal) _ = _
  rw [max_eq_right bot_le]
  have h : val_main_v27 (F := Ideal) x0 x1 x2 x4 (ix4 b kv g n)
      = Finset.univ.sup fun k : Fin 2305 => val_main_v26 (F := Ideal) x0 x1 x2 x4 (ix5 b kv g n k) := by
    unfold val_main_v27 val_main_cst_2
    refine (congrFun (hostReduce_maximumf_eq_multiReduction (F := Ideal) (φ := .f32) (s := S32x2x4x2048x2305) (val_main_v26 (F := Ideal) x0 x1 x2 x4) 0xFF800000#32 reducesTo_S32x2x4x2048x2305_S32x2x4x2048_d4 h_S_
      (show S32x2x4x2048x2305.Reduces [4] S32x2x4x2048 by decide) (.inl rfl) rfl) (ix4 b kv g n)).trans ?_
    refine (Ideal.multiReduction_maximumf_single _ _ _ _ _ (ix4 b kv g n)).trans ?_
    rw [c_negInf]
    show Finset.univ.sup _ = _
    refine Finset.sup_congr rfl fun k _ => ?_
    refine congrArg (val_main_v26 (F := Ideal) x0 x1 x2 x4) (funext fun a => ?_)
    match a with | ⟨0, _⟩ => rfl | ⟨1, _⟩ => rfl | ⟨2, _⟩ => rfl | ⟨3, _⟩ => rfl | ⟨4, _⟩ => rfl
  rw [h, sup_joined]
  unfold rowM
  simp only [joined_main, joined_ctx, joined_sink]

/-- An exponential. -/
theorem ref_exp (b : Fin 32) (kv : Fin 2) (g : Fin 4) (n : Fin 2048) (k : Fin 2305) :
    val_main_v33 (F := Ideal) x0 x1 x2 x4 (ix5 b kv g n k)
      = Ideal.exp (val_main_v26 (F := Ideal) x0 x1 x2 x4 (ix5 b kv g n k) - rowM (sMain x1 x2 b kv g n) (sCtx x1 x4 b kv g n) (sSink x0 kv g)) := by
  rw [val_main_v33_apply, val_main_v32_apply, val_main_v31_apply, val_main_v30_apply]
  show Ideal.exp (_ - _) = _
  rw [← ref_max]
  congr 3
  funext a
  match a with | ⟨0, _⟩ => rfl | ⟨1, _⟩ => rfl | ⟨2, _⟩ => rfl | ⟨3, _⟩ => rfl

/-- The row's denominator. -/
theorem ref_den (b : Fin 32) (kv : Fin 2) (g : Fin 4) (n : Fin 2048) :
    val_main_v34 (F := Ideal) x0 x1 x2 x4 (ix4 b kv g n) = rowD (sMain x1 x2 b kv g n) (sCtx x1 x4 b kv g n) (sSink x0 kv g) := by
  rw [val_main_v34_apply, val_main_cst_4_apply]
  have h0 : FloatOps.ofBits (F := Ideal) .f32 0x00000000#32 = (0 : EReal) := by
    show Ideal.ofBits .f32 0x00000000#32 = _
    simp [Ideal.ofBits, Ideal.ieee]
  rw [h0, zero_add]
  have h : ∀ k, val_main_v33 (F := Ideal) x0 x1 x2 x4 (idx_main_v34 (ix4 b kv g n) k)
      = Ideal.exp (val_main_v26 (F := Ideal) x0 x1 x2 x4 (ix5 b kv g n k) - rowM (sMain x1 x2 b kv g n) (sCtx x1 x4 b kv g n) (sSink x0 kv g)) := fun k => by
    rw [← ref_exp]
    refine congrArg _ (funext fun a => ?_)
    match a with | ⟨0, _⟩ => rfl | ⟨1, _⟩ => rfl | ⟨2, _⟩ => rfl | ⟨3, _⟩ => rfl | ⟨4, _⟩ => rfl
  simp only [h]
  rw [sum_joined]
  unfold rowD
  simp only [joined_main, joined_ctx, joined_sink]

/-- A probability. -/
theorem ref_prob (b : Fin 32) (kv : Fin 2) (g : Fin 4) (n : Fin 2048) (k : Fin 2305) :
    val_main_v37 (F := Ideal) x0 x1 x2 x4 (ix5 b kv g n k)
      = Ideal.div (Ideal.exp (val_main_v26 (F := Ideal) x0 x1 x2 x4 (ix5 b kv g n k) - rowM (sMain x1 x2 b kv g n) (sCtx x1 x4 b kv g n) (sSink x0 kv g)))
          (rowD (sMain x1 x2 b kv g n) (sCtx x1 x4 b kv g n) (sSink x0 kv g)) := by
  rw [val_main_v37_apply, val_main_v36_apply, val_main_v35_apply, ref_exp, ← ref_den]
  show Ideal.div _ _ = _
  congr 2
  funext a
  match a with | ⟨0, _⟩ => rfl | ⟨1, _⟩ => rfl | ⟨2, _⟩ => rfl | ⟨3, _⟩ => rfl

/-- The reference's result is the same array. -/
theorem ref_eq : val_main_v46 (F := Ideal) x0 x1 x2 x3 x4 x5 = G x0 (scaled x1) x2 x3 x4 x5 := by
  funext j
  obtain ⟨b, n, e, rfl⟩ : ∃ (b : Fin 32) (n : Fin 2048) (e : Fin 512), j = ix3 b n e := ⟨_, _, _, eq_ix3 _⟩
  obtain ⟨kv, g, d, rfl⟩ : ∃ (kv : Fin 2) (g : Fin 4) (d : Fin 64), e = ⟨256 * kv.val + 64 * g.val + d.val, by omega⟩ :=
    ⟨⟨e.val / 256, by omega⟩, ⟨e.val / 64 % 4, by omega⟩, ⟨e.val % 64, by omega⟩, Fin.ext (by show e.val = 256 * (e.val / 256) + 64 * (e.val / 64 % 4) + e.val % 64; omega)⟩
  rw [G_apply, val_main_v46_apply]
  show val_main_v45 (F := Ideal) x0 x1 x2 x3 x4 x5 _ = _
  rw [val_main_v45_apply]
  have hi : idx_main_v45 (ix3 b n ⟨256 * kv.val + 64 * g.val + d.val, by omega⟩) = ix5 b n kv g d := by
    refine funext fun a => Fin.ext ?_
    match a with
    | ⟨0, _⟩ => show ((b.val * 2048 + n.val) * 512 + (256 * kv.val + 64 * g.val + d.val)) / 1048576 = b.val; omega
    | ⟨1, _⟩ => show ((b.val * 2048 + n.val) * 512 + (256 * kv.val + 64 * g.val + d.val)) / 512 % 2048 = n.val; omega
    | ⟨2, _⟩ => show ((b.val * 2048 + n.val) * 512 + (256 * kv.val + 64 * g.val + d.val)) / 256 % 2 = kv.val; omega
    | ⟨3, _⟩ => show ((b.val * 2048 + n.val) * 512 + (256 * kv.val + 64 * g.val + d.val)) / 64 % 4 = g.val; omega
    | ⟨4, _⟩ => show ((b.val * 2048 + n.val) * 512 + (256 * kv.val + 64 * g.val + d.val)) % 64 = d.val; omega
  rw [hi, val_main_v44_apply, val_main_v41_apply, val_main_v43_apply, val_main_v40_apply, val_main_v42_apply]
  unfold result row
  show (_ : EReal) + _ = _
  congr 1
  · refine Finset.sum_congr rfl fun p _ => ?_
    rw [val_main_v38_apply]
    have e1 : val_main_v2 (F := Ideal) x3 (lidx_main_v40 (idx_main_v41 (ix5 b n kv g d)) p) = x3 (ix3 b p ⟨64 * kv.val + d.val, by omega⟩) := by
      rw [← ref_k x3 b p kv d]
      refine congrArg (val_main_v1 (F := Ideal) x3) (funext fun a => ?_)
      match a with | ⟨0, _⟩ => rfl | ⟨1, _⟩ => rfl | ⟨2, _⟩ => rfl | ⟨3, _⟩ => rfl
    have e2 : idx_main_v38 (ridx_main_v40 (idx_main_v41 (ix5 b n kv g d)) p) = ix5 b kv g n ⟨p.val, by omega⟩ := by
      refine funext fun a => ?_
      match a with | ⟨0, _⟩ => rfl | ⟨1, _⟩ => rfl | ⟨2, _⟩ => rfl | ⟨3, _⟩ => rfl | ⟨4, _⟩ => rfl
    rw [e1, e2, ref_prob, joined_main]
  · refine Finset.sum_congr rfl fun p _ => ?_
    rw [val_main_v39_apply]
    have e1 : val_main_v4 (F := Ideal) x5 (lidx_main_v42 (idx_main_v43 (ix5 b n kv g d)) p) = x5 (ix3 b p ⟨64 * kv.val + d.val, by omega⟩) := by
      rw [← ref_kc x5 b p kv d]
      refine congrArg (val_main_v3 (F := Ideal) x5) (funext fun a => ?_)
      match a with | ⟨0, _⟩ => rfl | ⟨1, _⟩ => rfl | ⟨2, _⟩ => rfl | ⟨3, _⟩ => rfl
    have e2 : idx_main_v39 (ridx_main_v42 (idx_main_v43 (ix5 b n kv g d)) p) = ix5 b kv g n ⟨2048 + p.val, by omega⟩ := by
      refine funext fun a => ?_
      match a with | ⟨0, _⟩ => rfl | ⟨1, _⟩ => rfl | ⟨2, _⟩ => rfl | ⟨3, _⟩ => rfl | ⟨4, _⟩ => rfl
    rw [e1, e2, ref_prob, joined_ctx]

end

end Cert.Attn

end
-- ==== Proof.AttnClaim.lean ====
/- The attention's value claim: from finite queries, keys and sinks, the kernel and the reference leave one array. -/
module

public import proofs.«01_k».proof.Defs
public import proofs.«01_k».proof.Proof.Gen.ReferenceIdeal.Run
public import proofs.«01_k».proof.Proof.AttnRef

@[expose] public section

set_option backward.proofsInPublic true

noncomputable section

open scoped BigOperators

namespace Cert.Attn

open Idealize.ShloMosaic Idealize.ShloMosaic.ValueIdx Idealize.SL.Sem

/-- The precondition's shape relations. -/
theorem pre_facts : Cert.Pre_finite_scores.Facts := ⟨by decide, by decide, by decide, by decide⟩

/-- A value whose absolute value compares below infinity is real. -/
theorem real_of_lt {s : Shape} (x : FVec Ideal s .f32) (h : Shape.BroadcastsInDim ⟨0, ![]⟩ s (![] : Fin 0 → Fin s.rank))
    (hx : cmpf .olt (Host.absf x) (broadcastInDim s ![] h (constant ⟨0, ![]⟩ .f32 0x7F800000#32)) = fun _ => 1#1) (i : s.Idx) :
    ∃ r : ℝ, @Eq EReal (x i) r := by
  have e := congrFun hx i
  have hb : FloatOps.ofBits (F := Ideal) .f32 0x7F800000#32 = (⊤ : EReal) := by
    show Ideal.ofBits .f32 0x7F800000#32 = _
    simp [Ideal.ofBits, Ideal.ieee]
  have e2 : Ideal.cmp .olt (max (x i) (-(x i)) : EReal) (FloatOps.ofBits (F := Ideal) .f32 0x7F800000#32) = 1#1 := e
  rw [hb] at e2
  have h3 : (max (x i) (-(x i)) : EReal) < ⊤ := by
    by_contra hn
    simp [Ideal.cmp, hn] at e2
  have h4 : (x i : EReal) ≠ ⊤ := fun h => by rw [h] at h3; simp at h3
  have h5 : (x i : EReal) ≠ ⊥ := fun h => by rw [h] at h3; simp at h3
  exact ⟨(x i : EReal).toReal, (EReal.coe_toReal h4 h5).symm⟩

/-- A score of real queries against real keys is no infinity. -/
theorem score_ne_top {N : ℕ} (Q : FVec Ideal Cert.KernelIdeal.S32x2048x512 .f32) (K : Fin 32 → Fin N → Fin 128 → EReal)
    (hQ : ∀ i, ∃ r : ℝ, @Eq EReal (Q i) r) (hK : ∀ b p e, ∃ r : ℝ, K b p e = r) (b : Fin 32) (n : Fin 2048) (kv : Fin 2) (g : Fin 4) (p : Fin N) :
    score (scaled Q) K b n kv g p ≠ ⊤ := by
  obtain ⟨r, hr⟩ : ∃ r : ℝ, score (scaled Q) K b n kv g p = r := by
    unfold score
    refine sum_real _ _ fun e _ => ?_
    unfold scaled
    rw [c_eighth]
    obtain ⟨a, ha⟩ := hQ (ix3 b n ⟨256 * kv.val + 64 * g.val + e.val, by omega⟩)
    obtain ⟨k, hk⟩ := hK b p ⟨64 * kv.val + e.val, by omega⟩
    refine ⟨a * (1 / 8) * k, ?_⟩
    rw [ha, hk, EReal.coe_mul, EReal.coe_mul]
  rw [hr]
  exact EReal.coe_ne_top r

/-- The value claim. -/
theorem algebraic :
    haveI := Cert.KernelIdeal.Gen.facts
    haveI := Cert.ReferenceIdeal.Gen.facts
    haveI := pre_facts
    Cert.algebraic_KernelIdeal_ReferenceIdeal_pre_finite_scores := by
  intro m ρ m' ρ' hpre hargs
  refine ⟨fun c => G (m ((c.tc : Thread Cert.KernelIdeal.nD Cert.KernelIdeal.τ).loc Cert.KernelIdeal.main_arg0))
      (scaled (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run _ _ _).mono (fun r h c => ⟨(h c).1.trans ((final m c ?_ ?_ ?_).trans ?_), (h c).2⟩) (Cert.KernelIdeal.Value.run_blocks m ρ)
    · intro b n kv g p
      rw [V_main_v2, V_main_v3]
      exact score_ne_top _ _ (real_of_lt _ _ (hpre c).2.1) (fun b p e => real_of_lt _ _ (hpre c).2.2.1 _) b n kv g p
    · intro b n kv g p
      rw [V_main_v2, V_main_v5]
      exact score_ne_top _ _ (real_of_lt _ _ (hpre c).2.1) (fun b p e => real_of_lt _ _ (hpre c).2.2.2 _) b n kv g p
    · intro h
      rw [Cert.KernelIdeal.Gen.V_main_arg0]
      exact real_of_lt _ _ (hpre c).1 h
    · unfold GV
      rw [V_main_v2, V_main_v3, V_main_v4, V_main_v5, V_main_v6, Cert.KernelIdeal.Gen.V_main_arg0]
  · refine (θ_run _ _ _).mono (fun r h c => ⟨(h c).1.trans ?_, (h c).2⟩) (Cert.ReferenceIdeal.Value.run m' ρ')
    obtain ⟨a0, a1, a2, a3, a4, a5⟩ := hargs c
    rw [Cert.ReferenceIdeal.Read.val_main_v46_eq, ref_eq, a0, a1, a2, a3, a4, a5]

end Cert.Attn

end
-- ==== Proof.BlockMath.lean ====
/- The mixing and MLP block's mathematics for one token: what both programs are shown to compute, as functions of the
   token's rows and of the weights. -/
module

public import Idealize.ShloMosaic.PureOps.Ideal.Laws
public import Idealize.ShloMosaic.Lib.Pipeline.Value
public import Idealize.ShloMosaic.Lib.ValueIdx

@[expose] public section

set_option backward.proofsInPublic true

noncomputable section

open scoped BigOperators

namespace Cert.Block

open Idealize.ShloMosaic

/-- The constants of both programs. -/
abbrev one : EReal := Ideal.ofBits .f32 0x3F800000#32
abbrev half : EReal := Ideal.ofBits .f32 0x3F000000#32
abbrev width : EReal := Ideal.ofBits .f32 0x44800000#32
abbrev eps : EReal := Ideal.ofBits .f32 0x358637BD#32
abbrev zero : EReal := Ideal.ofBits .f32 0x00000000#32
abbrev cube : EReal := Ideal.ofBits .f32 0x3D372713#32
abbrev root : EReal := Ideal.ofBits .f32 0x3F4C422A#32

theorem zero_eq : zero = 0 := by simp [zero, Ideal.ofBits, Ideal.ieee]

theorem one_eq : one = 1 := by
  show Ideal.ofBits .f32 0x3F800000#32 = _
  simp [Ideal.ofBits, Ideal.ieee]
  rw [← EReal.coe_mul]
  norm_num

/-- The short convolution of three neighbouring tokens, gated. -/
def conv (cb before here after : Fin 256 → EReal) (w : Fin 3 → Fin 256 → EReal) (e : Fin 256) : EReal :=
  cb e * (before e * w 0 e + here e * w 1 e + after e * w 2 e)

/-- The two scans with the skip. -/
def skip (y0 y1 u d : Fin 256 → EReal) (e : Fin 256) : EReal := y0 e + y1 e + d e * u e

/-- The approximate Gaussian error linear unit. -/
def gelu (y : EReal) : EReal := half * y * (one + Ideal.tanh (root * (y + cube * (y * y * y))))

/-- The gated linear unit. -/
def glu (x : Fin 256 → EReal) (w : Fin 256 → Fin 256 → EReal) (b : Fin 256 → EReal) (e : Fin 256) : EReal :=
  x e * Ideal.div one (one + Ideal.exp (-(∑ k, x k * w k e + b e)))

/-- The three branches through the joint output projection. -/
def mixed (attn : Fin 512 → EReal) (cv ssm : Fin 256 → EReal) (w : Fin 1024 → Fin 1024 → EReal) (e : Fin 1024) : EReal :=
  (∑ k : Fin 512, attn k * w ⟨k.val, by omega⟩ e) + (∑ k : Fin 256, cv k * w ⟨512 + k.val, by omega⟩ e)
    + ∑ k : Fin 256, ssm k * w ⟨768 + k.val, by omega⟩ e

/-- The root-mean-square norm. -/
def norm (x g : Fin 1024 → EReal) (e : Fin 1024) : EReal :=
  x e * Ideal.rsqrt (Ideal.div (∑ k, x k * x k) width + eps) * g e

/-- The residual step: a normed row scaled and added. -/
def step (h a x g : Fin 1024 → EReal) (e : Fin 1024) : EReal := h e + a e * norm x g e

/-- The normed and modulated row. -/
def modulated (x g sc sh : Fin 1024 → EReal) (e : Fin 1024) : EReal := norm x g e * (one + sc e) + sh e

/-- The squared positive part. -/
def relu2 (t : EReal) : EReal := max t zero * max t zero

/-- A hidden unit's share of an MLP output. -/
def unit {N : ℕ} (a : Fin 1024 → EReal) (w1 : Fin 1024 → Fin N → EReal) (w2 : Fin N → Fin 1024 → EReal) (e : Fin 1024) (j : Fin N) : EReal :=
  relu2 (∑ k, a k * w1 k j) * w2 j e

/-- The MLP. -/
def mlp {N : ℕ} (a : Fin 1024 → EReal) (w1 : Fin 1024 → Fin N → EReal) (w2 : Fin N → Fin 1024 → EReal) (e : Fin 1024) : EReal :=
  ∑ j, unit a w1 w2 e j

/-- The MLP over four quarters of the hidden units. -/
theorem mlp_quarters (a : Fin 1024 → EReal) (w1 : Fin 1024 → Fin 4096 → EReal) (w2 : Fin 4096 → Fin 1024 → EReal) (e : Fin 1024) :
    mlp a w1 w2 e
      = mlp a (fun k (j : Fin 1024) => w1 k ⟨j.val, by omega⟩) (fun j e => w2 ⟨j.val, by omega⟩ e) e
        + mlp a (fun k (j : Fin 1024) => w1 k ⟨1024 + j.val, by omega⟩) (fun j e => w2 ⟨1024 + j.val, by omega⟩ e) e
        + mlp a (fun k (j : Fin 1024) => w1 k ⟨2048 + j.val, by omega⟩) (fun j e => w2 ⟨2048 + j.val, by omega⟩ e) e
        + mlp a (fun k (j : Fin 1024) => w1 k ⟨3072 + j.val, by omega⟩) (fun j e => w2 ⟨3072 + j.val, by omega⟩ e) e := by
  have split : ∀ f : Fin 4096 → EReal, ∑ j, f j = (∑ j : Fin 1024, f ⟨j.val, by omega⟩) + (∑ j : Fin 1024, f ⟨1024 + j.val, by omega⟩)
      + (∑ j : Fin 1024, f ⟨2048 + j.val, by omega⟩) + ∑ j : Fin 1024, f ⟨3072 + j.val, by omega⟩ := fun f => by
    refine (Fin.sum_univ_add (a := 3072) (b := 1024) f).trans (congrArg₂ (· + ·) ?_ rfl)
    refine (Fin.sum_univ_add (a := 2048) (b := 1024) fun j => f ⟨j.val, by omega⟩).trans (congrArg₂ (· + ·) ?_ rfl)
    exact Fin.sum_univ_add (a := 1024) (b := 1024) fun j => f ⟨j.val, by omega⟩
  exact split (unit a w1 w2 e)

/-- The joint projection as one sum over the joined branches. -/
theorem mixed_joined (attn : Fin 512 → EReal) (cv ssm : Fin 256 → EReal) (w : Fin 1024 → Fin 1024 → EReal) (x : Fin 1024 → EReal)
    (h1 : ∀ k : Fin 512, x ⟨k.val, by omega⟩ = attn k) (h2 : ∀ k : Fin 256, x ⟨512 + k.val, by omega⟩ = cv k)
    (h3 : ∀ k : Fin 256, x ⟨768 + k.val, by omega⟩ = ssm k) (e : Fin 1024) : ∑ k, x k * w k e = mixed attn cv ssm w e := by
  unfold mixed
  simp only [← h1, ← h2, ← h3]
  refine (Fin.sum_univ_add (a := 768) (b := 256) fun k => x k * w k e).trans (congrArg₂ (· + ·) ?_ rfl)
  exact Fin.sum_univ_add (a := 512) (b := 256) fun k => x ⟨k.val, by omega⟩ * w ⟨k.val, by omega⟩ e

/-- What the block makes of one token: its rows `h`, `attn`, `cb`, the neighbouring `z`, the scans `y0`, `y1`, `u`, its
    sequence's modulation `mods`, and the weights. -/
structure Row where
  h : Fin 1024 → EReal
  attn : Fin 512 → EReal
  cb : Fin 256 → EReal
  before : Fin 256 → EReal
  here : Fin 256 → EReal
  after : Fin 256 → EReal
  y0 : Fin 256 → EReal
  y1 : Fin 256 → EReal
  u : Fin 256 → EReal
  mods : Fin 6 → Fin 1024 → EReal
  g : Fin 4 → Fin 1024 → EReal
  w : Fin 3 → Fin 256 → EReal
  d : Fin 256 → EReal
  wg : Fin 256 → Fin 256 → EReal
  bg : Fin 256 → EReal
  wo : Fin 1024 → Fin 1024 → EReal
  w1 : Fin 1024 → Fin 4096 → EReal
  w2 : Fin 4096 → Fin 1024 → EReal

namespace Row

variable (R : Row)

/-- The third branch. -/
def ssm : Fin 256 → EReal := glu (fun e => gelu (skip R.y0 R.y1 R.u R.d e)) R.wg R.bg

/-- The mixed row. -/
def mix : Fin 1024 → EReal := mixed R.attn (conv R.cb R.before R.here R.after R.w) R.ssm R.wo

/-- The row after the mixing. -/
def mid : Fin 1024 → EReal := step R.h (R.mods 2) R.mix (R.g 1)

/-- The MLP's input. -/
def act : Fin 1024 → EReal := modulated R.mid (R.g 2) (R.mods 4) (R.mods 3)

/-- The row after the MLP. -/
def out : Fin 1024 → EReal := step R.mid (R.mods 5) (mlp R.act R.w1 R.w2) (R.g 3)

end Row

end Cert.Block

end
-- ==== Proof.BlockLayout.lean ====
/- The block kernel's layouts and contractions read at an index, for any number of rows. -/
module

public import proofs.«01_k».proof.Proof.BlockMath
public import Idealize.ShloMosaic.Lib.KernelVsHost
public import Idealize.ShloMosaic.Lib.WordCmp
public import Idealize.ShloMosaic.Lib.MatmulPlain

@[expose] public section

set_option backward.proofsInPublic true

noncomputable section

open scoped BigOperators

namespace Cert.Block

open Idealize.ShloMosaic Idealize.ShloMosaic.WordCmp Idealize.ShloMosaic.ValueIdx

theorem rsqrt_at {s : Shape} (v : FVec Ideal s .f32) (i : s.Idx) : rsqrt v i = Ideal.rsqrt (v i) := rfl
theorem tanh_at {s : Shape} (v : FVec Ideal s .f32) (i : s.Idx) : tanh v i = Ideal.tanh (v i) := rfl
theorem exp_at {s : Shape} (v : FVec Ideal s .f32) (i : s.Idx) : exp v i = Ideal.exp (v i) := rfl
theorem scalar_at (b : BitVec 32) : (Scalar.ofBits (F := Ideal) .f32 b) = Ideal.ofBits .f32 b := rfl

section

variable {α : Type} {N K : ℕ}

/-- A row broadcast to all rows. -/
theorem row_at (v : (⟨2, ![1, K]⟩ : Shape).Idx → α) (h : (⟨2, ![1, K]⟩ : Shape).Broadcasts ⟨2, ![N, K]⟩) (r : Fin N) (e : Fin K) :
    broadcastTo ⟨2, ![N, K]⟩ v h (ix2 r e) = v (ix2 0 e) :=
  broadcastTo_apply _ _ _ _ (by
    intro d
    match d with
    | ⟨0, _⟩ => rfl
    | ⟨1, _⟩ => show e.val = if K = 1 then 0 else e.val; split <;> omega)

/-- A column broadcast to all columns. -/
theorem col_at (v : (⟨2, ![N, 1]⟩ : Shape).Idx → α) (h : (⟨2, ![N, 1]⟩ : Shape).Broadcasts ⟨2, ![N, K]⟩) (r : Fin N) (e : Fin K) :
    broadcastTo ⟨2, ![N, K]⟩ v h (ix2 r e) = v (ix2 r 0) :=
  broadcastTo_apply _ _ _ _ (by
    intro d
    match d with
    | ⟨0, _⟩ => show r.val = if N = 1 then 0 else r.val; split <;> omega
    | ⟨1, _⟩ => rfl)

/-- A block without its leading axis. -/
theorem drop_at (v : (⟨3, ![1, N, K]⟩ : Shape).Idx → α) (h : (⟨3, ![1, N, K]⟩ : Shape).ShapeCasts ⟨2, ![N, K]⟩) (r : Fin N) (e : Fin K) :
    shapeCast ⟨2, ![N, K]⟩ v h (ix2 r e) = v (ix3 0 r e) :=
  shapeCast_apply _ _ _ _ (by
    rw [Shape.rowMajor_val_two, Shape.rowMajor_val_three]
    show (0 * N + r.val) * K + e.val = r.val * K + e.val
    rw [Nat.zero_mul, Nat.zero_add])

/-- A block with a leading axis. -/
theorem lead_at (v : (⟨2, ![N, K]⟩ : Shape).Idx → α) (h : (⟨2, ![N, K]⟩ : Shape).ShapeCasts ⟨3, ![1, N, K]⟩) (r : Fin N) (e : Fin K) :
    shapeCast ⟨3, ![1, N, K]⟩ v h (ix3 0 r e) = v (ix2 r e) :=
  shapeCast_apply _ _ _ _ (by
    rw [Shape.rowMajor_val_two, Shape.rowMajor_val_three]
    show r.val * K + e.val = (0 * N + r.val) * K + e.val
    rw [Nat.zero_mul, Nat.zero_add])

/-- A block without its two leading axes. -/
theorem drop2_at (v : (⟨4, ![1, 1, N, K]⟩ : Shape).Idx → α) (h : (⟨4, ![1, 1, N, K]⟩ : Shape).ShapeCasts ⟨2, ![N, K]⟩) (r : Fin N) (e : Fin K) :
    shapeCast ⟨2, ![N, K]⟩ v h (ix2 r e) = v (ix4 0 0 r e) :=
  shapeCast_apply _ _ _ _ (by
    rw [Shape.rowMajor_val_two, Shape.rowMajor_val_four]
    show (0 * N + r.val) * K + e.val = r.val * K + e.val
    rw [Nat.zero_mul, Nat.zero_add])

/-- A row cut out of a block. -/
theorem cut_at {P : ℕ} (p : Fin P) (v : (⟨2, ![P, K]⟩ : Shape).Idx → α) (h : (⟨2, ![P, K]⟩ : Shape).Slices ![p.val, 0] ⟨2, ![1, K]⟩) (e : Fin K) :
    extractStridedSlice ⟨2, ![1, K]⟩ ![p.val, 0] v h (ix2 0 e) = v (ix2 p e) :=
  extractStridedSlice_apply _ _ _ _ (ix2 p e) (by intro d; match d with | ⟨0, _⟩ => rfl | ⟨1, _⟩ => exact (Nat.zero_add _).symm)

end

/-- The sum of a row, as the body lays it out. -/
theorem sum_at {N K : ℕ} (x : FVec Ideal ⟨2, ![N, K]⟩ .f32) (h : (⟨2, ![N, K]⟩ : Shape).Reduces [1] ⟨1, ![N]⟩) (hφ : FKind.Formats .f32)
    (hz : (0x00000000#32 : BitVec 32) = 0x00000000#32) (h' : (⟨1, ![N]⟩ : Shape).ShapeCasts ⟨2, ![N, 1]⟩) (r : Fin N) :
    shapeCast ⟨2, ![N, 1]⟩ (multiReduction .add [1] ⟨1, ![N]⟩ x 0x00000000#32 h hφ hz) h' (ix2 r 0) = ∑ k : Fin K, x (ix2 r k) := by
  rw [shapeCast_apply _ _ _ (ix1 r) (by
    rw [Shape.rowMajor_val_two, Shape.rowMajor_val_one]
    show r.val = r.val * 1 + 0
    omega)]
  refine (Ideal.multiReduction_add_single x _ _ _ _ (ix1 r)).trans (Finset.sum_congr rfl fun k _ => congrArg x ?_)
  funext d; match d with | ⟨0, _⟩ => rfl | ⟨1, _⟩ => rfl

/-- A product of matrices onto zero. -/
theorem dot_at {N K M : ℕ} (x : FVec Ideal ⟨2, ![N, K]⟩ .bf16) (w : FVec Ideal ⟨2, ![K, M]⟩ .bf16) (r : Fin N) (e : Fin M) :
    matmul (DotDims.plain N K M) none x w (constant ⟨2, ![N, M]⟩ .f32 0x00000000#32) (ix2 r e) = ∑ k : Fin K, x (ix2 r k) * w (ix2 k e) :=
  (Ideal.matmul_plain_apply none x w _ r e).trans ((congrArg (· + _) zero_eq).trans (zero_add _))

/-- The test for a row. -/
theorem is_row {N : ℕ} (hN : N < 2 ^ 32) (n : ℕ) (hn : n < 2 ^ 32) (h : (⟨2, ![N, 1]⟩ : Shape).Iotas .tc 32 [0]) (r : Fin N) :
    cmpi .eq (iota .tc ⟨2, ![N, 1]⟩ 32 [0] h) (broadcast ⟨2, ![N, 1]⟩ (BitVec.ofNat 32 n)) (ix2 r 0) = BitVec.ofBool (decide (r.val = n)) := by
  have hr := r.isLt
  rw [← cmpi_eq_ofNat (w := 32) (by omega) (by omega)]
  have h0 : (ix2 r (0 : Fin 1) (0 : Fin 2)).val = r.val := rfl
  simp only [h0, cmpi_at, broadcast_apply, iota_at, List.foldl_cons, List.foldl_nil, Nat.zero_mul, Nat.zero_add]
  rfl

end Cert.Block

end
-- ==== Proof.BlockCtxBody.lean ====
/- The context block kernel's arithmetic, read at an index: each payload of the body is one of the row functions. -/
module

public import proofs.«01_k».proof.Proof.Gen.BlockCtxIdeal.Skeleton
public import proofs.«01_k».proof.Proof.BlockLayout

@[expose] public section

set_option backward.proofsInPublic true

noncomputable section

open scoped BigOperators

namespace Cert.CtxBlock

open Idealize.ShloMosaic Idealize.ShloMosaic.WordCmp Idealize.ShloMosaic.ValueIdx Cert.Block Cert.BlockCtxIdeal Cert.BlockCtxIdeal.Gen

/-! ## The products -/

theorem dot_glu (x : FVec Ideal S256x256 .bf16) (w : FVec Ideal S256x256 .bf16) (r : Fin 256) (e : Fin 256) :
    matmul dot_S256x256_S256x256_S256x256_1_0_0_1_n_n none x w (constant S256x256 .f32 0x00000000#32) (ix2 r e)
      = ∑ k : Fin 256, x (ix2 r k) * w (ix2 k e) := dot_at x w r e

theorem dot_attn (x : FVec Ideal S256x512 .bf16) (w : FVec Ideal S512x1024 .bf16) (r : Fin 256) (e : Fin 1024) :
    matmul dot_S256x512_S512x1024_S256x1024_1_0_0_1_n_n none x w (constant S256x1024 .f32 0x00000000#32) (ix2 r e)
      = ∑ k : Fin 512, x (ix2 r k) * w (ix2 k e) := dot_at x w r e

theorem dot_branch (x : FVec Ideal S256x256 .bf16) (w : FVec Ideal S256x1024 .bf16) (r : Fin 256) (e : Fin 1024) :
    matmul dot_S256x256_S256x1024_S256x1024_1_0_0_1_n_n none x w (constant S256x1024 .f32 0x00000000#32) (ix2 r e)
      = ∑ k : Fin 256, x (ix2 r k) * w (ix2 k e) := dot_at x w r e

theorem dot_mlp (x : FVec Ideal S256x1024 .bf16) (w : FVec Ideal S1024x1024 .bf16) (r : Fin 256) (e : Fin 1024) :
    matmul dot_S256x1024_S1024x1024_S256x1024_1_0_0_1_n_n none x w (constant S256x1024 .f32 0x00000000#32) (ix2 r e)
      = ∑ k : Fin 1024, x (ix2 r k) * w (ix2 k e) := dot_at x w r e

/-! ## The payloads -/

theorem pay2_apply (v : FVec Ideal S1x6x1024 .f32) (k : Fin 6) (e : Fin 1024) : k0_pay2 v (ix2 k e) = v (ix3 0 k e) :=
  shapeCast_apply _ _ _ _ (by rw [Shape.rowMajor_val_two, Shape.rowMajor_val_three]; simp)

theorem pay3_apply (v : FVec Ideal S1x256x256 .f32) (r : Fin 256) (e : Fin 256) : k0_pay3 v (ix2 r e) = v (ix3 0 r e) := drop_at v _ r e

theorem pay11_apply (v : FVec Ideal S1x256x1024 .f32) (r : Fin 256) (e : Fin 1024) : k0_pay11 v (ix2 r e) = v (ix3 0 r e) := drop_at v _ r e

theorem pay6_apply (v3 v26 v34 : FVec Ideal S256x256 .f32) (v35 : FVec Ideal S1x256x256 .f32) (v37 v40 v44 : FVec Ideal S1x256 .f32)
    (r : Fin 256) (e : Fin 256) :
    k0_pay6 v3 v26 v34 v35 v37 v40 v44 (ix2 r e) = conv (fun e => v35 (ix3 0 r e)) (fun e => v26 (ix2 r e)) (fun e => v3 (ix2 r e))
      (fun e => v34 (ix2 r e)) ![fun e => v37 (ix2 0 e), fun e => v40 (ix2 0 e), fun e => v44 (ix2 0 e)] e := by
  unfold k0_pay6
  simp only [mulf_apply, addf_apply, row_at, drop_at]
  rfl

theorem pay7_apply (v49 v51 : FVec Ideal S1x1x256x256 .f32) (v54 : FVec Ideal S1x256 .f32) (v56 : FVec Ideal S1x256x256 .f32) (r : Fin 256) (e : Fin 256) :
    k0_pay7 (F := Ideal) v49 v51 v54 v56 (ix2 r e) = skip (fun e => v49 (ix4 0 0 r e)) (fun e => v51 (ix4 0 0 r e)) (fun e => v56 (ix3 0 r e)) (fun e => v54 (ix2 0 e)) e := by
  unfold k0_pay7
  simp only [mulf_apply, addf_apply, row_at, drop_at, drop2_at, shapeCast_self]
  rfl

theorem gelu_apply (v49 v51 : FVec Ideal S1x1x256x256 .f32) (v54 : FVec Ideal S1x256 .f32) (v56 : FVec Ideal S1x256x256 .f32) (r : Fin 256) (e : Fin 256) :
    @Eq EReal (k0_pay8 (F := Ideal) v49 v51 v54 v56 (ix2 r e) * (one + k0_pay9 (F := Ideal) v49 v51 v54 v56 (ix2 r e))) (gelu (k0_pay7 (F := Ideal) v49 v51 v54 v56 (ix2 r e))) := by
  unfold k0_pay8 k0_pay9
  rfl

theorem pay10_apply (v48 v62 v70 : FVec Ideal S256x256 .f32) (v75 : FVec Ideal S256x256 .bf16) (v78 : FVec Ideal S1x256 .f32)
    (v90 : FVec Ideal S1x256x512 .bf16) (v92 : FVec Ideal S512x1024 .bf16) (v96 v101 : FVec Ideal S256x1024 .bf16) (r : Fin 256) (e : Fin 1024) :
    @Eq EReal (k0_pay10 v48 v62 v70 v75 v78 v90 v92 v96 v101 (ix2 r e))
      ((∑ k : Fin 512, v90 (ix3 0 r k) * v92 (ix2 k e)) + (∑ k : Fin 256, v48 (ix2 r k) * v96 (ix2 k e))
        + ∑ k : Fin 256, glu (fun e => v62 (ix2 r e) * (one + v70 (ix2 r e))) (fun k e => v75 (ix2 k e)) (fun e => v78 (ix2 0 e)) k * v101 (ix2 k e)) := by
  unfold k0_pay10
  simp only [mulf_apply, addf_apply, subf_apply, divf_apply, truncf_apply, exp_at, row_at, shapeCast_self, dot_glu, dot_attn, dot_branch, drop_at,
    broadcast_apply, scalar_at]
  unfold glu
  simp only [zero_eq, zero_sub]

theorem pay12_apply (v1 : FVec Ideal S6x1024 .f32) (v104 v106 : FVec Ideal S256x1024 .f32) (v108 : FVec Ideal S1x1024 .f32) (r : Fin 256) (e : Fin 1024) :
    k0_pay12 v1 v104 v106 v108 (ix2 r e)
      = step (fun e => v106 (ix2 r e)) (fun e => v1 (ix2 2 e)) (fun e => v104 (ix2 r e)) (fun e => v108 (ix2 0 e)) e := by
  unfold k0_pay12
  simp only [mulf_apply, addf_apply, divf_apply, rsqrt_at, row_at, col_at, broadcast_apply, scalar_at]
  rw [sum_at]
  simp only [mulf_apply]
  rw [extractStridedSlice_apply _ _ _ _ (ix2 2 e) (by intro d; match d with | ⟨0, _⟩ => rfl | ⟨1, _⟩ => exact (Nat.zero_add _).symm)]
  rfl

theorem pay13_apply (v1 : FVec Ideal S6x1024 .f32) (v104 v106 : FVec Ideal S256x1024 .f32) (v108 v124 : FVec Ideal S1x1024 .f32) (r : Fin 256) (e : Fin 1024) :
    k0_pay13 v1 v104 v106 v108 v124 (ix2 r e)
      = modulated (fun e => k0_pay12 v1 v104 v106 v108 (ix2 r e)) (fun e => v124 (ix2 0 e)) (fun e => v1 (ix2 4 e)) (fun e => v1 (ix2 3 e)) e := by
  unfold k0_pay13
  simp only [mulf_apply, addf_apply, divf_apply, truncf_apply, rsqrt_at, row_at, col_at, broadcast_apply, scalar_at]
  rw [sum_at]
  simp only [mulf_apply]
  rw [extractStridedSlice_apply ![4, 0] v1 _ _ (ix2 4 e) (by intro d; match d with | ⟨0, _⟩ => rfl | ⟨1, _⟩ => exact (Nat.zero_add _).symm),
    extractStridedSlice_apply ![3, 0] v1 _ _ (ix2 3 e) (by intro d; match d with | ⟨0, _⟩ => rfl | ⟨1, _⟩ => exact (Nat.zero_add _).symm)]
  rfl

/-- The first three quarters of the hidden units. -/
theorem pay17_apply (v145 : FVec Ideal S256x1024 .bf16) (v1 : FVec Ideal S6x1024 .f32) (v104 v106 : FVec Ideal S256x1024 .f32) (v108 v124 : FVec Ideal S1x1024 .f32)
    (v147 v154 v158 v165 v169 v176 : FVec Ideal S1024x1024 .bf16) (h : v145 = k0_pay13 v1 v104 v106 v108 v124) (r : Fin 256) (e : Fin 1024) :
    @Eq EReal (k0_pay17 v145 (k0_pay14 (F := Ideal)) (k0_pay15 v1 v104 v106 v108 v124 v147) (k0_pay16 (F := Ideal)) v154 v158 v165 v169 v176 (ix2 r e))
      (mlp (fun k => v145 (ix2 r k)) (fun k j => v147 (ix2 k j)) (fun j e => v154 (ix2 j e)) e
        + mlp (fun k => v145 (ix2 r k)) (fun k j => v158 (ix2 k j)) (fun j e => v165 (ix2 j e)) e
        + mlp (fun k => v145 (ix2 r k)) (fun k j => v169 (ix2 k j)) (fun j e => v176 (ix2 j e)) e) := by
  subst h
  unfold k0_pay17 k0_pay14 k0_pay15 k0_pay16
  simp only [mulf_apply, addf_apply, maximumf_apply, truncf_apply, shapeCast_self, dot_mlp, broadcast_apply, scalar_at]
  rw [show Ideal.ofBits .f32 0x00000000#32 = (0 : EReal) from zero_eq, zero_add]
  unfold mlp unit relu2
  simp only [zero_eq]

/-- The last quarter and the residual step after it. -/
theorem pay1_apply (v145 : FVec Ideal S256x1024 .bf16) (v1 : FVec Ideal S6x1024 .f32) (v123 v179 : FVec Ideal S256x1024 .f32)
    (v180 v187 : FVec Ideal S1024x1024 .bf16) (v192 : FVec Ideal S1x1024 .f32) (r : Fin 256) (e : Fin 1024) :
    k0_pay1 v1 v123 v179 (k0_pay18 v145 v180) v187 v192 (ix3 0 r e)
      = step (fun e => v123 (ix2 r e)) (fun e => v1 (ix2 5 e))
          (fun e => v179 (ix2 r e) + mlp (fun k => v145 (ix2 r k)) (fun k j => v180 (ix2 k j)) (fun j e => v187 (ix2 j e)) e) (fun e => v192 (ix2 0 e)) e := by
  unfold k0_pay1 k0_pay18
  rw [shapeCast_apply _ _ _ (ix2 r e) (by rw [Shape.rowMajor_val_two, Shape.rowMajor_val_three]; simp)]
  simp only [mulf_apply, addf_apply, divf_apply, maximumf_apply, truncf_apply, rsqrt_at, row_at, col_at, shapeCast_self, broadcast_apply, scalar_at]
  rw [sum_at]
  simp only [mulf_apply, addf_apply, maximumf_apply, truncf_apply, dot_mlp, broadcast_apply, scalar_at]
  rw [extractStridedSlice_apply _ _ _ _ (ix2 5 e) (by intro d; match d with | ⟨0, _⟩ => rfl | ⟨1, _⟩ => exact (Nat.zero_add _).symm)]
  rfl

/-! ## The neighbouring rows -/

/-- The row before: the rotated one, and before the first row zero. -/
theorem pay4_apply (i : grid0.Coords) (hi : (i 0).val < 1) (v2 : FVec Ideal S1x256x256 .f32) (v8 : FVec Ideal S1x8x256 .f32) (r : Fin 256) (e : Fin 256) :
    @Eq EReal (k0_pay4 (F := Ideal) i v2 v8 (ix2 r e)) (if r.val = 0 then 0 else v2 (ix3 0 ⟨r.val - 1, by omega⟩ e)) := by
  have hr := r.isLt
  unfold k0_pay4
  simp only [shapeCast_self]
  rw [select_apply, row_at, col_at, mulf_apply, broadcast_apply,
    dynamicRotate_apply 0 1#32 _ _ (ix2 r e) (ix2 ⟨(r.val + 255) % 256, by omega⟩ e) (by
      intro b
      match b with
      | ⟨0, _⟩ => rfl
      | ⟨1, _⟩ => rfl),
    pay3_apply]
  have hm : cmpi .eq (iota .tc S256x1 32 [0] iota_S256x1_d0_w32) (broadcast S256x1 0#32) (ix2 r 0) = BitVec.ofBool (decide (r.val = 0)) :=
    is_row (by omega) _ (by omega) _ r
  have hs : Scalar.select (Scalar.cmpi .sgt (BitVec.ofNat 32 (i 0).val) 0#32) (Scalar.ofBits (F := Ideal) .f32 0x3F800000#32) (Scalar.ofBits .f32 0x00000000#32)
      = zero := by
    obtain h : (i 0).val = 0 := by omega
    rw [h]
    rfl
  rw [hm, hs, zero_eq]
  by_cases h0 : r.val = 0
  · rw [if_pos h0, decide_eq_true h0]
    exact (ValueIdx.select_one _ _).trans (mul_zero _)
  · rw [if_neg h0, decide_eq_false h0]
    refine (ValueIdx.select_zero _ _).trans (congrArg v2 ?_)
    refine congrArg (fun k => ix3 0 k e) ?_
    exact Fin.ext (by show (r.val + 255) % 256 = r.val - 1; omega)

/-- The row after: the rotated one, and after the last row zero. -/
theorem pay5_apply (i : grid0.Coords) (hi : (i 0).val < 1) (v2 : FVec Ideal S1x256x256 .f32) (v13 : FVec Ideal S1x8x256 .f32) (r : Fin 256) (e : Fin 256) :
    @Eq EReal (k0_pay5 (F := Ideal) i v2 v13 (ix2 r e)) (if h : r.val = 255 then 0 else v2 (ix3 0 ⟨r.val + 1, by omega⟩ e)) := by
  have hr := r.isLt
  unfold k0_pay5
  simp only [shapeCast_self]
  rw [select_apply, row_at, col_at, mulf_apply, broadcast_apply,
    dynamicRotate_apply 0 255#32 _ _ (ix2 r e) (ix2 ⟨(r.val + 1) % 256, by omega⟩ e) (by
      intro b
      match b with
      | ⟨0, _⟩ => rfl
      | ⟨1, _⟩ => rfl),
    pay3_apply]
  have hm : cmpi .eq (iota .tc S256x1 32 [0] iota_S256x1_d0_w32) (broadcast S256x1 255#32) (ix2 r 0) = BitVec.ofBool (decide (r.val = 255)) :=
    is_row (by omega) _ (by omega) _ r
  have hs : Scalar.select (Scalar.cmpi .slt (BitVec.ofNat 32 (i 0).val) 0#32) (Scalar.ofBits (F := Ideal) .f32 0x3F800000#32) (Scalar.ofBits .f32 0x00000000#32)
      = zero := by
    obtain h : (i 0).val = 0 := by omega
    rw [h]
    rfl
  rw [hm, hs, zero_eq]
  by_cases h0 : r.val = 255
  · rw [dif_pos h0, decide_eq_true h0]
    exact (ValueIdx.select_one _ _).trans (mul_zero _)
  · rw [dif_neg h0, decide_eq_false h0]
    refine (ValueIdx.select_zero _ _).trans (congrArg v2 ?_)
    refine congrArg (fun k => ix3 0 k e) ?_
    exact Fin.ext (by show (r.val + 1) % 256 = r.val + 1; omega)

end Cert.CtxBlock

end
-- ==== Proof.BlockBody.lean ====
/- The block kernel's arithmetic, read at an index: each payload of the body is one of the row functions. -/
module

public import proofs.«01_k».proof.Proof.Gen.BlockIdeal.Skeleton
public import proofs.«01_k».proof.Proof.BlockLayout

@[expose] public section

set_option backward.proofsInPublic true

noncomputable section

open scoped BigOperators

namespace Cert.Block

open Idealize.ShloMosaic Idealize.ShloMosaic.WordCmp Idealize.ShloMosaic.ValueIdx Cert.BlockIdeal Cert.BlockIdeal.Gen

/-! ## The products -/

theorem dot_glu (x : FVec Ideal S512x256 .bf16) (w : FVec Ideal S256x256 .bf16) (r : Fin 512) (e : Fin 256) :
    matmul dot_S512x256_S256x256_S512x256_1_0_0_1_n_n none x w (constant S512x256 .f32 0x00000000#32) (ix2 r e)
      = ∑ k : Fin 256, x (ix2 r k) * w (ix2 k e) := dot_at x w r e

theorem dot_attn (x : FVec Ideal S512x512 .bf16) (w : FVec Ideal S512x1024 .bf16) (r : Fin 512) (e : Fin 1024) :
    matmul dot_S512x512_S512x1024_S512x1024_1_0_0_1_n_n none x w (constant S512x1024 .f32 0x00000000#32) (ix2 r e)
      = ∑ k : Fin 512, x (ix2 r k) * w (ix2 k e) := dot_at x w r e

theorem dot_branch (x : FVec Ideal S512x256 .bf16) (w : FVec Ideal S256x1024 .bf16) (r : Fin 512) (e : Fin 1024) :
    matmul dot_S512x256_S256x1024_S512x1024_1_0_0_1_n_n none x w (constant S512x1024 .f32 0x00000000#32) (ix2 r e)
      = ∑ k : Fin 256, x (ix2 r k) * w (ix2 k e) := dot_at x w r e

theorem dot_mlp (x : FVec Ideal S512x1024 .bf16) (w : FVec Ideal S1024x1024 .bf16) (r : Fin 512) (e : Fin 1024) :
    matmul dot_S512x1024_S1024x1024_S512x1024_1_0_0_1_n_n none x w (constant S512x1024 .f32 0x00000000#32) (ix2 r e)
      = ∑ k : Fin 1024, x (ix2 r k) * w (ix2 k e) := dot_at x w r e

/-! ## The payloads -/

theorem pay2_apply (v : FVec Ideal S1x6x1024 .f32) (k : Fin 6) (e : Fin 1024) : k0_pay2 v (ix2 k e) = v (ix3 0 k e) :=
  shapeCast_apply _ _ _ _ (by rw [Shape.rowMajor_val_two, Shape.rowMajor_val_three]; simp)

theorem pay3_apply (v : FVec Ideal S1x512x256 .f32) (r : Fin 512) (e : Fin 256) : k0_pay3 v (ix2 r e) = v (ix3 0 r e) := drop_at v _ r e

theorem pay11_apply (v : FVec Ideal S1x512x1024 .f32) (r : Fin 512) (e : Fin 1024) : k0_pay11 v (ix2 r e) = v (ix3 0 r e) := drop_at v _ r e

theorem pay6_apply (v3 v26 v34 : FVec Ideal S512x256 .f32) (v35 : FVec Ideal S1x512x256 .f32) (v37 v40 v44 : FVec Ideal S1x256 .f32)
    (r : Fin 512) (e : Fin 256) :
    k0_pay6 v3 v26 v34 v35 v37 v40 v44 (ix2 r e) = conv (fun e => v35 (ix3 0 r e)) (fun e => v26 (ix2 r e)) (fun e => v3 (ix2 r e))
      (fun e => v34 (ix2 r e)) ![fun e => v37 (ix2 0 e), fun e => v40 (ix2 0 e), fun e => v44 (ix2 0 e)] e := by
  unfold k0_pay6
  simp only [mulf_apply, addf_apply, row_at, drop_at]
  rfl

theorem pay7_apply (v49 v51 : FVec Ideal S1x1x512x256 .f32) (v54 : FVec Ideal S1x256 .f32) (v56 : FVec Ideal S1x512x256 .f32) (r : Fin 512) (e : Fin 256) :
    k0_pay7 (F := Ideal) v49 v51 v54 v56 (ix2 r e) = skip (fun e => v49 (ix4 0 0 r e)) (fun e => v51 (ix4 0 0 r e)) (fun e => v56 (ix3 0 r e)) (fun e => v54 (ix2 0 e)) e := by
  unfold k0_pay7
  simp only [mulf_apply, addf_apply, row_at, drop_at, drop2_at, shapeCast_self]
  rfl

theorem gelu_apply (v49 v51 : FVec Ideal S1x1x512x256 .f32) (v54 : FVec Ideal S1x256 .f32) (v56 : FVec Ideal S1x512x256 .f32) (r : Fin 512) (e : Fin 256) :
    @Eq EReal (k0_pay8 (F := Ideal) v49 v51 v54 v56 (ix2 r e) * (one + k0_pay9 (F := Ideal) v49 v51 v54 v56 (ix2 r e))) (gelu (k0_pay7 (F := Ideal) v49 v51 v54 v56 (ix2 r e))) := by
  unfold k0_pay8 k0_pay9
  rfl

theorem pay10_apply (v48 v62 v70 : FVec Ideal S512x256 .f32) (v75 : FVec Ideal S256x256 .bf16) (v78 : FVec Ideal S1x256 .f32)
    (v90 : FVec Ideal S1x512x512 .bf16) (v92 : FVec Ideal S512x1024 .bf16) (v96 v101 : FVec Ideal S256x1024 .bf16) (r : Fin 512) (e : Fin 1024) :
    @Eq EReal (k0_pay10 v48 v62 v70 v75 v78 v90 v92 v96 v101 (ix2 r e))
      ((∑ k : Fin 512, v90 (ix3 0 r k) * v92 (ix2 k e)) + (∑ k : Fin 256, v48 (ix2 r k) * v96 (ix2 k e))
        + ∑ k : Fin 256, glu (fun e => v62 (ix2 r e) * (one + v70 (ix2 r e))) (fun k e => v75 (ix2 k e)) (fun e => v78 (ix2 0 e)) k * v101 (ix2 k e)) := by
  unfold k0_pay10
  simp only [mulf_apply, addf_apply, subf_apply, divf_apply, truncf_apply, exp_at, row_at, shapeCast_self, dot_glu, dot_attn, dot_branch, drop_at,
    broadcast_apply, scalar_at]
  unfold glu
  simp only [zero_eq, zero_sub]

theorem pay12_apply (v1 : FVec Ideal S6x1024 .f32) (v104 v106 : FVec Ideal S512x1024 .f32) (v108 : FVec Ideal S1x1024 .f32) (r : Fin 512) (e : Fin 1024) :
    k0_pay12 v1 v104 v106 v108 (ix2 r e)
      = step (fun e => v106 (ix2 r e)) (fun e => v1 (ix2 2 e)) (fun e => v104 (ix2 r e)) (fun e => v108 (ix2 0 e)) e := by
  unfold k0_pay12
  simp only [mulf_apply, addf_apply, divf_apply, rsqrt_at, row_at, col_at, broadcast_apply, scalar_at]
  rw [sum_at]
  simp only [mulf_apply]
  rw [extractStridedSlice_apply _ _ _ _ (ix2 2 e) (by intro d; match d with | ⟨0, _⟩ => rfl | ⟨1, _⟩ => exact (Nat.zero_add _).symm)]
  rfl

theorem pay13_apply (v1 : FVec Ideal S6x1024 .f32) (v104 v106 : FVec Ideal S512x1024 .f32) (v108 v124 : FVec Ideal S1x1024 .f32) (r : Fin 512) (e : Fin 1024) :
    k0_pay13 v1 v104 v106 v108 v124 (ix2 r e)
      = modulated (fun e => k0_pay12 v1 v104 v106 v108 (ix2 r e)) (fun e => v124 (ix2 0 e)) (fun e => v1 (ix2 4 e)) (fun e => v1 (ix2 3 e)) e := by
  unfold k0_pay13
  simp only [mulf_apply, addf_apply, divf_apply, truncf_apply, rsqrt_at, row_at, col_at, broadcast_apply, scalar_at]
  rw [sum_at]
  simp only [mulf_apply]
  rw [extractStridedSlice_apply ![4, 0] v1 _ _ (ix2 4 e) (by intro d; match d with | ⟨0, _⟩ => rfl | ⟨1, _⟩ => exact (Nat.zero_add _).symm),
    extractStridedSlice_apply ![3, 0] v1 _ _ (ix2 3 e) (by intro d; match d with | ⟨0, _⟩ => rfl | ⟨1, _⟩ => exact (Nat.zero_add _).symm)]
  rfl

/-- The first three quarters of the hidden units. -/
theorem pay17_apply (v145 : FVec Ideal S512x1024 .bf16) (v1 : FVec Ideal S6x1024 .f32) (v104 v106 : FVec Ideal S512x1024 .f32) (v108 v124 : FVec Ideal S1x1024 .f32)
    (v147 v154 v158 v165 v169 v176 : FVec Ideal S1024x1024 .bf16) (h : v145 = k0_pay13 v1 v104 v106 v108 v124) (r : Fin 512) (e : Fin 1024) :
    @Eq EReal (k0_pay17 v145 (k0_pay14 (F := Ideal)) (k0_pay15 v1 v104 v106 v108 v124 v147) (k0_pay16 (F := Ideal)) v154 v158 v165 v169 v176 (ix2 r e))
      (mlp (fun k => v145 (ix2 r k)) (fun k j => v147 (ix2 k j)) (fun j e => v154 (ix2 j e)) e
        + mlp (fun k => v145 (ix2 r k)) (fun k j => v158 (ix2 k j)) (fun j e => v165 (ix2 j e)) e
        + mlp (fun k => v145 (ix2 r k)) (fun k j => v169 (ix2 k j)) (fun j e => v176 (ix2 j e)) e) := by
  subst h
  unfold k0_pay17 k0_pay14 k0_pay15 k0_pay16
  simp only [mulf_apply, addf_apply, maximumf_apply, truncf_apply, shapeCast_self, dot_mlp, broadcast_apply, scalar_at]
  rw [show Ideal.ofBits .f32 0x00000000#32 = (0 : EReal) from zero_eq, zero_add]
  unfold mlp unit relu2
  simp only [zero_eq]

/-- The last quarter and the residual step after it. -/
theorem pay1_apply (v145 : FVec Ideal S512x1024 .bf16) (v1 : FVec Ideal S6x1024 .f32) (v123 v179 : FVec Ideal S512x1024 .f32)
    (v180 v187 : FVec Ideal S1024x1024 .bf16) (v192 : FVec Ideal S1x1024 .f32) (r : Fin 512) (e : Fin 1024) :
    k0_pay1 v1 v123 v179 (k0_pay18 v145 v180) v187 v192 (ix3 0 r e)
      = step (fun e => v123 (ix2 r e)) (fun e => v1 (ix2 5 e))
          (fun e => v179 (ix2 r e) + mlp (fun k => v145 (ix2 r k)) (fun k j => v180 (ix2 k j)) (fun j e => v187 (ix2 j e)) e) (fun e => v192 (ix2 0 e)) e := by
  unfold k0_pay1 k0_pay18
  rw [shapeCast_apply _ _ _ (ix2 r e) (by rw [Shape.rowMajor_val_two, Shape.rowMajor_val_three]; simp)]
  simp only [mulf_apply, addf_apply, divf_apply, maximumf_apply, truncf_apply, rsqrt_at, row_at, col_at, shapeCast_self, broadcast_apply, scalar_at]
  rw [sum_at]
  simp only [mulf_apply, addf_apply, maximumf_apply, truncf_apply, dot_mlp, broadcast_apply, scalar_at]
  rw [extractStridedSlice_apply _ _ _ _ (ix2 5 e) (by intro d; match d with | ⟨0, _⟩ => rfl | ⟨1, _⟩ => exact (Nat.zero_add _).symm)]
  rfl

/-! ## The neighbouring rows -/

/-- The row before: within the block the rotated one, at its first row the previous block's last. -/
theorem pay4_apply (i : grid0.Coords) (hi : (i 0).val < 4) (v2 : FVec Ideal S1x512x256 .f32) (v8 : FVec Ideal S1x8x256 .f32) (r : Fin 512) (e : Fin 256) :
    @Eq EReal (k0_pay4 (F := Ideal) i v2 v8 (ix2 r e))
      (if r.val = 0 then v8 (ix3 0 7 e) * (if 0 < (i 0).val then one else zero) else v2 (ix3 0 ⟨r.val - 1, by omega⟩ e)) := by
  have hr := r.isLt
  unfold k0_pay4
  simp only [shapeCast_self]
  rw [select_apply, row_at, col_at, mulf_apply, broadcast_apply,
    dynamicRotate_apply 0 1#32 _ _ (ix2 r e) (ix2 ⟨(r.val + 511) % 512, by omega⟩ e) (by
      intro b
      match b with
      | ⟨0, _⟩ => rfl
      | ⟨1, _⟩ => rfl),
    pay3_apply,
    extractStridedSlice_apply ![7, 0] _ _ _ (ix2 7 e) (by intro d; match d with | ⟨0, _⟩ => rfl | ⟨1, _⟩ => exact (Nat.zero_add _).symm),
    shapeCast_apply (t := S8x256) v8 _ (ix2 7 e) (ix3 0 7 e) (by rw [Shape.rowMajor_val_two, Shape.rowMajor_val_three]; simp)]
  have hm : cmpi .eq (iota .tc S512x1 32 [0] iota_S512x1_d0_w32) (broadcast S512x1 0#32) (ix2 r 0) = BitVec.ofBool (decide (r.val = 0)) :=
    is_row (by omega) _ (by omega) _ r
  have hs : Scalar.select (Scalar.cmpi .sgt (BitVec.ofNat 32 (i 0).val) 0#32) (Scalar.ofBits (F := Ideal) .f32 0x3F800000#32) (Scalar.ofBits .f32 0x00000000#32)
      = if 0 < (i 0).val then one else zero := by
    generalize (i 0).val = n at hi
    interval_cases n <;> rfl
  rw [hm, hs]
  by_cases h0 : r.val = 0
  · simp [h0, ValueIdx.select_one]
  · rw [if_neg h0, decide_eq_false h0]
    refine (ValueIdx.select_zero _ _).trans (congrArg v2 ?_)
    refine congrArg (fun k => ix3 0 k e) ?_
    exact Fin.ext (by show (r.val + 511) % 512 = r.val - 1; omega)

/-- The row after: within the block the rotated one, at its last row the next block's first. -/
theorem pay5_apply (i : grid0.Coords) (hi : (i 0).val < 4) (v2 : FVec Ideal S1x512x256 .f32) (v13 : FVec Ideal S1x8x256 .f32) (r : Fin 512) (e : Fin 256) :
    @Eq EReal (k0_pay5 (F := Ideal) i v2 v13 (ix2 r e))
      (if h : r.val = 511 then v13 (ix3 0 0 e) * (if (i 0).val < 3 then one else zero) else v2 (ix3 0 ⟨r.val + 1, by omega⟩ e)) := by
  have hr := r.isLt
  unfold k0_pay5
  simp only [shapeCast_self]
  rw [select_apply, row_at, col_at, mulf_apply, broadcast_apply,
    dynamicRotate_apply 0 511#32 _ _ (ix2 r e) (ix2 ⟨(r.val + 1) % 512, by omega⟩ e) (by
      intro b
      match b with
      | ⟨0, _⟩ => rfl
      | ⟨1, _⟩ => rfl),
    pay3_apply,
    extractStridedSlice_apply ![0, 0] _ _ _ (ix2 0 e) (by intro d; match d with | ⟨0, _⟩ => rfl | ⟨1, _⟩ => exact (Nat.zero_add _).symm),
    shapeCast_apply (t := S8x256) v13 _ (ix2 0 e) (ix3 0 0 e) (by rw [Shape.rowMajor_val_two, Shape.rowMajor_val_three]; simp)]
  have hm : cmpi .eq (iota .tc S512x1 32 [0] iota_S512x1_d0_w32) (broadcast S512x1 511#32) (ix2 r 0) = BitVec.ofBool (decide (r.val = 511)) :=
    is_row (by omega) _ (by omega) _ r
  have hs : Scalar.select (Scalar.cmpi .slt (BitVec.ofNat 32 (i 0).val) 3#32) (Scalar.ofBits (F := Ideal) .f32 0x3F800000#32) (Scalar.ofBits .f32 0x00000000#32)
      = if (i 0).val < 3 then one else zero := by
    generalize (i 0).val = n at hi
    interval_cases n <;> rfl
  rw [hm, hs]
  by_cases h0 : r.val = 511
  · simp [h0, ValueIdx.select_one]
  · rw [dif_neg h0, decide_eq_false h0]
    refine (ValueIdx.select_zero _ _).trans (congrArg v2 ?_)
    refine congrArg (fun k => ix3 0 k e) ?_
    exact Fin.ext (by show (r.val + 1) % 512 = r.val + 1; omega)

end Cert.Block

end
-- ==== Proof.BlockBlock.lean ====
/- The block kernel's stored block at an index: the row functions of its input blocks' rows. -/
module

public import proofs.«01_k».proof.Proof.Gen.BlockIdeal.Value
public import proofs.«01_k».proof.Proof.BlockBody
public import proofs.«01_k».proof.Proof.Tools

@[expose] public section

set_option backward.proofsInPublic true

noncomputable section

open scoped BigOperators

namespace Cert.Block

open Idealize.ShloMosaic Idealize.ShloMosaic.ValueIdx Cert.BlockIdeal Cert.BlockIdeal.Gen

section

variable (i : grid0.Coords) (x0 : FVec Ideal S1x512x1024 .f32) (x1 : FVec Ideal S1x512x512 .bf16) (x2 x3 : FVec Ideal S1x512x256 .f32)
  (x4 x5 : FVec Ideal S1x8x256 .f32) (x6 : FVec Ideal S2x1x512x256 .f32) (x7 : FVec Ideal S1x512x256 .f32) (x8 : FVec Ideal S1x6x1024 .f32)
  (x9 : FVec Ideal S4x1024 .f32) (x10 : FVec Ideal S3x256 .f32) (x11 : FVec Ideal S1x256 .f32) (x12 : FVec Ideal S256x256 .bf16)
  (x13 : FVec Ideal S1x256 .f32) (x14 : FVec Ideal S1024x1024 .bf16) (x15 : FVec Ideal S1024x4096 .bf16) (x16 : FVec Ideal S4096x1024 .bf16)

/-- Row `r` of a block's inputs. -/
def blockRow (r : Fin 512) : Row where
  h e := x0 (ix3 0 r e)
  attn k := x1 (ix3 0 r k)
  cb e := x2 (ix3 0 r e)
  before e := k0_pay4 (F := Ideal) i x3 x4 (ix2 r e)
  here e := x3 (ix3 0 r e)
  after e := k0_pay5 (F := Ideal) i x3 x5 (ix2 r e)
  y0 e := x6 (ix4 0 0 r e)
  y1 e := x6 (ix4 1 0 r e)
  u e := x7 (ix3 0 r e)
  mods k e := x8 (ix3 0 k e)
  g k e := x9 (ix2 k e)
  w k e := x10 (ix2 k e)
  d e := x11 (ix2 0 e)
  wg k e := x12 (ix2 k e)
  bg e := x13 (ix2 0 e)
  wo k e := x14 (ix2 k e)
  w1 k j := x15 (ix2 k j)
  w2 j e := x16 (ix2 j e)

theorem zero3 : (![0, 0, 0] : Fin 3 → Nat) = fun _ => 0 := by decide
theorem zero2 : (![0, 0] : Fin 2 → Nat) = fun _ => 0 := by decide

/-- A whole block loaded. -/
theorem ld_whole {s : Shape} {e : EltTy} (X : s.Idx → Elt Ideal e) (off : Fin s.rank → Nat) (h : off = fun _ => 0) (inb : ∀ a, off a + s.size a ≤ s.size a) :
    View.ld (Val := Elt Ideal) (e' := e) X (Rect.unit off s.size inb) = X := View.ld_unit_zero h inb X

/-- The loads of one row of a weight. -/
theorem ld_g (k : Fin 4) (inb : ∀ a, (![k.val, 0] : Fin 2 → Nat) a + S1x1024.size a ≤ S4x1024.size a) (e : Fin 1024) :
    View.ld (Val := Elt Ideal) (e' := .f32) x9 (Rect.unit (s := S4x1024) ![k.val, 0] S1x1024.size inb) (ix2 0 e) = x9 (ix2 k e) := by
  refine Tools.ld_apply (Val := Elt Ideal) (S := S4x1024) (e := .f32) x9 ![k.val, 0] S1x1024.size inb (ix2 0 e) (ix2 k e) ?_
  intro a
  match a with
  | ⟨0, _⟩ => rfl
  | ⟨1, _⟩ => exact (Nat.zero_add _).symm

theorem ld_w (k : Fin 3) (inb : ∀ a, (![k.val, 0] : Fin 2 → Nat) a + S1x256.size a ≤ S3x256.size a) (e : Fin 256) :
    View.ld (Val := Elt Ideal) (e' := .f32) x10 (Rect.unit (s := S3x256) ![k.val, 0] S1x256.size inb) (ix2 0 e) = x10 (ix2 k e) := by
  refine Tools.ld_apply (Val := Elt Ideal) (S := S3x256) (e := .f32) x10 ![k.val, 0] S1x256.size inb (ix2 0 e) (ix2 k e) ?_
  intro a
  match a with
  | ⟨0, _⟩ => rfl
  | ⟨1, _⟩ => exact (Nat.zero_add _).symm

theorem ld_scan (k : Fin 2) (inb : ∀ a, (![k.val, 0, 0, 0] : Fin 4 → Nat) a + S1x1x512x256.size a ≤ S2x1x512x256.size a) (r : Fin 512) (e : Fin 256) :
    View.ld (Val := Elt Ideal) (e' := .f32) x6 (Rect.unit (s := S2x1x512x256) ![k.val, 0, 0, 0] S1x1x512x256.size inb) (ix4 0 0 r e) = x6 (ix4 k 0 r e) := by
  refine Tools.ld_apply (Val := Elt Ideal) (S := S2x1x512x256) (e := .f32) x6 ![k.val, 0, 0, 0] S1x1x512x256.size inb (ix4 0 0 r e) (ix4 k 0 r e) ?_
  intro a
  match a with
  | ⟨0, _⟩ => rfl
  | ⟨1, _⟩ => rfl
  | ⟨2, _⟩ => exact (Nat.zero_add _).symm
  | ⟨3, _⟩ => exact (Nat.zero_add _).symm

theorem ld_wo512 (e : Fin 1024) (k : Fin 512) : View.ld (Val := Elt Ideal) (e' := .bf16) x14 r0_11 (ix2 k e) = x14 (ix2 ⟨k.val, by omega⟩ e) := by
  refine Tools.ld_apply (Val := Elt Ideal) (S := S1024x1024) (e := .bf16) x14 ![0, 0] S512x1024.size inb_S1024x1024_S512x1024_0_0 (ix2 k e) (ix2 ⟨k.val, by omega⟩ e) ?_
  intro a
  match a with
  | ⟨0, _⟩ => exact (Nat.zero_add _).symm
  | ⟨1, _⟩ => exact (Nat.zero_add _).symm

theorem ld_wo (o : ℕ) (ho : o ≤ 768) (inb : ∀ a, (![o, 0] : Fin 2 → Nat) a + S256x1024.size a ≤ S1024x1024.size a) (e : Fin 1024) (k : Fin 256) :
    View.ld (Val := Elt Ideal) (e' := .bf16) x14 (Rect.unit (s := S1024x1024) ![o, 0] S256x1024.size inb) (ix2 k e) = x14 (ix2 ⟨o + k.val, by omega⟩ e) := by
  refine Tools.ld_apply (Val := Elt Ideal) (S := S1024x1024) (e := .bf16) x14 ![o, 0] S256x1024.size inb (ix2 k e) (ix2 ⟨o + k.val, by omega⟩ e) ?_
  intro a
  match a with
  | ⟨0, _⟩ => rfl
  | ⟨1, _⟩ => exact (Nat.zero_add _).symm

theorem ld_w1 (o : ℕ) (ho : o ≤ 3072) (inb : ∀ a, (![0, o] : Fin 2 → Nat) a + S1024x1024.size a ≤ S1024x4096.size a) (k j : Fin 1024) :
    View.ld (Val := Elt Ideal) (e' := .bf16) x15 (Rect.unit (s := S1024x4096) ![0, o] S1024x1024.size inb) (ix2 k j) = x15 (ix2 k ⟨o + j.val, by omega⟩) := by
  refine Tools.ld_apply (Val := Elt Ideal) (S := S1024x4096) (e := .bf16) x15 ![0, o] S1024x1024.size inb (ix2 k j) (ix2 k ⟨o + j.val, by omega⟩) ?_
  intro a
  match a with
  | ⟨0, _⟩ => exact (Nat.zero_add _).symm
  | ⟨1, _⟩ => rfl

theorem ld_w2 (o : ℕ) (ho : o ≤ 3072) (inb : ∀ a, (![o, 0] : Fin 2 → Nat) a + S1024x1024.size a ≤ S4096x1024.size a) (j e : Fin 1024) :
    View.ld (Val := Elt Ideal) (e' := .bf16) x16 (Rect.unit (s := S4096x1024) ![o, 0] S1024x1024.size inb) (ix2 j e) = x16 (ix2 ⟨o + j.val, by omega⟩ e) := by
  refine Tools.ld_apply (Val := Elt Ideal) (S := S4096x1024) (e := .bf16) x16 ![o, 0] S1024x1024.size inb (ix2 j e) (ix2 ⟨o + j.val, by omega⟩ e) ?_
  intro a
  match a with
  | ⟨0, _⟩ => rfl
  | ⟨1, _⟩ => exact (Nat.zero_add _).symm

/-- The mixed row. -/
theorem pay20_apply (r : Fin 512) (e : Fin 1024) :
    @Eq EReal (k0_pay20 (F := Ideal) i x0 x1 x2 x3 x4 x5 x6 x7 x8 x9 x10 x11 x12 x13 x14 x15 x16 (ix2 r e)) ((blockRow i x0 x1 x2 x3 x4 x5 x6 x7 x8 x9 x10 x11 x12 x13 x14 x15 x16 r).mix e) := by
  unfold k0_pay20
  rw [
    show View.ld (Val := Elt Ideal) (e' := .f32) x3 r0_1 = x3 from ld_whole _ _ zero3 _,
    show View.ld (Val := Elt Ideal) (e' := .f32) x4 r0_2 = x4 from ld_whole _ _ zero3 _,
    show View.ld (Val := Elt Ideal) (e' := .f32) x5 r0_2 = x5 from ld_whole _ _ zero3 _,
    show View.ld (Val := Elt Ideal) (e' := .f32) x2 r0_1 = x2 from ld_whole _ _ zero3 _,
    show View.ld (Val := Elt Ideal) (e' := .f32) x11 r0_8 = x11 from ld_whole _ _ zero2 _,
    show View.ld (Val := Elt Ideal) (e' := .f32) x7 r0_1 = x7 from ld_whole _ _ zero3 _,
    show View.ld (Val := Elt Ideal) (e' := .bf16) x12 r0_9 = x12 from ld_whole _ _ zero2 _,
    show View.ld (Val := Elt Ideal) (e' := .f32) x13 r0_8 = x13 from ld_whole _ _ zero2 _,
    show View.ld (Val := Elt Ideal) (e' := .bf16) x1 r0_10 = x1 from ld_whole _ _ zero3 _]
  refine (pay10_apply _ _ _ _ _ _ _ _ _ r e).trans ?_
  unfold Row.mix mixed
  refine congrArg₂ (· + ·) (congrArg₂ (· + ·) (Finset.sum_congr rfl fun k _ => ?_) (Finset.sum_congr rfl fun k _ => ?_)) (Finset.sum_congr rfl fun k _ => ?_)
  · rw [ld_wo512]
    rfl
  · rw [ld_wo _ 512 (by omega), pay6_apply]
    refine congrArg (· * _) ?_
    exact congrArg₂ (· * ·) rfl (congrArg₂ (· + ·) (congrArg₂ (· + ·) (congrArg₂ (· * ·) rfl (ld_w x10 0 _ k))
      (congrArg₂ (· * ·) (pay3_apply x3 r k) (ld_w x10 1 _ k))) (congrArg₂ (· * ·) rfl (ld_w x10 2 _ k)))
  · rw [ld_wo _ 768 (by omega)]
    refine congrArg (· * _) ?_
    unfold Row.ssm
    refine congrArg (fun x => glu x (fun k e => x12 (ix2 k e)) (fun e => x13 (ix2 0 e)) k) (funext fun e => ?_)
    refine (gelu_apply _ _ _ _ r e).trans (congrArg gelu ?_)
    rw [pay7_apply]
    exact congrArg₂ (· + ·) (congrArg₂ (· + ·) (ld_scan x6 0 _ r e) (ld_scan x6 1 _ r e)) rfl

/-- Equal rows make equal steps. -/
theorem step_congr {h h' a a' x x' g g' : Fin 1024 → EReal} (h1 : ∀ e, h e = h' e) (h2 : ∀ e, a e = a' e) (h3 : ∀ e, x e = x' e) (h4 : ∀ e, g e = g' e)
    (e : Fin 1024) : step h a x g e = step h' a' x' g' e := by
  rw [funext h1, funext h2, funext h3, funext h4]

/-- Equal rows make equal modulated rows. -/
theorem modulated_congr {x x' g g' a a' b b' : Fin 1024 → EReal} (h1 : ∀ e, x e = x' e) (h2 : ∀ e, g e = g' e) (h3 : ∀ e, a e = a' e) (h4 : ∀ e, b e = b' e)
    (e : Fin 1024) : modulated x g a b e = modulated x' g' a' b' e := by
  rw [funext h1, funext h2, funext h3, funext h4]

/-- The loads of the token's row and of its modulation. -/
theorem ld_h (r : Fin 512) (e : Fin 1024) : View.ld (Val := Elt Ideal) (e' := .f32) x0 r0_14 (ix3 0 r e) = x0 (ix3 0 r e) :=
  congrFun (ld_whole (s := S1x512x1024) (e := .f32) x0 ![0, 0, 0] zero3 inb_S1x512x1024_S1x512x1024_0_0_0) _

theorem ld_mods (k : Fin 6) (e : Fin 1024) : View.ld (Val := Elt Ideal) (e' := .f32) x8 r0_0 (ix3 0 k e) = x8 (ix3 0 k e) :=
  congrFun (ld_whole (s := S1x6x1024) (e := .f32) x8 ![0, 0, 0] zero3 inb_S1x6x1024_S1x6x1024_0_0_0) _

/-- The row after the mixing. -/
theorem mid_apply (r : Fin 512) (e : Fin 1024) :
    k0_pay12 (k0_pay19 (F := Ideal) i x0 x1 x2 x3 x4 x5 x6 x7 x8 x9 x10 x11 x12 x13 x14 x15 x16) (k0_pay20 (F := Ideal) i x0 x1 x2 x3 x4 x5 x6 x7 x8 x9 x10 x11 x12 x13 x14 x15 x16) (k0_pay21 (F := Ideal) i x0 x1 x2 x3 x4 x5 x6 x7 x8 x9 x10 x11 x12 x13 x14 x15 x16) (View.ld x9 r0_15) (ix2 r e) = (blockRow i x0 x1 x2 x3 x4 x5 x6 x7 x8 x9 x10 x11 x12 x13 x14 x15 x16 r).mid e := by
  rw [pay12_apply]
  unfold Row.mid
  refine step_congr (fun e => ?_) (fun e => ?_) (fun e => ?_) (fun e => ?_) e
  · exact (pay11_apply _ r e).trans (ld_h x0 r e)
  · exact (pay2_apply _ 2 e).trans (ld_mods x8 2 e)
  · exact pay20_apply i x0 x1 x2 x3 x4 x5 x6 x7 x8 x9 x10 x11 x12 x13 x14 x15 x16 r e
  · exact ld_g x9 1 _ e

/-- The MLP's input. -/
theorem act_apply (r : Fin 512) (e : Fin 1024) :
    (k0_pay22 (F := Ideal) i x0 x1 x2 x3 x4 x5 x6 x7 x8 x9 x10 x11 x12 x13 x14 x15 x16) (ix2 r e) = (blockRow i x0 x1 x2 x3 x4 x5 x6 x7 x8 x9 x10 x11 x12 x13 x14 x15 x16 r).act e := by
  unfold k0_pay22
  rw [pay13_apply]
  unfold Row.act
  refine modulated_congr (fun e => ?_) (fun e => ?_) (fun e => ?_) (fun e => ?_) e
  · exact mid_apply i x0 x1 x2 x3 x4 x5 x6 x7 x8 x9 x10 x11 x12 x13 x14 x15 x16 r e
  · exact ld_g x9 2 _ e
  · exact (pay2_apply _ 4 e).trans (ld_mods x8 4 e)
  · exact (pay2_apply _ 3 e).trans (ld_mods x8 3 e)

/-- A quarter of the MLP over the loaded quarters of its weights. -/
theorem quarter (a : Fin 1024 → EReal) {b : Fin 1024 → EReal} (hab : a = b) {w1 w1' w2 w2' : Fin 1024 → Fin 1024 → EReal} (h1 : ∀ k j, w1 k j = w1' k j)
    (h2 : ∀ j e, w2 j e = w2' j e) (e : Fin 1024) : mlp a w1 w2 e = mlp b w1' w2' e := by
  rw [hab, funext fun k => funext (h1 k), funext fun j => funext (h2 j)]

/-- The stored block. -/
theorem out_apply (r : Fin 512) (e : Fin 1024) :
    @Eq EReal (out0_17 (F := Ideal) i x0 x1 x2 x3 x4 x5 x6 x7 x8 x9 x10 x11 x12 x13 x14 x15 x16 (ix3 0 r e)) ((blockRow i x0 x1 x2 x3 x4 x5 x6 x7 x8 x9 x10 x11 x12 x13 x14 x15 x16 r).out e) := by
  unfold out0_17
  rw [View.canon_unit_zero zero3, pay1_apply]
  unfold Row.out
  refine step_congr (fun e => ?_) (fun e => ?_) (fun e => ?_) (fun e => ?_) e
  · exact mid_apply i x0 x1 x2 x3 x4 x5 x6 x7 x8 x9 x10 x11 x12 x13 x14 x15 x16 r e
  · exact (pay2_apply _ 5 e).trans (ld_mods x8 5 e)
  · refine Eq.trans (congrArg₂ (· + ·) (pay17_apply _ _ _ _ _ _ _ _ _ _ _ _ (show k0_pay22 (F := Ideal) i x0 x1 x2 x3 x4 x5 x6 x7 x8 x9 x10 x11 x12 x13 x14 x15 x16 = _ from rfl) r e) rfl) ?_
    rw [mlp_quarters]
    have ha : (fun k => (k0_pay22 (F := Ideal) i x0 x1 x2 x3 x4 x5 x6 x7 x8 x9 x10 x11 x12 x13 x14 x15 x16) (ix2 r k)) = (blockRow i x0 x1 x2 x3 x4 x5 x6 x7 x8 x9 x10 x11 x12 x13 x14 x15 x16 r).act := funext fun k => act_apply i x0 x1 x2 x3 x4 x5 x6 x7 x8 x9 x10 x11 x12 x13 x14 x15 x16 r k
    refine congrArg₂ (· + ·) (congrArg₂ (· + ·) (congrArg₂ (· + ·) ?_ ?_) ?_) ?_
    · exact quarter _ ha (fun k j => (ld_w1 x15 0 (by omega) _ k j).trans (congrArg (fun j => x15 (ix2 k j)) (Fin.ext (Nat.zero_add _))))
        (fun j e => (ld_w2 x16 0 (by omega) _ j e).trans (congrArg (fun j => x16 (ix2 j e)) (Fin.ext (Nat.zero_add _)))) e
    · exact quarter _ ha (fun k j => ld_w1 x15 1024 (by omega) _ k j) (fun j e => ld_w2 x16 1024 (by omega) _ j e) e
    · exact quarter _ ha (fun k j => ld_w1 x15 2048 (by omega) _ k j) (fun j e => ld_w2 x16 2048 (by omega) _ j e) e
    · exact quarter _ ha (fun k j => ld_w1 x15 3072 (by omega) _ k j) (fun j e => ld_w2 x16 3072 (by omega) _ j e) e
  · exact ld_g x9 3 _ e

end

end Cert.Block

end
-- ==== Proof.BlockCtxBlock.lean ====
/- The context block kernel's stored block at an index: the row functions of its input blocks' rows. -/
module

public import proofs.«01_k».proof.Proof.Gen.BlockCtxIdeal.Value
public import proofs.«01_k».proof.Proof.BlockCtxBody
public import proofs.«01_k».proof.Proof.BlockBlock

@[expose] public section

set_option backward.proofsInPublic true

noncomputable section

open scoped BigOperators

namespace Cert.CtxBlock

open Idealize.ShloMosaic Idealize.ShloMosaic.ValueIdx Cert.Block Cert.BlockCtxIdeal Cert.BlockCtxIdeal.Gen

section

variable (i : grid0.Coords) (x0 : FVec Ideal S1x256x1024 .f32) (x1 : FVec Ideal S1x256x512 .bf16) (x2 x3 : FVec Ideal S1x256x256 .f32)
  (x4 x5 : FVec Ideal S1x8x256 .f32) (x6 : FVec Ideal S2x1x256x256 .f32) (x7 : FVec Ideal S1x256x256 .f32) (x8 : FVec Ideal S1x6x1024 .f32)
  (x9 : FVec Ideal S4x1024 .f32) (x10 : FVec Ideal S3x256 .f32) (x11 : FVec Ideal S1x256 .f32) (x12 : FVec Ideal S256x256 .bf16)
  (x13 : FVec Ideal S1x256 .f32) (x14 : FVec Ideal S1024x1024 .bf16) (x15 : FVec Ideal S1024x4096 .bf16) (x16 : FVec Ideal S4096x1024 .bf16)

/-- Row `r` of a block's inputs. -/
def blockRow (r : Fin 256) : Row where
  h e := x0 (ix3 0 r e)
  attn k := x1 (ix3 0 r k)
  cb e := x2 (ix3 0 r e)
  before e := k0_pay4 (F := Ideal) i x3 x4 (ix2 r e)
  here e := x3 (ix3 0 r e)
  after e := k0_pay5 (F := Ideal) i x3 x5 (ix2 r e)
  y0 e := x6 (ix4 0 0 r e)
  y1 e := x6 (ix4 1 0 r e)
  u e := x7 (ix3 0 r e)
  mods k e := x8 (ix3 0 k e)
  g k e := x9 (ix2 k e)
  w k e := x10 (ix2 k e)
  d e := x11 (ix2 0 e)
  wg k e := x12 (ix2 k e)
  bg e := x13 (ix2 0 e)
  wo k e := x14 (ix2 k e)
  w1 k j := x15 (ix2 k j)
  w2 j e := x16 (ix2 j e)

theorem ld_scan (k : Fin 2) (inb : ∀ a, (![k.val, 0, 0, 0] : Fin 4 → Nat) a + S1x1x256x256.size a ≤ S2x1x256x256.size a) (r : Fin 256) (e : Fin 256) :
    View.ld (Val := Elt Ideal) (e' := .f32) x6 (Rect.unit (s := S2x1x256x256) ![k.val, 0, 0, 0] S1x1x256x256.size inb) (ix4 0 0 r e) = x6 (ix4 k 0 r e) := by
  refine Tools.ld_apply (Val := Elt Ideal) (S := S2x1x256x256) (e := .f32) x6 ![k.val, 0, 0, 0] S1x1x256x256.size inb (ix4 0 0 r e) (ix4 k 0 r e) ?_
  intro a
  match a with
  | ⟨0, _⟩ => rfl
  | ⟨1, _⟩ => rfl
  | ⟨2, _⟩ => exact (Nat.zero_add _).symm
  | ⟨3, _⟩ => exact (Nat.zero_add _).symm

/-- The mixed row. -/
theorem pay20_apply (r : Fin 256) (e : Fin 1024) :
    @Eq EReal (k0_pay20 (F := Ideal) i x0 x1 x2 x3 x4 x5 x6 x7 x8 x9 x10 x11 x12 x13 x14 x15 x16 (ix2 r e)) ((blockRow i x0 x1 x2 x3 x4 x5 x6 x7 x8 x9 x10 x11 x12 x13 x14 x15 x16 r).mix e) := by
  unfold k0_pay20
  rw [
    show View.ld (Val := Elt Ideal) (e' := .f32) x3 r0_1 = x3 from ld_whole _ _ zero3 _,
    show View.ld (Val := Elt Ideal) (e' := .f32) x4 r0_2 = x4 from ld_whole _ _ zero3 _,
    show View.ld (Val := Elt Ideal) (e' := .f32) x5 r0_2 = x5 from ld_whole _ _ zero3 _,
    show View.ld (Val := Elt Ideal) (e' := .f32) x2 r0_1 = x2 from ld_whole _ _ zero3 _,
    show View.ld (Val := Elt Ideal) (e' := .f32) x11 r0_8 = x11 from ld_whole _ _ zero2 _,
    show View.ld (Val := Elt Ideal) (e' := .f32) x7 r0_1 = x7 from ld_whole _ _ zero3 _,
    show View.ld (Val := Elt Ideal) (e' := .bf16) x12 r0_9 = x12 from ld_whole _ _ zero2 _,
    show View.ld (Val := Elt Ideal) (e' := .f32) x13 r0_8 = x13 from ld_whole _ _ zero2 _,
    show View.ld (Val := Elt Ideal) (e' := .bf16) x1 r0_10 = x1 from ld_whole _ _ zero3 _]
  refine (pay10_apply _ _ _ _ _ _ _ _ _ r e).trans ?_
  unfold Row.mix mixed
  refine congrArg₂ (· + ·) (congrArg₂ (· + ·) (Finset.sum_congr rfl fun k _ => ?_) (Finset.sum_congr rfl fun k _ => ?_)) (Finset.sum_congr rfl fun k _ => ?_)
  · rw [ld_wo512]
    rfl
  · rw [ld_wo _ 512 (by omega), pay6_apply]
    refine congrArg (· * _) ?_
    exact congrArg₂ (· * ·) rfl (congrArg₂ (· + ·) (congrArg₂ (· + ·) (congrArg₂ (· * ·) rfl (ld_w x10 0 _ k))
      (congrArg₂ (· * ·) (pay3_apply x3 r k) (ld_w x10 1 _ k))) (congrArg₂ (· * ·) rfl (ld_w x10 2 _ k)))
  · rw [ld_wo _ 768 (by omega)]
    refine congrArg (· * _) ?_
    unfold Row.ssm
    refine congrArg (fun x => glu x (fun k e => x12 (ix2 k e)) (fun e => x13 (ix2 0 e)) k) (funext fun e => ?_)
    refine (gelu_apply _ _ _ _ r e).trans (congrArg gelu ?_)
    rw [pay7_apply]
    exact congrArg₂ (· + ·) (congrArg₂ (· + ·) (ld_scan x6 0 _ r e) (ld_scan x6 1 _ r e)) rfl

/-- The loads of the token's row and of its modulation. -/
theorem ld_h (r : Fin 256) (e : Fin 1024) : View.ld (Val := Elt Ideal) (e' := .f32) x0 r0_14 (ix3 0 r e) = x0 (ix3 0 r e) :=
  congrFun (ld_whole (s := S1x256x1024) (e := .f32) x0 ![0, 0, 0] zero3 inb_S1x256x1024_S1x256x1024_0_0_0) _

/-- The row after the mixing. -/
theorem mid_apply (r : Fin 256) (e : Fin 1024) :
    k0_pay12 (k0_pay19 (F := Ideal) i x0 x1 x2 x3 x4 x5 x6 x7 x8 x9 x10 x11 x12 x13 x14 x15 x16) (k0_pay20 (F := Ideal) i x0 x1 x2 x3 x4 x5 x6 x7 x8 x9 x10 x11 x12 x13 x14 x15 x16) (k0_pay21 (F := Ideal) i x0 x1 x2 x3 x4 x5 x6 x7 x8 x9 x10 x11 x12 x13 x14 x15 x16) (View.ld x9 r0_15) (ix2 r e) = (blockRow i x0 x1 x2 x3 x4 x5 x6 x7 x8 x9 x10 x11 x12 x13 x14 x15 x16 r).mid e := by
  rw [pay12_apply]
  unfold Row.mid
  refine step_congr (fun e => ?_) (fun e => ?_) (fun e => ?_) (fun e => ?_) e
  · exact (pay11_apply _ r e).trans (ld_h x0 r e)
  · exact (pay2_apply _ 2 e).trans (ld_mods x8 2 e)
  · exact pay20_apply i x0 x1 x2 x3 x4 x5 x6 x7 x8 x9 x10 x11 x12 x13 x14 x15 x16 r e
  · exact ld_g x9 1 _ e

/-- The MLP's input. -/
theorem act_apply (r : Fin 256) (e : Fin 1024) :
    (k0_pay22 (F := Ideal) i x0 x1 x2 x3 x4 x5 x6 x7 x8 x9 x10 x11 x12 x13 x14 x15 x16) (ix2 r e) = (blockRow i x0 x1 x2 x3 x4 x5 x6 x7 x8 x9 x10 x11 x12 x13 x14 x15 x16 r).act e := by
  unfold k0_pay22
  rw [pay13_apply]
  unfold Row.act
  refine modulated_congr (fun e => ?_) (fun e => ?_) (fun e => ?_) (fun e => ?_) e
  · exact mid_apply i x0 x1 x2 x3 x4 x5 x6 x7 x8 x9 x10 x11 x12 x13 x14 x15 x16 r e
  · exact ld_g x9 2 _ e
  · exact (pay2_apply _ 4 e).trans (ld_mods x8 4 e)
  · exact (pay2_apply _ 3 e).trans (ld_mods x8 3 e)

/-- The stored block. -/
theorem out_apply (r : Fin 256) (e : Fin 1024) :
    @Eq EReal (out0_17 (F := Ideal) i x0 x1 x2 x3 x4 x5 x6 x7 x8 x9 x10 x11 x12 x13 x14 x15 x16 (ix3 0 r e)) ((blockRow i x0 x1 x2 x3 x4 x5 x6 x7 x8 x9 x10 x11 x12 x13 x14 x15 x16 r).out e) := by
  unfold out0_17
  rw [View.canon_unit_zero zero3, pay1_apply]
  unfold Row.out
  refine step_congr (fun e => ?_) (fun e => ?_) (fun e => ?_) (fun e => ?_) e
  · exact mid_apply i x0 x1 x2 x3 x4 x5 x6 x7 x8 x9 x10 x11 x12 x13 x14 x15 x16 r e
  · exact (pay2_apply _ 5 e).trans (ld_mods x8 5 e)
  · refine Eq.trans (congrArg₂ (· + ·) (pay17_apply _ _ _ _ _ _ _ _ _ _ _ _ (show k0_pay22 (F := Ideal) i x0 x1 x2 x3 x4 x5 x6 x7 x8 x9 x10 x11 x12 x13 x14 x15 x16 = _ from rfl) r e) rfl) ?_
    rw [mlp_quarters]
    have ha : (fun k => (k0_pay22 (F := Ideal) i x0 x1 x2 x3 x4 x5 x6 x7 x8 x9 x10 x11 x12 x13 x14 x15 x16) (ix2 r k)) = (blockRow i x0 x1 x2 x3 x4 x5 x6 x7 x8 x9 x10 x11 x12 x13 x14 x15 x16 r).act := funext fun k => act_apply i x0 x1 x2 x3 x4 x5 x6 x7 x8 x9 x10 x11 x12 x13 x14 x15 x16 r k
    refine congrArg₂ (· + ·) (congrArg₂ (· + ·) (congrArg₂ (· + ·) ?_ ?_) ?_) ?_
    · exact quarter _ ha (fun k j => (ld_w1 x15 0 (by omega) _ k j).trans (congrArg (fun j => x15 (ix2 k j)) (Fin.ext (Nat.zero_add _))))
        (fun j e => (ld_w2 x16 0 (by omega) _ j e).trans (congrArg (fun j => x16 (ix2 j e)) (Fin.ext (Nat.zero_add _)))) e
    · exact quarter _ ha (fun k j => ld_w1 x15 1024 (by omega) _ k j) (fun j e => ld_w2 x16 1024 (by omega) _ j e) e
    · exact quarter _ ha (fun k j => ld_w1 x15 2048 (by omega) _ k j) (fun j e => ld_w2 x16 2048 (by omega) _ j e) e
    · exact quarter _ ha (fun k j => ld_w1 x15 3072 (by omega) _ k j) (fun j e => ld_w2 x16 3072 (by omega) _ j e) e
  · exact ld_g x9 3 _ e

end

end Cert.CtxBlock

end
-- ==== Proof.BlockRow.lean ====
/- The block's rows, taken from the argument arrays, and the array of its results. -/
module

public import proofs.«01_k».proof.Proof.BlockMath

@[expose] public section

set_option backward.proofsInPublic true

noncomputable section

namespace Cert.Block

open Idealize.ShloMosaic Idealize.ShloMosaic.ValueIdx

/-- The convolved array with a row of zeros at each end: row `p` is the array's row `p - 1`. -/
def zAt {N : ℕ} (Z : FVec Ideal ⟨3, ![32, N, 256]⟩ .f32) (b : Fin 32) (p : ℕ) (e : Fin 256) : EReal :=
  if h : 1 ≤ p ∧ p < N + 1 then Z (ix3 b ⟨p - 1, by omega⟩ e) else zero

section

variable {N : ℕ} (H : FVec Ideal ⟨3, ![32, N, 1024]⟩ .f32) (A : FVec Ideal ⟨3, ![32, N, 512]⟩ .f32) (C Z : FVec Ideal ⟨3, ![32, N, 256]⟩ .f32)
  (Y : FVec Ideal ⟨4, ![2, 32, N, 256]⟩ .f32) (U : FVec Ideal ⟨3, ![32, N, 256]⟩ .f32) (M : FVec Ideal ⟨3, ![32, 6, 1024]⟩ .f32)
  (g : FVec Ideal ⟨2, ![4, 1024]⟩ .f32) (w : FVec Ideal ⟨2, ![3, 256]⟩ .f32) (d : FVec Ideal ⟨1, ![256]⟩ .f32) (wg : FVec Ideal ⟨2, ![256, 256]⟩ .f32)
  (bg : FVec Ideal ⟨1, ![256]⟩ .f32) (wo : FVec Ideal ⟨2, ![1024, 1024]⟩ .f32) (w1 : FVec Ideal ⟨2, ![1024, 4096]⟩ .f32)
  (w2 : FVec Ideal ⟨2, ![4096, 1024]⟩ .f32)

/-- Token `n` of sequence `b`. -/
def rowOf (b : Fin 32) (n : Fin N) : Row where
  h e := H (ix3 b n e)
  attn k := A (ix3 b n k)
  cb e := C (ix3 b n e)
  before e := zAt Z b n.val e
  here e := Z (ix3 b n e)
  after e := zAt Z b (n.val + 2) e
  y0 e := Y (ix4 0 b n e)
  y1 e := Y (ix4 1 b n e)
  u e := U (ix3 b n e)
  mods k e := M (ix3 b k e)
  g k e := g (ix2 k e)
  w k e := w (ix2 k e)
  d e := d (ix1 e)
  wg k e := wg (ix2 k e)
  bg e := bg (ix1 e)
  wo k e := wo (ix2 k e)
  w1 k j := w1 (ix2 k j)
  w2 j e := w2 (ix2 j e)

/-- The array of the results. -/
def G : FVec Ideal ⟨3, ![32, N, 1024]⟩ .f32 := fun j => (rowOf H A C Z Y U M g w d wg bg wo w1 w2 (j 0) (j 1)).out (j 2)

end

/-- A modulation that all sequences share: six rows of 1024 entries, one after the other. -/
def modArr (v : FVec Ideal ⟨1, ![6144]⟩ .f32) : FVec Ideal ⟨3, ![32, 6, 1024]⟩ .f32 := fun i =>
  v (ix1 (⟨1024 * (i 1).val + (i 2).val, by
    have h1 : (i 1).val < 6 := (i 1).isLt
    have h2 : (i 2).val < 1024 := (i 2).isLt
    omega⟩ : Fin 6144))

/-- It is the one that a host makes by reshaping and copying. -/
theorem modArr_at (v : FVec Ideal ⟨1, ![6144]⟩ .f32) (h1 : (⟨1, ![6144]⟩ : Shape).ShapeCasts ⟨3, ![1, 6, 1024]⟩) (h2) (b : Fin 32) (k : Fin 6) (e : Fin 1024) :
    broadcastInDim (⟨3, ![32, 6, 1024]⟩ : Shape) ![0, 1, 2] h2 (shapeCast ⟨3, ![1, 6, 1024]⟩ v h1) (ix3 b k e) = modArr v (ix3 b k e) := by
  refine (broadcastInDim_apply _ _ _ (ix3 b k e) (ix3 0 k e) (by intro a; match a with | ⟨0, _⟩ => rfl | ⟨1, _⟩ => rfl | ⟨2, _⟩ => rfl)).trans ?_
  refine shapeCast_apply _ _ _ _ ?_
  rw [Shape.rowMajor_val_three]
  refine (Shape.rowMajor_val_one (d := ![6144]) _).trans ?_
  show 1024 * k.val + e.val = (0 * 6 + k.val) * 1024 + e.val
  omega

/-- Equal arguments make equal arrays. -/
theorem G_congr {N : ℕ} {x0 y0 : FVec Ideal ⟨3, ![32, N, 1024]⟩ .f32} {x1 y1 : FVec Ideal ⟨3, ![32, N, 512]⟩ .f32} {x2 y2 : FVec Ideal ⟨3, ![32, N, 256]⟩ .f32} {x3 y3 : FVec Ideal ⟨3, ![32, N, 256]⟩ .f32} {x4 y4 : FVec Ideal ⟨4, ![2, 32, N, 256]⟩ .f32} {x5 y5 : FVec Ideal ⟨3, ![32, N, 256]⟩ .f32} {x6 y6 : FVec Ideal ⟨3, ![32, 6, 1024]⟩ .f32} {x7 y7 : FVec Ideal ⟨2, ![4, 1024]⟩ .f32} {x8 y8 : FVec Ideal ⟨2, ![3, 256]⟩ .f32} {x9 y9 : FVec Ideal ⟨1, ![256]⟩ .f32} {x10 y10 : FVec Ideal ⟨2, ![256, 256]⟩ .f32} {x11 y11 : FVec Ideal ⟨1, ![256]⟩ .f32} {x12 y12 : FVec Ideal ⟨2, ![1024, 1024]⟩ .f32} {x13 y13 : FVec Ideal ⟨2, ![1024, 4096]⟩ .f32} {x14 y14 : FVec Ideal ⟨2, ![4096, 1024]⟩ .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) :
    G x0 x1 x2 x3 x4 x5 x6 x7 x8 x9 x10 x11 x12 x13 x14 = G y0 y1 y2 y3 y4 y5 y6 y7 y8 y9 y10 y11 y12 y13 y14 := by
  subst h0 h1 h2 h3 h4 h5 h6 h7 h8 h9 h10 h11 h12 h13 h14
  rfl

end Cert.Block

end
-- ==== Proof.BlockCtxArray.lean ====
/- The context block kernel's result array as one function of the argument arrays. -/
module

public import proofs.«01_k».proof.Proof.BlockCtxBlock
public import proofs.«01_k».proof.Proof.BlockRow

@[expose] public section

set_option backward.proofsInPublic true

noncomputable section

open scoped BigOperators

namespace Cert.CtxBlock

open Idealize.ShloMosaic Idealize.ShloMosaic.ValueIdx Idealize.ShloMosaic.TcCoe Idealize.SL.Sem Cert.Block Cert.BlockCtxIdeal Cert.BlockCtxIdeal.Gen
  Cert.BlockCtxIdeal.Value

/-! ## The windows -/

/-- The sequence of a grid point. -/
def bOf (t : Fin cfg0.N) : Fin 32 := ⟨t.val, t.isLt⟩

theorem coord (t : Fin cfg0.N) : (grid0.coords t 0).val < 1 :=
  (by decide +kernel : ∀ t : Fin grid0.N, (grid0.coords t 0).val < 1) t
theorem idx0 (t : Fin cfg0.N) : win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0) t
theorem idx6 (t : Fin cfg0.N) : win0_6.index t (0 : Fin 4) = 0 ∧ win0_6.index t (1 : Fin 4) = t.val ∧ win0_6.index t (2 : Fin 4) = 0 ∧ win0_6.index t (3 : Fin 4) = 0 :=
  (by decide +kernel : ∀ t : Fin grid0.N, win0_6.index t (0 : Fin 4) = 0 ∧ win0_6.index t (1 : Fin 4) = t.val ∧ win0_6.index t (2 : Fin 4) = 0 ∧ win0_6.index t (3 : Fin 4) = 0) t
theorem idx8 (t : Fin cfg0.N) : win0_8.index t (0 : Fin 3) = t.val ∧ win0_8.index t (1 : Fin 3) = 0 ∧ win0_8.index t (2 : Fin 3) = 0 :=
  (by decide +kernel : ∀ t : Fin grid0.N, win0_8.index t (0 : Fin 3) = t.val ∧ win0_8.index t (1 : Fin 3) = 0 ∧ win0_8.index t (2 : Fin 3) = 0) t
theorem idx9 (t : Fin cfg0.N) : win0_9.index t (0 : Fin 2) = 0 ∧ win0_9.index t (1 : Fin 2) = 0 :=
  (by decide +kernel : ∀ t : Fin grid0.N, win0_9.index t (0 : Fin 2) = 0 ∧ win0_9.index t (1 : Fin 2) = 0) t

/-! The places of the blocks' entries. -/

theorem row1024 (t : Fin cfg0.N) (r : Fin 256) (e : Fin 1024) :
    ((cfg0.win 0).blk t).view.emb (ix3 0 r e) = (ix3 (bOf t) r e : S32x256x1024.Idx) := by
  obtain ⟨e0, e1, e2⟩ := idx0 t
  have ht : t.val < 32 := t.isLt
  refine funext fun a => Fin.ext ?_
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 1024 + 1 * e.val = e.val; omega

theorem row512 (t : Fin cfg0.N) (r : Fin 256) (e : Fin 512) :
    ((cfg0.win 1).blk t).view.emb (ix3 0 r e) = (ix3 (bOf t) r e : S32x256x512.Idx) := by
  obtain ⟨e0, e1, e2⟩ := idx0 t
  have ht : t.val < 32 := t.isLt
  refine funext fun a => Fin.ext ?_
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 512 + 1 * e.val = e.val; omega

theorem row256 (t : Fin cfg0.N) (r : Fin 256) (e : Fin 256) :
    ((cfg0.win 2).blk t).view.emb (ix3 0 r e) = (ix3 (bOf t) r e : S32x256x256.Idx) := by
  obtain ⟨e0, e1, e2⟩ := idx0 t
  have ht : t.val < 32 := t.isLt
  refine funext fun a => Fin.ext ?_
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 256 + 1 * e.val = e.val; omega

theorem row_scan (t : Fin cfg0.N) (k : Fin 2) (r : Fin 256) (e : Fin 256) :
    ((cfg0.win 6).blk t).view.emb (ix4 k 0 r e) = (ix4 k (bOf t) r e : S2x32x256x256.Idx) := by
  obtain ⟨e0, e1, e2, e3⟩ := idx6 t
  have ht : t.val < 32 := t.isLt
  refine funext fun a => Fin.ext ?_
  match a with
  | ⟨0, _⟩ => show win0_6.index t (0 : Fin 4) * 2 + 1 * k.val = k.val; omega
  | ⟨1, _⟩ => show win0_6.index t (1 : Fin 4) * 1 + 1 * 0 = t.val; omega
  | ⟨2, _⟩ => show win0_6.index t (2 : Fin 4) * 256 + 1 * r.val = r.val; omega
  | ⟨3, _⟩ => show win0_6.index t (3 : Fin 4) * 256 + 1 * e.val = e.val; omega

theorem row_mods (t : Fin cfg0.N) (k : Fin 6) (e : Fin 1024) :
    ((cfg0.win 8).blk t).view.emb (ix3 0 k e) = (ix3 (bOf t) k e : S32x6x1024.Idx) := by
  obtain ⟨e0, e1, e2⟩ := idx8 t
  have ht : t.val < 32 := t.isLt
  refine funext fun a => Fin.ext ?_
  match a with
  | ⟨0, _⟩ => show win0_8.index t (0 : Fin 3) * 1 + 1 * 0 = t.val; omega
  | ⟨1, _⟩ => show win0_8.index t (1 : Fin 3) * 6 + 1 * k.val = k.val; omega
  | ⟨2, _⟩ => show win0_8.index t (2 : Fin 3) * 1024 + 1 * e.val = e.val; omega

theorem whole9 (t : Fin cfg0.N) (k : Fin 4) (e : Fin 1024) :
    ((cfg0.win 9).blk t).view.emb (ix2 k e) = (ix2 k e : S4x1024.Idx) := by
  obtain ⟨e0, e1⟩ := idx9 t
  have ht : t.val < 32 := t.isLt
  refine funext fun a => Fin.ext ?_
  match a with
  | ⟨0, _⟩ => show win0_9.index t (0 : Fin 2) * 4 + 1 * k.val = k.val; omega
  | ⟨1, _⟩ => show win0_9.index t (1 : Fin 2) * 1024 + 1 * e.val = e.val; omega

theorem whole10 (t : Fin cfg0.N) (k : Fin 3) (e : Fin 256) :
    ((cfg0.win 10).blk t).view.emb (ix2 k e) = (ix2 k e : S3x256.Idx) := by
  obtain ⟨e0, e1⟩ := idx9 t
  have ht : t.val < 32 := t.isLt
  refine funext fun a => Fin.ext ?_
  match a with
  | ⟨0, _⟩ => show win0_9.index t (0 : Fin 2) * 3 + 1 * k.val = k.val; omega
  | ⟨1, _⟩ => show win0_9.index t (1 : Fin 2) * 256 + 1 * e.val = e.val; omega

theorem whole11 (t : Fin cfg0.N) (k : Fin 1) (e : Fin 256) :
    ((cfg0.win 11).blk t).view.emb (ix2 k e) = (ix2 k e : S1x256.Idx) := by
  obtain ⟨e0, e1⟩ := idx9 t
  have ht : t.val < 32 := t.isLt
  refine funext fun a => Fin.ext ?_
  match a with
  | ⟨0, _⟩ => show win0_9.index t (0 : Fin 2) * 1 + 1 * k.val = k.val; omega
  | ⟨1, _⟩ => show win0_9.index t (1 : Fin 2) * 256 + 1 * e.val = e.val; omega

theorem whole12 (t : Fin cfg0.N) (k : Fin 256) (e : Fin 256) :
    ((cfg0.win 12).blk t).view.emb (ix2 k e) = (ix2 k e : S256x256.Idx) := by
  obtain ⟨e0, e1⟩ := idx9 t
  have ht : t.val < 32 := t.isLt
  refine funext fun a => Fin.ext ?_
  match a with
  | ⟨0, _⟩ => show win0_9.index t (0 : Fin 2) * 256 + 1 * k.val = k.val; omega
  | ⟨1, _⟩ => show win0_9.index t (1 : Fin 2) * 256 + 1 * e.val = e.val; omega

theorem whole14 (t : Fin cfg0.N) (k : Fin 1024) (e : Fin 1024) :
    ((cfg0.win 14).blk t).view.emb (ix2 k e) = (ix2 k e : S1024x1024.Idx) := by
  obtain ⟨e0, e1⟩ := idx9 t
  have ht : t.val < 32 := t.isLt
  refine funext fun a => Fin.ext ?_
  match a with
  | ⟨0, _⟩ => show win0_9.index t (0 : Fin 2) * 1024 + 1 * k.val = k.val; omega
  | ⟨1, _⟩ => show win0_9.index t (1 : Fin 2) * 1024 + 1 * e.val = e.val; omega

theorem whole15 (t : Fin cfg0.N) (k : Fin 1024) (e : Fin 4096) :
    ((cfg0.win 15).blk t).view.emb (ix2 k e) = (ix2 k e : S1024x4096.Idx) := by
  obtain ⟨e0, e1⟩ := idx9 t
  have ht : t.val < 32 := t.isLt
  refine funext fun a => Fin.ext ?_
  match a with
  | ⟨0, _⟩ => show win0_9.index t (0 : Fin 2) * 1024 + 1 * k.val = k.val; omega
  | ⟨1, _⟩ => show win0_9.index t (1 : Fin 2) * 4096 + 1 * e.val = e.val; omega

theorem whole16 (t : Fin cfg0.N) (k : Fin 4096) (e : Fin 1024) :
    ((cfg0.win 16).blk t).view.emb (ix2 k e) = (ix2 k e : S4096x1024.Idx) := by
  obtain ⟨e0, e1⟩ := idx9 t
  have ht : t.val < 32 := t.isLt
  refine funext fun a => Fin.ext ?_
  match a with
  | ⟨0, _⟩ => show win0_9.index t (0 : Fin 2) * 4096 + 1 * k.val = k.val; omega
  | ⟨1, _⟩ => show win0_9.index t (1 : Fin 2) * 1024 + 1 * e.val = e.val; omega

variable (m : (ℓ : Loc nD τ sig) → Buf (Elt Ideal) ℓ) (ρ : Dev nD → PrngReg)

/-! The host's operations before the call. -/

theorem V_main_v2 (c : Dev nD) : V m c main_v2 = m ((c : Thread nD τ).loc main_arg1) := by
  show StableHlo.after hostOps0 _ (Proc.devRef .tc main_v2) = _
  after_results
  rfl
theorem V_main_v4 (c : Dev nD) : V m c main_v4 = m ((c : Thread nD τ).loc main_arg10) := by
  show StableHlo.after hostOps0 _ (Proc.devRef .tc main_v4) = _
  after_results
  rfl
theorem V_main_v6 (c : Dev nD) : V m c main_v6 = m ((c : Thread nD τ).loc main_arg12) := by
  show StableHlo.after hostOps0 _ (Proc.devRef .tc main_v6) = _
  after_results
  rfl
theorem V_main_v7 (c : Dev nD) : V m c main_v7 = m ((c : Thread nD τ).loc main_arg13) := by
  show StableHlo.after hostOps0 _ (Proc.devRef .tc main_v7) = _
  after_results
  rfl
theorem V_main_v8 (c : Dev nD) : V m c main_v8 = m ((c : Thread nD τ).loc main_arg14) := by
  show StableHlo.after hostOps0 _ (Proc.devRef .tc main_v8) = _
  after_results
  rfl
/-- A vector reshaped to a row. -/
theorem reshape_row (x : FVec Ideal S256 .f32) (e : Fin 256) : shapeCast S1x256 x shapeCasts_S256_S1x256 (ix2 0 e) = x (ix1 e) :=
  shapeCast_apply _ _ _ _ (by rw [Shape.rowMajor_val_two, Shape.rowMajor_val_one]; simp)

theorem V_main_v3 (c : Dev nD) (e : Fin 256) : @Eq EReal (V m c main_v3 (ix2 0 e)) (m ((c : Thread nD τ).loc main_arg9) (ix1 e)) := by
  have h : V m c main_v3 = shapeCast _ (m ((c : Thread nD τ).loc main_arg9)) shapeCasts_S256_S1x256 := by
    show StableHlo.after hostOps0 _ (Proc.devRef .tc main_v3) = _
    after_results
    rfl
  exact (congrFun h _).trans (reshape_row _ e)
theorem V_main_v5 (c : Dev nD) (e : Fin 256) : @Eq EReal (V m c main_v5 (ix2 0 e)) (m ((c : Thread nD τ).loc main_arg11) (ix1 e)) := by
  have h : V m c main_v5 = shapeCast _ (m ((c : Thread nD τ).loc main_arg11)) shapeCasts_S256_S1x256 := by
    show StableHlo.after hostOps0 _ (Proc.devRef .tc main_v5) = _
    after_results
    rfl
  exact (congrFun h _).trans (reshape_row _ e)

/-- The modulation, reshaped to six rows and copied to every sequence. -/
theorem V_main_v1 (c : Dev nD) (b : Fin 32) (k : Fin 6) (e : Fin 1024) :
    @Eq EReal (V m c main_v1 (ix3 b k e)) (modArr (m ((c : Thread nD τ).loc main_arg6)) (ix3 b k e)) := by
  have h : V m c main_v1 = broadcastInDim S32x6x1024 ![0, 1, 2] bcast_S1x6x1024_S32x6x1024_0_1_2 (shapeCast S1x6x1024 (m ((c : Thread nD τ).loc main_arg6)) shapeCasts_S6144_S1x6x1024) := by
    show StableHlo.after hostOps0 _ (Proc.devRef .tc main_v1) = _
    after_results
    rfl
  exact (congrFun h _).trans (modArr_at _ _ _ b k e)

/-- The array that the kernel leaves. -/
abbrev GV (c : Dev nD) : FVec Ideal S32x256x1024 .f32 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (modArr (m ((c : Thread nD τ).loc main_arg6))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The rows before and after a block's row. -/
theorem before_eq (c : Dev nD) (t : Fin cfg0.N) (r : Fin 256) (e : Fin 256) :
    @Eq EReal (k0_pay4 (F := Ideal) (grid0.coords t) (iblk m c 3 t) (iblk m c 4 t) (ix2 r e)) (zAt (m ((c : Thread nD τ).loc main_arg3)) (bOf t) r.val e) := by
  refine (pay4_apply _ (coord t) _ _ r e).trans ?_
  unfold zAt
  by_cases hr : r.val = 0
  · rw [if_pos hr, dif_neg (by omega), zero_eq]
  · rw [if_neg hr, dif_pos (by omega)]
    exact (congrArg (V m c main_arg3) (row256 t _ e)).trans (congrFun (V_main_arg3 m c) _)

theorem after_eq (c : Dev nD) (t : Fin cfg0.N) (r : Fin 256) (e : Fin 256) :
    @Eq EReal (k0_pay5 (F := Ideal) (grid0.coords t) (iblk m c 3 t) (iblk m c 5 t) (ix2 r e)) (zAt (m ((c : Thread nD τ).loc main_arg3)) (bOf t) (r.val + 2) e) := by
  refine (pay5_apply _ (coord t) _ _ r e).trans ?_
  unfold zAt
  by_cases hr : r.val = 255
  · rw [dif_pos hr, dif_neg (by omega), zero_eq]
  · rw [dif_neg hr, dif_pos (by omega)]
    exact (congrArg (V m c main_arg3) (row256 t _ e)).trans (congrFun (V_main_arg3 m c) _)

/-- A block's row is the token's. -/
theorem row_eq (c : Dev nD) (t : Fin cfg0.N) (r : Fin 256) :
    blockRow (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r
      = rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (modArr (m ((c : Thread nD τ).loc main_arg6))) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (bOf t) r := by
  unfold blockRow rowOf
  rw [Row.mk.injEq]
  refine ⟨funext fun e => ?_, funext fun e => ?_, funext fun e => ?_, funext fun e => ?_, funext fun e => ?_, funext fun e => ?_, funext fun e => ?_,
    funext fun e => ?_, funext fun e => ?_, funext fun k => funext fun e => ?_, funext fun k => funext fun e => ?_, funext fun k => funext fun e => ?_,
    funext fun e => ?_, funext fun k => funext fun e => ?_, funext fun e => ?_, funext fun k => funext fun e => ?_, funext fun k => funext fun e => ?_,
    funext fun k => funext fun e => ?_⟩
  · exact (congrArg (V m c main_arg0) (row1024 t r e)).trans (congrFun (V_main_arg0 m c) _)
  · exact (congrArg (V m c main_v2) (row512 t r e)).trans (congrFun (V_main_v2 m c) _)
  · exact (congrArg (V m c main_arg2) (row256 t r e)).trans (congrFun (V_main_arg2 m c) _)
  · exact before_eq m c t r e
  · exact (congrArg (V m c main_arg3) (row256 t r e)).trans (congrFun (V_main_arg3 m c) _)
  · exact after_eq m c t r e
  · exact (congrArg (V m c main_arg4) (row_scan t 0 r e)).trans (congrFun (V_main_arg4 m c) _)
  · exact (congrArg (V m c main_arg4) (row_scan t 1 r e)).trans (congrFun (V_main_arg4 m c) _)
  · exact (congrArg (V m c main_arg5) (row256 t r e)).trans (congrFun (V_main_arg5 m c) _)
  · exact (congrArg (V m c main_v1) (row_mods t k e)).trans (V_main_v1 m c (bOf t) k e)
  · exact (congrArg (V m c main_arg7) (whole9 t k e)).trans (congrFun (V_main_arg7 m c) _)
  · exact (congrArg (V m c main_arg8) (whole10 t k e)).trans (congrFun (V_main_arg8 m c) _)
  · exact (congrArg (V m c main_v3) (whole11 t 0 e)).trans (V_main_v3 m c e)
  · exact (congrArg (V m c main_v4) (whole12 t k e)).trans (congrFun (V_main_v4 m c) _)
  · exact (congrArg (V m c main_v5) (whole11 t 0 e)).trans (V_main_v5 m c e)
  · exact (congrArg (V m c main_v6) (whole14 t k e)).trans (congrFun (V_main_v6 m c) _)
  · exact (congrArg (V m c main_v7) (whole15 t k e)).trans (congrFun (V_main_v7 m c) _)
  · exact (congrArg (V m c main_v8) (whole16 t k e)).trans (congrFun (V_main_v8 m c) _)

/-- What a point writes back is its block of the array. -/
theorem flushed_eq (c : Dev nD) (t : Fin cfg0.N) : (dats m 0 c).flushed 17 t = ((cfg0.win 17).blk t).view.read (Elt Ideal) (GV m c) := by
  rw [flushed17]
  funext j
  obtain ⟨a, r, e, rfl⟩ : ∃ (a : Fin 1) (r : Fin 256) (e : Fin 1024), j = ix3 a r e := ⟨_, _, _, eq_ix3 _⟩
  obtain rfl : a = 0 := Subsingleton.elim _ _
  show out0_17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 0 r e) = GV m c (((cfg0.win 17).blk t).view.emb (ix3 0 r e))
  refine Eq.trans ?_ (congrArg (GV m c) (row1024 t r e)).symm
  refine (out_apply _ _ _ _ _ _ _ _ _ _ _ _ _ _ _ _ _ _ r e).trans ?_
  exact congrArg (fun R => Row.out R e) (row_eq m c t r)

/-- The array after the run. -/
theorem final (c : Dev nD) : (dats m 0 c).arrAt 17 cfg0.N = GV m c := by
  refine (dats m 0 c).arrAt_eq_of_cover 17 (GV m c) (fun t _ => flushed_eq m c t) fun i => ?_
  obtain ⟨b, n, e, rfl⟩ : ∃ (b : Fin 32) (n : Fin 256) (e : Fin 1024), i = ix3 b n e := ⟨_, _, _, eq_ix3 _⟩
  refine ⟨(⟨b.val, b.isLt⟩ : Fin cfg0.N), flush0_17 _, ?_⟩
  have h := ((cfg0.win 17).blk (⟨b.val, b.isLt⟩ : Fin cfg0.N)).view.emb_mem_set (ix3 0 n e)
  rw [show ((cfg0.win 17).blk (⟨b.val, b.isLt⟩ : Fin cfg0.N)).view.emb (ix3 0 n e) = ix3 b n e from row1024 (⟨b.val, b.isLt⟩ : Fin cfg0.N) n e] at h
  exact h

end Cert.CtxBlock

end
-- ==== Proof.BlockCtxRef.lean ====
/- The context's reference block read at an index: the same row. -/
module

public import proofs.«01_k».proof.Proof.Gen.BlockCtxReferenceIdeal.Read
public import proofs.«01_k».proof.Proof.BlockRow
public import Idealize.ShloMosaic.Lib.KernelVsHost

@[expose] public section

set_option backward.proofsInPublic true

noncomputable section

open scoped BigOperators

namespace Cert.CtxBlock

open Idealize.ShloMosaic Idealize.ShloMosaic.ValueIdx Cert.Block Cert.BlockCtxReferenceIdeal Cert.BlockCtxReferenceIdeal.Gen Cert.BlockCtxReferenceIdeal.Read

/-! ## Broadcasts and norms -/

theorem bc_row (y : FVec Ideal S1024 .f32) (b : Fin 32) (n : Fin 256) (e : Fin 1024) :
    broadcastInDim S32x256x1024 ![0, 1, 2] bcast_S1x1x1024_S32x256x1024_0_1_2 (broadcastInDim S1x1x1024 ![2] bcast_S1024_S1x1x1024_2 y) (ix3 b n e) = y (ix1 e) :=
  (broadcastInDim_apply _ _ _ (ix3 b n e) (ix3 0 0 e) (by intro a; match a with | ⟨0, _⟩ => rfl | ⟨1, _⟩ => rfl | ⟨2, _⟩ => rfl)).trans
    (broadcastInDim_apply _ _ _ (ix3 0 0 e) (ix1 e) (by intro a; match a with | ⟨0, _⟩ => rfl))

theorem bc_col (y : FVec Ideal S32x256x1 .f32) (b : Fin 32) (n : Fin 256) (e : Fin 1024) :
    broadcastInDim S32x256x1024 ![0, 1, 2] bcast_S32x256x1_S32x256x1024_0_1_2 y (ix3 b n e) = y (ix3 b n 0) :=
  broadcastInDim_apply _ _ _ (ix3 b n e) (ix3 b n 0) (by intro a; match a with | ⟨0, _⟩ => rfl | ⟨1, _⟩ => rfl | ⟨2, _⟩ => rfl)

theorem bc_mean (y : FVec Ideal S32x256 .f32) (b : Fin 32) (n : Fin 256) :
    broadcastInDim S32x256x1 ![0, 1] bcast_S32x256_S32x256x1_0_1 y (ix3 b n 0) = y (ix2 b n) :=
  broadcastInDim_apply _ _ _ (ix3 b n 0) (ix2 b n) (by intro a; match a with | ⟨0, _⟩ => rfl | ⟨1, _⟩ => rfl)

/-- A row of the summed squares. -/
theorem sum_row (y : FVec Ideal S32x256x1024 .f32) (b : Fin 32) (n : Fin 256) :
    @Eq EReal (Host.reduceAdd y (val_main_cst_5 (F := Ideal)) reducesTo_S32x256x1024_S32x256_d2 h_S_ (ix2 b n)) (∑ k : Fin 1024, y (ix3 b n k)) := by
  simp only [Host.reduceAdd, Ideal.hostReduceAdd_def]
  rw [Ideal.hostReduceAdd_single reducesTo_S32x256x1024_S32x256_d2 (by decide)]
  refine (congrArg₂ (· + ·) zero_eq (Finset.sum_congr rfl fun k _ => ?_)).trans (zero_add _)
  exact congrArg y (funext fun a => Fin.ext (by match a with | ⟨0, _⟩ => rfl | ⟨1, _⟩ => rfl | ⟨2, _⟩ => rfl))

/-- The reference's norm of an array. -/
def normArr (y : FVec Ideal S32x256x1024 .f32) (g : FVec Ideal S1024 .f32) : FVec Ideal S32x256x1024 .f32 :=
  mulf (mulf y (broadcastInDim S32x256x1024 ![0, 1, 2] bcast_S32x256x1_S32x256x1024_0_1_2
      (Host.rsqrt (addf (Host.divf (broadcastInDim S32x256x1 ![0, 1] bcast_S32x256_S32x256x1_0_1
        (Host.reduceAdd (mulf y y) (val_main_cst_5 (F := Ideal)) reducesTo_S32x256x1024_S32x256_d2 h_S_)) (val_main_v72 (F := Ideal))) (val_main_v74 (F := Ideal))))))
    (broadcastInDim S32x256x1024 ![0, 1, 2] bcast_S1x1x1024_S32x256x1024_0_1_2 (broadcastInDim S1x1x1024 ![2] bcast_S1024_S1x1x1024_2 g))

theorem normArr_apply (y : FVec Ideal S32x256x1024 .f32) (g : FVec Ideal S1024 .f32) (b : Fin 32) (n : Fin 256) (e : Fin 1024) :
    normArr y g (ix3 b n e) = Block.norm (fun e => y (ix3 b n e)) (fun e => g (ix1 e)) e := by
  unfold normArr
  rw [mulf_apply, mulf_apply, bc_col, bc_row]
  unfold Block.norm
  refine congrArg (· * g (ix1 e)) (congrArg (y (ix3 b n e) * ·) (congrArg Ideal.rsqrt ?_))
  refine congrArg₂ (· + ·) (congrArg₂ Ideal.div ?_ ?_) ?_
  · rw [bc_mean, sum_row]
    rfl
  · exact val_main_v72_apply _
  · exact val_main_v74_apply _

section

variable (x0 : FVec Ideal S32x256x1024 .f32) (x1 : FVec Ideal S32x256x512 .f32) (x2 x3 : FVec Ideal S32x256x256 .f32) (x4 : FVec Ideal S2x32x256x256 .f32)
  (x5 : FVec Ideal S32x256x256 .f32) (x6 : FVec Ideal S6144 .f32) (x7 : FVec Ideal S4x1024 .f32) (x8 : FVec Ideal S3x256 .f32) (x9 : FVec Ideal S256 .f32)
  (x10 : FVec Ideal S256x256 .f32) (x11 : FVec Ideal S256 .f32) (x12 : FVec Ideal S1024x1024 .f32) (x13 : FVec Ideal S1024x4096 .f32) (x14 : FVec Ideal S4096x1024 .f32)
  (b : Fin 32) (n : Fin 256)

/-! ## The modulation's and the gains' rows -/

theorem mods_2 (e : Fin 1024) : val_main_v2 (F := Ideal) x6 (ix1 e) = modArr x6 (ix3 b 2 e) := by
  rw [val_main_v2_apply]
  exact congrArg x6 (funext fun a => Fin.ext (by match a with | ⟨0, _⟩ => rfl))
theorem mods_3 (e : Fin 1024) : val_main_v3 (F := Ideal) x6 (ix1 e) = modArr x6 (ix3 b 3 e) := by
  rw [val_main_v3_apply]
  exact congrArg x6 (funext fun a => Fin.ext (by match a with | ⟨0, _⟩ => rfl))
theorem mods_4 (e : Fin 1024) : val_main_v4 (F := Ideal) x6 (ix1 e) = modArr x6 (ix3 b 4 e) := by
  rw [val_main_v4_apply]
  exact congrArg x6 (funext fun a => Fin.ext (by match a with | ⟨0, _⟩ => rfl))
theorem mods_5 (e : Fin 1024) : val_main_v5 (F := Ideal) x6 (ix1 e) = modArr x6 (ix3 b 5 e) := by
  rw [val_main_v5_apply]
  exact congrArg x6 (funext fun a => Fin.ext (by match a with | ⟨0, _⟩ => rfl))
theorem gain_1 (e : Fin 1024) : val_main_v7 (F := Ideal) x7 (ix1 e) = x7 (ix2 1 e) := by
  rw [val_main_v7_apply, val_main_v6_apply]
  exact congrArg x7 (funext fun a => Fin.ext (by match a with | ⟨0, _⟩ => rfl | ⟨1, _⟩ => show e.val % 1024 = e.val; omega))
theorem gain_2 (e : Fin 1024) : val_main_v9 (F := Ideal) x7 (ix1 e) = x7 (ix2 2 e) := by
  rw [val_main_v9_apply, val_main_v8_apply]
  exact congrArg x7 (funext fun a => Fin.ext (by match a with | ⟨0, _⟩ => rfl | ⟨1, _⟩ => show e.val % 1024 = e.val; omega))
theorem gain_3 (e : Fin 1024) : val_main_v11 (F := Ideal) x7 (ix1 e) = x7 (ix2 3 e) := by
  rw [val_main_v11_apply, val_main_v10_apply]
  exact congrArg x7 (funext fun a => Fin.ext (by match a with | ⟨0, _⟩ => rfl | ⟨1, _⟩ => show e.val % 1024 = e.val; omega))

/-! ## The convolution -/

theorem pad_row (p : Fin 258) (e : Fin 256) : @Eq EReal (val_main_v12 (F := Ideal) x3 (ix3 b p e)) (zAt x3 b p.val e) := by
  unfold val_main_v12 zAt
  by_cases h : 1 ≤ p.val ∧ p.val < 257
  · rw [dif_pos h]
    refine pad_apply_of_inside _ _ _ _ _ _ _ (ix3 b p e) (ix3 b ⟨p.val - 1, by omega⟩ e) fun a => ?_
    match a with
    | ⟨0, _⟩ => show b.val = 0 + b.val * 1; omega
    | ⟨1, _⟩ => show p.val = 1 + (p.val - 1) * 1; omega
    | ⟨2, _⟩ => show e.val = 0 + e.val * 1; omega
  · rw [dif_neg h, zero_eq]
    refine (pad_apply_of_not_inside _ _ _ _ _ _ _ (ix3 b p e) 1 ?_).trans ?_
    · show ¬(1 ≤ p.val ∧ (p.val - 1) % 1 = 0 ∧ (p.val - 1) / 1 < 256)
      omega
    · show (((0#32 : BitVec 32).toInt : ℝ) : EReal) = 0
      simp

theorem conv_row (e : Fin 256) : @Eq EReal (val_main_v33 (F := Ideal) x2 x3 x8 (ix3 b n e))
    (conv (fun e => x2 (ix3 b n e)) (zAt x3 b n.val) (fun e => x3 (ix3 b n e)) (zAt x3 b (n.val + 2)) (fun k e => x8 (ix2 k e)) e) := by
  rw [val_main_v33_apply, val_main_v32_apply, val_main_v25_apply, val_main_v18_apply, val_main_v24_apply, val_main_v31_apply,
    val_main_v13_apply, val_main_v19_apply, val_main_v26_apply,
    val_main_v17_apply, val_main_v16_apply, val_main_v15_apply, val_main_v14_apply,
    val_main_v23_apply, val_main_v22_apply, val_main_v21_apply, val_main_v20_apply,
    val_main_v30_apply, val_main_v29_apply, val_main_v28_apply, val_main_v27_apply]
  have hz : ∀ (k : ℕ) (hk : n.val + k < 258) (i : S32x258x256.Idx), (i 0).val = b.val → (i 1).val = n.val + k → (i 2).val = e.val →
      @Eq EReal (val_main_v12 (F := Ideal) x3 i) (zAt x3 b (n.val + k) e) := fun k hk i h0 h1 h2 => by
    have hi : i = ix3 b ⟨n.val + k, hk⟩ e := funext fun a => Fin.ext (by match a with | ⟨0, _⟩ => exact h0 | ⟨1, _⟩ => exact h1 | ⟨2, _⟩ => exact h2)
    rw [hi]
    exact pad_row x3 b ⟨n.val + k, hk⟩ e
  have hm : zAt x3 b (n.val + 1) e = x3 (ix3 b n e) := dif_pos ⟨by omega, by omega⟩
  unfold conv
  dsimp only
  rw [← hm]
  refine congrArg (x2 (ix3 b n e) * ·) (congrArg₂ (· + ·) (congrArg₂ (· + ·) (congrArg₂ (· * ·) ?_ ?_) (congrArg₂ (· * ·) ?_ ?_)) (congrArg₂ (· * ·) ?_ ?_))
  · exact hz 0 (by omega) _ (by rfl) (by rfl) (by rfl)
  · exact congrArg x8 (funext fun a => Fin.ext (by match a with | ⟨0, _⟩ => rfl | ⟨1, _⟩ => show e.val % 256 = e.val; omega))
  · exact hz 1 (by omega) _ (by rfl) (Nat.add_comm _ _) (by rfl)
  · exact congrArg x8 (funext fun a => Fin.ext (by match a with | ⟨0, _⟩ => rfl | ⟨1, _⟩ => show e.val % 256 = e.val; omega))
  · exact hz 2 (by omega) _ (by rfl) (Nat.add_comm _ _) (by rfl)
  · exact congrArg x8 (funext fun a => Fin.ext (by match a with | ⟨0, _⟩ => rfl | ⟨1, _⟩ => show e.val % 256 = e.val; omega))

/-! ## The third branch -/

theorem skip_row (e : Fin 256) : @Eq EReal (val_main_v42 (F := Ideal) x4 x5 x9 (ix3 b n e))
    (skip (fun e => x4 (ix4 0 b n e)) (fun e => x4 (ix4 1 b n e)) (fun e => x5 (ix3 b n e)) (fun e => x9 (ix1 e)) e) := by
  rw [val_main_v42_apply, val_main_v38_apply, val_main_v41_apply, val_main_v35_apply, val_main_v34_apply, val_main_v37_apply, val_main_v36_apply,
    val_main_v40_apply, val_main_v39_apply]
  unfold skip
  refine congrArg₂ (· + ·) (congrArg₂ (· + ·) ?_ ?_) (congrArg₂ (· * ·) ?_ rfl)
  · refine congrArg x4 (funext fun a => Fin.ext ?_)
    match a with
    | ⟨0, _⟩ => rfl
    | ⟨1, _⟩ => show ((b.val * 256 + n.val) * 256 + e.val) / 65536 % 32 = b.val; omega
    | ⟨2, _⟩ => show ((b.val * 256 + n.val) * 256 + e.val) / 256 % 256 = n.val; omega
    | ⟨3, _⟩ => show ((b.val * 256 + n.val) * 256 + e.val) % 256 = e.val; omega
  · refine congrArg x4 (funext fun a => Fin.ext ?_)
    match a with
    | ⟨0, _⟩ => rfl
    | ⟨1, _⟩ => show ((b.val * 256 + n.val) * 256 + e.val) / 65536 % 32 = b.val; omega
    | ⟨2, _⟩ => show ((b.val * 256 + n.val) * 256 + e.val) / 256 % 256 = n.val; omega
    | ⟨3, _⟩ => show ((b.val * 256 + n.val) * 256 + e.val) % 256 = e.val; omega
  · exact congrArg x9 (funext fun a => Fin.ext (by match a with | ⟨0, _⟩ => rfl))

theorem gelu_row (i : S32x256x256.Idx) : @Eq EReal (val_main_v55 (F := Ideal) x4 x5 x9 i) (gelu (val_main_v42 (F := Ideal) x4 x5 x9 i)) := by
  rw [val_main_v55_apply, val_main_v54_apply, val_main_v53_apply, val_main_v52_apply, val_main_v51_apply, val_main_v50_apply, val_main_v49_apply,
    val_main_v48_apply, val_main_v47_apply, val_main_v46_apply, val_main_v45_apply, val_main_v44_apply, val_main_v43_apply]
  generalize val_main_v42 (F := Ideal) x4 x5 x9 i = y
  show (y * (half * (one + Ideal.tanh (root * (y + cube * (y * y * y))))) : EReal) = _
  unfold gelu
  rw [← mul_assoc, mul_comm y half]

theorem ssm_row (e : Fin 256) : @Eq EReal (val_main_v66 (F := Ideal) x4 x5 x9 x10 x11 (ix3 b n e))
    ((rowOf x0 x1 x2 x3 x4 x5 (modArr x6) x7 x8 x9 x10 x11 x12 x13 x14 b n).ssm e) := by
  rw [val_main_v66_apply, val_main_v65_apply, val_main_v64_apply, val_main_v63_apply, val_main_v62_apply, val_main_v61_apply, val_main_v60_apply,
    val_main_v59_apply, val_main_v58_apply, val_main_v57_apply, val_main_v56_apply]
  have hg : ∀ (i : S32x256x256.Idx) (e : Fin 256), i = ix3 b n e → @Eq EReal (val_main_v55 (F := Ideal) x4 x5 x9 i)
      (gelu (skip (fun e => x4 (ix4 0 b n e)) (fun e => x4 (ix4 1 b n e)) (fun e => x5 (ix3 b n e)) (fun e => x9 (ix1 e)) e)) := fun i e hi => by
    rw [hi, gelu_row, skip_row]
  unfold Row.ssm glu
  refine congrArg₂ (· * ·) (hg _ e rfl) (congrArg (fun t : EReal => Ideal.div one (one + Ideal.exp (-t))) (congrArg₂ (· + ·) (Finset.sum_congr rfl fun k _ => ?_) ?_))
  · refine congrArg₂ (· * ·) (hg _ k (funext fun a => by match a with | ⟨0, _⟩ => rfl | ⟨1, _⟩ => rfl | ⟨2, _⟩ => rfl)) ?_
    exact congrArg x10 (funext fun a => by match a with | ⟨0, _⟩ => rfl | ⟨1, _⟩ => rfl)
  · exact congrArg x11 (funext fun a => by match a with | ⟨0, _⟩ => rfl)

/-! ## The joint projection -/

section
variable (y1 : S32x256x512.Idx → EReal) (y2 y3 : S32x256x256.Idx → EReal)

/-- The joined branches. -/
abbrev parts : List ((s : Shape) × (s.Idx → EReal)) := [⟨S32x256x512, y1⟩, ⟨S32x256x256, y2⟩, ⟨S32x256x256, y3⟩]

/-- An index of the joined array off the last axis. -/
theorem off_last {N K : ℕ} (p : Fin N) (q : Fin K) :
    ∀ a : Fin 3, a ≠ 2 → ((ix3 b n p : (⟨3, ![32, 256, N]⟩ : Shape).Idx) a).val = ((ix3 b n q : (⟨3, ![32, 256, K]⟩ : Shape).Idx) a).val := fun a ha => by
  match a with
  | ⟨0, _⟩ => rfl
  | ⟨1, _⟩ => rfl
  | ⟨2, _⟩ => exact absurd rfl ha

theorem parts_1 (k : Fin 512) :
    concatenate S32x256x1024 2 (parts y1 y2 y3) concatenates_S32x256x512_S32x256x256_S32x256x256_S32x256x1024_d2 (ix3 b n ⟨k.val, by omega⟩) = y1 (ix3 b n k) :=
  concatenate_apply_piece (t := S32x256x1024) 2 (parts y1 y2 y3) _ _ 0 (by show 0 < 3; omega) S32x256x512 y1 rfl rfl 0 rfl
    (ix3 b n k) (off_last b n k _) (Nat.zero_add _)

theorem parts_2 (k : Fin 256) :
    concatenate S32x256x1024 2 (parts y1 y2 y3) concatenates_S32x256x512_S32x256x256_S32x256x256_S32x256x1024_d2 (ix3 b n ⟨512 + k.val, by omega⟩) = y2 (ix3 b n k) :=
  concatenate_apply_piece (t := S32x256x1024) 2 (parts y1 y2 y3) _ _ 1 (by show 1 < 3; omega) S32x256x256 y2 rfl rfl 512
    (by simp) (ix3 b n k) (off_last b n k _) rfl

theorem parts_3 (k : Fin 256) :
    concatenate S32x256x1024 2 (parts y1 y2 y3) concatenates_S32x256x512_S32x256x256_S32x256x256_S32x256x1024_d2 (ix3 b n ⟨768 + k.val, by omega⟩) = y3 (ix3 b n k) :=
  concatenate_apply_piece (t := S32x256x1024) 2 (parts y1 y2 y3) _ _ 2 (by show 2 < 3; omega) S32x256x256 y3 rfl rfl 768
    (by simp) (ix3 b n k) (off_last b n k _) rfl
end

theorem mix_row (e : Fin 1024) : @Eq EReal (val_main_v68 (F := Ideal) x1 x2 x3 x4 x5 x8 x9 x10 x11 x12 (ix3 b n e)) ((rowOf x0 x1 x2 x3 x4 x5 (modArr x6) x7 x8 x9 x10 x11 x12 x13 x14 b n).mix e) := by
  rw [val_main_v68_apply]
  refine Eq.trans ?_ (mixed_joined (fun k => x1 (ix3 b n k)) (fun k => val_main_v33 (F := Ideal) x2 x3 x8 (ix3 b n k))
    (fun k => val_main_v66 (F := Ideal) x4 x5 x9 x10 x11 (ix3 b n k)) (fun k e => x12 (ix2 k e)) (fun k => val_main_v67 (F := Ideal) x1 x2 x3 x4 x5 x8 x9 x10 x11 (ix3 b n k))
    (parts_1 b n _ _ _) (parts_2 b n _ _ _) (parts_3 b n _ _ _) e |>.trans ?_)
  · refine Finset.sum_congr rfl fun k _ => congrArg₂ (· * ·) (congrArg (val_main_v67 (F := Ideal) x1 x2 x3 x4 x5 x8 x9 x10 x11) ?_) (congrArg x12 ?_)
    · exact funext fun a => by match a with | ⟨0, _⟩ => rfl | ⟨1, _⟩ => rfl | ⟨2, _⟩ => rfl
    · exact funext fun a => by match a with | ⟨0, _⟩ => rfl | ⟨1, _⟩ => rfl
  · unfold Row.mix
    rw [funext (conv_row x2 x3 x8 b n), funext (ssm_row x0 x1 x2 x3 x4 x5 x6 x7 x8 x9 x10 x11 x12 x13 x14 b n)]
    rfl

/-! ## The residual steps and the MLP -/

theorem mid_row (e : Fin 1024) : @Eq EReal (val_main_v85 (F := Ideal) x0 x1 x2 x3 x4 x5 x6 x7 x8 x9 x10 x11 x12 (ix3 b n e)) ((rowOf x0 x1 x2 x3 x4 x5 (modArr x6) x7 x8 x9 x10 x11 x12 x13 x14 b n).mid e) := by
  rw [val_main_v85_apply, val_main_v84_apply]
  unfold Row.mid step
  refine congrArg (x0 (ix3 b n e) + ·) (congrArg₂ (· * ·) ((bc_row _ b n e).trans (mods_2 x6 b e)) ?_)
  refine (normArr_apply (val_main_v68 (F := Ideal) x1 x2 x3 x4 x5 x8 x9 x10 x11 x12) (val_main_v7 (F := Ideal) x7) b n e).trans ?_
  rw [funext (mix_row x0 x1 x2 x3 x4 x5 x6 x7 x8 x9 x10 x11 x12 x13 x14 b n), funext (gain_1 x7)]
  rfl

theorem act_row (e : Fin 1024) : @Eq EReal (val_main_v106 (F := Ideal) x0 x1 x2 x3 x4 x5 x6 x7 x8 x9 x10 x11 x12 (ix3 b n e)) ((rowOf x0 x1 x2 x3 x4 x5 (modArr x6) x7 x8 x9 x10 x11 x12 x13 x14 b n).act e) := by
  rw [val_main_v106_apply, val_main_v103_apply]
  unfold Row.act modulated
  refine congrArg₂ (· + ·) (congrArg₂ (· * ·) ?_ ?_) ((bc_row _ b n e).trans (mods_3 x6 b e))
  · refine (normArr_apply (val_main_v85 (F := Ideal) x0 x1 x2 x3 x4 x5 x6 x7 x8 x9 x10 x11 x12) (val_main_v9 (F := Ideal) x7) b n e).trans ?_
    rw [funext (mid_row x0 x1 x2 x3 x4 x5 x6 x7 x8 x9 x10 x11 x12 x13 x14 b n), funext (gain_2 x7)]
    rfl
  · refine (bc_row _ b n e).trans ?_
    rw [val_main_v100_apply, val_main_v99_apply, mods_4]
    rfl

theorem mlp_row (e : Fin 1024) : @Eq EReal (val_main_v110 (F := Ideal) x0 x1 x2 x3 x4 x5 x6 x7 x8 x9 x10 x11 x12 x13 x14 (ix3 b n e)) (mlp (rowOf x0 x1 x2 x3 x4 x5 (modArr x6) x7 x8 x9 x10 x11 x12 x13 x14 b n).act (rowOf x0 x1 x2 x3 x4 x5 (modArr x6) x7 x8 x9 x10 x11 x12 x13 x14 b n).w1 (rowOf x0 x1 x2 x3 x4 x5 (modArr x6) x7 x8 x9 x10 x11 x12 x13 x14 b n).w2 e) := by
  rw [val_main_v110_apply]
  unfold mlp unit
  refine Finset.sum_congr rfl fun j _ => congrArg₂ (· * ·) ?_ (congrArg x14 (funext fun a => by match a with | ⟨0, _⟩ => rfl | ⟨1, _⟩ => rfl))
  rw [val_main_v109_apply, val_main_v108_apply, val_main_v107_apply, val_main_call1_v0_apply]
  refine congrArg relu2 (Finset.sum_congr rfl fun k _ => congrArg₂ (· * ·) ?_ (congrArg x13 (funext fun a => by match a with | ⟨0, _⟩ => rfl | ⟨1, _⟩ => rfl)))
  refine Eq.trans (congrArg (val_main_v106 (F := Ideal) x0 x1 x2 x3 x4 x5 x6 x7 x8 x9 x10 x11 x12) ?_) (act_row x0 x1 x2 x3 x4 x5 x6 x7 x8 x9 x10 x11 x12 x13 x14 b n k)
  exact funext fun a => by match a with | ⟨0, _⟩ => rfl | ⟨1, _⟩ => rfl | ⟨2, _⟩ => rfl

/-- The reference's array. -/
theorem ref_eq : val_main_v127 (F := Ideal) x0 x1 x2 x3 x4 x5 x6 x7 x8 x9 x10 x11 x12 x13 x14 = G x0 x1 x2 x3 x4 x5 (modArr x6) x7 x8 x9 x10 x11 x12 x13 x14 := by
  funext i
  obtain ⟨b, n, e, rfl⟩ : ∃ (b : Fin 32) (n : Fin 256) (e : Fin 1024), i = ix3 b n e := ⟨_, _, _, eq_ix3 _⟩
  rw [val_main_v127_apply, val_main_v126_apply]
  show _ = (rowOf x0 x1 x2 x3 x4 x5 (modArr x6) x7 x8 x9 x10 x11 x12 x13 x14 b n).out e
  unfold Row.out step
  refine congrArg₂ (· + ·) (mid_row x0 x1 x2 x3 x4 x5 x6 x7 x8 x9 x10 x11 x12 x13 x14 b n e) (congrArg₂ (· * ·) ((bc_row _ b n e).trans (mods_5 x6 b e)) ?_)
  refine (normArr_apply (val_main_v110 (F := Ideal) x0 x1 x2 x3 x4 x5 x6 x7 x8 x9 x10 x11 x12 x13 x14) (val_main_v11 (F := Ideal) x7) b n e).trans ?_
  rw [funext (mlp_row x0 x1 x2 x3 x4 x5 x6 x7 x8 x9 x10 x11 x12 x13 x14 b n), funext (gain_3 x7)]
  rfl

end

end Cert.CtxBlock

end
-- ==== Proof.BlockCtxClaim.lean ====
/- The context block's value claim: the kernel and the reference leave one array. -/
module

public import proofs.«01_k».proof.Defs
public import proofs.«01_k».proof.Proof.Gen.BlockCtxReferenceIdeal.Run
public import proofs.«01_k».proof.Proof.BlockCtxArray
public import proofs.«01_k».proof.Proof.BlockCtxRef

@[expose] public section

noncomputable section

namespace Cert.CtxBlock

open Idealize.ShloMosaic Idealize.ShloMosaic.ValueIdx Idealize.SL.Sem Cert.Block

/-- The value claim. -/
theorem algebraic :
    haveI := Cert.BlockCtxIdeal.Gen.facts
    haveI := Cert.BlockCtxReferenceIdeal.Gen.facts
    Cert.algebraic_BlockCtxIdeal_BlockCtxReferenceIdeal := by
  intro m ρ m' ρ' _ hargs
  refine ⟨fun c => G
      (m ((c.tc : Thread Cert.BlockCtxIdeal.nD Cert.BlockCtxIdeal.τ).loc Cert.BlockCtxIdeal.main_arg0))
      (m ((c.tc : Thread Cert.BlockCtxIdeal.nD Cert.BlockCtxIdeal.τ).loc Cert.BlockCtxIdeal.main_arg1))
      (m ((c.tc : Thread Cert.BlockCtxIdeal.nD Cert.BlockCtxIdeal.τ).loc Cert.BlockCtxIdeal.main_arg2))
      (m ((c.tc : Thread Cert.BlockCtxIdeal.nD Cert.BlockCtxIdeal.τ).loc Cert.BlockCtxIdeal.main_arg3))
      (m ((c.tc : Thread Cert.BlockCtxIdeal.nD Cert.BlockCtxIdeal.τ).loc Cert.BlockCtxIdeal.main_arg4))
      (m ((c.tc : Thread Cert.BlockCtxIdeal.nD Cert.BlockCtxIdeal.τ).loc Cert.BlockCtxIdeal.main_arg5))
      (modArr (m ((c.tc : Thread Cert.BlockCtxIdeal.nD Cert.BlockCtxIdeal.τ).loc Cert.BlockCtxIdeal.main_arg6)))
      (m ((c.tc : Thread Cert.BlockCtxIdeal.nD Cert.BlockCtxIdeal.τ).loc Cert.BlockCtxIdeal.main_arg7))
      (m ((c.tc : Thread Cert.BlockCtxIdeal.nD Cert.BlockCtxIdeal.τ).loc Cert.BlockCtxIdeal.main_arg8))
      (m ((c.tc : Thread Cert.BlockCtxIdeal.nD Cert.BlockCtxIdeal.τ).loc Cert.BlockCtxIdeal.main_arg9))
      (m ((c.tc : Thread Cert.BlockCtxIdeal.nD Cert.BlockCtxIdeal.τ).loc Cert.BlockCtxIdeal.main_arg10))
      (m ((c.tc : Thread Cert.BlockCtxIdeal.nD Cert.BlockCtxIdeal.τ).loc Cert.BlockCtxIdeal.main_arg11))
      (m ((c.tc : Thread Cert.BlockCtxIdeal.nD Cert.BlockCtxIdeal.τ).loc Cert.BlockCtxIdeal.main_arg12))
      (m ((c.tc : Thread Cert.BlockCtxIdeal.nD Cert.BlockCtxIdeal.τ).loc Cert.BlockCtxIdeal.main_arg13))
      (m ((c.tc : Thread Cert.BlockCtxIdeal.nD Cert.BlockCtxIdeal.τ).loc Cert.BlockCtxIdeal.main_arg14)), ?_, ?_⟩
  · exact (θ_run _ _ _).mono (fun r h c => ⟨(h c).1.trans (final m c), (h c).2⟩) (Cert.BlockCtxIdeal.Value.run_blocks m ρ)
  · refine (θ_run _ _ _).mono (fun r h c => ⟨(h c).1.trans ?_, (h c).2⟩) (Cert.BlockCtxReferenceIdeal.Value.run m' ρ')
    obtain ⟨a0, a1, a2, a3, a4, a5, a6, a7, a8, a9, a10, a11, a12, a13, a14⟩ := hargs c
    rw [Cert.BlockCtxReferenceIdeal.Read.val_main_v127_eq, ref_eq]
    exact G_congr a0 a1 a2 a3 a4 a5 (congrArg modArr a6) a7 a8 a9 a10 a11 a12 a13 a14

end Cert.CtxBlock

end
-- ==== Proof.BlockArray.lean ====
/- The block kernel's result array as one function of the argument arrays. -/
module

public import proofs.«01_k».proof.Proof.BlockBlock
public import proofs.«01_k».proof.Proof.BlockRow

@[expose] public section

set_option backward.proofsInPublic true

noncomputable section

open scoped BigOperators

namespace Cert.Block

open Idealize.ShloMosaic Idealize.ShloMosaic.ValueIdx Idealize.ShloMosaic.TcCoe Idealize.SL.Sem Cert.BlockIdeal Cert.BlockIdeal.Gen
  Cert.BlockIdeal.Value

/-! ## The windows -/

/-- The sequence of a grid point, and the token of a row of its block. -/
def bOf (t : Fin cfg0.N) : Fin 32 := ⟨t.val % 32, by omega⟩
def nOf (t : Fin cfg0.N) (r : Fin 512) : Fin 2048 := ⟨512 * (t.val / 32) + r.val, by have h : t.val < 128 := t.isLt; omega⟩

theorem coord (t : Fin cfg0.N) : (grid0.coords t 0).val = t.val / 32 :=
  (by decide +kernel : ∀ t : Fin grid0.N, (grid0.coords t 0).val = t.val / 32) t
theorem idx0 (t : Fin cfg0.N) : win0_0.index t (0 : Fin 3) = t.val % 32 ∧ win0_0.index t (1 : Fin 3) = t.val / 32 ∧ win0_0.index t (2 : Fin 3) = 0 :=
  (by decide +kernel : ∀ t : Fin grid0.N, win0_0.index t (0 : Fin 3) = t.val % 32 ∧ win0_0.index t (1 : Fin 3) = t.val / 32 ∧ win0_0.index t (2 : Fin 3) = 0) t
theorem idx4 (t : Fin cfg0.N) : win0_4.index t (0 : Fin 3) = t.val % 32 ∧ win0_4.index t (1 : Fin 3) = 64 * (t.val / 32) - 1 ∧ win0_4.index t (2 : Fin 3) = 0 :=
  (by decide +kernel : ∀ t : Fin grid0.N, win0_4.index t (0 : Fin 3) = t.val % 32 ∧ win0_4.index t (1 : Fin 3) = 64 * (t.val / 32) - 1 ∧ win0_4.index t (2 : Fin 3) = 0) t
theorem idx5 (t : Fin cfg0.N) : win0_5.index t (0 : Fin 3) = t.val % 32 ∧ win0_5.index t (1 : Fin 3) = min (64 * (t.val / 32 + 1)) 255 ∧ win0_5.index t (2 : Fin 3) = 0 :=
  (by decide +kernel : ∀ t : Fin grid0.N, win0_5.index t (0 : Fin 3) = t.val % 32 ∧ win0_5.index t (1 : Fin 3) = min (64 * (t.val / 32 + 1)) 255 ∧ win0_5.index t (2 : Fin 3) = 0) t
theorem idx6 (t : Fin cfg0.N) : win0_6.index t (0 : Fin 4) = 0 ∧ win0_6.index t (1 : Fin 4) = t.val % 32 ∧ win0_6.index t (2 : Fin 4) = t.val / 32 ∧ win0_6.index t (3 : Fin 4) = 0 :=
  (by decide +kernel : ∀ t : Fin grid0.N, win0_6.index t (0 : Fin 4) = 0 ∧ win0_6.index t (1 : Fin 4) = t.val % 32 ∧ win0_6.index t (2 : Fin 4) = t.val / 32 ∧ win0_6.index t (3 : Fin 4) = 0) t
theorem idx8 (t : Fin cfg0.N) : win0_8.index t (0 : Fin 3) = t.val % 32 ∧ win0_8.index t (1 : Fin 3) = 0 ∧ win0_8.index t (2 : Fin 3) = 0 :=
  (by decide +kernel : ∀ t : Fin grid0.N, win0_8.index t (0 : Fin 3) = t.val % 32 ∧ win0_8.index t (1 : Fin 3) = 0 ∧ win0_8.index t (2 : Fin 3) = 0) t
theorem idx9 (t : Fin cfg0.N) : win0_9.index t (0 : Fin 2) = 0 ∧ win0_9.index t (1 : Fin 2) = 0 :=
  (by decide +kernel : ∀ t : Fin grid0.N, win0_9.index t (0 : Fin 2) = 0 ∧ win0_9.index t (1 : Fin 2) = 0) t

/-! The places of the blocks' entries. -/

theorem row1024 (t : Fin cfg0.N) (r : Fin 512) (e : Fin 1024) :
    ((cfg0.win 0).blk t).view.emb (ix3 0 r e) = (ix3 (bOf t) (nOf t r) e : S32x2048x1024.Idx) := by
  obtain ⟨e0, e1, e2⟩ := idx0 t
  have ht : t.val < 128 := t.isLt
  refine funext fun a => Fin.ext ?_
  match a with
  | ⟨0, _⟩ => show win0_0.index t (0 : Fin 3) * 1 + 1 * 0 = t.val % 32; omega
  | ⟨1, _⟩ => show win0_0.index t (1 : Fin 3) * 512 + 1 * r.val = 512 * (t.val / 32) + r.val; omega
  | ⟨2, _⟩ => show win0_0.index t (2 : Fin 3) * 1024 + 1 * e.val = e.val; omega

theorem row512 (t : Fin cfg0.N) (r : Fin 512) (e : Fin 512) :
    ((cfg0.win 1).blk t).view.emb (ix3 0 r e) = (ix3 (bOf t) (nOf t r) e : S32x2048x512.Idx) := by
  obtain ⟨e0, e1, e2⟩ := idx0 t
  have ht : t.val < 128 := t.isLt
  refine funext fun a => Fin.ext ?_
  match a with
  | ⟨0, _⟩ => show win0_0.index t (0 : Fin 3) * 1 + 1 * 0 = t.val % 32; omega
  | ⟨1, _⟩ => show win0_0.index t (1 : Fin 3) * 512 + 1 * r.val = 512 * (t.val / 32) + r.val; omega
  | ⟨2, _⟩ => show win0_0.index t (2 : Fin 3) * 512 + 1 * e.val = e.val; omega

theorem row256 (t : Fin cfg0.N) (r : Fin 512) (e : Fin 256) :
    ((cfg0.win 2).blk t).view.emb (ix3 0 r e) = (ix3 (bOf t) (nOf t r) e : S32x2048x256.Idx) := by
  obtain ⟨e0, e1, e2⟩ := idx0 t
  have ht : t.val < 128 := t.isLt
  refine funext fun a => Fin.ext ?_
  match a with
  | ⟨0, _⟩ => show win0_0.index t (0 : Fin 3) * 1 + 1 * 0 = t.val % 32; omega
  | ⟨1, _⟩ => show win0_0.index t (1 : Fin 3) * 512 + 1 * r.val = 512 * (t.val / 32) + r.val; omega
  | ⟨2, _⟩ => show win0_0.index t (2 : Fin 3) * 256 + 1 * e.val = e.val; omega

theorem row_before (t : Fin cfg0.N) (h0 : 0 < t.val / 32) (e : Fin 256) :
    ((cfg0.win 4).blk t).view.emb (ix3 0 7 e) = (ix3 (bOf t) ⟨512 * (t.val / 32) - 1, by have h : t.val < 128 := t.isLt; omega⟩ e : S32x2048x256.Idx) := by
  obtain ⟨e0, e1, e2⟩ := idx4 t
  have ht : t.val < 128 := t.isLt
  refine funext fun a => Fin.ext ?_
  match a with
  | ⟨0, _⟩ => show win0_4.index t (0 : Fin 3) * 1 + 1 * 0 = t.val % 32; omega
  | ⟨1, _⟩ => show win0_4.index t (1 : Fin 3) * 8 + 1 * 7 = 512 * (t.val / 32) - 1; omega
  | ⟨2, _⟩ => show win0_4.index t (2 : Fin 3) * 256 + 1 * e.val = e.val; omega

theorem row_after (t : Fin cfg0.N) (h3 : t.val / 32 < 3) (e : Fin 256) :
    ((cfg0.win 5).blk t).view.emb (ix3 0 0 e) = (ix3 (bOf t) ⟨512 * (t.val / 32) + 512, by omega⟩ e : S32x2048x256.Idx) := by
  obtain ⟨e0, e1, e2⟩ := idx5 t
  have ht : t.val < 128 := t.isLt
  refine funext fun a => Fin.ext ?_
  match a with
  | ⟨0, _⟩ => show win0_5.index t (0 : Fin 3) * 1 + 1 * 0 = t.val % 32; omega
  | ⟨1, _⟩ => show win0_5.index t (1 : Fin 3) * 8 + 1 * 0 = 512 * (t.val / 32) + 512; omega
  | ⟨2, _⟩ => show win0_5.index t (2 : Fin 3) * 256 + 1 * e.val = e.val; omega

theorem row_scan (t : Fin cfg0.N) (k : Fin 2) (r : Fin 512) (e : Fin 256) :
    ((cfg0.win 6).blk t).view.emb (ix4 k 0 r e) = (ix4 k (bOf t) (nOf t r) e : S2x32x2048x256.Idx) := by
  obtain ⟨e0, e1, e2, e3⟩ := idx6 t
  have ht : t.val < 128 := t.isLt
  refine funext fun a => Fin.ext ?_
  match a with
  | ⟨0, _⟩ => show win0_6.index t (0 : Fin 4) * 2 + 1 * k.val = k.val; omega
  | ⟨1, _⟩ => show win0_6.index t (1 : Fin 4) * 1 + 1 * 0 = t.val % 32; omega
  | ⟨2, _⟩ => show win0_6.index t (2 : Fin 4) * 512 + 1 * r.val = 512 * (t.val / 32) + r.val; omega
  | ⟨3, _⟩ => show win0_6.index t (3 : Fin 4) * 256 + 1 * e.val = e.val; omega

theorem row_mods (t : Fin cfg0.N) (k : Fin 6) (e : Fin 1024) :
    ((cfg0.win 8).blk t).view.emb (ix3 0 k e) = (ix3 (bOf t) k e : S32x6x1024.Idx) := by
  obtain ⟨e0, e1, e2⟩ := idx8 t
  have ht : t.val < 128 := t.isLt
  refine funext fun a => Fin.ext ?_
  match a with
  | ⟨0, _⟩ => show win0_8.index t (0 : Fin 3) * 1 + 1 * 0 = t.val % 32; omega
  | ⟨1, _⟩ => show win0_8.index t (1 : Fin 3) * 6 + 1 * k.val = k.val; omega
  | ⟨2, _⟩ => show win0_8.index t (2 : Fin 3) * 1024 + 1 * e.val = e.val; omega

theorem whole9 (t : Fin cfg0.N) (k : Fin 4) (e : Fin 1024) :
    ((cfg0.win 9).blk t).view.emb (ix2 k e) = (ix2 k e : S4x1024.Idx) := by
  obtain ⟨e0, e1⟩ := idx9 t
  have ht : t.val < 128 := t.isLt
  refine funext fun a => Fin.ext ?_
  match a with
  | ⟨0, _⟩ => show win0_9.index t (0 : Fin 2) * 4 + 1 * k.val = k.val; omega
  | ⟨1, _⟩ => show win0_9.index t (1 : Fin 2) * 1024 + 1 * e.val = e.val; omega

theorem whole10 (t : Fin cfg0.N) (k : Fin 3) (e : Fin 256) :
    ((cfg0.win 10).blk t).view.emb (ix2 k e) = (ix2 k e : S3x256.Idx) := by
  obtain ⟨e0, e1⟩ := idx9 t
  have ht : t.val < 128 := t.isLt
  refine funext fun a => Fin.ext ?_
  match a with
  | ⟨0, _⟩ => show win0_9.index t (0 : Fin 2) * 3 + 1 * k.val = k.val; omega
  | ⟨1, _⟩ => show win0_9.index t (1 : Fin 2) * 256 + 1 * e.val = e.val; omega

theorem whole11 (t : Fin cfg0.N) (k : Fin 1) (e : Fin 256) :
    ((cfg0.win 11).blk t).view.emb (ix2 k e) = (ix2 k e : S1x256.Idx) := by
  obtain ⟨e0, e1⟩ := idx9 t
  have ht : t.val < 128 := t.isLt
  refine funext fun a => Fin.ext ?_
  match a with
  | ⟨0, _⟩ => show win0_9.index t (0 : Fin 2) * 1 + 1 * k.val = k.val; omega
  | ⟨1, _⟩ => show win0_9.index t (1 : Fin 2) * 256 + 1 * e.val = e.val; omega

theorem whole12 (t : Fin cfg0.N) (k : Fin 256) (e : Fin 256) :
    ((cfg0.win 12).blk t).view.emb (ix2 k e) = (ix2 k e : S256x256.Idx) := by
  obtain ⟨e0, e1⟩ := idx9 t
  have ht : t.val < 128 := t.isLt
  refine funext fun a => Fin.ext ?_
  match a with
  | ⟨0, _⟩ => show win0_9.index t (0 : Fin 2) * 256 + 1 * k.val = k.val; omega
  | ⟨1, _⟩ => show win0_9.index t (1 : Fin 2) * 256 + 1 * e.val = e.val; omega

theorem whole14 (t : Fin cfg0.N) (k : Fin 1024) (e : Fin 1024) :
    ((cfg0.win 14).blk t).view.emb (ix2 k e) = (ix2 k e : S1024x1024.Idx) := by
  obtain ⟨e0, e1⟩ := idx9 t
  have ht : t.val < 128 := t.isLt
  refine funext fun a => Fin.ext ?_
  match a with
  | ⟨0, _⟩ => show win0_9.index t (0 : Fin 2) * 1024 + 1 * k.val = k.val; omega
  | ⟨1, _⟩ => show win0_9.index t (1 : Fin 2) * 1024 + 1 * e.val = e.val; omega

theorem whole15 (t : Fin cfg0.N) (k : Fin 1024) (e : Fin 4096) :
    ((cfg0.win 15).blk t).view.emb (ix2 k e) = (ix2 k e : S1024x4096.Idx) := by
  obtain ⟨e0, e1⟩ := idx9 t
  have ht : t.val < 128 := t.isLt
  refine funext fun a => Fin.ext ?_
  match a with
  | ⟨0, _⟩ => show win0_9.index t (0 : Fin 2) * 1024 + 1 * k.val = k.val; omega
  | ⟨1, _⟩ => show win0_9.index t (1 : Fin 2) * 4096 + 1 * e.val = e.val; omega

theorem whole16 (t : Fin cfg0.N) (k : Fin 4096) (e : Fin 1024) :
    ((cfg0.win 16).blk t).view.emb (ix2 k e) = (ix2 k e : S4096x1024.Idx) := by
  obtain ⟨e0, e1⟩ := idx9 t
  have ht : t.val < 128 := t.isLt
  refine funext fun a => Fin.ext ?_
  match a with
  | ⟨0, _⟩ => show win0_9.index t (0 : Fin 2) * 4096 + 1 * k.val = k.val; omega
  | ⟨1, _⟩ => show win0_9.index t (1 : Fin 2) * 1024 + 1 * e.val = e.val; omega

variable (m : (ℓ : Loc nD τ sig) → Buf (Elt Ideal) ℓ) (ρ : Dev nD → PrngReg)

/-! The host's operations before the call. -/

theorem V_main_v0 (c : Dev nD) : V m c main_v0 = m ((c : Thread nD τ).loc main_arg1) := by
  show StableHlo.after hostOps0 _ (Proc.devRef .tc main_v0) = _
  after_results
  rfl
theorem V_main_v2 (c : Dev nD) : V m c main_v2 = m ((c : Thread nD τ).loc main_arg10) := by
  show StableHlo.after hostOps0 _ (Proc.devRef .tc main_v2) = _
  after_results
  rfl
theorem V_main_v4 (c : Dev nD) : V m c main_v4 = m ((c : Thread nD τ).loc main_arg12) := by
  show StableHlo.after hostOps0 _ (Proc.devRef .tc main_v4) = _
  after_results
  rfl
theorem V_main_v5 (c : Dev nD) : V m c main_v5 = m ((c : Thread nD τ).loc main_arg13) := by
  show StableHlo.after hostOps0 _ (Proc.devRef .tc main_v5) = _
  after_results
  rfl
theorem V_main_v6 (c : Dev nD) : V m c main_v6 = m ((c : Thread nD τ).loc main_arg14) := by
  show StableHlo.after hostOps0 _ (Proc.devRef .tc main_v6) = _
  after_results
  rfl
/-- A vector reshaped to a row. -/
theorem reshape_row (x : FVec Ideal S256 .f32) (e : Fin 256) : shapeCast S1x256 x shapeCasts_S256_S1x256 (ix2 0 e) = x (ix1 e) :=
  shapeCast_apply _ _ _ _ (by rw [Shape.rowMajor_val_two, Shape.rowMajor_val_one]; simp)

theorem V_main_v1 (c : Dev nD) (e : Fin 256) : @Eq EReal (V m c main_v1 (ix2 0 e)) (m ((c : Thread nD τ).loc main_arg9) (ix1 e)) := by
  have h : V m c main_v1 = shapeCast _ (m ((c : Thread nD τ).loc main_arg9)) shapeCasts_S256_S1x256 := by
    show StableHlo.after hostOps0 _ (Proc.devRef .tc main_v1) = _
    after_results
    rfl
  exact (congrFun h _).trans (reshape_row _ e)
theorem V_main_v3 (c : Dev nD) (e : Fin 256) : @Eq EReal (V m c main_v3 (ix2 0 e)) (m ((c : Thread nD τ).loc main_arg11) (ix1 e)) := by
  have h : V m c main_v3 = shapeCast _ (m ((c : Thread nD τ).loc main_arg11)) shapeCasts_S256_S1x256 := by
    show StableHlo.after hostOps0 _ (Proc.devRef .tc main_v3) = _
    after_results
    rfl
  exact (congrFun h _).trans (reshape_row _ e)

/-- The array that the kernel leaves. -/
abbrev GV (c : Dev nD) : FVec Ideal S32x2048x1024 .f32 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The rows before and after a block's row. -/
theorem before_eq (c : Dev nD) (t : Fin cfg0.N) (r : Fin 512) (e : Fin 256) :
    @Eq EReal (k0_pay4 (F := Ideal) (grid0.coords t) (iblk m c 3 t) (iblk m c 4 t) (ix2 r e)) (zAt (m ((c : Thread nD τ).loc main_arg3)) (bOf t) (nOf t r).val e) := by
  have ht : t.val < 128 := t.isLt
  have hi := coord t
  refine (pay4_apply _ (by omega) _ _ r e).trans ?_
  rw [coord]
  unfold zAt
  by_cases hr : r.val = 0
  · rw [if_pos hr]
    by_cases h0 : 0 < t.val / 32
    · rw [if_pos h0, one_eq, mul_one, dif_pos (by show 1 ≤ 512 * (t.val / 32) + r.val ∧ 512 * (t.val / 32) + r.val < 2049; omega)]
      refine (congrArg (V m c main_arg3) (row_before t h0 e)).trans ?_
      rw [V_main_arg3]
      exact congrArg (fun n => (m ((c : Thread nD τ).loc main_arg3)) (ix3 (bOf t) n e)) (Fin.ext (by show 512 * (t.val / 32) - 1 = 512 * (t.val / 32) + r.val - 1; omega))
    · rw [if_neg h0, zero_eq, mul_zero, dif_neg (by show ¬(1 ≤ 512 * (t.val / 32) + r.val ∧ 512 * (t.val / 32) + r.val < 2049); omega)]
  · rw [if_neg hr, dif_pos (by show 1 ≤ 512 * (t.val / 32) + r.val ∧ 512 * (t.val / 32) + r.val < 2049; omega)]
    refine (congrArg (V m c main_arg3) (row256 t _ e)).trans ?_
    rw [V_main_arg3]
    exact congrArg (fun n => (m ((c : Thread nD τ).loc main_arg3)) (ix3 (bOf t) n e)) (Fin.ext (by show 512 * (t.val / 32) + (r.val - 1) = 512 * (t.val / 32) + r.val - 1; omega))

theorem after_eq (c : Dev nD) (t : Fin cfg0.N) (r : Fin 512) (e : Fin 256) :
    @Eq EReal (k0_pay5 (F := Ideal) (grid0.coords t) (iblk m c 3 t) (iblk m c 5 t) (ix2 r e)) (zAt (m ((c : Thread nD τ).loc main_arg3)) (bOf t) ((nOf t r).val + 2) e) := by
  have ht : t.val < 128 := t.isLt
  have hi := coord t
  refine (pay5_apply _ (by omega) _ _ r e).trans ?_
  rw [coord]
  unfold zAt
  by_cases hr : r.val = 511
  · rw [dif_pos hr]
    by_cases h3 : t.val / 32 < 3
    · rw [if_pos h3, one_eq, mul_one, dif_pos (by show 1 ≤ 512 * (t.val / 32) + r.val + 2 ∧ 512 * (t.val / 32) + r.val + 2 < 2049; omega)]
      refine (congrArg (V m c main_arg3) (row_after t h3 e)).trans ?_
      rw [V_main_arg3]
      exact congrArg (fun n => (m ((c : Thread nD τ).loc main_arg3)) (ix3 (bOf t) n e)) (Fin.ext (by show 512 * (t.val / 32) + 512 = 512 * (t.val / 32) + r.val + 2 - 1; omega))
    · rw [if_neg h3, zero_eq, mul_zero, dif_neg (by show ¬(1 ≤ 512 * (t.val / 32) + r.val + 2 ∧ 512 * (t.val / 32) + r.val + 2 < 2049); omega)]
  · rw [dif_neg hr, dif_pos (by show 1 ≤ 512 * (t.val / 32) + r.val + 2 ∧ 512 * (t.val / 32) + r.val + 2 < 2049; omega)]
    refine (congrArg (V m c main_arg3) (row256 t _ e)).trans ?_
    rw [V_main_arg3]
    exact congrArg (fun n => (m ((c : Thread nD τ).loc main_arg3)) (ix3 (bOf t) n e)) (Fin.ext (by show 512 * (t.val / 32) + (r.val + 1) = 512 * (t.val / 32) + r.val + 2 - 1; omega))

/-- A block's row is the token's. -/
theorem row_eq (c : Dev nD) (t : Fin cfg0.N) (r : Fin 512) :
    blockRow (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r
      = rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (bOf t) (nOf t r) := by
  unfold blockRow rowOf
  rw [Row.mk.injEq]
  refine ⟨funext fun e => ?_, funext fun e => ?_, funext fun e => ?_, funext fun e => ?_, funext fun e => ?_, funext fun e => ?_, funext fun e => ?_,
    funext fun e => ?_, funext fun e => ?_, funext fun k => funext fun e => ?_, funext fun k => funext fun e => ?_, funext fun k => funext fun e => ?_,
    funext fun e => ?_, funext fun k => funext fun e => ?_, funext fun e => ?_, funext fun k => funext fun e => ?_, funext fun k => funext fun e => ?_,
    funext fun k => funext fun e => ?_⟩
  · exact (congrArg (V m c main_arg0) (row1024 t r e)).trans (congrFun (V_main_arg0 m c) _)
  · exact (congrArg (V m c main_v0) (row512 t r e)).trans (congrFun (V_main_v0 m c) _)
  · exact (congrArg (V m c main_arg2) (row256 t r e)).trans (congrFun (V_main_arg2 m c) _)
  · exact before_eq m c t r e
  · exact (congrArg (V m c main_arg3) (row256 t r e)).trans (congrFun (V_main_arg3 m c) _)
  · exact after_eq m c t r e
  · exact (congrArg (V m c main_arg4) (row_scan t 0 r e)).trans (congrFun (V_main_arg4 m c) _)
  · exact (congrArg (V m c main_arg4) (row_scan t 1 r e)).trans (congrFun (V_main_arg4 m c) _)
  · exact (congrArg (V m c main_arg5) (row256 t r e)).trans (congrFun (V_main_arg5 m c) _)
  · exact (congrArg (V m c main_arg6) (row_mods t k e)).trans (congrFun (V_main_arg6 m c) _)
  · exact (congrArg (V m c main_arg7) (whole9 t k e)).trans (congrFun (V_main_arg7 m c) _)
  · exact (congrArg (V m c main_arg8) (whole10 t k e)).trans (congrFun (V_main_arg8 m c) _)
  · exact (congrArg (V m c main_v1) (whole11 t 0 e)).trans (V_main_v1 m c e)
  · exact (congrArg (V m c main_v2) (whole12 t k e)).trans (congrFun (V_main_v2 m c) _)
  · exact (congrArg (V m c main_v3) (whole11 t 0 e)).trans (V_main_v3 m c e)
  · exact (congrArg (V m c main_v4) (whole14 t k e)).trans (congrFun (V_main_v4 m c) _)
  · exact (congrArg (V m c main_v5) (whole15 t k e)).trans (congrFun (V_main_v5 m c) _)
  · exact (congrArg (V m c main_v6) (whole16 t k e)).trans (congrFun (V_main_v6 m c) _)

/-- What a point writes back is its block of the array. -/
theorem flushed_eq (c : Dev nD) (t : Fin cfg0.N) : (dats m 0 c).flushed 17 t = ((cfg0.win 17).blk t).view.read (Elt Ideal) (GV m c) := by
  rw [flushed17]
  funext j
  obtain ⟨a, r, e, rfl⟩ : ∃ (a : Fin 1) (r : Fin 512) (e : Fin 1024), j = ix3 a r e := ⟨_, _, _, eq_ix3 _⟩
  obtain rfl : a = 0 := Subsingleton.elim _ _
  show out0_17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 0 r e) = GV m c (((cfg0.win 17).blk t).view.emb (ix3 0 r e))
  refine Eq.trans ?_ (congrArg (GV m c) (row1024 t r e)).symm
  refine (out_apply _ _ _ _ _ _ _ _ _ _ _ _ _ _ _ _ _ _ r e).trans ?_
  exact congrArg (fun R => Row.out R e) (row_eq m c t r)

/-- The array after the run. -/
theorem final (c : Dev nD) : (dats m 0 c).arrAt 17 cfg0.N = GV m c := by
  refine (dats m 0 c).arrAt_eq_of_cover 17 (GV m c) (fun t _ => flushed_eq m c t) fun i => ?_
  obtain ⟨b, n, e, rfl⟩ : ∃ (b : Fin 32) (n : Fin 2048) (e : Fin 1024), i = ix3 b n e := ⟨_, _, _, eq_ix3 _⟩
  have hlt : 32 * (n.val / 512) + b.val < 128 := by omega
  refine ⟨(⟨32 * (n.val / 512) + b.val, hlt⟩ : Fin cfg0.N), flush0_17 _, ?_⟩
  have h := ((cfg0.win 17).blk (⟨32 * (n.val / 512) + b.val, hlt⟩ : Fin cfg0.N)).view.emb_mem_set (ix3 0 (⟨n.val % 512, by omega⟩ : Fin 512) e)
  have e0 : ((cfg0.win 17).blk (⟨32 * (n.val / 512) + b.val, hlt⟩ : Fin cfg0.N)).view.emb (ix3 0 (⟨n.val % 512, by omega⟩ : Fin 512) e) = ix3 b n e := by
    refine Eq.trans (row1024 (⟨32 * (n.val / 512) + b.val, hlt⟩ : Fin cfg0.N) ⟨n.val % 512, by omega⟩ e) ?_
    have e1 : bOf (⟨32 * (n.val / 512) + b.val, hlt⟩ : Fin cfg0.N) = b := Fin.ext (by show (32 * (n.val / 512) + b.val) % 32 = b.val; omega)
    have e2 : nOf (⟨32 * (n.val / 512) + b.val, hlt⟩ : Fin cfg0.N) ⟨n.val % 512, by omega⟩ = n :=
      Fin.ext (by show 512 * ((32 * (n.val / 512) + b.val) / 32) + n.val % 512 = n.val; omega)
    rw [e1, e2]
  rw [e0] at h
  exact h

end Cert.Block

end
-- ==== Proof.BlockRef.lean ====
/- The reference block read at an index: the same row. -/
module

public import proofs.«01_k».proof.Proof.Gen.BlockReferenceIdeal.Read
public import proofs.«01_k».proof.Proof.BlockRow
public import Idealize.ShloMosaic.Lib.KernelVsHost

@[expose] public section

set_option backward.proofsInPublic true

noncomputable section

open scoped BigOperators

namespace Cert.Block

open Idealize.ShloMosaic Idealize.ShloMosaic.ValueIdx Cert.BlockReferenceIdeal Cert.BlockReferenceIdeal.Gen Cert.BlockReferenceIdeal.Read

/-! ## Broadcasts and norms -/

theorem bc_row (y : FVec Ideal S1024 .f32) (b : Fin 32) (n : Fin 2048) (e : Fin 1024) :
    broadcastInDim S32x2048x1024 ![0, 1, 2] bcast_S1x1x1024_S32x2048x1024_0_1_2 (broadcastInDim S1x1x1024 ![2] bcast_S1024_S1x1x1024_2 y) (ix3 b n e) = y (ix1 e) :=
  (broadcastInDim_apply _ _ _ (ix3 b n e) (ix3 0 0 e) (by intro a; match a with | ⟨0, _⟩ => rfl | ⟨1, _⟩ => rfl | ⟨2, _⟩ => rfl)).trans
    (broadcastInDim_apply _ _ _ (ix3 0 0 e) (ix1 e) (by intro a; match a with | ⟨0, _⟩ => rfl))

theorem bc_col (y : FVec Ideal S32x2048x1 .f32) (b : Fin 32) (n : Fin 2048) (e : Fin 1024) :
    broadcastInDim S32x2048x1024 ![0, 1, 2] bcast_S32x2048x1_S32x2048x1024_0_1_2 y (ix3 b n e) = y (ix3 b n 0) :=
  broadcastInDim_apply _ _ _ (ix3 b n e) (ix3 b n 0) (by intro a; match a with | ⟨0, _⟩ => rfl | ⟨1, _⟩ => rfl | ⟨2, _⟩ => rfl)

theorem bc_mod (y : FVec Ideal S32x1x1024 .f32) (b : Fin 32) (n : Fin 2048) (e : Fin 1024) :
    broadcastInDim S32x2048x1024 ![0, 1, 2] bcast_S32x1x1024_S32x2048x1024_0_1_2 y (ix3 b n e) = y (ix3 b 0 e) :=
  broadcastInDim_apply _ _ _ (ix3 b n e) (ix3 b 0 e) (by intro a; match a with | ⟨0, _⟩ => rfl | ⟨1, _⟩ => rfl | ⟨2, _⟩ => rfl)

theorem bc_mean (y : FVec Ideal S32x2048 .f32) (b : Fin 32) (n : Fin 2048) :
    broadcastInDim S32x2048x1 ![0, 1] bcast_S32x2048_S32x2048x1_0_1 y (ix3 b n 0) = y (ix2 b n) :=
  broadcastInDim_apply _ _ _ (ix3 b n 0) (ix2 b n) (by intro a; match a with | ⟨0, _⟩ => rfl | ⟨1, _⟩ => rfl)

/-- A row of the summed squares. -/
theorem sum_row (y : FVec Ideal S32x2048x1024 .f32) (b : Fin 32) (n : Fin 2048) :
    @Eq EReal (Host.reduceAdd y (val_main_cst_5 (F := Ideal)) reducesTo_S32x2048x1024_S32x2048_d2 h_S_ (ix2 b n)) (∑ k : Fin 1024, y (ix3 b n k)) := by
  simp only [Host.reduceAdd, Ideal.hostReduceAdd_def]
  rw [Ideal.hostReduceAdd_single reducesTo_S32x2048x1024_S32x2048_d2 (by decide)]
  refine (congrArg₂ (· + ·) zero_eq (Finset.sum_congr rfl fun k _ => ?_)).trans (zero_add _)
  exact congrArg y (funext fun a => Fin.ext (by match a with | ⟨0, _⟩ => rfl | ⟨1, _⟩ => rfl | ⟨2, _⟩ => rfl))

/-- The reference's norm of an array. -/
def normArr (y : FVec Ideal S32x2048x1024 .f32) (g : FVec Ideal S1024 .f32) : FVec Ideal S32x2048x1024 .f32 :=
  mulf (mulf y (broadcastInDim S32x2048x1024 ![0, 1, 2] bcast_S32x2048x1_S32x2048x1024_0_1_2
      (Host.rsqrt (addf (Host.divf (broadcastInDim S32x2048x1 ![0, 1] bcast_S32x2048_S32x2048x1_0_1
        (Host.reduceAdd (mulf y y) (val_main_cst_5 (F := Ideal)) reducesTo_S32x2048x1024_S32x2048_d2 h_S_)) (val_main_v72 (F := Ideal))) (val_main_v74 (F := Ideal))))))
    (broadcastInDim S32x2048x1024 ![0, 1, 2] bcast_S1x1x1024_S32x2048x1024_0_1_2 (broadcastInDim S1x1x1024 ![2] bcast_S1024_S1x1x1024_2 g))

theorem normArr_apply (y : FVec Ideal S32x2048x1024 .f32) (g : FVec Ideal S1024 .f32) (b : Fin 32) (n : Fin 2048) (e : Fin 1024) :
    normArr y g (ix3 b n e) = norm (fun e => y (ix3 b n e)) (fun e => g (ix1 e)) e := by
  unfold normArr
  rw [mulf_apply, mulf_apply, bc_col, bc_row]
  unfold norm
  refine congrArg (· * g (ix1 e)) (congrArg (y (ix3 b n e) * ·) (congrArg Ideal.rsqrt ?_))
  refine congrArg₂ (· + ·) (congrArg₂ Ideal.div ?_ ?_) ?_
  · rw [bc_mean, sum_row]
    rfl
  · exact val_main_v72_apply _
  · exact val_main_v74_apply _

section

variable (x0 : FVec Ideal S32x2048x1024 .f32) (x1 : FVec Ideal S32x2048x512 .f32) (x2 x3 : FVec Ideal S32x2048x256 .f32) (x4 : FVec Ideal S2x32x2048x256 .f32)
  (x5 : FVec Ideal S32x2048x256 .f32) (x6 : FVec Ideal S32x6x1024 .f32) (x7 : FVec Ideal S4x1024 .f32) (x8 : FVec Ideal S3x256 .f32) (x9 : FVec Ideal S256 .f32)
  (x10 : FVec Ideal S256x256 .f32) (x11 : FVec Ideal S256 .f32) (x12 : FVec Ideal S1024x1024 .f32) (x13 : FVec Ideal S1024x4096 .f32) (x14 : FVec Ideal S4096x1024 .f32)
  (b : Fin 32) (n : Fin 2048)

/-! ## The modulation's and the gains' rows -/

theorem mods_2 (e : Fin 1024) : val_main_v2 (F := Ideal) x6 (ix3 b 0 e) = x6 (ix3 b 2 e) := by
  rw [val_main_v2_apply]
  exact congrArg x6 (funext fun a => Fin.ext (by match a with | ⟨0, _⟩ => rfl | ⟨1, _⟩ => rfl | ⟨2, _⟩ => rfl))
theorem mods_3 (e : Fin 1024) : val_main_v3 (F := Ideal) x6 (ix3 b 0 e) = x6 (ix3 b 3 e) := by
  rw [val_main_v3_apply]
  exact congrArg x6 (funext fun a => Fin.ext (by match a with | ⟨0, _⟩ => rfl | ⟨1, _⟩ => rfl | ⟨2, _⟩ => rfl))
theorem mods_4 (e : Fin 1024) : val_main_v4 (F := Ideal) x6 (ix3 b 0 e) = x6 (ix3 b 4 e) := by
  rw [val_main_v4_apply]
  exact congrArg x6 (funext fun a => Fin.ext (by match a with | ⟨0, _⟩ => rfl | ⟨1, _⟩ => rfl | ⟨2, _⟩ => rfl))
theorem mods_5 (e : Fin 1024) : val_main_v5 (F := Ideal) x6 (ix3 b 0 e) = x6 (ix3 b 5 e) := by
  rw [val_main_v5_apply]
  exact congrArg x6 (funext fun a => Fin.ext (by match a with | ⟨0, _⟩ => rfl | ⟨1, _⟩ => rfl | ⟨2, _⟩ => rfl))
theorem gain_1 (e : Fin 1024) : val_main_v7 (F := Ideal) x7 (ix1 e) = x7 (ix2 1 e) := by
  rw [val_main_v7_apply, val_main_v6_apply]
  exact congrArg x7 (funext fun a => Fin.ext (by match a with | ⟨0, _⟩ => rfl | ⟨1, _⟩ => show e.val % 1024 = e.val; omega))
theorem gain_2 (e : Fin 1024) : val_main_v9 (F := Ideal) x7 (ix1 e) = x7 (ix2 2 e) := by
  rw [val_main_v9_apply, val_main_v8_apply]
  exact congrArg x7 (funext fun a => Fin.ext (by match a with | ⟨0, _⟩ => rfl | ⟨1, _⟩ => show e.val % 1024 = e.val; omega))
theorem gain_3 (e : Fin 1024) : val_main_v11 (F := Ideal) x7 (ix1 e) = x7 (ix2 3 e) := by
  rw [val_main_v11_apply, val_main_v10_apply]
  exact congrArg x7 (funext fun a => Fin.ext (by match a with | ⟨0, _⟩ => rfl | ⟨1, _⟩ => show e.val % 1024 = e.val; omega))

/-! ## The convolution -/

theorem pad_row (p : Fin 2050) (e : Fin 256) : @Eq EReal (val_main_v12 (F := Ideal) x3 (ix3 b p e)) (zAt x3 b p.val e) := by
  unfold val_main_v12 zAt
  by_cases h : 1 ≤ p.val ∧ p.val < 2049
  · rw [dif_pos h]
    refine pad_apply_of_inside _ _ _ _ _ _ _ (ix3 b p e) (ix3 b ⟨p.val - 1, by omega⟩ e) fun a => ?_
    match a with
    | ⟨0, _⟩ => show b.val = 0 + b.val * 1; omega
    | ⟨1, _⟩ => show p.val = 1 + (p.val - 1) * 1; omega
    | ⟨2, _⟩ => show e.val = 0 + e.val * 1; omega
  · rw [dif_neg h, zero_eq]
    refine (pad_apply_of_not_inside _ _ _ _ _ _ _ (ix3 b p e) 1 ?_).trans ?_
    · show ¬(1 ≤ p.val ∧ (p.val - 1) % 1 = 0 ∧ (p.val - 1) / 1 < 2048)
      omega
    · show (((0#32 : BitVec 32).toInt : ℝ) : EReal) = 0
      simp

theorem conv_row (e : Fin 256) : @Eq EReal (val_main_v33 (F := Ideal) x2 x3 x8 (ix3 b n e))
    (conv (fun e => x2 (ix3 b n e)) (zAt x3 b n.val) (fun e => x3 (ix3 b n e)) (zAt x3 b (n.val + 2)) (fun k e => x8 (ix2 k e)) e) := by
  rw [val_main_v33_apply, val_main_v32_apply, val_main_v25_apply, val_main_v18_apply, val_main_v24_apply, val_main_v31_apply,
    val_main_v13_apply, val_main_v19_apply, val_main_v26_apply,
    val_main_v17_apply, val_main_v16_apply, val_main_v15_apply, val_main_v14_apply,
    val_main_v23_apply, val_main_v22_apply, val_main_v21_apply, val_main_v20_apply,
    val_main_v30_apply, val_main_v29_apply, val_main_v28_apply, val_main_v27_apply]
  have hz : ∀ (k : ℕ) (hk : n.val + k < 2050) (i : S32x2050x256.Idx), (i 0).val = b.val → (i 1).val = n.val + k → (i 2).val = e.val →
      @Eq EReal (val_main_v12 (F := Ideal) x3 i) (zAt x3 b (n.val + k) e) := fun k hk i h0 h1 h2 => by
    have hi : i = ix3 b ⟨n.val + k, hk⟩ e := funext fun a => Fin.ext (by match a with | ⟨0, _⟩ => exact h0 | ⟨1, _⟩ => exact h1 | ⟨2, _⟩ => exact h2)
    rw [hi]
    exact pad_row x3 b ⟨n.val + k, hk⟩ e
  have hm : zAt x3 b (n.val + 1) e = x3 (ix3 b n e) := dif_pos ⟨by omega, by omega⟩
  unfold conv
  dsimp only
  rw [← hm]
  refine congrArg (x2 (ix3 b n e) * ·) (congrArg₂ (· + ·) (congrArg₂ (· + ·) (congrArg₂ (· * ·) ?_ ?_) (congrArg₂ (· * ·) ?_ ?_)) (congrArg₂ (· * ·) ?_ ?_))
  · exact hz 0 (by omega) _ (by rfl) (by rfl) (by rfl)
  · exact congrArg x8 (funext fun a => Fin.ext (by match a with | ⟨0, _⟩ => rfl | ⟨1, _⟩ => show e.val % 256 = e.val; omega))
  · exact hz 1 (by omega) _ (by rfl) (Nat.add_comm _ _) (by rfl)
  · exact congrArg x8 (funext fun a => Fin.ext (by match a with | ⟨0, _⟩ => rfl | ⟨1, _⟩ => show e.val % 256 = e.val; omega))
  · exact hz 2 (by omega) _ (by rfl) (Nat.add_comm _ _) (by rfl)
  · exact congrArg x8 (funext fun a => Fin.ext (by match a with | ⟨0, _⟩ => rfl | ⟨1, _⟩ => show e.val % 256 = e.val; omega))

/-! ## The third branch -/

theorem skip_row (e : Fin 256) : @Eq EReal (val_main_v42 (F := Ideal) x4 x5 x9 (ix3 b n e))
    (skip (fun e => x4 (ix4 0 b n e)) (fun e => x4 (ix4 1 b n e)) (fun e => x5 (ix3 b n e)) (fun e => x9 (ix1 e)) e) := by
  rw [val_main_v42_apply, val_main_v38_apply, val_main_v41_apply, val_main_v35_apply, val_main_v34_apply, val_main_v37_apply, val_main_v36_apply,
    val_main_v40_apply, val_main_v39_apply]
  unfold skip
  refine congrArg₂ (· + ·) (congrArg₂ (· + ·) ?_ ?_) (congrArg₂ (· * ·) ?_ rfl)
  · refine congrArg x4 (funext fun a => Fin.ext ?_)
    match a with
    | ⟨0, _⟩ => rfl
    | ⟨1, _⟩ => show ((b.val * 2048 + n.val) * 256 + e.val) / 524288 % 32 = b.val; omega
    | ⟨2, _⟩ => show ((b.val * 2048 + n.val) * 256 + e.val) / 256 % 2048 = n.val; omega
    | ⟨3, _⟩ => show ((b.val * 2048 + n.val) * 256 + e.val) % 256 = e.val; omega
  · refine congrArg x4 (funext fun a => Fin.ext ?_)
    match a with
    | ⟨0, _⟩ => rfl
    | ⟨1, _⟩ => show ((b.val * 2048 + n.val) * 256 + e.val) / 524288 % 32 = b.val; omega
    | ⟨2, _⟩ => show ((b.val * 2048 + n.val) * 256 + e.val) / 256 % 2048 = n.val; omega
    | ⟨3, _⟩ => show ((b.val * 2048 + n.val) * 256 + e.val) % 256 = e.val; omega
  · exact congrArg x9 (funext fun a => Fin.ext (by match a with | ⟨0, _⟩ => rfl))

theorem gelu_row (i : S32x2048x256.Idx) : @Eq EReal (val_main_v55 (F := Ideal) x4 x5 x9 i) (gelu (val_main_v42 (F := Ideal) x4 x5 x9 i)) := by
  rw [val_main_v55_apply, val_main_v54_apply, val_main_v53_apply, val_main_v52_apply, val_main_v51_apply, val_main_v50_apply, val_main_v49_apply,
    val_main_v48_apply, val_main_v47_apply, val_main_v46_apply, val_main_v45_apply, val_main_v44_apply, val_main_v43_apply]
  generalize val_main_v42 (F := Ideal) x4 x5 x9 i = y
  show (y * (half * (one + Ideal.tanh (root * (y + cube * (y * y * y))))) : EReal) = _
  unfold gelu
  rw [← mul_assoc, mul_comm y half]

theorem ssm_row (e : Fin 256) : @Eq EReal (val_main_v66 (F := Ideal) x4 x5 x9 x10 x11 (ix3 b n e))
    ((rowOf x0 x1 x2 x3 x4 x5 x6 x7 x8 x9 x10 x11 x12 x13 x14 b n).ssm e) := by
  rw [val_main_v66_apply, val_main_v65_apply, val_main_v64_apply, val_main_v63_apply, val_main_v62_apply, val_main_v61_apply, val_main_v60_apply,
    val_main_v59_apply, val_main_v58_apply, val_main_v57_apply, val_main_v56_apply]
  have hg : ∀ (i : S32x2048x256.Idx) (e : Fin 256), i = ix3 b n e → @Eq EReal (val_main_v55 (F := Ideal) x4 x5 x9 i)
      (gelu (skip (fun e => x4 (ix4 0 b n e)) (fun e => x4 (ix4 1 b n e)) (fun e => x5 (ix3 b n e)) (fun e => x9 (ix1 e)) e)) := fun i e hi => by
    rw [hi, gelu_row, skip_row]
  unfold Row.ssm glu
  refine congrArg₂ (· * ·) (hg _ e rfl) (congrArg (fun t : EReal => Ideal.div one (one + Ideal.exp (-t))) (congrArg₂ (· + ·) (Finset.sum_congr rfl fun k _ => ?_) ?_))
  · refine congrArg₂ (· * ·) (hg _ k (funext fun a => by match a with | ⟨0, _⟩ => rfl | ⟨1, _⟩ => rfl | ⟨2, _⟩ => rfl)) ?_
    exact congrArg x10 (funext fun a => by match a with | ⟨0, _⟩ => rfl | ⟨1, _⟩ => rfl)
  · exact congrArg x11 (funext fun a => by match a with | ⟨0, _⟩ => rfl)

/-! ## The joint projection -/

section
variable (y1 : S32x2048x512.Idx → EReal) (y2 y3 : S32x2048x256.Idx → EReal)

/-- The joined branches. -/
abbrev parts : List ((s : Shape) × (s.Idx → EReal)) := [⟨S32x2048x512, y1⟩, ⟨S32x2048x256, y2⟩, ⟨S32x2048x256, y3⟩]

/-- An index of the joined array off the last axis. -/
theorem off_last {N K : ℕ} (p : Fin N) (q : Fin K) :
    ∀ a : Fin 3, a ≠ 2 → ((ix3 b n p : (⟨3, ![32, 2048, N]⟩ : Shape).Idx) a).val = ((ix3 b n q : (⟨3, ![32, 2048, K]⟩ : Shape).Idx) a).val := fun a ha => by
  match a with
  | ⟨0, _⟩ => rfl
  | ⟨1, _⟩ => rfl
  | ⟨2, _⟩ => exact absurd rfl ha

theorem parts_1 (k : Fin 512) :
    concatenate S32x2048x1024 2 (parts y1 y2 y3) concatenates_S32x2048x512_S32x2048x256_S32x2048x256_S32x2048x1024_d2 (ix3 b n ⟨k.val, by omega⟩) = y1 (ix3 b n k) :=
  concatenate_apply_piece (t := S32x2048x1024) 2 (parts y1 y2 y3) _ _ 0 (by show 0 < 3; omega) S32x2048x512 y1 rfl rfl 0 rfl
    (ix3 b n k) (off_last b n k _) (Nat.zero_add _)

theorem parts_2 (k : Fin 256) :
    concatenate S32x2048x1024 2 (parts y1 y2 y3) concatenates_S32x2048x512_S32x2048x256_S32x2048x256_S32x2048x1024_d2 (ix3 b n ⟨512 + k.val, by omega⟩) = y2 (ix3 b n k) :=
  concatenate_apply_piece (t := S32x2048x1024) 2 (parts y1 y2 y3) _ _ 1 (by show 1 < 3; omega) S32x2048x256 y2 rfl rfl 512
    (by simp) (ix3 b n k) (off_last b n k _) rfl

theorem parts_3 (k : Fin 256) :
    concatenate S32x2048x1024 2 (parts y1 y2 y3) concatenates_S32x2048x512_S32x2048x256_S32x2048x256_S32x2048x1024_d2 (ix3 b n ⟨768 + k.val, by omega⟩) = y3 (ix3 b n k) :=
  concatenate_apply_piece (t := S32x2048x1024) 2 (parts y1 y2 y3) _ _ 2 (by show 2 < 3; omega) S32x2048x256 y3 rfl rfl 768
    (by simp) (ix3 b n k) (off_last b n k _) rfl
end

theorem mix_row (e : Fin 1024) : @Eq EReal (val_main_v68 (F := Ideal) x1 x2 x3 x4 x5 x8 x9 x10 x11 x12 (ix3 b n e)) ((rowOf x0 x1 x2 x3 x4 x5 x6 x7 x8 x9 x10 x11 x12 x13 x14 b n).mix e) := by
  rw [val_main_v68_apply]
  refine Eq.trans ?_ (mixed_joined (fun k => x1 (ix3 b n k)) (fun k => val_main_v33 (F := Ideal) x2 x3 x8 (ix3 b n k))
    (fun k => val_main_v66 (F := Ideal) x4 x5 x9 x10 x11 (ix3 b n k)) (fun k e => x12 (ix2 k e)) (fun k => val_main_v67 (F := Ideal) x1 x2 x3 x4 x5 x8 x9 x10 x11 (ix3 b n k))
    (parts_1 b n _ _ _) (parts_2 b n _ _ _) (parts_3 b n _ _ _) e |>.trans ?_)
  · refine Finset.sum_congr rfl fun k _ => congrArg₂ (· * ·) (congrArg (val_main_v67 (F := Ideal) x1 x2 x3 x4 x5 x8 x9 x10 x11) ?_) (congrArg x12 ?_)
    · exact funext fun a => by match a with | ⟨0, _⟩ => rfl | ⟨1, _⟩ => rfl | ⟨2, _⟩ => rfl
    · exact funext fun a => by match a with | ⟨0, _⟩ => rfl | ⟨1, _⟩ => rfl
  · unfold Row.mix
    rw [funext (conv_row x2 x3 x8 b n), funext (ssm_row x0 x1 x2 x3 x4 x5 x6 x7 x8 x9 x10 x11 x12 x13 x14 b n)]
    rfl

/-! ## The residual steps and the MLP -/

theorem mid_row (e : Fin 1024) : @Eq EReal (val_main_v84 (F := Ideal) x0 x1 x2 x3 x4 x5 x6 x7 x8 x9 x10 x11 x12 (ix3 b n e)) ((rowOf x0 x1 x2 x3 x4 x5 x6 x7 x8 x9 x10 x11 x12 x13 x14 b n).mid e) := by
  rw [val_main_v84_apply, val_main_v83_apply]
  unfold Row.mid step
  refine congrArg (x0 (ix3 b n e) + ·) (congrArg₂ (· * ·) ((bc_mod _ b n e).trans (mods_2 x6 b e)) ?_)
  refine (normArr_apply (val_main_v68 (F := Ideal) x1 x2 x3 x4 x5 x8 x9 x10 x11 x12) (val_main_v7 (F := Ideal) x7) b n e).trans ?_
  rw [funext (mix_row x0 x1 x2 x3 x4 x5 x6 x7 x8 x9 x10 x11 x12 x13 x14 b n), funext (gain_1 x7)]
  rfl

theorem act_row (e : Fin 1024) : @Eq EReal (val_main_v103 (F := Ideal) x0 x1 x2 x3 x4 x5 x6 x7 x8 x9 x10 x11 x12 (ix3 b n e)) ((rowOf x0 x1 x2 x3 x4 x5 x6 x7 x8 x9 x10 x11 x12 x13 x14 b n).act e) := by
  rw [val_main_v103_apply, val_main_v101_apply]
  unfold Row.act modulated
  refine congrArg₂ (· + ·) (congrArg₂ (· * ·) ?_ ?_) ((bc_mod _ b n e).trans (mods_3 x6 b e))
  · refine (normArr_apply (val_main_v84 (F := Ideal) x0 x1 x2 x3 x4 x5 x6 x7 x8 x9 x10 x11 x12) (val_main_v9 (F := Ideal) x7) b n e).trans ?_
    rw [funext (mid_row x0 x1 x2 x3 x4 x5 x6 x7 x8 x9 x10 x11 x12 x13 x14 b n), funext (gain_2 x7)]
    rfl
  · refine (bc_mod _ b n e).trans ?_
    rw [val_main_v99_apply, val_main_v98_apply, mods_4]
    rfl

theorem mlp_row (e : Fin 1024) : @Eq EReal (val_main_v107 (F := Ideal) x0 x1 x2 x3 x4 x5 x6 x7 x8 x9 x10 x11 x12 x13 x14 (ix3 b n e)) (mlp (rowOf x0 x1 x2 x3 x4 x5 x6 x7 x8 x9 x10 x11 x12 x13 x14 b n).act (rowOf x0 x1 x2 x3 x4 x5 x6 x7 x8 x9 x10 x11 x12 x13 x14 b n).w1 (rowOf x0 x1 x2 x3 x4 x5 x6 x7 x8 x9 x10 x11 x12 x13 x14 b n).w2 e) := by
  rw [val_main_v107_apply]
  unfold mlp unit
  refine Finset.sum_congr rfl fun j _ => congrArg₂ (· * ·) ?_ (congrArg x14 (funext fun a => by match a with | ⟨0, _⟩ => rfl | ⟨1, _⟩ => rfl))
  rw [val_main_v106_apply, val_main_v105_apply, val_main_v104_apply, val_main_call1_v0_apply]
  refine congrArg relu2 (Finset.sum_congr rfl fun k _ => congrArg₂ (· * ·) ?_ (congrArg x13 (funext fun a => by match a with | ⟨0, _⟩ => rfl | ⟨1, _⟩ => rfl)))
  refine Eq.trans (congrArg (val_main_v103 (F := Ideal) x0 x1 x2 x3 x4 x5 x6 x7 x8 x9 x10 x11 x12) ?_) (act_row x0 x1 x2 x3 x4 x5 x6 x7 x8 x9 x10 x11 x12 x13 x14 b n k)
  exact funext fun a => by match a with | ⟨0, _⟩ => rfl | ⟨1, _⟩ => rfl | ⟨2, _⟩ => rfl

/-- The reference's array. -/
theorem ref_eq : val_main_v123 (F := Ideal) x0 x1 x2 x3 x4 x5 x6 x7 x8 x9 x10 x11 x12 x13 x14 = G x0 x1 x2 x3 x4 x5 x6 x7 x8 x9 x10 x11 x12 x13 x14 := by
  funext i
  obtain ⟨b, n, e, rfl⟩ : ∃ (b : Fin 32) (n : Fin 2048) (e : Fin 1024), i = ix3 b n e := ⟨_, _, _, eq_ix3 _⟩
  rw [val_main_v123_apply, val_main_v122_apply]
  show _ = (rowOf x0 x1 x2 x3 x4 x5 x6 x7 x8 x9 x10 x11 x12 x13 x14 b n).out e
  unfold Row.out step
  refine congrArg₂ (· + ·) (mid_row x0 x1 x2 x3 x4 x5 x6 x7 x8 x9 x10 x11 x12 x13 x14 b n e) (congrArg₂ (· * ·) ((bc_mod _ b n e).trans (mods_5 x6 b e)) ?_)
  refine (normArr_apply (val_main_v107 (F := Ideal) x0 x1 x2 x3 x4 x5 x6 x7 x8 x9 x10 x11 x12 x13 x14) (val_main_v11 (F := Ideal) x7) b n e).trans ?_
  rw [funext (mlp_row x0 x1 x2 x3 x4 x5 x6 x7 x8 x9 x10 x11 x12 x13 x14 b n), funext (gain_3 x7)]
  rfl

end

end Cert.Block

end
-- ==== Proof.BlockClaim.lean ====
/- The block's value claim: the kernel and the reference leave one array. -/
module

public import proofs.«01_k».proof.Defs
public import proofs.«01_k».proof.Proof.Gen.BlockReferenceIdeal.Run
public import proofs.«01_k».proof.Proof.BlockArray
public import proofs.«01_k».proof.Proof.BlockRef

@[expose] public section

noncomputable section

namespace Cert.Block

open Idealize.ShloMosaic Idealize.ShloMosaic.ValueIdx Idealize.SL.Sem

/-- The value claim. -/
theorem algebraic :
    haveI := Cert.BlockIdeal.Gen.facts
    haveI := Cert.BlockReferenceIdeal.Gen.facts
    Cert.algebraic_BlockIdeal_BlockReferenceIdeal := by
  intro m ρ m' ρ' _ hargs
  refine ⟨fun c => G
      (m ((c.tc : Thread Cert.BlockIdeal.nD Cert.BlockIdeal.τ).loc Cert.BlockIdeal.main_arg0))
      (m ((c.tc : Thread Cert.BlockIdeal.nD Cert.BlockIdeal.τ).loc Cert.BlockIdeal.main_arg1))
      (m ((c.tc : Thread Cert.BlockIdeal.nD Cert.BlockIdeal.τ).loc Cert.BlockIdeal.main_arg2))
      (m ((c.tc : Thread Cert.BlockIdeal.nD Cert.BlockIdeal.τ).loc Cert.BlockIdeal.main_arg3))
      (m ((c.tc : Thread Cert.BlockIdeal.nD Cert.BlockIdeal.τ).loc Cert.BlockIdeal.main_arg4))
      (m ((c.tc : Thread Cert.BlockIdeal.nD Cert.BlockIdeal.τ).loc Cert.BlockIdeal.main_arg5))
      (m ((c.tc : Thread Cert.BlockIdeal.nD Cert.BlockIdeal.τ).loc Cert.BlockIdeal.main_arg6))
      (m ((c.tc : Thread Cert.BlockIdeal.nD Cert.BlockIdeal.τ).loc Cert.BlockIdeal.main_arg7))
      (m ((c.tc : Thread Cert.BlockIdeal.nD Cert.BlockIdeal.τ).loc Cert.BlockIdeal.main_arg8))
      (m ((c.tc : Thread Cert.BlockIdeal.nD Cert.BlockIdeal.τ).loc Cert.BlockIdeal.main_arg9))
      (m ((c.tc : Thread Cert.BlockIdeal.nD Cert.BlockIdeal.τ).loc Cert.BlockIdeal.main_arg10))
      (m ((c.tc : Thread Cert.BlockIdeal.nD Cert.BlockIdeal.τ).loc Cert.BlockIdeal.main_arg11))
      (m ((c.tc : Thread Cert.BlockIdeal.nD Cert.BlockIdeal.τ).loc Cert.BlockIdeal.main_arg12))
      (m ((c.tc : Thread Cert.BlockIdeal.nD Cert.BlockIdeal.τ).loc Cert.BlockIdeal.main_arg13))
      (m ((c.tc : Thread Cert.BlockIdeal.nD Cert.BlockIdeal.τ).loc Cert.BlockIdeal.main_arg14)), ?_, ?_⟩
  · exact (θ_run _ _ _).mono (fun r h c => ⟨(h c).1.trans (final m c), (h c).2⟩) (Cert.BlockIdeal.Value.run_blocks m ρ)
  · refine (θ_run _ _ _).mono (fun r h c => ⟨(h c).1.trans ?_, (h c).2⟩) (Cert.BlockReferenceIdeal.Value.run m' ρ')
    obtain ⟨a0, a1, a2, a3, a4, a5, a6, a7, a8, a9, a10, a11, a12, a13, a14⟩ := hargs c
    rw [Cert.BlockReferenceIdeal.Read.val_main_v123_eq, ref_eq]
    exact G_congr a0 a1 a2 a3 a4 a5 a6 a7 a8 a9 a10 a11 a12 a13 a14

end Cert.Block

end
-- ==== Proof.ProjMath.lean ====
/- The input projection's mathematics for one token: what both programs are shown to compute. -/
module

public import proofs.«01_k».proof.Proof.BlockMath

@[expose] public section

set_option backward.proofsInPublic true

noncomputable section

open scoped BigOperators

namespace Cert.Proj

open Idealize.ShloMosaic Idealize.ShloMosaic.ValueIdx

/-- The queries' scale. -/
abbrev eighth : EReal := Ideal.ofBits .f32 0x3E000000#32

theorem eighth_eq : eighth = ((1 / 8 : ℝ) : EReal) := by
  show Ideal.ofBits .f32 0x3E000000#32 = _
  simp [Ideal.ofBits, Ideal.ieee]
  rw [← EReal.coe_mul]
  norm_num

/-- The projection of a token's normed and modulated row. -/
def proj (h g sc sh : Fin 1024 → EReal) (w : Fin 1024 → Fin 1792 → EReal) (p : Fin 1792) : EReal :=
  ∑ k, Block.modulated h g sc sh k * w k p

/-- The scale of a rotated column: the queries' columns come first, then the keys'. -/
def scale (p : Fin 640) : EReal := if p.val < 512 then eighth else Block.one

/-- A column's angle: in each head of 64 columns the first 32 turn with the token's row, the others with its column. -/
def angle (A B : FVec Ideal ⟨2, ![2048, 16]⟩ .f32) (n : Fin 2048) (p : Fin 640) : EReal :=
  if p.val % 64 < 32 then A (ix2 n ⟨p.val % 16, by omega⟩) else B (ix2 n ⟨p.val % 16, by omega⟩)

/-- The other column of a pair: pairs are 16 columns apart. -/
def partner (p : Fin 640) : Fin 640 := ⟨if p.val % 32 < 16 then p.val + 16 else p.val - 16, by split <;> omega⟩

/-- A rotated column. -/
def rope (x : Fin 640 → EReal) (θ : Fin 640 → EReal) (p : Fin 640) : EReal :=
  if p.val % 32 < 16 then x p * Ideal.cos (θ p) - x (partner p) * Ideal.sin (θ p)
  else x (partner p) * Ideal.sin (θ p) + x p * Ideal.cos (θ p)

/-- The tables of the kernel: the cosines, and the sines with their signs, both scaled. -/
def cosTab (θ : Fin 640 → EReal) (p : Fin 640) : EReal := Ideal.cos (θ p) * scale p
def sinTab (θ : Fin 640 → EReal) (p : Fin 640) : EReal := (if p.val % 32 < 16 then -Ideal.sin (θ p) else Ideal.sin (θ p)) * scale p

theorem scale_nonneg (p : Fin 640) : 0 ≤ scale p := by
  unfold scale
  split
  · rw [eighth_eq]; exact EReal.coe_nonneg.mpr (by norm_num)
  · rw [Block.one_eq]; exact zero_le_one

theorem scale_ne_top (p : Fin 640) : scale p ≠ ⊤ := by
  unfold scale
  split
  · rw [eighth_eq]; exact EReal.coe_ne_top _
  · rw [Block.one_eq]; exact EReal.coe_ne_top 1

/-- The rotation by the tables is the rotation, scaled. -/
theorem rope_tab (x θ : Fin 640 → EReal) (p : Fin 640) :
    x p * cosTab θ p + x (partner p) * sinTab θ p = rope x θ p * scale p := by
  unfold cosTab sinTab rope
  rw [← mul_assoc, ← mul_assoc, ← EReal.right_distrib_of_nonneg_of_ne_top (scale_nonneg p) (scale_ne_top p)]
  congr 1
  split
  · rw [mul_neg, sub_eq_add_neg]
  · exact add_comm _ _

section

variable {N : ℕ} (H : FVec Ideal ⟨3, ![32, N, 1024]⟩ .f32) (M : FVec Ideal ⟨3, ![32, 6, 1024]⟩ .f32) (g : FVec Ideal ⟨2, ![4, 1024]⟩ .f32)
  (w : FVec Ideal ⟨2, ![1024, 1792]⟩ .f32)

/-- The projection of token `n` of sequence `b`. -/
def px (b : Fin 32) (n : Fin N) : Fin 1792 → EReal :=
  proj (fun e => H (ix3 b n e)) (fun e => g (ix2 0 e)) (fun e => M (ix3 b 1 e)) (fun e => M (ix3 b 0 e)) (fun k p => w (ix2 k p))

/-- The arrays without rotation: values, the convolution's gate and input, the scans' input. -/
def Gv : FVec Ideal ⟨3, ![32, N, 128]⟩ .bf16 := fun j => px H M g w (j 0) (j 1) ⟨640 + (j 2).val, by have h : (j 2).val < 128 := (j 2).isLt; omega⟩
def Gc : FVec Ideal ⟨3, ![32, N, 256]⟩ .f32 := fun j => px H M g w (j 0) (j 1) ⟨768 + (j 2).val, by have h : (j 2).val < 256 := (j 2).isLt; omega⟩
def Gz : FVec Ideal ⟨3, ![32, N, 256]⟩ .f32 := fun j =>
  @HMul.hMul EReal EReal EReal _ (px H M g w (j 0) (j 1) ⟨1024 + (j 2).val, by have h : (j 2).val < 256 := (j 2).isLt; omega⟩)
    (px H M g w (j 0) (j 1) ⟨1280 + (j 2).val, by have h : (j 2).val < 256 := (j 2).isLt; omega⟩)
def Gu : FVec Ideal ⟨3, ![32, N, 256]⟩ .f32 := fun j => px H M g w (j 0) (j 1) ⟨1536 + (j 2).val, by have h : (j 2).val < 256 := (j 2).isLt; omega⟩

/-- The context's queries and keys, which are not rotated. -/
def Sq : FVec Ideal ⟨3, ![32, N, 512]⟩ .bf16 := fun j => px H M g w (j 0) (j 1) ⟨(j 2).val, by have h : (j 2).val < 512 := (j 2).isLt; omega⟩ * eighth
def Sk : FVec Ideal ⟨3, ![32, N, 128]⟩ .bf16 := fun j => px H M g w (j 0) (j 1) ⟨512 + (j 2).val, by have h : (j 2).val < 128 := (j 2).isLt; omega⟩

end

section

variable (H : FVec Ideal ⟨3, ![32, 2048, 1024]⟩ .f32) (M : FVec Ideal ⟨3, ![32, 6, 1024]⟩ .f32) (g : FVec Ideal ⟨2, ![4, 1024]⟩ .f32)
  (w : FVec Ideal ⟨2, ![1024, 1792]⟩ .f32) (A B : FVec Ideal ⟨2, ![2048, 16]⟩ .f32)

/-- A token's rotated columns. -/
def rx (b : Fin 32) (n : Fin 2048) : Fin 640 → EReal := rope (fun p => px H M g w b n ⟨p.val, by omega⟩) (angle A B n)

/-- The rotated queries and keys. -/
def Gq : FVec Ideal ⟨3, ![32, 2048, 512]⟩ .bf16 := fun j => rx H M g w A B (j 0) (j 1) ⟨(j 2).val, by have h : (j 2).val < 512 := (j 2).isLt; omega⟩ * eighth
def Gk : FVec Ideal ⟨3, ![32, 2048, 128]⟩ .bf16 := fun j => rx H M g w A B (j 0) (j 1) ⟨512 + (j 2).val, by have h : (j 2).val < 128 := (j 2).isLt; omega⟩

end

section

variable {N : ℕ} {x0 y0 : FVec Ideal ⟨3, ![32, N, 1024]⟩ .f32} {x1 y1 : FVec Ideal ⟨3, ![32, 6, 1024]⟩ .f32} {x2 y2 : FVec Ideal ⟨2, ![4, 1024]⟩ .f32}
  {x3 y3 : FVec Ideal ⟨2, ![1024, 1792]⟩ .f32}

/-- Equal arguments make equal arrays. -/
theorem six_congr {α : Type} (G : FVec Ideal ⟨3, ![32, N, 1024]⟩ .f32 → FVec Ideal ⟨3, ![32, 6, 1024]⟩ .f32 → FVec Ideal ⟨2, ![4, 1024]⟩ .f32 → FVec Ideal ⟨2, ![1024, 1792]⟩ .f32 → α)
    (h0 : x0 = y0) (h1 : x1 = y1) (h2 : x2 = y2) (h3 : x3 = y3) : G x0 x1 x2 x3 = G y0 y1 y2 y3 := by
  subst h0 h1 h2 h3
  rfl

end

end Cert.Proj

end
-- ==== Proof.ProjTile.lean ====
/- The input projection's arithmetic on a block of any height, read at an index. -/
module

public import proofs.«01_k».proof.Proof.Gen.InProjIdeal.Skeleton
public import proofs.«01_k».proof.Proof.BlockLayout
public import proofs.«01_k».proof.Proof.ProjMath

@[expose] public section

set_option backward.proofsInPublic true

noncomputable section

open scoped BigOperators

namespace Cert.Proj

open Idealize.ShloMosaic Idealize.ShloMosaic.WordCmp Idealize.ShloMosaic.ValueIdx Cert.InProjIdeal Cert.InProjIdeal.Gen

section

variable {N : ℕ}

/-- The projected rows of a block of any height. -/
def rowsProj (v0 : FVec Ideal ⟨3, ![1, 6, 1024]⟩ .f32) (v2 : FVec Ideal ⟨3, ![1, N, 1024]⟩ .f32) (v4 : FVec Ideal ⟨2, ![1, 1024]⟩ .f32)
    (v26 : FVec Ideal ⟨2, ![1024, 1792]⟩ .bf16) (a1 : (⟨3, ![1, N, 1024]⟩ : Shape).ShapeCasts ⟨2, ![N, 1024]⟩)
    (a2 : (⟨2, ![N, 1024]⟩ : Shape).Reduces [1] ⟨1, ![N]⟩) (a3 : (⟨1, ![N]⟩ : Shape).ShapeCasts ⟨2, ![N, 1]⟩)
    (a4 : (⟨2, ![N, 1]⟩ : Shape).Broadcasts ⟨2, ![N, 1024]⟩) (a5 : (⟨2, ![1, 1024]⟩ : Shape).Broadcasts ⟨2, ![N, 1024]⟩) : FVec Ideal ⟨2, ![N, 1792]⟩ .f32 :=
  let m : FVec Ideal ⟨2, ![6, 1024]⟩ .f32 := shapeCast S6x1024 v0 shapeCasts_S1x6x1024_S6x1024
  let h : FVec Ideal ⟨2, ![N, 1024]⟩ .f32 := shapeCast ⟨2, ![N, 1024]⟩ v2 a1
  let q : FVec Ideal ⟨2, ![N, 1]⟩ .f32 := rsqrt (addf
    (divf (shapeCast ⟨2, ![N, 1]⟩ (multiReduction .add [1] ⟨1, ![N]⟩ (mulf h h) 0x00000000#32 a2 (.inl rfl) rfl) a3)
      (broadcast ⟨2, ![N, 1]⟩ (Scalar.ofBits .f32 0x44800000#32))) (broadcast ⟨2, ![N, 1]⟩ (Scalar.ofBits .f32 0x358637BD#32)))
  let n : FVec Ideal ⟨2, ![N, 1024]⟩ .f32 := mulf (mulf h (broadcastTo ⟨2, ![N, 1024]⟩ q a4)) (broadcastTo ⟨2, ![N, 1024]⟩ v4 a5)
  let sc : FVec Ideal ⟨2, ![1, 1024]⟩ .f32 := addf (broadcast S1x1024 (Scalar.ofBits .f32 0x3F800000#32)) (extractStridedSlice S1x1024 ![1, 0] m slices_S6x1024_o1_0_S1x1024)
  let sh : FVec Ideal ⟨2, ![1, 1024]⟩ .f32 := extractStridedSlice S1x1024 ![0, 0] m slices_S6x1024_o0_0_S1x1024
  matmul (DotDims.plain N 1024 1792) none
    (truncf .bf16 (addf (mulf n (broadcastTo ⟨2, ![N, 1024]⟩ sc a5)) (broadcastTo ⟨2, ![N, 1024]⟩ sh a5)) bitsLt_bf16_f32)
    (shapeCast S1024x1792 v26 shapeCasts_S1024x1792_S1024x1792) (constant ⟨2, ![N, 1792]⟩ .f32 0x00000000#32)

theorem rowsProj_apply (v0 : FVec Ideal ⟨3, ![1, 6, 1024]⟩ .f32) (v2 : FVec Ideal ⟨3, ![1, N, 1024]⟩ .f32) (v4 : FVec Ideal ⟨2, ![1, 1024]⟩ .f32)
    (v26 : FVec Ideal ⟨2, ![1024, 1792]⟩ .bf16) (a1 a2 a3 a4 a5) (r : Fin N) (p : Fin 1792) :
    @Eq EReal (rowsProj v0 v2 v4 v26 a1 a2 a3 a4 a5 (ix2 r p)) (proj (fun e => v2 (ix3 0 r e)) (fun e => v4 (ix2 0 e)) (fun e => v0 (ix3 0 1 e)) (fun e => v0 (ix3 0 0 e))
      (fun k p => v26 (ix2 k p)) p) := by
  unfold rowsProj
  refine (Block.dot_at _ _ r p).trans ?_
  unfold proj Block.modulated Block.norm
  refine Finset.sum_congr rfl fun k _ => ?_
  simp only [mulf_apply, addf_apply, divf_apply, truncf_apply, Block.rsqrt_at, Block.row_at, Block.col_at, Block.drop_at, shapeCast_self, broadcast_apply,
    Block.scalar_at]
  rw [Block.sum_at]
  simp only [mulf_apply, Block.drop_at]
  rw [extractStridedSlice_apply ![1, 0] _ _ _ (ix2 1 k) (by intro d; match d with | ⟨0, _⟩ => rfl | ⟨1, _⟩ => exact (Nat.zero_add _).symm),
    extractStridedSlice_apply ![0, 0] _ _ _ (ix2 0 k) (by intro d; match d with | ⟨0, _⟩ => rfl | ⟨1, _⟩ => exact (Nat.zero_add _).symm)]
  simp only [Block.drop_at]

/-- The lane of a pair's other column. -/
def pl (l : Fin 128) : Fin 128 := ⟨if l.val % 32 < 16 then l.val + 16 else l.val - 16, by split <;> omega⟩

theorem mask_word (l : Fin 128) : Scalar.cmpi .eq (BitVec.ofNat 32 l.val &&& 16#32) 0#32 = BitVec.ofBool (decide (l.val % 32 < 16)) := by
  revert l
  decide +kernel

theorem mask_apply (b1 : (⟨2, ![1, 128]⟩ : Shape).Broadcasts ⟨2, ![N, 128]⟩) (r : Fin N) (l : Fin 128) :
    broadcastTo ⟨2, ![N, 128]⟩ (shapeCast S1x128 k0_pay7 shapeCasts_S1x128_S1x128) b1 (ix2 r l) = BitVec.ofBool (decide (l.val % 32 < 16)) := by
  rw [Block.row_at, shapeCast_self, ← mask_word]
  unfold k0_pay7
  have h : (ix2 (0 : Fin 1) l (1 : Fin 2)).val = l.val := rfl
  simp only [cmpi_at, broadcast_apply]
  show Scalar.cmpi .eq (iota .tc S1x128 32 [1] iota_S1x128_d1_w32 (ix2 0 l) &&& 16#32) 0#32 = _
  simp only [h, iota_at, List.foldl_cons, List.foldl_nil, Nat.zero_mul, Nat.zero_add]

/-- A rotated tile of 128 columns. -/
def tile (b1 : (⟨2, ![1, 128]⟩ : Shape).Broadcasts ⟨2, ![N, 128]⟩) (b2 : (⟨2, ![N, 128]⟩ : Shape).ShapeCasts ⟨2, ![N, 128]⟩)
    (b3 : (⟨2, ![N, 128]⟩ : Shape).Rotates 1 none) (t c s : FVec Ideal ⟨2, ![N, 128]⟩ .f32) : FVec Ideal ⟨2, ![N, 128]⟩ .f32 :=
  addf (mulf t (shapeCast ⟨2, ![N, 128]⟩ c b2))
    (mulf (select (broadcastTo ⟨2, ![N, 128]⟩ (shapeCast S1x128 k0_pay7 shapeCasts_S1x128_S1x128) b1)
      (dynamicRotate 1 112#32 none t b3) (dynamicRotate 1 16#32 none t b3)) (shapeCast ⟨2, ![N, 128]⟩ s b2))

theorem tile_apply (b1 b2 b3) (t c s : FVec Ideal ⟨2, ![N, 128]⟩ .f32) (r : Fin N) (l : Fin 128) :
    @Eq EReal (tile b1 b2 b3 t c s (ix2 r l)) (t (ix2 r l) * c (ix2 r l) + t (ix2 r (pl l)) * s (ix2 r l)) := by
  unfold tile
  rw [addf_apply, mulf_apply, mulf_apply, select_apply, mask_apply, shapeCast_self, shapeCast_self,
    dynamicRotate_apply 1 112#32 _ _ (ix2 r l) (ix2 r ⟨(l.val + 16) % 128, by omega⟩) (by
      intro b
      match b with
      | ⟨0, _⟩ => rfl
      | ⟨1, _⟩ => rfl),
    dynamicRotate_apply 1 16#32 _ _ (ix2 r l) (ix2 r ⟨(l.val + 112) % 128, by omega⟩) (by
      intro b
      match b with
      | ⟨0, _⟩ => rfl
      | ⟨1, _⟩ => rfl)]
  refine congrArg (fun y : EReal => t (ix2 r l) * c (ix2 r l) + y * s (ix2 r l)) ?_
  have hl := l.isLt
  by_cases h : l.val % 32 < 16
  · rw [decide_eq_true h]
    refine (ValueIdx.select_one _ _).trans (congrArg (fun q => t (ix2 r q)) (Fin.ext ?_))
    show (l.val + 16) % 128 = if l.val % 32 < 16 then l.val + 16 else l.val - 16
    rw [if_pos h]; omega
  · rw [decide_eq_false h]
    refine (ValueIdx.select_zero _ _).trans (congrArg (fun q => t (ix2 r q)) (Fin.ext ?_))
    show (l.val + 112) % 128 = if l.val % 32 < 16 then l.val + 16 else l.val - 16
    rw [if_neg h]; omega

/-- Some columns of the projection. -/
theorem cut_cols {M : ℕ} (x : FVec Ideal ⟨2, ![N, 1792]⟩ .f32) (o : ℕ) (ho : o + M ≤ 1792) (h : (⟨2, ![N, 1792]⟩ : Shape).Slices ![0, o] ⟨2, ![N, M]⟩) (r : Fin N) (l : Fin M) :
    extractStridedSlice ⟨2, ![N, M]⟩ ![0, o] x h (ix2 r l) = x (ix2 r ⟨o + l.val, by omega⟩) :=
  extractStridedSlice_apply _ _ _ _ _ (by intro d; match d with | ⟨0, _⟩ => exact (Nat.zero_add _).symm | ⟨1, _⟩ => rfl)

/-- A stored tile of rotated columns, over the column it starts at. -/
def turned (x : FVec Ideal ⟨2, ![N, 1792]⟩ .f32) (c s : FVec Ideal ⟨2, ![N, 128]⟩ .f32) (r : Fin N) (o : ℕ) (ho : o + 128 ≤ 1792) (l : Fin 128) : EReal :=
  x (ix2 r ⟨o + l.val, by omega⟩) * c (ix2 r l) + x (ix2 r ⟨o + (pl l).val, by omega⟩) * s (ix2 r l)

theorem tile_cut (b1 b2 b3) (x : FVec Ideal ⟨2, ![N, 1792]⟩ .f32) (c s : FVec Ideal ⟨2, ![N, 128]⟩ .f32) (r : Fin N) (o : ℕ) (ho : o + 128 ≤ 1792) (h) (l : Fin 128) :
    @Eq EReal (tile b1 b2 b3 (extractStridedSlice ⟨2, ![N, 128]⟩ ![0, o] x h) c s (ix2 r l)) (turned x c s r o ho l) := by
  rw [tile_apply, cut_cols x o ho, cut_cols x o ho]
  rfl

end

end Cert.Proj

end
-- ==== Proof.ProjBody.lean ====
/- The input projection kernel's stored values at an index. -/
module

public import proofs.«01_k».proof.Proof.ProjTile

@[expose] public section

set_option backward.proofsInPublic true

noncomputable section

open scoped BigOperators

namespace Cert.Proj

open Idealize.ShloMosaic Idealize.ShloMosaic.WordCmp Idealize.ShloMosaic.ValueIdx Cert.InProjIdeal Cert.InProjIdeal.Gen

/-- The projected block. -/
theorem pay6_apply (v0 : FVec Ideal S1x6x1024 .f32) (v2 : FVec Ideal S1x512x1024 .f32) (v4 : FVec Ideal S1x1024 .f32) (v26 : FVec Ideal S1024x1792 .bf16)
    (r : Fin 512) (p : Fin 1792) :
    @Eq EReal (k0_pay6 (F := Ideal) v0 v2 v4 v26 (ix2 r p)) (proj (fun e => v2 (ix3 0 r e)) (fun e => v4 (ix2 0 e)) (fun e => v0 (ix3 0 1 e)) (fun e => v0 (ix3 0 0 e))
      (fun k p => v26 (ix2 k p)) p) :=
  rowsProj_apply v0 v2 v4 v26 shapeCasts_S1x512x1024_S512x1024 reduces_S512x1024_S512 shapeCasts_S512_S512x1 broadcasts_S512x1_S512x1024 broadcasts_S1x1024_S512x1024 r p

section

variable (x : FVec Ideal S512x1792 .f32) (c s : FVec Ideal S512x128 .f32) (r : Fin 512)

theorem pay12_apply (v0 : FVec Ideal S1x6x1024 .f32) (v2 : FVec Ideal S1x512x1024 .f32) (v4 : FVec Ideal S1x1024 .f32) (v26 : FVec Ideal S1024x1792 .bf16) (l : Fin 128) :
    @Eq EReal (k0_pay12 (F := Ideal) (k0_pay8 v0 v2 v4 v26) (k0_pay9 v0 v2 v4 v26) (k0_pay10 v0 v2 v4 v26) k0_pay11 c s (ix3 0 r l))
      (turned (k0_pay6 v0 v2 v4 v26) c s r 0 (by omega) l) :=
  (Block.lead_at _ shapeCasts_S512x128_S1x512x128 r l).trans (tile_cut broadcasts_S1x128_S512x128 shapeCasts_S512x128_S512x128 rotates_S512x128_d1 (k0_pay6 v0 v2 v4 v26) c s r 0 (by omega) slices_S512x1792_o0_0_S512x128 l)

theorem pay13_apply (l : Fin 128) : @Eq EReal (k0_pay13 (F := Ideal) x k0_pay7 c s (ix3 0 r l)) (turned x c s r 128 (by omega) l) :=
  (Block.lead_at _ shapeCasts_S512x128_S1x512x128 r l).trans (tile_cut broadcasts_S1x128_S512x128 shapeCasts_S512x128_S512x128 rotates_S512x128_d1 x c s r 128 (by omega) slices_S512x1792_o0_128_S512x128 l)

theorem pay17_apply (l : Fin 128) : @Eq EReal (k0_pay17 (F := Ideal) (k0_pay15 x k0_pay7) (k0_pay16 x c) s (ix3 0 r l)) (turned x c s r 256 (by omega) l) :=
  (Block.lead_at _ shapeCasts_S512x128_S1x512x128 r l).trans (tile_cut broadcasts_S1x128_S512x128 shapeCasts_S512x128_S512x128 rotates_S512x128_d1 x c s r 256 (by omega) slices_S512x1792_o0_256_S512x128 l)

theorem pay18_apply (l : Fin 128) : @Eq EReal (k0_pay18 (F := Ideal) x k0_pay7 c s (ix3 0 r l)) (turned x c s r 384 (by omega) l) :=
  (Block.lead_at _ shapeCasts_S512x128_S1x512x128 r l).trans (tile_cut broadcasts_S1x128_S512x128 shapeCasts_S512x128_S512x128 rotates_S512x128_d1 x c s r 384 (by omega) slices_S512x1792_o0_384_S512x128 l)

theorem pay1_apply (l : Fin 128) : @Eq EReal (k0_pay1 (F := Ideal) (k0_pay19 x k0_pay7 c s) (ix3 0 r l)) (turned x c s r 512 (by omega) l) :=
  (Block.lead_at _ shapeCasts_S512x128_S1x512x128 r l).trans (tile_cut broadcasts_S1x128_S512x128 shapeCasts_S512x128_S512x128 rotates_S512x128_d1 x c s r 512 (by omega) slices_S512x1792_o0_512_S512x128 l)

theorem pay2_apply (l : Fin 128) : @Eq EReal (k0_pay2 (F := Ideal) x (ix3 0 r l)) (x (ix2 r ⟨640 + l.val, by omega⟩)) :=
  (Block.lead_at _ shapeCasts_S512x128_S1x512x128 r l).trans (cut_cols x 640 (by omega) slices_S512x1792_o0_640_S512x128 r l)

theorem pay3_apply (l : Fin 256) : @Eq EReal (k0_pay3 (F := Ideal) x (ix3 0 r l)) (x (ix2 r ⟨768 + l.val, by omega⟩)) :=
  (Block.lead_at _ shapeCasts_S512x256_S1x512x256 r l).trans (cut_cols x 768 (by omega) slices_S512x1792_o0_768_S512x256 r l)

theorem pay4_apply (l : Fin 256) : @Eq EReal (k0_pay4 (F := Ideal) x (ix3 0 r l)) (@HMul.hMul EReal EReal EReal _ (x (ix2 r ⟨1024 + l.val, by omega⟩)) (x (ix2 r ⟨1280 + l.val, by omega⟩))) :=
  (Block.lead_at (mulf (extractStridedSlice S512x256 ![0, 1024] x slices_S512x1792_o0_1024_S512x256) (extractStridedSlice S512x256 ![0, 1280] x slices_S512x1792_o0_1280_S512x256)) shapeCasts_S512x256_S1x512x256 r l).trans
    (congrArg₂ (fun a b : EReal => a * b) (cut_cols x 1024 (by omega) slices_S512x1792_o0_1024_S512x256 r l)
    (cut_cols x 1280 (by omega) slices_S512x1792_o0_1280_S512x256 r l))

theorem pay5_apply (l : Fin 256) : @Eq EReal (k0_pay5 (F := Ideal) x (ix3 0 r l)) (x (ix2 r ⟨1536 + l.val, by omega⟩)) :=
  (Block.lead_at _ shapeCasts_S512x256_S1x512x256 r l).trans (cut_cols x 1536 (by omega) slices_S512x1792_o0_1536_S512x256 r l)

end

end Cert.Proj

end
-- ==== Proof.ProjRows.lean ====
/- A block's projected and rotated rows, whatever its height. -/
module

public import proofs.«01_k».proof.Proof.BlockBlock
public import proofs.«01_k».proof.Proof.ProjTile
public import proofs.«01_k».proof.Proof.Tools

@[expose] public section

set_option backward.proofsInPublic true

noncomputable section

open scoped BigOperators

namespace Cert.Proj

open Idealize.ShloMosaic Idealize.ShloMosaic.ValueIdx

section

variable {N : ℕ} (x0 : FVec Ideal ⟨3, ![1, N, 1024]⟩ .f32) (x1 : FVec Ideal ⟨3, ![1, 6, 1024]⟩ .f32) (x2 : FVec Ideal ⟨2, ![4, 1024]⟩ .f32) (x3 : FVec Ideal ⟨2, ![1024, 1792]⟩ .bf16)
  (x4 x5 : FVec Ideal ⟨2, ![N, 640]⟩ .f32) (r : Fin N)

/-- The projection of row `r` of a block. -/
def bx : Fin 1792 → EReal :=
  proj (fun e => x0 (ix3 0 r e)) (fun e => x2 (ix2 0 e)) (fun e => x1 (ix3 0 1 e)) (fun e => x1 (ix3 0 0 e)) (fun k p => x3 (ix2 k p))

/-- A column of it rotated by the tables' row. -/
def bt (p : Fin 640) : EReal :=
  bx x0 x1 x2 x3 r ⟨p.val, by omega⟩ * x4 (ix2 r p) + bx x0 x1 x2 x3 r ⟨(partner p).val, by have h := (partner p).isLt; omega⟩ * x5 (ix2 r p)

theorem ld_tab (T : FVec Ideal ⟨2, ![N, 640]⟩ .f32) (o : ℕ) (ho : o ≤ 512) (inb : ∀ a, (![0, o] : Fin 2 → Nat) a + (⟨2, ![N, 128]⟩ : Shape).size a ≤ (⟨2, ![N, 640]⟩ : Shape).size a) (l : Fin 128) :
    View.ld (Val := Elt Ideal) (e' := .f32) T (Rect.unit (s := ⟨2, ![N, 640]⟩) ![0, o] (⟨2, ![N, 128]⟩ : Shape).size inb) (ix2 r l) = T (ix2 r ⟨o + l.val, by omega⟩) := by
  refine Tools.ld_apply (Val := Elt Ideal) (S := ⟨2, ![N, 640]⟩) (e := .f32) T ![0, o] (⟨2, ![N, 128]⟩ : Shape).size inb (ix2 r l) (ix2 r ⟨o + l.val, by omega⟩) ?_
  intro a
  match a with
  | ⟨0, _⟩ => exact (Nat.zero_add _).symm
  | ⟨1, _⟩ => rfl

/-- A stored tile of 128 columns. -/
theorem turned_eq (X : FVec Ideal ⟨2, ![N, 1792]⟩ .f32) (hX : ∀ p, @Eq EReal (X (ix2 r p)) (bx x0 x1 x2 x3 r p)) (o : ℕ) (ho : o ≤ 512) (hm : o % 128 = 0)
    (inb : ∀ a, (![0, o] : Fin 2 → Nat) a + (⟨2, ![N, 128]⟩ : Shape).size a ≤ (⟨2, ![N, 640]⟩ : Shape).size a) (l : Fin 128) :
    turned X (View.ld (Val := Elt Ideal) (e' := .f32) x4 (Rect.unit (s := ⟨2, ![N, 640]⟩) ![0, o] (⟨2, ![N, 128]⟩ : Shape).size inb))
      (View.ld (Val := Elt Ideal) (e' := .f32) x5 (Rect.unit (s := ⟨2, ![N, 640]⟩) ![0, o] (⟨2, ![N, 128]⟩ : Shape).size inb)) r o (by omega) l
      = bt x0 x1 x2 x3 x4 x5 r ⟨o + l.val, by omega⟩ := by
  unfold turned bt
  rw [ld_tab r x4 o ho, ld_tab r x5 o ho]
  refine congrArg₂ (· + ·) (congrArg (· * _) (hX _)) (congrArg (· * _) ((hX _).trans (congrArg _ (Fin.ext ?_))))
  show o + (if l.val % 32 < 16 then l.val + 16 else l.val - 16) = if (o + l.val) % 32 < 16 then o + l.val + 16 else o + l.val - 16
  have h : (o + l.val) % 32 = l.val % 32 := by omega
  rw [h]
  split <;> omega

/-- The queries' block. -/
def qBlock : (⟨3, ![1, N, 512]⟩ : Shape).Idx → EReal := fun y => bt x0 x1 x2 x3 x4 x5 (y 1) ⟨(y 2).val, by have h : (y 2).val < 512 := (y 2).isLt; omega⟩

theorem piece (P : FVec Ideal ⟨3, ![1, N, 128]⟩ .bf16) (o : ℕ) (ho : o ≤ 384) (inb : ∀ a, (![0, 0, o] : Fin 3 → Nat) a + (⟨3, ![1, N, 128]⟩ : Shape).size a ≤ (⟨3, ![1, N, 512]⟩ : Shape).size a)
    (hP : ∀ r l, @Eq EReal (P (ix3 0 r l)) (bt x0 x1 x2 x3 x4 x5 r ⟨o + l.val, by omega⟩)) (x : (⟨3, ![1, N, 128]⟩ : Shape).Idx) :
    @Eq EReal (P x) (qBlock x0 x1 x2 x3 x4 x5 ((Rect.unit (s := ⟨3, ![1, N, 512]⟩) ![0, 0, o] (⟨3, ![1, N, 128]⟩ : Shape).size inb).idx x)) := by
  obtain ⟨a, r, l, rfl⟩ : ∃ (a : Fin 1) (r : Fin N) (l : Fin 128), x = ix3 a r l := ⟨_, _, _, eq_ix3 _⟩
  obtain rfl : a = 0 := Subsingleton.elim _ _
  rw [hP]
  unfold qBlock
  refine congrArg₂ (bt x0 x1 x2 x3 x4 x5) (Fin.ext ?_) (Fin.ext ?_)
  · show r.val = 0 + 1 * r.val; omega
  · show o + l.val = o + 1 * l.val; omega

end

end Cert.Proj

end
-- ==== Proof.ProjBlock.lean ====
/- The input projection kernel's six stored blocks at an index: projected and rotated columns of its input blocks' rows. -/
module

public import proofs.«01_k».proof.Proof.Gen.InProjIdeal.Value
public import proofs.«01_k».proof.Proof.ProjBody
public import proofs.«01_k».proof.Proof.ProjRows

@[expose] public section

set_option backward.proofsInPublic true

noncomputable section

open scoped BigOperators

namespace Cert.Proj

open Idealize.ShloMosaic Idealize.ShloMosaic.ValueIdx Cert.InProjIdeal Cert.InProjIdeal.Gen

section

variable (x0 : FVec Ideal S1x512x1024 .f32) (x1 : FVec Ideal S1x6x1024 .f32) (x2 : FVec Ideal S4x1024 .f32) (x3 : FVec Ideal S1024x1792 .bf16)
  (x4 x5 : FVec Ideal S512x640 .f32) (r : Fin 512)

theorem pay20_apply (p : Fin 1792) : @Eq EReal (k0_pay20 (F := Ideal) x0 x1 x2 x3 x4 x5 (ix2 r p)) (bx x0 x1 x2 x3 r p) := by
  unfold k0_pay20
  rw [show View.ld (Val := Elt Ideal) (e' := .f32) x1 r0_0 = x1 from Block.ld_whole _ _ Block.zero3 _,
    show View.ld (Val := Elt Ideal) (e' := .f32) x0 r0_1 = x0 from Block.ld_whole _ _ Block.zero3 _,
    show View.ld (Val := Elt Ideal) (e' := .bf16) x3 r0_3 = x3 from Block.ld_whole _ _ Block.zero2 _]
  rw [pay6_apply, funext (fun e => show View.ld (Val := Elt Ideal) (e' := .f32) x2 r0_2 (ix2 0 e) = x2 (ix2 0 e) from Block.ld_g x2 0 _ e)]
  rfl

theorem out6_apply (l : Fin 512) : @Eq EReal (out0_6 (F := Ideal) x0 x1 x2 x3 x4 x5 (ix3 0 r l)) (bt x0 x1 x2 x3 x4 x5 r ⟨l.val, by omega⟩) := by
  unfold out0_6
  refine View.canon_apply_of_pieces (Val := Elt Ideal) (qBlock x0 x1 x2 x3 x4 x5) _ ?_ (ix3 0 r l) (cover0_6 _ _ _ _ _)
  intro pc hpc
  rcases List.mem_cons.mp hpc with rfl | hpc
  · exact fun x => piece x0 x1 x2 x3 x4 x5 _ 384 (by omega) inb_S1x512x512_S1x512x128_0_0_384
      (fun r l => (pay18_apply _ _ _ r l).trans (turned_eq x0 x1 x2 x3 x4 x5 r _ (pay20_apply x0 x1 x2 x3 x4 x5 r) 384 (by omega) rfl inb_S512x640_S512x128_0_384 l)) x
  rcases List.mem_cons.mp hpc with rfl | hpc
  · exact fun x => piece x0 x1 x2 x3 x4 x5 _ 256 (by omega) inb_S1x512x512_S1x512x128_0_0_256
      (fun r l => (pay17_apply _ _ _ r l).trans (turned_eq x0 x1 x2 x3 x4 x5 r _ (pay20_apply x0 x1 x2 x3 x4 x5 r) 256 (by omega) rfl inb_S512x640_S512x128_0_256 l)) x
  rcases List.mem_cons.mp hpc with rfl | hpc
  · exact fun x => piece x0 x1 x2 x3 x4 x5 _ 128 (by omega) inb_S1x512x512_S1x512x128_0_0_128
      (fun r l => (pay13_apply _ _ _ r l).trans (turned_eq x0 x1 x2 x3 x4 x5 r _ (pay20_apply x0 x1 x2 x3 x4 x5 r) 128 (by omega) rfl inb_S512x640_S512x128_0_128 l)) x
  rcases List.mem_cons.mp hpc with rfl | hpc
  · exact fun x => piece x0 x1 x2 x3 x4 x5 _ 0 (by omega) inb_S1x512x512_S1x512x128_0_0_0
      (fun r l => (pay12_apply _ _ r _ _ _ _ l).trans (turned_eq x0 x1 x2 x3 x4 x5 r _ (pay20_apply x0 x1 x2 x3 x4 x5 r) 0 (by omega) rfl inb_S512x640_S512x128_0_0 l)) x
  nomatch hpc

theorem out7_apply (l : Fin 128) : @Eq EReal (out0_7 (F := Ideal) x0 x1 x2 x3 x4 x5 (ix3 0 r l)) (bt x0 x1 x2 x3 x4 x5 r ⟨512 + l.val, by omega⟩) := by
  unfold out0_7
  rw [View.canon_unit_zero Block.zero3]
  exact (pay1_apply _ _ _ r l).trans (turned_eq x0 x1 x2 x3 x4 x5 r _ (pay20_apply x0 x1 x2 x3 x4 x5 r) 512 (by omega) rfl inb_S512x640_S512x128_0_512 l)

theorem out8_apply (l : Fin 128) : @Eq EReal (out0_8 (F := Ideal) x0 x1 x2 x3 x4 x5 (ix3 0 r l)) (bx x0 x1 x2 x3 r ⟨640 + l.val, by omega⟩) := by
  unfold out0_8
  rw [View.canon_unit_zero Block.zero3]
  exact (pay2_apply _ r l).trans (pay20_apply x0 x1 x2 x3 x4 x5 r _)

theorem out9_apply (l : Fin 256) : @Eq EReal (out0_9 (F := Ideal) x0 x1 x2 x3 x4 x5 (ix3 0 r l)) (bx x0 x1 x2 x3 r ⟨768 + l.val, by omega⟩) := by
  unfold out0_9
  rw [View.canon_unit_zero Block.zero3]
  exact (pay3_apply _ r l).trans (pay20_apply x0 x1 x2 x3 x4 x5 r _)

theorem out10_apply (l : Fin 256) : @Eq EReal (out0_10 (F := Ideal) x0 x1 x2 x3 x4 x5 (ix3 0 r l))
    (bx x0 x1 x2 x3 r ⟨1024 + l.val, by omega⟩ * bx x0 x1 x2 x3 r ⟨1280 + l.val, by omega⟩) := by
  unfold out0_10
  rw [View.canon_unit_zero Block.zero3]
  exact (pay4_apply _ r l).trans (congrArg₂ (· * ·) (pay20_apply x0 x1 x2 x3 x4 x5 r _) (pay20_apply x0 x1 x2 x3 x4 x5 r _))

theorem out11_apply (l : Fin 256) : @Eq EReal (out0_11 (F := Ideal) x0 x1 x2 x3 x4 x5 (ix3 0 r l)) (bx x0 x1 x2 x3 r ⟨1536 + l.val, by omega⟩) := by
  unfold out0_11
  rw [View.canon_unit_zero Block.zero3]
  exact (pay5_apply _ r l).trans (pay20_apply x0 x1 x2 x3 x4 x5 r _)

end

end Cert.Proj

end
-- ==== Proof.ProjWindow.lean ====
/- What the input projection kernel's windows hold: the tables, and where each block lies. -/
module

public import proofs.«01_k».proof.Proof.Gen.InProjReferenceIdeal.Read
public import proofs.«01_k».proof.Proof.ProjBlock

@[expose] public section

set_option backward.proofsInPublic true

noncomputable section

open scoped BigOperators

namespace Cert.Proj

open Idealize.ShloMosaic Idealize.ShloMosaic.ValueIdx Idealize.ShloMosaic.TcCoe Idealize.SL.Sem Cert.InProjIdeal Cert.InProjIdeal.Gen
  Cert.InProjIdeal.Value

/-- The angles of the tokens' rows and of their columns. -/
abbrev rowAngles : FVec Ideal ⟨2, ![2048, 16]⟩ .f32 := Cert.InProjReferenceIdeal.Read.val_main_v19 (F := Ideal)
abbrev colAngles : FVec Ideal ⟨2, ![2048, 16]⟩ .f32 := Cert.InProjReferenceIdeal.Read.val_main_v25 (F := Ideal)

/-! ## The tables -/

section

variable (y0 y1 y2 y3 : FVec Ideal S2048x16 .f32)

/-- Four quarters of a head's columns. -/
def quarters : FVec Ideal S2048x64 .f32 :=
  concatenate S2048x64 1 [⟨S2048x16, y0⟩, ⟨S2048x16, y1⟩, ⟨S2048x16, y2⟩, ⟨S2048x16, y3⟩] concatenates_S2048x16_S2048x16_S2048x16_S2048x16_S2048x64_d1

theorem off_one {N K : ℕ} (n : Fin 2048) (p : Fin N) (q : Fin K) :
    ∀ a : Fin 2, a ≠ 1 → ((ix2 n p : (⟨2, ![2048, N]⟩ : Shape).Idx) a).val = ((ix2 n q : (⟨2, ![2048, K]⟩ : Shape).Idx) a).val := fun a ha => by
  match a with
  | ⟨0, _⟩ => rfl
  | ⟨1, _⟩ => exact absurd rfl ha

theorem quarters_apply (n : Fin 2048) (k : Fin 4) (l : Fin 16) : quarters y0 y1 y2 y3 (ix2 n ⟨16 * k.val + l.val, by omega⟩) = ![y0, y1, y2, y3] k (ix2 n l) := by
  unfold quarters
  match k with
  | ⟨0, _⟩ => exact concatenate_apply_piece (t := S2048x64) 1 _ _ _ 0 (by show 0 < 4; omega) S2048x16 y0 rfl rfl 0 rfl (ix2 n l) (off_one n l _) rfl
  | ⟨1, _⟩ => exact concatenate_apply_piece (t := S2048x64) 1 _ _ _ 1 (by show 1 < 4; omega) S2048x16 y1 rfl rfl 16 (by simp) (ix2 n l) (off_one n l _) rfl
  | ⟨2, _⟩ => exact concatenate_apply_piece (t := S2048x64) 1 _ _ _ 2 (by show 2 < 4; omega) S2048x16 y2 rfl rfl 32 (by simp) (ix2 n l) (off_one n l _) rfl
  | ⟨3, _⟩ => exact concatenate_apply_piece (t := S2048x64) 1 _ _ _ 3 (by show 3 < 4; omega) S2048x16 y3 rfl rfl 48 (by simp) (ix2 n l) (off_one n l _) rfl

/-- The columns' scales. -/
abbrev scaleParts : List ((s : Shape) × (s.Idx → EReal)) :=
  [⟨S512, broadcastInDim S512 ![] bcast_S_S512 (constant S_ .f32 0x3E000000#32 : FVec Ideal S_ .f32)⟩,
    ⟨S128, broadcastInDim S128 ![] bcast_S_S128 (constant S_ .f32 0x3F800000#32 : FVec Ideal S_ .f32)⟩]

def scales : FVec Ideal S640 .f32 := concatenate S640 0 scaleParts concatenates_S512_S128_S640_d0

theorem scales_apply (p : Fin 640) : @Eq EReal (scales (ix1 p)) (scale p) := by
  unfold scales scale
  by_cases h : p.val < 512
  · rw [if_pos h]
    exact concatenate_apply_piece (t := S640) 0 scaleParts concatenates_S512_S128_S640_d0 (ix1 p) 0 (by show 0 < 2; omega) S512 _ rfl rfl 0 rfl
      (ix1 (⟨p.val, h⟩ : Fin 512)) (fun a ha => by match a with | ⟨0, _⟩ => exact absurd rfl ha) (Nat.zero_add _)
  · rw [if_neg h]
    exact concatenate_apply_piece (t := S640) 0 scaleParts concatenates_S512_S128_S640_d0 (ix1 p) 1 (by show 1 < 2; omega) S128 _ rfl rfl 512 (by simp)
      (ix1 (⟨p.val - 512, by omega⟩ : Fin 128)) (fun a ha => by match a with | ⟨0, _⟩ => exact absurd rfl ha) (by show 512 + (p.val - 512) = p.val; omega)

/-- A table: a head's columns over the ten heads, scaled. -/
def table (y : FVec Ideal S2048x64 .f32) : FVec Ideal S2048x640 .f32 :=
  mulf (shapeCast S2048x640 (broadcastInDim S1x2048x10x64 ![0, 1, 2, 3] bcast_S1x2048x1x64_S1x2048x10x64_0_1_2_3
      (shapeCast S1x2048x1x64 y shapeCasts_S2048x64_S1x2048x1x64)) shapeCasts_S1x2048x10x64_S2048x640)
    (broadcastInDim S2048x640 ![0, 1] bcast_S1x640_S2048x640_0_1 (broadcastInDim S1x640 ![1] bcast_S640_S1x640_1 scales))

theorem table_apply (y : FVec Ideal S2048x64 .f32) (n : Fin 2048) (p : Fin 640) :
    @Eq EReal (table y (ix2 n p)) (@HMul.hMul EReal EReal EReal _ (y (ix2 n ⟨p.val % 64, by omega⟩)) (scale p)) := by
  unfold table
  rw [mulf_apply, shapeCast_apply _ _ _ (ix4 0 n ⟨p.val / 64, by omega⟩ ⟨p.val % 64, by omega⟩)
      (by rw [Shape.rowMajor_val_two, Shape.rowMajor_val_four]; show ((0 * 2048 + n.val) * 10 + p.val / 64) * 64 + p.val % 64 = n.val * 640 + p.val; omega),
    broadcastInDim_apply _ _ _ (ix4 0 n ⟨p.val / 64, by omega⟩ ⟨p.val % 64, by omega⟩) (ix4 0 n 0 ⟨p.val % 64, by omega⟩)
      (by intro a; match a with | ⟨0, _⟩ => rfl | ⟨1, _⟩ => rfl | ⟨2, _⟩ => rfl | ⟨3, _⟩ => rfl),
    shapeCast_apply _ _ _ (ix2 n ⟨p.val % 64, by omega⟩)
      (by rw [Shape.rowMajor_val_two, Shape.rowMajor_val_four]; show n.val * 64 + p.val % 64 = ((0 * 2048 + n.val) * 1 + 0) * 64 + p.val % 64; omega),
    broadcastInDim_apply _ _ _ (ix2 n p) (ix2 0 p) (by intro a; match a with | ⟨0, _⟩ => rfl | ⟨1, _⟩ => rfl),
    broadcastInDim_apply _ _ _ (ix2 0 p) (ix1 p) (by intro a; match a with | ⟨0, _⟩ => rfl)]
  exact congrArg (fun s : EReal => @HMul.hMul EReal EReal EReal _ (y (ix2 n ⟨p.val % 64, by omega⟩)) s) (scales_apply p)

end

/-- The tables of given angles. -/
def cosTable (A B : FVec Ideal S2048x16 .f32) : FVec Ideal S2048x640 .f32 := table (quarters (Host.cos A) (Host.cos A) (Host.cos B) (Host.cos B))
def sinTable (A B : FVec Ideal S2048x16 .f32) : FVec Ideal S2048x640 .f32 :=
  table (quarters (Host.negf (Host.sin A)) (Host.sin A) (Host.negf (Host.sin B)) (Host.sin B))

/-- A head's column, by its quarter. -/
theorem quarter_of (y0 y1 y2 y3 : FVec Ideal S2048x16 .f32) (n : Fin 2048) (p : Fin 640) :
    quarters y0 y1 y2 y3 (ix2 n ⟨p.val % 64, by omega⟩) = ![y0, y1, y2, y3] ⟨p.val % 64 / 16, by omega⟩ (ix2 n ⟨p.val % 16, by omega⟩) := by
  refine Eq.trans (congrArg (fun q => quarters y0 y1 y2 y3 (ix2 n q)) (Fin.ext ?_)) (quarters_apply y0 y1 y2 y3 n ⟨p.val % 64 / 16, by omega⟩ ⟨p.val % 16, by omega⟩)
  show p.val % 64 = 16 * (p.val % 64 / 16) + p.val % 16
  omega

theorem cosTable_apply (A B : FVec Ideal S2048x16 .f32) (n : Fin 2048) (p : Fin 640) : @Eq EReal (cosTable A B (ix2 n p)) (cosTab (angle A B n) p) := by
  unfold cosTable cosTab
  rw [table_apply, quarter_of]
  refine congrArg (· * scale p) ?_
  unfold angle
  have h : p.val % 64 / 16 = 0 ∨ p.val % 64 / 16 = 1 ∨ p.val % 64 / 16 = 2 ∨ p.val % 64 / 16 = 3 := by omega
  rcases h with h | h | h | h
  · rw [if_pos (by omega), show (⟨p.val % 64 / 16, by omega⟩ : Fin 4) = 0 from Fin.ext h]; rfl
  · rw [if_pos (by omega), show (⟨p.val % 64 / 16, by omega⟩ : Fin 4) = 1 from Fin.ext h]; rfl
  · rw [if_neg (by omega), show (⟨p.val % 64 / 16, by omega⟩ : Fin 4) = 2 from Fin.ext h]; rfl
  · rw [if_neg (by omega), show (⟨p.val % 64 / 16, by omega⟩ : Fin 4) = 3 from Fin.ext h]; rfl

theorem sinTable_apply (A B : FVec Ideal S2048x16 .f32) (n : Fin 2048) (p : Fin 640) : @Eq EReal (sinTable A B (ix2 n p)) (sinTab (angle A B n) p) := by
  unfold sinTable sinTab
  rw [table_apply, quarter_of]
  refine congrArg (· * scale p) ?_
  unfold angle
  have h : p.val % 64 / 16 = 0 ∨ p.val % 64 / 16 = 1 ∨ p.val % 64 / 16 = 2 ∨ p.val % 64 / 16 = 3 := by omega
  rcases h with h | h | h | h
  · rw [if_pos (by omega), if_pos (by omega), show (⟨p.val % 64 / 16, by omega⟩ : Fin 4) = 0 from Fin.ext h]; rfl
  · rw [if_neg (by omega), if_pos (by omega), show (⟨p.val % 64 / 16, by omega⟩ : Fin 4) = 1 from Fin.ext h]; rfl
  · rw [if_pos (by omega), if_neg (by omega), show (⟨p.val % 64 / 16, by omega⟩ : Fin 4) = 2 from Fin.ext h]; rfl
  · rw [if_neg (by omega), if_neg (by omega), show (⟨p.val % 64 / 16, by omega⟩ : Fin 4) = 3 from Fin.ext h]; rfl

variable (m : (ℓ : Loc nD τ sig) → Buf (Elt Ideal) ℓ) (ρ : Dev nD → PrngReg)

/-! The host's operations before the call. -/

theorem V_weight (c : Dev nD) : V m c main_v53 = m ((c : Thread nD τ).loc main_arg3) := by
  show StableHlo.after hostOps0 _ (Proc.devRef .tc main_v53) = _
  after_results
  rfl

theorem V_cos (c : Dev nD) : V m c main_v44 = cosTable rowAngles colAngles := by
  show StableHlo.after hostOps0 _ (Proc.devRef .tc main_v44) = _
  after_results
  rfl

theorem V_sin (c : Dev nD) : V m c main_v50 = sinTable rowAngles colAngles := by
  show StableHlo.after hostOps0 _ (Proc.devRef .tc main_v50) = _
  after_results
  rfl

/-! ## The windows -/

/-- The sequence of a grid point, and the token of a row of its block. -/
def bOf (t : Fin cfg0.N) : Fin 32 := ⟨t.val % 32, by omega⟩
def nOf (t : Fin cfg0.N) (r : Fin 512) : Fin 2048 := ⟨512 * (t.val / 32) + r.val, by have h : t.val < 128 := t.isLt; omega⟩

theorem idx0 (t : Fin cfg0.N) : win0_0.index t (0 : Fin 3) = t.val % 32 ∧ win0_0.index t (1 : Fin 3) = t.val / 32 ∧ win0_0.index t (2 : Fin 3) = 0 :=
  (by decide +kernel : ∀ t : Fin grid0.N, win0_0.index t (0 : Fin 3) = t.val % 32 ∧ win0_0.index t (1 : Fin 3) = t.val / 32 ∧ win0_0.index t (2 : Fin 3) = 0) t
theorem idx1 (t : Fin cfg0.N) : win0_1.index t (0 : Fin 3) = t.val % 32 ∧ win0_1.index t (1 : Fin 3) = 0 ∧ win0_1.index t (2 : Fin 3) = 0 :=
  (by decide +kernel : ∀ t : Fin grid0.N, win0_1.index t (0 : Fin 3) = t.val % 32 ∧ win0_1.index t (1 : Fin 3) = 0 ∧ win0_1.index t (2 : Fin 3) = 0) t
theorem idx2 (t : Fin cfg0.N) : win0_2.index t (0 : Fin 2) = 0 ∧ win0_2.index t (1 : Fin 2) = 0 :=
  (by decide +kernel : ∀ t : Fin grid0.N, win0_2.index t (0 : Fin 2) = 0 ∧ win0_2.index t (1 : Fin 2) = 0) t
theorem idx4 (t : Fin cfg0.N) : win0_4.index t (0 : Fin 2) = t.val / 32 ∧ win0_4.index t (1 : Fin 2) = 0 :=
  (by decide +kernel : ∀ t : Fin grid0.N, win0_4.index t (0 : Fin 2) = t.val / 32 ∧ win0_4.index t (1 : Fin 2) = 0) t

/-! The places of the blocks' entries. -/

theorem at_h (t : Fin cfg0.N) (r : Fin 512) (e : Fin 1024) :
    ((cfg0.win 0).blk t).view.emb (ix3 0 r e) = (ix3 (bOf t) (nOf t r) e : S32x2048x1024.Idx) := by
  obtain ⟨e0, e1, e2⟩ := idx0 t
  refine funext fun a => Fin.ext ?_
  match a with
  | ⟨0, _⟩ => show win0_0.index t (0 : Fin 3) * 1 + 1 * 0 = t.val % 32; omega
  | ⟨1, _⟩ => show win0_0.index t (1 : Fin 3) * 512 + 1 * r.val = 512 * (t.val / 32) + r.val; omega
  | ⟨2, _⟩ => show win0_0.index t (2 : Fin 3) * 1024 + 1 * e.val = e.val; omega

theorem at_mods (t : Fin cfg0.N) (k : Fin 6) (e : Fin 1024) : ((cfg0.win 1).blk t).view.emb (ix3 0 k e) = (ix3 (bOf t) k e : S32x6x1024.Idx) := by
  obtain ⟨e0, e1, e2⟩ := idx1 t
  refine funext fun a => Fin.ext ?_
  match a with
  | ⟨0, _⟩ => show win0_1.index t (0 : Fin 3) * 1 + 1 * 0 = t.val % 32; omega
  | ⟨1, _⟩ => show win0_1.index t (1 : Fin 3) * 6 + 1 * k.val = k.val; omega
  | ⟨2, _⟩ => show win0_1.index t (2 : Fin 3) * 1024 + 1 * e.val = e.val; omega

theorem at_g (t : Fin cfg0.N) (k : Fin 4) (e : Fin 1024) : ((cfg0.win 2).blk t).view.emb (ix2 k e) = (ix2 k e : S4x1024.Idx) := by
  obtain ⟨e0, e1⟩ := idx2 t
  refine funext fun a => Fin.ext ?_
  match a with
  | ⟨0, _⟩ => show win0_2.index t (0 : Fin 2) * 4 + 1 * k.val = k.val; omega
  | ⟨1, _⟩ => show win0_2.index t (1 : Fin 2) * 1024 + 1 * e.val = e.val; omega

theorem at_w (t : Fin cfg0.N) (k : Fin 1024) (p : Fin 1792) : ((cfg0.win 3).blk t).view.emb (ix2 k p) = (ix2 k p : S1024x1792.Idx) := by
  obtain ⟨e0, e1⟩ := idx2 t
  refine funext fun a => Fin.ext ?_
  match a with
  | ⟨0, _⟩ => show win0_2.index t (0 : Fin 2) * 1024 + 1 * k.val = k.val; omega
  | ⟨1, _⟩ => show win0_2.index t (1 : Fin 2) * 1792 + 1 * p.val = p.val; omega

theorem at_table (t : Fin cfg0.N) (r : Fin 512) (p : Fin 640) : ((cfg0.win 4).blk t).view.emb (ix2 r p) = (ix2 (nOf t r) p : S2048x640.Idx) := by
  obtain ⟨e0, e1⟩ := idx4 t
  refine funext fun a => Fin.ext ?_
  match a with
  | ⟨0, _⟩ => show win0_4.index t (0 : Fin 2) * 512 + 1 * r.val = 512 * (t.val / 32) + r.val; omega
  | ⟨1, _⟩ => show win0_4.index t (1 : Fin 2) * 640 + 1 * p.val = p.val; omega

theorem at_512 (t : Fin cfg0.N) (r : Fin 512) (l : Fin 512) :
    ((cfg0.win 6).blk t).view.emb (ix3 0 r l) = (ix3 (bOf t) (nOf t r) l : S32x2048x512.Idx) := by
  obtain ⟨e0, e1, e2⟩ := idx0 t
  refine funext fun a => Fin.ext ?_
  match a with
  | ⟨0, _⟩ => show win0_0.index t (0 : Fin 3) * 1 + 1 * 0 = t.val % 32; omega
  | ⟨1, _⟩ => show win0_0.index t (1 : Fin 3) * 512 + 1 * r.val = 512 * (t.val / 32) + r.val; omega
  | ⟨2, _⟩ => show win0_0.index t (2 : Fin 3) * 512 + 1 * l.val = l.val; omega

theorem at_128 (t : Fin cfg0.N) (r : Fin 512) (l : Fin 128) :
    ((cfg0.win 7).blk t).view.emb (ix3 0 r l) = (ix3 (bOf t) (nOf t r) l : S32x2048x128.Idx) := by
  obtain ⟨e0, e1, e2⟩ := idx0 t
  refine funext fun a => Fin.ext ?_
  match a with
  | ⟨0, _⟩ => show win0_0.index t (0 : Fin 3) * 1 + 1 * 0 = t.val % 32; omega
  | ⟨1, _⟩ => show win0_0.index t (1 : Fin 3) * 512 + 1 * r.val = 512 * (t.val / 32) + r.val; omega
  | ⟨2, _⟩ => show win0_0.index t (2 : Fin 3) * 128 + 1 * l.val = l.val; omega

theorem at_256 (t : Fin cfg0.N) (r : Fin 512) (l : Fin 256) :
    ((cfg0.win 9).blk t).view.emb (ix3 0 r l) = (ix3 (bOf t) (nOf t r) l : S32x2048x256.Idx) := by
  obtain ⟨e0, e1, e2⟩ := idx0 t
  refine funext fun a => Fin.ext ?_
  match a with
  | ⟨0, _⟩ => show win0_0.index t (0 : Fin 3) * 1 + 1 * 0 = t.val % 32; omega
  | ⟨1, _⟩ => show win0_0.index t (1 : Fin 3) * 512 + 1 * r.val = 512 * (t.val / 32) + r.val; omega
  | ⟨2, _⟩ => show win0_0.index t (2 : Fin 3) * 256 + 1 * l.val = l.val; omega

/-- The point that holds a token. -/
def tOf (b : Fin 32) (n : Fin 2048) : Fin cfg0.N := ⟨32 * (n.val / 512) + b.val, show 32 * (n.val / 512) + b.val < 128 by omega⟩
def rOf (n : Fin 2048) : Fin 512 := ⟨n.val % 512, by omega⟩

theorem b_tOf (b : Fin 32) (n : Fin 2048) : bOf (tOf b n) = b := Fin.ext (by show (32 * (n.val / 512) + b.val) % 32 = b.val; omega)
theorem n_tOf (b : Fin 32) (n : Fin 2048) : nOf (tOf b n) (rOf n) = n :=
  Fin.ext (by show 512 * ((32 * (n.val / 512) + b.val) / 32) + n.val % 512 = n.val; omega)

end Cert.Proj

end
-- ==== Proof.ProjArray.lean ====
/- The input projection kernel's six result arrays as functions of the argument arrays. -/
module

public import proofs.«01_k».proof.Proof.ProjWindow

@[expose] public section

set_option backward.proofsInPublic true

noncomputable section

open scoped BigOperators

namespace Cert.Proj

open Idealize.ShloMosaic Idealize.ShloMosaic.ValueIdx Idealize.ShloMosaic.TcCoe Idealize.SL.Sem Cert.InProjIdeal Cert.InProjIdeal.Gen
  Cert.InProjIdeal.Value

/-! ## The arrays -/

section

variable (m : (ℓ : Loc nD τ sig) → Buf (Elt Ideal) ℓ) (ρ : Dev nD → PrngReg)

/-- The gains' block is the whole array. -/
theorem gains_at (c : Dev nD) (t : Fin cfg0.N) (k : Fin 4) (e : Fin 1024) :
    @Eq EReal (iblk m c 2 t (ix2 k e)) (m ((c : Thread nD τ).loc main_arg2) (ix2 k e)) := by
  have h0 : @Eq EReal (iblk m c 2 t (ix2 k e)) (V m c main_arg2 (((cfg0.win 2).blk t).view.emb (ix2 k e))) := by
    unfold iblk
    rfl
  rw [h0, at_g, V_main_arg2 m c]

/-- The weights' block is the whole array. -/
theorem weights_at (c : Dev nD) (t : Fin cfg0.N) (k : Fin 1024) (p : Fin 1792) :
    @Eq EReal (iblk m c 3 t (ix2 k p)) (m ((c : Thread nD τ).loc main_arg3) (ix2 k p)) := by
  have h0 : @Eq EReal (iblk m c 3 t (ix2 k p)) (V m c main_v53 (((cfg0.win 3).blk t).view.emb (ix2 k p))) := by
    unfold iblk
    rfl
  rw [h0, at_w, V_weight m c]

/-- The tables' blocks are the tokens' rows. -/
theorem cos_at (c : Dev nD) (t : Fin cfg0.N) (r : Fin 512) (p : Fin 640) :
    @Eq EReal (iblk m c 4 t (ix2 r p)) (cosTab (angle rowAngles colAngles (nOf t r)) p) := by
  have h0 : @Eq EReal (iblk m c 4 t (ix2 r p)) (V m c main_v44 (((cfg0.win 4).blk t).view.emb (ix2 r p))) := by
    unfold iblk
    rfl
  rw [h0, at_table, V_cos m c, cosTable_apply]

theorem sin_at (c : Dev nD) (t : Fin cfg0.N) (r : Fin 512) (p : Fin 640) :
    @Eq EReal (iblk m c 5 t (ix2 r p)) (sinTab (angle rowAngles colAngles (nOf t r)) p) := by
  have h0 : @Eq EReal (iblk m c 5 t (ix2 r p)) (V m c main_v50 (((cfg0.win 5).blk t).view.emb (ix2 r p))) := by
    unfold iblk
    rfl
  have h1 : ((cfg0.win 5).blk t).view.emb (ix2 r p) = (ix2 (nOf t r) p : S2048x640.Idx) := at_table t r p
  rw [h0, h1, V_sin m c, sinTable_apply]

/-- A block's projected row is the token's. -/
theorem bx_eq (c : Dev nD) (t : Fin cfg0.N) (r : Fin 512) (p : Fin 1792) :
    bx (iblk m c 0 t) (iblk m c 1 t) (iblk m c 2 t) (iblk m c 3 t) r p
      = px (m ((c : Thread nD τ).loc main_arg0)) (m ((c : Thread nD τ).loc main_arg1)) (m ((c : Thread nD τ).loc main_arg2)) (m ((c : Thread nD τ).loc main_arg3))
          (bOf t) (nOf t r) p := by
  have e0 : ∀ e : Fin 1024, @Eq EReal (iblk m c 0 t (ix3 0 r e)) (m ((c : Thread nD τ).loc main_arg0) (ix3 (bOf t) (nOf t r) e)) := fun e =>
    (congrArg (V m c main_arg0) (at_h t r e)).trans (congrFun (V_main_arg0 m c) _)
  have e1 : ∀ (k : Fin 6) (e : Fin 1024), @Eq EReal (iblk m c 1 t (ix3 0 k e)) (m ((c : Thread nD τ).loc main_arg1) (ix3 (bOf t) k e)) := fun k e =>
    (congrArg (V m c main_arg1) (at_mods t k e)).trans (congrFun (V_main_arg1 m c) _)
  unfold bx px
  rw [funext e0, funext (e1 1), funext (e1 0), funext (gains_at m c t 0), funext fun k => funext (weights_at m c t k)]

/-- Its rotated columns are the token's, scaled. -/
theorem bt_eq (c : Dev nD) (t : Fin cfg0.N) (r : Fin 512) (p : Fin 640) :
    bt (iblk m c 0 t) (iblk m c 1 t) (iblk m c 2 t) (iblk m c 3 t) (iblk m c 4 t) (iblk m c 5 t) r p
      = rx (m ((c : Thread nD τ).loc main_arg0)) (m ((c : Thread nD τ).loc main_arg1)) (m ((c : Thread nD τ).loc main_arg2)) (m ((c : Thread nD τ).loc main_arg3))
          rowAngles colAngles (bOf t) (nOf t r) p * scale p := by
  unfold bt rx
  rw [bx_eq, bx_eq, cos_at, sin_at]
  exact rope_tab (fun p => px (m ((c : Thread nD τ).loc main_arg0)) (m ((c : Thread nD τ).loc main_arg1)) (m ((c : Thread nD τ).loc main_arg2))
    (m ((c : Thread nD τ).loc main_arg3)) (bOf t) (nOf t r) ⟨p.val, by omega⟩) _ p

/-- The six arrays of the kernel's arguments. -/
abbrev KQ (c : Dev nD) : FVec Ideal S32x2048x512 .bf16 :=
  Gq (m ((c : Thread nD τ).loc main_arg0)) (m ((c : Thread nD τ).loc main_arg1)) (m ((c : Thread nD τ).loc main_arg2)) (m ((c : Thread nD τ).loc main_arg3)) rowAngles colAngles
abbrev KK (c : Dev nD) : FVec Ideal S32x2048x128 .bf16 :=
  Gk (m ((c : Thread nD τ).loc main_arg0)) (m ((c : Thread nD τ).loc main_arg1)) (m ((c : Thread nD τ).loc main_arg2)) (m ((c : Thread nD τ).loc main_arg3)) rowAngles colAngles
abbrev KV (c : Dev nD) : FVec Ideal S32x2048x128 .bf16 :=
  Gv (m ((c : Thread nD τ).loc main_arg0)) (m ((c : Thread nD τ).loc main_arg1)) (m ((c : Thread nD τ).loc main_arg2)) (m ((c : Thread nD τ).loc main_arg3))
abbrev KC (c : Dev nD) : FVec Ideal S32x2048x256 .f32 :=
  Gc (m ((c : Thread nD τ).loc main_arg0)) (m ((c : Thread nD τ).loc main_arg1)) (m ((c : Thread nD τ).loc main_arg2)) (m ((c : Thread nD τ).loc main_arg3))
abbrev KZ (c : Dev nD) : FVec Ideal S32x2048x256 .f32 :=
  Gz (m ((c : Thread nD τ).loc main_arg0)) (m ((c : Thread nD τ).loc main_arg1)) (m ((c : Thread nD τ).loc main_arg2)) (m ((c : Thread nD τ).loc main_arg3))
abbrev KU (c : Dev nD) : FVec Ideal S32x2048x256 .f32 :=
  Gu (m ((c : Thread nD τ).loc main_arg0)) (m ((c : Thread nD τ).loc main_arg1)) (m ((c : Thread nD τ).loc main_arg2)) (m ((c : Thread nD τ).loc main_arg3))

theorem flushed_q (c : Dev nD) (t : Fin cfg0.N) : (dats m 0 c).flushed 6 t = ((cfg0.win 6).blk t).view.read (Elt Ideal) (KQ m c) := by
  rw [flushed6]
  funext j
  obtain ⟨a, r, l, rfl⟩ : ∃ (a : Fin 1) (r : Fin 512) (l : Fin 512), j = ix3 a r l := ⟨_, _, _, eq_ix3 _⟩
  obtain rfl : a = 0 := Subsingleton.elim _ _
  show out0_6 (F := Ideal) (iblk m c 0 t) (iblk m c 1 t) (iblk m c 2 t) (iblk m c 3 t) (iblk m c 4 t) (iblk m c 5 t) (ix3 0 r l) = KQ m c (((cfg0.win 6).blk t).view.emb (ix3 0 r l))
  refine Eq.trans ?_ (congrArg (KQ m c) (at_512 t r l)).symm
  refine (out6_apply _ _ _ _ _ _ r l).trans ?_
  exact (bt_eq m c t r _).trans (congrArg (rx (m ((c : Thread nD τ).loc main_arg0)) (m ((c : Thread nD τ).loc main_arg1)) (m ((c : Thread nD τ).loc main_arg2)) (m ((c : Thread nD τ).loc main_arg3)) rowAngles colAngles (bOf t) (nOf t r) _ * ·) (if_pos l.isLt))

theorem final_q (c : Dev nD) : (dats m 0 c).arrAt 6 cfg0.N = KQ m c := by
  refine (dats m 0 c).arrAt_eq_of_cover 6 (KQ m c) (fun t _ => flushed_q m c t) fun i => ?_
  obtain ⟨b, n, l, rfl⟩ : ∃ (b : Fin 32) (n : Fin 2048) (l : Fin 512), i = ix3 b n l := ⟨_, _, _, eq_ix3 _⟩
  refine ⟨tOf b n, flush0_6 _, ?_⟩
  have h := ((cfg0.win 6).blk (tOf b n)).view.emb_mem_set (ix3 0 (rOf n) l)
  rwa [show ((cfg0.win 6).blk (tOf b n)).view.emb (ix3 0 (rOf n) l) = ix3 b n l from (at_512 (tOf b n) (rOf n) l).trans (by rw [b_tOf, n_tOf])] at h

theorem flushed_k (c : Dev nD) (t : Fin cfg0.N) : (dats m 0 c).flushed 7 t = ((cfg0.win 7).blk t).view.read (Elt Ideal) (KK m c) := by
  rw [flushed7]
  funext j
  obtain ⟨a, r, l, rfl⟩ : ∃ (a : Fin 1) (r : Fin 512) (l : Fin 128), j = ix3 a r l := ⟨_, _, _, eq_ix3 _⟩
  obtain rfl : a = 0 := Subsingleton.elim _ _
  show out0_7 (F := Ideal) (iblk m c 0 t) (iblk m c 1 t) (iblk m c 2 t) (iblk m c 3 t) (iblk m c 4 t) (iblk m c 5 t) (ix3 0 r l) = KK m c (((cfg0.win 7).blk t).view.emb (ix3 0 r l))
  refine Eq.trans ?_ (congrArg (KK m c) (at_128 t r l)).symm
  refine (out7_apply _ _ _ _ _ _ r l).trans ?_
  exact (bt_eq m c t r _).trans ((congrArg (rx (m ((c : Thread nD τ).loc main_arg0)) (m ((c : Thread nD τ).loc main_arg1)) (m ((c : Thread nD τ).loc main_arg2)) (m ((c : Thread nD τ).loc main_arg3)) rowAngles colAngles (bOf t) (nOf t r) _ * ·)
    ((if_neg (by show ¬512 + l.val < 512; omega)).trans Block.one_eq)).trans (mul_one _))

theorem final_k (c : Dev nD) : (dats m 0 c).arrAt 7 cfg0.N = KK m c := by
  refine (dats m 0 c).arrAt_eq_of_cover 7 (KK m c) (fun t _ => flushed_k m c t) fun i => ?_
  obtain ⟨b, n, l, rfl⟩ : ∃ (b : Fin 32) (n : Fin 2048) (l : Fin 128), i = ix3 b n l := ⟨_, _, _, eq_ix3 _⟩
  refine ⟨tOf b n, flush0_7 _, ?_⟩
  have h := ((cfg0.win 7).blk (tOf b n)).view.emb_mem_set (ix3 0 (rOf n) l)
  rwa [show ((cfg0.win 7).blk (tOf b n)).view.emb (ix3 0 (rOf n) l) = ix3 b n l from (at_128 (tOf b n) (rOf n) l).trans (by rw [b_tOf, n_tOf])] at h

theorem flushed_v (c : Dev nD) (t : Fin cfg0.N) : (dats m 0 c).flushed 8 t = ((cfg0.win 8).blk t).view.read (Elt Ideal) (KV m c) := by
  rw [flushed8]
  funext j
  obtain ⟨a, r, l, rfl⟩ : ∃ (a : Fin 1) (r : Fin 512) (l : Fin 128), j = ix3 a r l := ⟨_, _, _, eq_ix3 _⟩
  obtain rfl : a = 0 := Subsingleton.elim _ _
  show out0_8 (F := Ideal) (iblk m c 0 t) (iblk m c 1 t) (iblk m c 2 t) (iblk m c 3 t) (iblk m c 4 t) (iblk m c 5 t) (ix3 0 r l) = KV m c (((cfg0.win 8).blk t).view.emb (ix3 0 r l))
  refine Eq.trans ?_ (congrArg (KV m c) (at_128 t r l)).symm
  refine (out8_apply _ _ _ _ _ _ r l).trans ?_
  exact bx_eq m c t r _

theorem final_v (c : Dev nD) : (dats m 0 c).arrAt 8 cfg0.N = KV m c := by
  refine (dats m 0 c).arrAt_eq_of_cover 8 (KV m c) (fun t _ => flushed_v m c t) fun i => ?_
  obtain ⟨b, n, l, rfl⟩ : ∃ (b : Fin 32) (n : Fin 2048) (l : Fin 128), i = ix3 b n l := ⟨_, _, _, eq_ix3 _⟩
  refine ⟨tOf b n, flush0_8 _, ?_⟩
  have h := ((cfg0.win 8).blk (tOf b n)).view.emb_mem_set (ix3 0 (rOf n) l)
  rwa [show ((cfg0.win 8).blk (tOf b n)).view.emb (ix3 0 (rOf n) l) = ix3 b n l from (at_128 (tOf b n) (rOf n) l).trans (by rw [b_tOf, n_tOf])] at h

theorem flushed_c (c : Dev nD) (t : Fin cfg0.N) : (dats m 0 c).flushed 9 t = ((cfg0.win 9).blk t).view.read (Elt Ideal) (KC m c) := by
  rw [flushed9]
  funext j
  obtain ⟨a, r, l, rfl⟩ : ∃ (a : Fin 1) (r : Fin 512) (l : Fin 256), j = ix3 a r l := ⟨_, _, _, eq_ix3 _⟩
  obtain rfl : a = 0 := Subsingleton.elim _ _
  show out0_9 (F := Ideal) (iblk m c 0 t) (iblk m c 1 t) (iblk m c 2 t) (iblk m c 3 t) (iblk m c 4 t) (iblk m c 5 t) (ix3 0 r l) = KC m c (((cfg0.win 9).blk t).view.emb (ix3 0 r l))
  refine Eq.trans ?_ (congrArg (KC m c) (at_256 t r l)).symm
  refine (out9_apply _ _ _ _ _ _ r l).trans ?_
  exact bx_eq m c t r _

theorem final_c (c : Dev nD) : (dats m 0 c).arrAt 9 cfg0.N = KC m c := by
  refine (dats m 0 c).arrAt_eq_of_cover 9 (KC m c) (fun t _ => flushed_c m c t) fun i => ?_
  obtain ⟨b, n, l, rfl⟩ : ∃ (b : Fin 32) (n : Fin 2048) (l : Fin 256), i = ix3 b n l := ⟨_, _, _, eq_ix3 _⟩
  refine ⟨tOf b n, flush0_9 _, ?_⟩
  have h := ((cfg0.win 9).blk (tOf b n)).view.emb_mem_set (ix3 0 (rOf n) l)
  rwa [show ((cfg0.win 9).blk (tOf b n)).view.emb (ix3 0 (rOf n) l) = ix3 b n l from (at_256 (tOf b n) (rOf n) l).trans (by rw [b_tOf, n_tOf])] at h

theorem flushed_z (c : Dev nD) (t : Fin cfg0.N) : (dats m 0 c).flushed 10 t = ((cfg0.win 10).blk t).view.read (Elt Ideal) (KZ m c) := by
  rw [flushed10]
  funext j
  obtain ⟨a, r, l, rfl⟩ : ∃ (a : Fin 1) (r : Fin 512) (l : Fin 256), j = ix3 a r l := ⟨_, _, _, eq_ix3 _⟩
  obtain rfl : a = 0 := Subsingleton.elim _ _
  show out0_10 (F := Ideal) (iblk m c 0 t) (iblk m c 1 t) (iblk m c 2 t) (iblk m c 3 t) (iblk m c 4 t) (iblk m c 5 t) (ix3 0 r l) = KZ m c (((cfg0.win 10).blk t).view.emb (ix3 0 r l))
  refine Eq.trans ?_ (congrArg (KZ m c) (at_256 t r l)).symm
  refine (out10_apply _ _ _ _ _ _ r l).trans ?_
  exact congrArg₂ (· * ·) (bx_eq m c t r _) (bx_eq m c t r _)

theorem final_z (c : Dev nD) : (dats m 0 c).arrAt 10 cfg0.N = KZ m c := by
  refine (dats m 0 c).arrAt_eq_of_cover 10 (KZ m c) (fun t _ => flushed_z m c t) fun i => ?_
  obtain ⟨b, n, l, rfl⟩ : ∃ (b : Fin 32) (n : Fin 2048) (l : Fin 256), i = ix3 b n l := ⟨_, _, _, eq_ix3 _⟩
  refine ⟨tOf b n, flush0_10 _, ?_⟩
  have h := ((cfg0.win 10).blk (tOf b n)).view.emb_mem_set (ix3 0 (rOf n) l)
  rwa [show ((cfg0.win 10).blk (tOf b n)).view.emb (ix3 0 (rOf n) l) = ix3 b n l from (at_256 (tOf b n) (rOf n) l).trans (by rw [b_tOf, n_tOf])] at h

theorem flushed_u (c : Dev nD) (t : Fin cfg0.N) : (dats m 0 c).flushed 11 t = ((cfg0.win 11).blk t).view.read (Elt Ideal) (KU m c) := by
  rw [flushed11]
  funext j
  obtain ⟨a, r, l, rfl⟩ : ∃ (a : Fin 1) (r : Fin 512) (l : Fin 256), j = ix3 a r l := ⟨_, _, _, eq_ix3 _⟩
  obtain rfl : a = 0 := Subsingleton.elim _ _
  show out0_11 (F := Ideal) (iblk m c 0 t) (iblk m c 1 t) (iblk m c 2 t) (iblk m c 3 t) (iblk m c 4 t) (iblk m c 5 t) (ix3 0 r l) = KU m c (((cfg0.win 11).blk t).view.emb (ix3 0 r l))
  refine Eq.trans ?_ (congrArg (KU m c) (at_256 t r l)).symm
  refine (out11_apply _ _ _ _ _ _ r l).trans ?_
  exact bx_eq m c t r _

theorem final_u (c : Dev nD) : (dats m 0 c).arrAt 11 cfg0.N = KU m c := by
  refine (dats m 0 c).arrAt_eq_of_cover 11 (KU m c) (fun t _ => flushed_u m c t) fun i => ?_
  obtain ⟨b, n, l, rfl⟩ : ∃ (b : Fin 32) (n : Fin 2048) (l : Fin 256), i = ix3 b n l := ⟨_, _, _, eq_ix3 _⟩
  refine ⟨tOf b n, flush0_11 _, ?_⟩
  have h := ((cfg0.win 11).blk (tOf b n)).view.emb_mem_set (ix3 0 (rOf n) l)
  rwa [show ((cfg0.win 11).blk (tOf b n)).view.emb (ix3 0 (rOf n) l) = ix3 b n l from (at_256 (tOf b n) (rOf n) l).trans (by rw [b_tOf, n_tOf])] at h

end

end Cert.Proj

end
-- ==== Proof.ProjRef.lean ====
/- The reference projection read at an index: the same six arrays. -/
module

public import proofs.«01_k».proof.Proof.Gen.InProjReferenceIdeal.Read
public import proofs.«01_k».proof.Proof.BlockRef
public import proofs.«01_k».proof.Proof.ProjMath

@[expose] public section

set_option backward.proofsInPublic true

noncomputable section

open scoped BigOperators

namespace Cert.Proj

open Idealize.ShloMosaic Idealize.ShloMosaic.ValueIdx Cert.InProjReferenceIdeal Cert.InProjReferenceIdeal.Gen Cert.InProjReferenceIdeal.Read

/-! ## The rotation of some heads -/

section

variable {K N : ℕ}

/-- The shapes of `K` heads of 64, 32 and 16 columns. -/
abbrev H64 (K : ℕ) : Shape := ⟨4, ![32, 2048, K, 64]⟩
abbrev H32 (K : ℕ) : Shape := ⟨4, ![32, 2048, K, 32]⟩
abbrev H16 (K : ℕ) : Shape := ⟨4, ![32, 2048, K, 16]⟩
abbrev Flat (N : ℕ) : Shape := ⟨3, ![32, 2048, N]⟩

/-- A quarter of the heads' columns. -/
def quarter (X : FVec Ideal (Flat N) .f32) (o1 o2 : ℕ) (h0 : (Flat N).ShapeCasts (H64 K)) (h1 : (H64 K).Slices ![0, 0, 0, o1] (H32 K))
    (h2 : (H32 K).Slices ![0, 0, 0, o2] (H16 K)) : FVec Ideal (H16 K) .f32 :=
  extractStridedSlice (H16 K) ![0, 0, 0, o2] (extractStridedSlice (H32 K) ![0, 0, 0, o1] (shapeCast (H64 K) X h0) h1) h2

theorem quarter_apply (hN : N = K * 64) (X : FVec Ideal (Flat N) .f32) (o1 o2 : ℕ) (ho1 : o1 ≤ 32) (ho2 : o2 ≤ 16) (h0 : (Flat N).ShapeCasts (H64 K))
    (h1 : (H64 K).Slices ![0, 0, 0, o1] (H32 K)) (h2 : (H32 K).Slices ![0, 0, 0, o2] (H16 K)) (b : Fin 32) (n : Fin 2048) (h : Fin K) (l : Fin 16) (p : Fin N)
    (hp : p.val = h.val * 64 + o1 + o2 + l.val) : quarter X o1 o2 h0 h1 h2 (ix4 b n h l) = X (ix3 b n p) := by
  subst hN
  unfold quarter
  rw [extractStridedSlice_apply _ _ _ (ix4 b n h l) (ix4 b n h ⟨o2 + l.val, by omega⟩)
      (by intro d; match d with | ⟨0, _⟩ => exact (Nat.zero_add _).symm | ⟨1, _⟩ => exact (Nat.zero_add _).symm | ⟨2, _⟩ => exact (Nat.zero_add _).symm | ⟨3, _⟩ => rfl),
    extractStridedSlice_apply _ _ _ (ix4 b n h ⟨o2 + l.val, by omega⟩) (ix4 b n h ⟨o1 + (o2 + l.val), by omega⟩)
      (by intro d; match d with | ⟨0, _⟩ => exact (Nat.zero_add _).symm | ⟨1, _⟩ => exact (Nat.zero_add _).symm | ⟨2, _⟩ => exact (Nat.zero_add _).symm | ⟨3, _⟩ => rfl)]
  refine shapeCast_apply _ _ _ _ ?_
  rw [Shape.rowMajor_val_three, Shape.rowMajor_val_four]
  show (b.val * 2048 + n.val) * (K * 64) + p.val = ((b.val * 2048 + n.val) * K + h.val) * 64 + (o1 + (o2 + l.val))
  rw [hp]
  ring

/-- A table's half over the heads. -/
def spread (C : FVec Ideal S2048x32 .f32) (o : ℕ) (h1 : S2048x1x32.Slices ![0, 0, o] S2048x1x16)
    (h2 : S1x2048x1x16.BroadcastsInDim (H16 K) (![0, 1, 2, 3] : Fin 4 → Fin (H16 K).rank)) : FVec Ideal (H16 K) .f32 :=
  broadcastInDim (H16 K) ![0, 1, 2, 3] h2 (broadcastInDim S1x2048x1x16 ![1, 2, 3] bcast_S2048x1x16_S1x2048x1x16_1_2_3
    (extractStridedSlice S2048x1x16 ![0, 0, o] (broadcastInDim S2048x1x32 ![0, 2] bcast_S2048x32_S2048x1x32_0_2 C) h1))

theorem spread_apply (C : FVec Ideal S2048x32 .f32) (o : ℕ) (ho : o ≤ 16) (h1 : S2048x1x32.Slices ![0, 0, o] S2048x1x16)
    (h2 : S1x2048x1x16.BroadcastsInDim (H16 K) (![0, 1, 2, 3] : Fin 4 → Fin (H16 K).rank)) (b : Fin 32) (n : Fin 2048) (h : Fin K) (l : Fin 16) :
    spread C o h1 h2 (ix4 b n h l) = C (ix2 n ⟨o + l.val, by omega⟩) := by
  unfold spread
  rw [broadcastInDim_apply _ _ _ (ix4 b n h l) (ix4 0 n 0 l) (by intro a; match a with | ⟨0, _⟩ => rfl | ⟨1, _⟩ => rfl | ⟨2, _⟩ => rfl | ⟨3, _⟩ => rfl),
    broadcastInDim_apply _ _ _ (ix4 0 n 0 l) (ix3 n 0 l) (by intro a; match a with | ⟨0, _⟩ => rfl | ⟨1, _⟩ => rfl | ⟨2, _⟩ => rfl),
    extractStridedSlice_apply _ _ _ (ix3 n 0 l) (ix3 n 0 ⟨o + l.val, by omega⟩)
      (by intro d; match d with | ⟨0, _⟩ => exact (Nat.zero_add _).symm | ⟨1, _⟩ => rfl | ⟨2, _⟩ => rfl),
    broadcastInDim_apply _ _ _ (ix3 n 0 ⟨o + l.val, by omega⟩) (ix2 n ⟨o + l.val, by omega⟩) (by intro a; match a with | ⟨0, _⟩ => rfl | ⟨1, _⟩ => rfl)]

/-- Four quarters joined. -/
def joined (y0 y1 y2 y3 : FVec Ideal (H16 K) .f32) (c16 : Shape.Concatenates [H16 K, H16 K] (H32 K) 3) (c32 : Shape.Concatenates [H32 K, H32 K] (H64 K) 3)
    (h : (H64 K).ShapeCasts (Flat N)) : FVec Ideal (Flat N) .f32 :=
  shapeCast (Flat N) (concatenate (H64 K) 3 [⟨H32 K, concatenate (H32 K) 3 [⟨H16 K, y0⟩, ⟨H16 K, y1⟩] c16⟩, ⟨H32 K, concatenate (H32 K) 3 [⟨H16 K, y2⟩, ⟨H16 K, y3⟩] c16⟩] c32) h

theorem off_three {L M : ℕ} (b : Fin 32) (n : Fin 2048) (h : Fin K) (p : Fin L) (q : Fin M) :
    ∀ a : Fin 4, a ≠ 3 → ((ix4 b n h p : (⟨4, ![32, 2048, K, L]⟩ : Shape).Idx) a).val = ((ix4 b n h q : (⟨4, ![32, 2048, K, M]⟩ : Shape).Idx) a).val := fun a ha => by
  match a with
  | ⟨0, _⟩ => rfl
  | ⟨1, _⟩ => rfl
  | ⟨2, _⟩ => rfl
  | ⟨3, _⟩ => exact absurd rfl ha

theorem pair16 (x y : FVec Ideal (H16 K) .f32) (c : Shape.Concatenates [H16 K, H16 K] (H32 K) 3) (b : Fin 32) (n : Fin 2048) (h : Fin K) (j : Fin 2) (l : Fin 16) :
    concatenate (H32 K) 3 [⟨H16 K, x⟩, ⟨H16 K, y⟩] c (ix4 b n h ⟨16 * j.val + l.val, by omega⟩) = ![x, y] j (ix4 b n h l) := by
  match j with
  | ⟨0, _⟩ => exact concatenate_apply_piece (t := H32 K) 3 _ _ _ 0 (by show 0 < 2; omega) (H16 K) x rfl rfl 0 rfl (ix4 b n h l) (off_three b n h l _) rfl
  | ⟨1, _⟩ => exact concatenate_apply_piece (t := H32 K) 3 _ _ _ 1 (by show 1 < 2; omega) (H16 K) y rfl rfl 16 (by simp) (ix4 b n h l) (off_three b n h l _) rfl

theorem pair32 (x y : FVec Ideal (H32 K) .f32) (c : Shape.Concatenates [H32 K, H32 K] (H64 K) 3) (b : Fin 32) (n : Fin 2048) (h : Fin K) (j : Fin 2) (l : Fin 32) :
    concatenate (H64 K) 3 [⟨H32 K, x⟩, ⟨H32 K, y⟩] c (ix4 b n h ⟨32 * j.val + l.val, by omega⟩) = ![x, y] j (ix4 b n h l) := by
  match j with
  | ⟨0, _⟩ => exact concatenate_apply_piece (t := H64 K) 3 _ _ _ 0 (by show 0 < 2; omega) (H32 K) x rfl rfl 0 rfl (ix4 b n h l) (off_three b n h l _) rfl
  | ⟨1, _⟩ => exact concatenate_apply_piece (t := H64 K) 3 _ _ _ 1 (by show 1 < 2; omega) (H32 K) y rfl rfl 32 (by simp) (ix4 b n h l) (off_three b n h l _) rfl

theorem joined_apply (hN : N = K * 64) (y0 y1 y2 y3 : FVec Ideal (H16 K) .f32) (c16 : Shape.Concatenates [H16 K, H16 K] (H32 K) 3)
    (c32 : Shape.Concatenates [H32 K, H32 K] (H64 K) 3) (hc : (H64 K).ShapeCasts (Flat N)) (b : Fin 32) (n : Fin 2048) (h : Fin K) (i j : Fin 2) (l : Fin 16) (p : Fin N)
    (hp : p.val = h.val * 64 + (32 * i.val + (16 * j.val + l.val))) :
    joined y0 y1 y2 y3 c16 c32 hc (ix3 b n p) = ![![y0, y1] j, ![y2, y3] j] i (ix4 b n h l) := by
  subst hN
  unfold joined
  rw [shapeCast_apply _ _ _ (ix4 b n h ⟨32 * i.val + (⟨16 * j.val + l.val, by omega⟩ : Fin 32).val, by show 32 * i.val + (16 * j.val + l.val) < 64; omega⟩) (by
      rw [Shape.rowMajor_val_three, Shape.rowMajor_val_four]
      show ((b.val * 2048 + n.val) * K + h.val) * 64 + (32 * i.val + (16 * j.val + l.val)) = (b.val * 2048 + n.val) * (K * 64) + p.val
      rw [hp]
      ring), pair32]
  match i with
  | ⟨0, _⟩ => exact pair16 y0 y1 c16 b n h j l
  | ⟨1, _⟩ => exact pair16 y2 y3 c16 b n h j l

/-- A rotated pair of quarters. -/
def first (t1 t2 c s : FVec Ideal (H16 K) .f32) : FVec Ideal (H16 K) .f32 := subf (mulf t1 c) (mulf t2 s)
def second (t1 t2 c s : FVec Ideal (H16 K) .f32) : FVec Ideal (H16 K) .f32 := addf (mulf t1 s) (mulf t2 c)

/-- The reference's rotation of `K` heads. -/
def turn (X : FVec Ideal (Flat N) .f32) (C S : FVec Ideal S2048x32 .f32) (h0 : (Flat N).ShapeCasts (H64 K)) (a0 : (H64 K).Slices ![0, 0, 0, 0] (H32 K))
    (a1 : (H64 K).Slices ![0, 0, 0, 32] (H32 K)) (d0 : (H32 K).Slices ![0, 0, 0, 0] (H16 K)) (d1 : (H32 K).Slices ![0, 0, 0, 16] (H16 K))
    (h2 : S1x2048x1x16.BroadcastsInDim (H16 K) (![0, 1, 2, 3] : Fin 4 → Fin (H16 K).rank)) (c16 : Shape.Concatenates [H16 K, H16 K] (H32 K) 3)
    (c32 : Shape.Concatenates [H32 K, H32 K] (H64 K) 3) (hc : (H64 K).ShapeCasts (Flat N)) : FVec Ideal (Flat N) .f32 :=
  joined
    (first (quarter X 0 0 h0 a0 d0) (quarter X 0 16 h0 a0 d1) (spread C 0 slices_S2048x1x32_S2048x1x16_0_0_0 h2) (spread S 0 slices_S2048x1x32_S2048x1x16_0_0_0 h2))
    (second (quarter X 0 0 h0 a0 d0) (quarter X 0 16 h0 a0 d1) (spread C 0 slices_S2048x1x32_S2048x1x16_0_0_0 h2) (spread S 0 slices_S2048x1x32_S2048x1x16_0_0_0 h2))
    (first (quarter X 32 0 h0 a1 d0) (quarter X 32 16 h0 a1 d1) (spread C 16 slices_S2048x1x32_S2048x1x16_0_0_16 h2) (spread S 16 slices_S2048x1x32_S2048x1x16_0_0_16 h2))
    (second (quarter X 32 0 h0 a1 d0) (quarter X 32 16 h0 a1 d1) (spread C 16 slices_S2048x1x32_S2048x1x16_0_0_16 h2) (spread S 16 slices_S2048x1x32_S2048x1x16_0_0_16 h2))
    c16 c32 hc

/-- The tables' column of a head's column. -/
def tc (p : ℕ) : Fin 32 := ⟨if p % 64 < 32 then p % 16 else 16 + p % 16, by split <;> omega⟩

theorem turn_first (hN : N = K * 64) (X : FVec Ideal (Flat N) .f32) (C S : FVec Ideal S2048x32 .f32) (h0 a0 a1 d0 d1 h2 c16 c32 hc) (b : Fin 32) (n : Fin 2048) (p q : Fin N)
    (h : p.val % 32 < 16) (hq : q.val = p.val + 16) :
    @Eq EReal (turn (K := K) X C S h0 a0 a1 d0 d1 h2 c16 c32 hc (ix3 b n p))
      (@HSub.hSub EReal EReal EReal _ (@HMul.hMul EReal EReal EReal _ (X (ix3 b n p)) (C (ix2 n (tc p.val)))) (@HMul.hMul EReal EReal EReal _ (X (ix3 b n q)) (S (ix2 n (tc p.val))))) := by
  unfold turn
  have hk : p.val / 64 < K := by omega
  have hi : p.val % 64 / 32 = 0 ∨ p.val % 64 / 32 = 1 := by omega
  rw [joined_apply hN _ _ _ _ c16 c32 hc b n ⟨p.val / 64, hk⟩ ⟨p.val % 64 / 32, by omega⟩ 0 ⟨p.val % 16, by omega⟩ p
    (by show p.val = p.val / 64 * 64 + (32 * (p.val % 64 / 32) + (16 * 0 + p.val % 16)); omega)]
  rcases hi with hi | hi
  · rw [show (⟨p.val % 64 / 32, by omega⟩ : Fin 2) = 0 from Fin.ext hi, show tc p.val = ⟨0 + p.val % 16, by omega⟩ from Fin.ext ((if_pos (by omega)).trans (Nat.zero_add _).symm)]
    refine congrArg₂ (fun x y : EReal => x - y) (congrArg₂ (fun x y : EReal => x * y) (quarter_apply hN X 0 0 (by omega) (by omega) h0 a0 d0 b n _ _ p ?_) (spread_apply C 0 (by omega) _ h2 b n _ _))
      (congrArg₂ (fun x y : EReal => x * y) (quarter_apply hN X 0 16 (by omega) (by omega) h0 a0 d1 b n _ _ q ?_) (spread_apply S 0 (by omega) _ h2 b n _ _))
    · show p.val = p.val / 64 * 64 + 0 + 0 + p.val % 16; omega
    · show q.val = p.val / 64 * 64 + 0 + 16 + p.val % 16; omega
  · rw [show (⟨p.val % 64 / 32, by omega⟩ : Fin 2) = 1 from Fin.ext hi, show tc p.val = ⟨16 + p.val % 16, by omega⟩ from Fin.ext (if_neg (by omega))]
    refine congrArg₂ (fun x y : EReal => x - y) (congrArg₂ (fun x y : EReal => x * y) (quarter_apply hN X 32 0 (by omega) (by omega) h0 a1 d0 b n _ _ p ?_) (spread_apply C 16 (by omega) _ h2 b n _ _))
      (congrArg₂ (fun x y : EReal => x * y) (quarter_apply hN X 32 16 (by omega) (by omega) h0 a1 d1 b n _ _ q ?_) (spread_apply S 16 (by omega) _ h2 b n _ _))
    · show p.val = p.val / 64 * 64 + 32 + 0 + p.val % 16; omega
    · show q.val = p.val / 64 * 64 + 32 + 16 + p.val % 16; omega

theorem turn_second (hN : N = K * 64) (X : FVec Ideal (Flat N) .f32) (C S : FVec Ideal S2048x32 .f32) (h0 a0 a1 d0 d1 h2 c16 c32 hc) (b : Fin 32) (n : Fin 2048) (p q : Fin N)
    (h : ¬p.val % 32 < 16) (hq : q.val = p.val - 16) :
    @Eq EReal (turn (K := K) X C S h0 a0 a1 d0 d1 h2 c16 c32 hc (ix3 b n p))
      (@HAdd.hAdd EReal EReal EReal _ (@HMul.hMul EReal EReal EReal _ (X (ix3 b n q)) (S (ix2 n (tc p.val)))) (@HMul.hMul EReal EReal EReal _ (X (ix3 b n p)) (C (ix2 n (tc p.val))))) := by
  unfold turn
  have hk : p.val / 64 < K := by omega
  have hi : p.val % 64 / 32 = 0 ∨ p.val % 64 / 32 = 1 := by omega
  rw [joined_apply hN _ _ _ _ c16 c32 hc b n ⟨p.val / 64, hk⟩ ⟨p.val % 64 / 32, by omega⟩ 1 ⟨p.val % 16, by omega⟩ p
    (by show p.val = p.val / 64 * 64 + (32 * (p.val % 64 / 32) + (16 * 1 + p.val % 16)); omega)]
  rcases hi with hi | hi
  · rw [show (⟨p.val % 64 / 32, by omega⟩ : Fin 2) = 0 from Fin.ext hi, show tc p.val = ⟨0 + p.val % 16, by omega⟩ from Fin.ext ((if_pos (by omega)).trans (Nat.zero_add _).symm)]
    refine congrArg₂ (fun x y : EReal => x + y) (congrArg₂ (fun x y : EReal => x * y) (quarter_apply hN X 0 0 (by omega) (by omega) h0 a0 d0 b n _ _ q ?_) (spread_apply S 0 (by omega) _ h2 b n _ _))
      (congrArg₂ (fun x y : EReal => x * y) (quarter_apply hN X 0 16 (by omega) (by omega) h0 a0 d1 b n _ _ p ?_) (spread_apply C 0 (by omega) _ h2 b n _ _))
    · show q.val = p.val / 64 * 64 + 0 + 0 + p.val % 16; omega
    · show p.val = p.val / 64 * 64 + 0 + 16 + p.val % 16; omega
  · rw [show (⟨p.val % 64 / 32, by omega⟩ : Fin 2) = 1 from Fin.ext hi, show tc p.val = ⟨16 + p.val % 16, by omega⟩ from Fin.ext (if_neg (by omega))]
    refine congrArg₂ (fun x y : EReal => x + y) (congrArg₂ (fun x y : EReal => x * y) (quarter_apply hN X 32 0 (by omega) (by omega) h0 a1 d0 b n _ _ q ?_) (spread_apply S 16 (by omega) _ h2 b n _ _))
      (congrArg₂ (fun x y : EReal => x * y) (quarter_apply hN X 32 16 (by omega) (by omega) h0 a1 d1 b n _ _ p ?_) (spread_apply C 16 (by omega) _ h2 b n _ _))
    · show q.val = p.val / 64 * 64 + 32 + 0 + p.val % 16; omega
    · show p.val = p.val / 64 * 64 + 32 + 16 + p.val % 16; omega

end

/-! ## The angles -/

theorem join_angles (A B : FVec Ideal S2048x16 .f32) (n : Fin 2048) (j : Fin 2) (l : Fin 16) :
    concatenate S2048x32 1 [⟨S2048x16, A⟩, ⟨S2048x16, B⟩] concatenates_S2048x16_S2048x16_S2048x32_d1 (ix2 n ⟨16 * j.val + l.val, by omega⟩) = ![A, B] j (ix2 n l) := by
  have off : ∀ (q : Fin 32) (a : Fin 2), a ≠ 1 → ((ix2 n l : S2048x16.Idx) a).val = ((ix2 n q : S2048x32.Idx) a).val := fun q a ha => by
    match a with
    | ⟨0, _⟩ => rfl
    | ⟨1, _⟩ => exact absurd rfl ha
  match j with
  | ⟨0, _⟩ => exact concatenate_apply_piece (t := S2048x32) 1 _ _ _ 0 (by show 0 < 2; omega) S2048x16 A rfl rfl 0 rfl (ix2 n l) (off _) rfl
  | ⟨1, _⟩ => exact concatenate_apply_piece (t := S2048x32) 1 _ _ _ 1 (by show 1 < 2; omega) S2048x16 B rfl rfl 16 (by simp) (ix2 n l) (off _) rfl

/-- The reference's angle of a column. -/
theorem angle_eq (n : Fin 2048) (p : Fin 640) : @Eq EReal (val_main_v26 (F := Ideal) (ix2 n (tc p.val))) (angle (val_main_v19 (F := Ideal)) (val_main_v25 (F := Ideal)) n p) := by
  unfold val_main_v26 angle
  generalize val_main_v19 (F := Ideal) = A
  generalize val_main_v25 (F := Ideal) = B
  by_cases h : p.val % 64 < 32
  · rw [if_pos h]
    refine Eq.trans (congrArg (fun q => concatenate S2048x32 1 [⟨S2048x16, A⟩, ⟨S2048x16, B⟩] concatenates_S2048x16_S2048x16_S2048x32_d1 (ix2 n q)) (Fin.ext ?_))
      (join_angles A B n 0 ⟨p.val % 16, by omega⟩)
    exact (if_pos h).trans (by show p.val % 16 = 16 * 0 + p.val % 16; omega)
  · rw [if_neg h]
    refine Eq.trans (congrArg (fun q => concatenate S2048x32 1 [⟨S2048x16, A⟩, ⟨S2048x16, B⟩] concatenates_S2048x16_S2048x16_S2048x32_d1 (ix2 n q)) (Fin.ext ?_))
      (join_angles A B n 1 ⟨p.val % 16, by omega⟩)
    exact (if_neg h).trans (by show 16 + p.val % 16 = 16 * 1 + p.val % 16; omega)

/-- The rotation of `K` heads that begin at column `o` of the projection is the rotation there. -/
theorem turn_eq {K N : ℕ} (hN : N = K * 64) (o : ℕ) (ho : o % 64 = 0) (hoN : o + N ≤ 640) (X : FVec Ideal (Flat N) .f32) (x : Fin 640 → EReal) (b : Fin 32) (n : Fin 2048)
    (hX : ∀ p : Fin N, @Eq EReal (X (ix3 b n p)) (x ⟨o + p.val, by omega⟩)) (h0 a0 a1 d0 d1 h2 c16 c32 hc) (p : Fin N) :
    @Eq EReal (turn (K := K) X (val_main_v27 (F := Ideal)) (val_main_v28 (F := Ideal)) h0 a0 a1 d0 d1 h2 c16 c32 hc (ix3 b n p))
      (rope x (angle (val_main_v19 (F := Ideal)) (val_main_v25 (F := Ideal)) n) ⟨o + p.val, by omega⟩) := by
  have ht : tc p.val = tc (o + p.val) := by
    have e1 : (o + p.val) % 64 = p.val % 64 := by omega
    have e2 : (o + p.val) % 16 = p.val % 16 := by omega
    refine Fin.ext ?_
    show (if p.val % 64 < 32 then p.val % 16 else 16 + p.val % 16) = if (o + p.val) % 64 < 32 then (o + p.val) % 16 else 16 + (o + p.val) % 16
    rw [e1, e2]
  have hC : @Eq EReal (val_main_v27 (F := Ideal) (ix2 n (tc p.val))) (Ideal.cos (angle (val_main_v19 (F := Ideal)) (val_main_v25 (F := Ideal)) n ⟨o + p.val, by omega⟩)) := by
    rw [ht]
    exact congrArg Ideal.cos (angle_eq n ⟨o + p.val, by omega⟩)
  have hS : @Eq EReal (val_main_v28 (F := Ideal) (ix2 n (tc p.val))) (Ideal.sin (angle (val_main_v19 (F := Ideal)) (val_main_v25 (F := Ideal)) n ⟨o + p.val, by omega⟩)) := by
    rw [ht]
    exact congrArg Ideal.sin (angle_eq n ⟨o + p.val, by omega⟩)
  unfold rope
  by_cases h : p.val % 32 < 16
  · rw [if_pos (show (o + p.val) % 32 < 16 by omega), turn_first hN X _ _ h0 a0 a1 d0 d1 h2 c16 c32 hc b n p ⟨p.val + 16, by omega⟩ h rfl, hC, hS, hX, hX]
    refine congrArg (fun q => x ⟨o + p.val, by omega⟩ * _ - x q * _) (Fin.ext ?_)
    exact (if_pos (show (o + p.val) % 32 < 16 by omega)).symm
  · rw [if_neg (show ¬(o + p.val) % 32 < 16 by omega), turn_second hN X _ _ h0 a0 a1 d0 d1 h2 c16 c32 hc b n p ⟨p.val - 16, by omega⟩ h rfl, hC, hS, hX, hX]
    refine congrArg (fun q => x q * _ + x ⟨o + p.val, by omega⟩ * _) (Fin.ext ?_)
    exact (show o + (p.val - 16) = o + p.val - 16 by omega).trans (if_neg (show ¬(o + p.val) % 32 < 16 by omega)).symm

end Cert.Proj

end
-- ==== Proof.ProjRefRow.lean ====
/- The reference projection's six arrays. -/
module

public import proofs.«01_k».proof.Proof.ProjRef

@[expose] public section

set_option backward.proofsInPublic true

noncomputable section

open scoped BigOperators

namespace Cert.Proj

open Idealize.ShloMosaic Idealize.ShloMosaic.ValueIdx Cert.InProjReferenceIdeal Cert.InProjReferenceIdeal.Gen Cert.InProjReferenceIdeal.Read

variable (x0 : FVec Ideal S32x2048x1024 .f32) (x1 : FVec Ideal S32x6x1024 .f32) (x2 : FVec Ideal S4x1024 .f32) (x3 : FVec Ideal S1024x1792 .f32)
  (b : Fin 32) (n : Fin 2048)

/-! ## The projection -/

theorem shift_row (e : Fin 1024) : val_main_v29 (F := Ideal) x1 (ix3 b 0 e) = x1 (ix3 b 0 e) := by
  rw [val_main_v29_apply]
  exact congrArg x1 (funext fun a => Fin.ext (by match a with | ⟨0, _⟩ => rfl | ⟨1, _⟩ => rfl | ⟨2, _⟩ => rfl))
theorem scale_row (e : Fin 1024) : val_main_v30 (F := Ideal) x1 (ix3 b 0 e) = x1 (ix3 b 1 e) := by
  rw [val_main_v30_apply]
  exact congrArg x1 (funext fun a => Fin.ext (by match a with | ⟨0, _⟩ => rfl | ⟨1, _⟩ => rfl | ⟨2, _⟩ => rfl))
theorem gain_row (e : Fin 1024) : val_main_v36 (F := Ideal) x2 (ix1 e) = x2 (ix2 0 e) := by
  rw [val_main_v36_apply, val_main_v35_apply]
  exact congrArg x2 (funext fun a => Fin.ext (by match a with | ⟨0, _⟩ => rfl | ⟨1, _⟩ => show e.val % 1024 = e.val; omega))

/-- The normed and modulated row. -/
theorem in_row (e : Fin 1024) : @Eq EReal (val_main_v55 (F := Ideal) x0 x1 x2 (ix3 b n e))
    (Block.modulated (fun e => x0 (ix3 b n e)) (fun e => x2 (ix2 0 e)) (fun e => x1 (ix3 b 1 e)) (fun e => x1 (ix3 b 0 e)) e) := by
  rw [val_main_v55_apply, val_main_v53_apply]
  unfold Block.modulated
  refine congrArg₂ (· + ·) (congrArg₂ (· * ·) ?_ ?_) ((Block.bc_mod _ b n e).trans (shift_row x1 b e))
  · refine (Block.normArr_apply x0 (val_main_v36 (F := Ideal) x2) b n e).trans ?_
    rw [funext (gain_row x2)]
  · refine (Block.bc_mod _ b n e).trans ?_
    rw [val_main_v51_apply, val_main_v50_apply, scale_row]
    rfl

theorem proj_row (p : Fin 1792) : @Eq EReal (val_main_v56 (F := Ideal) x0 x1 x2 x3 (ix3 b n p)) (px x0 x1 x2 x3 b n p) := by
  rw [val_main_v56_apply]
  unfold px proj
  refine Finset.sum_congr rfl fun k _ => congrArg₂ (· * ·) ?_ (congrArg x3 (funext fun a => by match a with | ⟨0, _⟩ => rfl | ⟨1, _⟩ => rfl))
  refine Eq.trans (congrArg (val_main_v55 (F := Ideal) x0 x1 x2) ?_) (in_row x0 x1 x2 b n k)
  exact funext fun a => by match a with | ⟨0, _⟩ => rfl | ⟨1, _⟩ => rfl | ⟨2, _⟩ => rfl

/-- Some columns of the projection. -/
theorem cut_row {N : ℕ} (o : ℕ) (h : S32x2048x1792.Slices ![0, 0, o] (Flat N)) (l : Fin N) (ho : o + l.val < 1792) :
    @Eq EReal (extractStridedSlice (Flat N) ![0, 0, o] (val_main_v56 (F := Ideal) x0 x1 x2 x3) h (ix3 b n l)) (px x0 x1 x2 x3 b n ⟨o + l.val, ho⟩) :=
  (extractStridedSlice_apply _ _ _ (ix3 b n l) (ix3 b n ⟨o + l.val, ho⟩)
    (by intro d; match d with | ⟨0, _⟩ => exact (Nat.zero_add _).symm | ⟨1, _⟩ => exact (Nat.zero_add _).symm | ⟨2, _⟩ => rfl)).trans (proj_row x0 x1 x2 x3 b n _)

/-! ## The rotations -/

theorem q_turn : val_main_v108 (F := Ideal) x0 x1 x2 x3 = turn (K := 8) (N := 512) (val_main_v57 (F := Ideal) x0 x1 x2 x3) (val_main_v27 (F := Ideal)) (val_main_v28 (F := Ideal))
    shapeCasts_S32x2048x512_S32x2048x8x64 slices_S32x2048x8x64_S32x2048x8x32_0_0_0_0 slices_S32x2048x8x64_S32x2048x8x32_0_0_0_32 slices_S32x2048x8x32_S32x2048x8x16_0_0_0_0
    slices_S32x2048x8x32_S32x2048x8x16_0_0_0_16 bcast_S1x2048x1x16_S32x2048x8x16_0_1_2_3 concatenates_S32x2048x8x16_S32x2048x8x16_S32x2048x8x32_d3
    concatenates_S32x2048x8x32_S32x2048x8x32_S32x2048x8x64_d3 shapeCasts_S32x2048x8x64_S32x2048x512 := rfl

theorem k_turn : val_main_v153 (F := Ideal) x0 x1 x2 x3 = turn (K := 2) (N := 128) (val_main_v58 (F := Ideal) x0 x1 x2 x3) (val_main_v27 (F := Ideal)) (val_main_v28 (F := Ideal))
    shapeCasts_S32x2048x128_S32x2048x2x64 slices_S32x2048x2x64_S32x2048x2x32_0_0_0_0 slices_S32x2048x2x64_S32x2048x2x32_0_0_0_32 slices_S32x2048x2x32_S32x2048x2x16_0_0_0_0
    slices_S32x2048x2x32_S32x2048x2x16_0_0_0_16 bcast_S1x2048x1x16_S32x2048x2x16_0_1_2_3 concatenates_S32x2048x2x16_S32x2048x2x16_S32x2048x2x32_d3
    concatenates_S32x2048x2x32_S32x2048x2x32_S32x2048x2x64_d3 shapeCasts_S32x2048x2x64_S32x2048x128 := rfl

theorem q_row (p : Fin 512) : @Eq EReal (val_main_v108 (F := Ideal) x0 x1 x2 x3 (ix3 b n p))
    (rx x0 x1 x2 x3 (val_main_v19 (F := Ideal)) (val_main_v25 (F := Ideal)) b n ⟨p.val, by omega⟩) := by
  rw [q_turn]
  refine (turn_eq (K := 8) (N := 512) rfl 0 rfl (by omega) _ (fun p => px x0 x1 x2 x3 b n ⟨p.val, by omega⟩) b n (fun p => ?_) _ _ _ _ _ _ _ _ _ p).trans ?_
  · exact cut_row x0 x1 x2 x3 b n 0 slices_S32x2048x1792_S32x2048x512_0_0_0 p (by omega)
  · unfold rx
    exact congrArg _ (Fin.ext (Nat.zero_add _))

theorem k_row (p : Fin 128) : @Eq EReal (val_main_v153 (F := Ideal) x0 x1 x2 x3 (ix3 b n p))
    (rx x0 x1 x2 x3 (val_main_v19 (F := Ideal)) (val_main_v25 (F := Ideal)) b n ⟨512 + p.val, by omega⟩) := by
  rw [k_turn]
  exact turn_eq (K := 2) (N := 128) rfl 512 rfl (by omega) _ (fun p => px x0 x1 x2 x3 b n ⟨p.val, by omega⟩) b n
    (fun p => cut_row x0 x1 x2 x3 b n 512 slices_S32x2048x1792_S32x2048x128_0_0_512 p (by omega)) _ _ _ _ _ _ _ _ _ p

/-! ## The six arrays -/

theorem ref_q : val_main_v156 (F := Ideal) x0 x1 x2 x3 = Gq x0 x1 x2 x3 (val_main_v19 (F := Ideal)) (val_main_v25 (F := Ideal)) := by
  funext i
  obtain ⟨b, n, p, rfl⟩ : ∃ (b : Fin 32) (n : Fin 2048) (p : Fin 512), i = ix3 b n p := ⟨_, _, _, eq_ix3 _⟩
  rw [val_main_v156_apply, val_main_v155_apply, val_main_v154_apply]
  exact congrArg (· * eighth) (q_row x0 x1 x2 x3 b n p)

theorem ref_k : val_main_v157 (F := Ideal) x0 x1 x2 x3 = Gk x0 x1 x2 x3 (val_main_v19 (F := Ideal)) (val_main_v25 (F := Ideal)) := by
  funext i
  obtain ⟨b, n, p, rfl⟩ : ∃ (b : Fin 32) (n : Fin 2048) (p : Fin 128), i = ix3 b n p := ⟨_, _, _, eq_ix3 _⟩
  rw [val_main_v157_apply]
  exact k_row x0 x1 x2 x3 b n p

theorem ref_v : val_main_v158 (F := Ideal) x0 x1 x2 x3 = Gv x0 x1 x2 x3 := by
  funext i
  obtain ⟨b, n, p, rfl⟩ : ∃ (b : Fin 32) (n : Fin 2048) (p : Fin 128), i = ix3 b n p := ⟨_, _, _, eq_ix3 _⟩
  rw [val_main_v158_apply]
  exact cut_row x0 x1 x2 x3 b n 640 slices_S32x2048x1792_S32x2048x128_0_0_640 p (by omega)

theorem ref_c : val_main_v60 (F := Ideal) x0 x1 x2 x3 = Gc x0 x1 x2 x3 := by
  funext i
  obtain ⟨b, n, p, rfl⟩ : ∃ (b : Fin 32) (n : Fin 2048) (p : Fin 256), i = ix3 b n p := ⟨_, _, _, eq_ix3 _⟩
  exact cut_row x0 x1 x2 x3 b n 768 slices_S32x2048x1792_S32x2048x256_0_0_768 p (by omega)

theorem ref_z : val_main_v159 (F := Ideal) x0 x1 x2 x3 = Gz x0 x1 x2 x3 := by
  funext i
  obtain ⟨b, n, p, rfl⟩ : ∃ (b : Fin 32) (n : Fin 2048) (p : Fin 256), i = ix3 b n p := ⟨_, _, _, eq_ix3 _⟩
  rw [val_main_v159_apply]
  exact congrArg₂ (fun x y : EReal => x * y) (cut_row x0 x1 x2 x3 b n 1024 slices_S32x2048x1792_S32x2048x256_0_0_1024 p (by omega))
    (cut_row x0 x1 x2 x3 b n 1280 slices_S32x2048x1792_S32x2048x256_0_0_1280 p (by omega))

theorem ref_u : val_main_v63 (F := Ideal) x0 x1 x2 x3 = Gu x0 x1 x2 x3 := by
  funext i
  obtain ⟨b, n, p, rfl⟩ : ∃ (b : Fin 32) (n : Fin 2048) (p : Fin 256), i = ix3 b n p := ⟨_, _, _, eq_ix3 _⟩
  exact cut_row x0 x1 x2 x3 b n 1536 slices_S32x2048x1792_S32x2048x256_0_0_1536 p (by omega)

end Cert.Proj

end
-- ==== Proof.ProjClaim.lean ====
/- The input projection's value claim: the kernel and the reference leave the same six arrays. -/
module

public import proofs.«01_k».proof.Defs
public import proofs.«01_k».proof.Proof.Gen.InProjReferenceIdeal.Run
public import proofs.«01_k».proof.Proof.ProjArray
public import proofs.«01_k».proof.Proof.ProjRefRow

@[expose] public section

noncomputable section

namespace Cert.Proj

open Idealize.ShloMosaic Idealize.ShloMosaic.ValueIdx Idealize.SL.Sem

/-- The value claim. -/
theorem algebraic :
    haveI := Cert.InProjIdeal.Gen.facts
    haveI := Cert.InProjReferenceIdeal.Gen.facts
    Cert.algebraic_InProjIdeal_InProjReferenceIdeal := by
  intro m ρ m' ρ' _ hargs
  refine ⟨fun c => KQ m c, fun c => KK m c, fun c => KV m c, fun c => KC m c, fun c => KZ m c, fun c => KU m c, ?_, ?_⟩
  · refine (θ_run _ _ _).mono (fun r h c => ?_) (Cert.InProjIdeal.Value.run_blocks m ρ)
    obtain ⟨hq, hk, hv, hc, hz, hu, rest⟩ := h c
    exact ⟨hq.trans (final_q m c), hk.trans (final_k m c), hv.trans (final_v m c), hc.trans (final_c m c), hz.trans (final_z m c), hu.trans (final_u m c), rest⟩
  · refine (θ_run _ _ _).mono (fun r h c => ?_) (Cert.InProjReferenceIdeal.Value.run m' ρ')
    obtain ⟨a0, a1, a2, a3⟩ := hargs c
    obtain ⟨hq, hk, hv, hc, hz, hu, rest⟩ := h c
    refine ⟨hq.trans ?_, hk.trans ?_, hv.trans ?_, hc.trans ?_, hz.trans ?_, hu.trans ?_, rest⟩
    · rw [Cert.InProjReferenceIdeal.Read.val_main_v156_eq, ref_q]
      exact six_congr (fun x0 x1 x2 x3 => Gq x0 x1 x2 x3 rowAngles colAngles) a0 a1 a2 a3
    · rw [Cert.InProjReferenceIdeal.Read.val_main_v157_eq, ref_k]
      exact six_congr (fun x0 x1 x2 x3 => Gk x0 x1 x2 x3 rowAngles colAngles) a0 a1 a2 a3
    · refine (Cert.InProjReferenceIdeal.Read.val_main_v158_eq _ _ _ _).trans ((ref_v _ _ _ _).trans ?_)
      exact six_congr Gv a0 a1 a2 a3
    · refine (Cert.InProjReferenceIdeal.Read.val_main_v60_eq _ _ _ _).trans ((ref_c _ _ _ _).trans ?_)
      exact six_congr Gc a0 a1 a2 a3
    · refine (Cert.InProjReferenceIdeal.Read.val_main_v159_eq _ _ _ _).trans ((ref_z _ _ _ _).trans ?_)
      exact six_congr Gz a0 a1 a2 a3
    · refine (Cert.InProjReferenceIdeal.Read.val_main_v63_eq _ _ _ _).trans ((ref_u _ _ _ _).trans ?_)
      exact six_congr Gu a0 a1 a2 a3

end Cert.Proj

end
-- ==== Proof.ProjCtxBody.lean ====
/- The context's input projection kernel's stored values at an index. -/
module

public import proofs.«01_k».proof.Proof.Gen.InProjCtxIdeal.Skeleton
public import proofs.«01_k».proof.Proof.ProjTile

@[expose] public section

set_option backward.proofsInPublic true

noncomputable section

open scoped BigOperators

namespace Cert.CtxProj

open Cert.Proj Idealize.ShloMosaic Idealize.ShloMosaic.WordCmp Idealize.ShloMosaic.ValueIdx Cert.InProjCtxIdeal Cert.InProjCtxIdeal.Gen

/-- The projected block. -/
theorem pay6_apply (v0 : FVec Ideal S1x6x1024 .f32) (v2 : FVec Ideal S1x256x1024 .f32) (v4 : FVec Ideal S1x1024 .f32) (v26 : FVec Ideal S1024x1792 .bf16)
    (r : Fin 256) (p : Fin 1792) :
    @Eq EReal (k0_pay6 (F := Ideal) v0 v2 v4 v26 (ix2 r p)) (proj (fun e => v2 (ix3 0 r e)) (fun e => v4 (ix2 0 e)) (fun e => v0 (ix3 0 1 e)) (fun e => v0 (ix3 0 0 e))
      (fun k p => v26 (ix2 k p)) p) :=
  rowsProj_apply v0 v2 v4 v26 shapeCasts_S1x256x1024_S256x1024 reduces_S256x1024_S256 shapeCasts_S256_S256x1 broadcasts_S256x1_S256x1024 broadcasts_S1x1024_S256x1024 r p

section

variable (x : FVec Ideal S256x1792 .f32) (c s : FVec Ideal S256x128 .f32) (r : Fin 256)

theorem pay12_apply (v0 : FVec Ideal S1x6x1024 .f32) (v2 : FVec Ideal S1x256x1024 .f32) (v4 : FVec Ideal S1x1024 .f32) (v26 : FVec Ideal S1024x1792 .bf16) (l : Fin 128) :
    @Eq EReal (k0_pay12 (F := Ideal) (k0_pay8 v0 v2 v4 v26) (k0_pay9 v0 v2 v4 v26) (k0_pay10 v0 v2 v4 v26) k0_pay11 c s (ix3 0 r l))
      (turned (k0_pay6 v0 v2 v4 v26) c s r 0 (by omega) l) :=
  (Block.lead_at _ shapeCasts_S256x128_S1x256x128 r l).trans (tile_cut broadcasts_S1x128_S256x128 shapeCasts_S256x128_S256x128 rotates_S256x128_d1 (k0_pay6 v0 v2 v4 v26) c s r 0 (by omega) slices_S256x1792_o0_0_S256x128 l)

theorem pay13_apply (l : Fin 128) : @Eq EReal (k0_pay13 (F := Ideal) x k0_pay7 c s (ix3 0 r l)) (turned x c s r 128 (by omega) l) :=
  (Block.lead_at _ shapeCasts_S256x128_S1x256x128 r l).trans (tile_cut broadcasts_S1x128_S256x128 shapeCasts_S256x128_S256x128 rotates_S256x128_d1 x c s r 128 (by omega) slices_S256x1792_o0_128_S256x128 l)

theorem pay17_apply (l : Fin 128) : @Eq EReal (k0_pay17 (F := Ideal) (k0_pay15 x k0_pay7) (k0_pay16 x c) s (ix3 0 r l)) (turned x c s r 256 (by omega) l) :=
  (Block.lead_at _ shapeCasts_S256x128_S1x256x128 r l).trans (tile_cut broadcasts_S1x128_S256x128 shapeCasts_S256x128_S256x128 rotates_S256x128_d1 x c s r 256 (by omega) slices_S256x1792_o0_256_S256x128 l)

theorem pay18_apply (l : Fin 128) : @Eq EReal (k0_pay18 (F := Ideal) x k0_pay7 c s (ix3 0 r l)) (turned x c s r 384 (by omega) l) :=
  (Block.lead_at _ shapeCasts_S256x128_S1x256x128 r l).trans (tile_cut broadcasts_S1x128_S256x128 shapeCasts_S256x128_S256x128 rotates_S256x128_d1 x c s r 384 (by omega) slices_S256x1792_o0_384_S256x128 l)

theorem pay1_apply (l : Fin 128) : @Eq EReal (k0_pay1 (F := Ideal) (k0_pay19 x k0_pay7 c s) (ix3 0 r l)) (turned x c s r 512 (by omega) l) :=
  (Block.lead_at _ shapeCasts_S256x128_S1x256x128 r l).trans (tile_cut broadcasts_S1x128_S256x128 shapeCasts_S256x128_S256x128 rotates_S256x128_d1 x c s r 512 (by omega) slices_S256x1792_o0_512_S256x128 l)

theorem pay2_apply (l : Fin 128) : @Eq EReal (k0_pay2 (F := Ideal) x (ix3 0 r l)) (x (ix2 r ⟨640 + l.val, by omega⟩)) :=
  (Block.lead_at _ shapeCasts_S256x128_S1x256x128 r l).trans (cut_cols x 640 (by omega) slices_S256x1792_o0_640_S256x128 r l)

theorem pay3_apply (l : Fin 256) : @Eq EReal (k0_pay3 (F := Ideal) x (ix3 0 r l)) (x (ix2 r ⟨768 + l.val, by omega⟩)) :=
  (Block.lead_at _ shapeCasts_S256x256_S1x256x256 r l).trans (cut_cols x 768 (by omega) slices_S256x1792_o0_768_S256x256 r l)

theorem pay4_apply (l : Fin 256) : @Eq EReal (k0_pay4 (F := Ideal) x (ix3 0 r l)) (@HMul.hMul EReal EReal EReal _ (x (ix2 r ⟨1024 + l.val, by omega⟩)) (x (ix2 r ⟨1280 + l.val, by omega⟩))) :=
  (Block.lead_at (mulf (extractStridedSlice S256x256 ![0, 1024] x slices_S256x1792_o0_1024_S256x256) (extractStridedSlice S256x256 ![0, 1280] x slices_S256x1792_o0_1280_S256x256)) shapeCasts_S256x256_S1x256x256 r l).trans
    (congrArg₂ (fun a b : EReal => a * b) (cut_cols x 1024 (by omega) slices_S256x1792_o0_1024_S256x256 r l)
    (cut_cols x 1280 (by omega) slices_S256x1792_o0_1280_S256x256 r l))

theorem pay5_apply (l : Fin 256) : @Eq EReal (k0_pay5 (F := Ideal) x (ix3 0 r l)) (x (ix2 r ⟨1536 + l.val, by omega⟩)) :=
  (Block.lead_at _ shapeCasts_S256x256_S1x256x256 r l).trans (cut_cols x 1536 (by omega) slices_S256x1792_o0_1536_S256x256 r l)

end

end Cert.CtxProj

end
-- ==== Proof.ProjCtxBlock.lean ====
/- The context's input projection kernel's six stored blocks at an index: projected and rotated columns of its input blocks' rows. -/
module

public import proofs.«01_k».proof.Proof.Gen.InProjCtxIdeal.Value
public import proofs.«01_k».proof.Proof.ProjCtxBody
public import proofs.«01_k».proof.Proof.ProjRows

@[expose] public section

set_option backward.proofsInPublic true

noncomputable section

open scoped BigOperators

namespace Cert.CtxProj

open Cert.Proj Idealize.ShloMosaic Idealize.ShloMosaic.ValueIdx Cert.InProjCtxIdeal Cert.InProjCtxIdeal.Gen

section

variable (x0 : FVec Ideal S1x256x1024 .f32) (x1 : FVec Ideal S1x6x1024 .f32) (x2 : FVec Ideal S4x1024 .f32) (x3 : FVec Ideal S1024x1792 .bf16)
  (x4 x5 : FVec Ideal S256x640 .f32) (r : Fin 256)

theorem pay20_apply (p : Fin 1792) : @Eq EReal (k0_pay20 (F := Ideal) x0 x1 x2 x3 x4 x5 (ix2 r p)) (bx x0 x1 x2 x3 r p) := by
  unfold k0_pay20
  rw [show View.ld (Val := Elt Ideal) (e' := .f32) x1 r0_0 = x1 from Block.ld_whole _ _ Block.zero3 _,
    show View.ld (Val := Elt Ideal) (e' := .f32) x0 r0_1 = x0 from Block.ld_whole _ _ Block.zero3 _,
    show View.ld (Val := Elt Ideal) (e' := .bf16) x3 r0_3 = x3 from Block.ld_whole _ _ Block.zero2 _]
  rw [pay6_apply, funext (fun e => show View.ld (Val := Elt Ideal) (e' := .f32) x2 r0_2 (ix2 0 e) = x2 (ix2 0 e) from Block.ld_g x2 0 _ e)]
  rfl

theorem out6_apply (l : Fin 512) : @Eq EReal (out0_6 (F := Ideal) x0 x1 x2 x3 x4 x5 (ix3 0 r l)) (bt x0 x1 x2 x3 x4 x5 r ⟨l.val, by omega⟩) := by
  unfold out0_6
  refine View.canon_apply_of_pieces (Val := Elt Ideal) (qBlock x0 x1 x2 x3 x4 x5) _ ?_ (ix3 0 r l) (cover0_6 _ _ _ _ _)
  intro pc hpc
  rcases List.mem_cons.mp hpc with rfl | hpc
  · exact fun x => piece x0 x1 x2 x3 x4 x5 _ 384 (by omega) inb_S1x256x512_S1x256x128_0_0_384
      (fun r l => (pay18_apply _ _ _ r l).trans (turned_eq x0 x1 x2 x3 x4 x5 r _ (pay20_apply x0 x1 x2 x3 x4 x5 r) 384 (by omega) rfl inb_S256x640_S256x128_0_384 l)) x
  rcases List.mem_cons.mp hpc with rfl | hpc
  · exact fun x => piece x0 x1 x2 x3 x4 x5 _ 256 (by omega) inb_S1x256x512_S1x256x128_0_0_256
      (fun r l => (pay17_apply _ _ _ r l).trans (turned_eq x0 x1 x2 x3 x4 x5 r _ (pay20_apply x0 x1 x2 x3 x4 x5 r) 256 (by omega) rfl inb_S256x640_S256x128_0_256 l)) x
  rcases List.mem_cons.mp hpc with rfl | hpc
  · exact fun x => piece x0 x1 x2 x3 x4 x5 _ 128 (by omega) inb_S1x256x512_S1x256x128_0_0_128
      (fun r l => (pay13_apply _ _ _ r l).trans (turned_eq x0 x1 x2 x3 x4 x5 r _ (pay20_apply x0 x1 x2 x3 x4 x5 r) 128 (by omega) rfl inb_S256x640_S256x128_0_128 l)) x
  rcases List.mem_cons.mp hpc with rfl | hpc
  · exact fun x => piece x0 x1 x2 x3 x4 x5 _ 0 (by omega) inb_S1x256x512_S1x256x128_0_0_0
      (fun r l => (pay12_apply _ _ r _ _ _ _ l).trans (turned_eq x0 x1 x2 x3 x4 x5 r _ (pay20_apply x0 x1 x2 x3 x4 x5 r) 0 (by omega) rfl inb_S256x640_S256x128_0_0 l)) x
  nomatch hpc

theorem out7_apply (l : Fin 128) : @Eq EReal (out0_7 (F := Ideal) x0 x1 x2 x3 x4 x5 (ix3 0 r l)) (bt x0 x1 x2 x3 x4 x5 r ⟨512 + l.val, by omega⟩) := by
  unfold out0_7
  rw [View.canon_unit_zero Block.zero3]
  exact (pay1_apply _ _ _ r l).trans (turned_eq x0 x1 x2 x3 x4 x5 r _ (pay20_apply x0 x1 x2 x3 x4 x5 r) 512 (by omega) rfl inb_S256x640_S256x128_0_512 l)

theorem out8_apply (l : Fin 128) : @Eq EReal (out0_8 (F := Ideal) x0 x1 x2 x3 x4 x5 (ix3 0 r l)) (bx x0 x1 x2 x3 r ⟨640 + l.val, by omega⟩) := by
  unfold out0_8
  rw [View.canon_unit_zero Block.zero3]
  exact (pay2_apply _ r l).trans (pay20_apply x0 x1 x2 x3 x4 x5 r _)

theorem out9_apply (l : Fin 256) : @Eq EReal (out0_9 (F := Ideal) x0 x1 x2 x3 x4 x5 (ix3 0 r l)) (bx x0 x1 x2 x3 r ⟨768 + l.val, by omega⟩) := by
  unfold out0_9
  rw [View.canon_unit_zero Block.zero3]
  exact (pay3_apply _ r l).trans (pay20_apply x0 x1 x2 x3 x4 x5 r _)

theorem out10_apply (l : Fin 256) : @Eq EReal (out0_10 (F := Ideal) x0 x1 x2 x3 x4 x5 (ix3 0 r l))
    (bx x0 x1 x2 x3 r ⟨1024 + l.val, by omega⟩ * bx x0 x1 x2 x3 r ⟨1280 + l.val, by omega⟩) := by
  unfold out0_10
  rw [View.canon_unit_zero Block.zero3]
  exact (pay4_apply _ r l).trans (congrArg₂ (· * ·) (pay20_apply x0 x1 x2 x3 x4 x5 r _) (pay20_apply x0 x1 x2 x3 x4 x5 r _))

theorem out11_apply (l : Fin 256) : @Eq EReal (out0_11 (F := Ideal) x0 x1 x2 x3 x4 x5 (ix3 0 r l)) (bx x0 x1 x2 x3 r ⟨1536 + l.val, by omega⟩) := by
  unfold out0_11
  rw [View.canon_unit_zero Block.zero3]
  exact (pay5_apply _ r l).trans (pay20_apply x0 x1 x2 x3 x4 x5 r _)

end

end Cert.CtxProj

end
-- ==== Proof.ProjCtxWindow.lean ====
/- Where the blocks of the context's input projection kernel lie, and its tables. -/
module

public import proofs.«01_k».proof.Proof.ProjCtxBlock
public import proofs.«01_k».proof.Proof.ProjWindow
public import proofs.«01_k».proof.Proof.BlockRow

@[expose] public section

set_option backward.proofsInPublic true

noncomputable section

open scoped BigOperators

namespace Cert.CtxProj

open Idealize.ShloMosaic Idealize.ShloMosaic.ValueIdx Idealize.ShloMosaic.TcCoe Idealize.SL.Sem Cert.InProjCtxIdeal Cert.InProjCtxIdeal.Gen
  Cert.InProjCtxIdeal.Value
open Cert.Proj (scale scales scales_apply px Gv Gc Gz Gu Sq Sk bx bt)
open Cert.Block (modArr zero_eq)

variable (m : (ℓ : Loc nD τ sig) → Buf (Elt Ideal) ℓ) (ρ : Dev nD → PrngReg)

/-! ## The host's operations before the call -/

theorem V_weight (c : Dev nD) : V m c main_v55 = m ((c : Thread nD τ).loc main_arg3) := by
  show StableHlo.after hostOps0 _ (Proc.devRef .tc main_v55) = _
  after_results
  rfl

/-- The table that multiplies the row: the columns' scales, for every token. -/
theorem V_cos (c : Dev nD) (n : Fin 256) (p : Fin 640) : @Eq EReal (V m c main_v53 (ix2 n p)) (scale p) := by
  have h : V m c main_v53 = broadcastInDim S256x640 ![1] bcast_S640_S256x640_1 scales := by
    show StableHlo.after hostOps0 _ (Proc.devRef .tc main_v53) = _
    after_results
    rfl
  exact (congrFun h _).trans ((broadcastInDim_apply _ _ _ (ix2 n p) (ix1 p) (by intro a; match a with | ⟨0, _⟩ => rfl)).trans (scales_apply p))

/-- The table that multiplies the turned row: zeros. -/
theorem V_sin (c : Dev nD) (n : Fin 256) (p : Fin 640) : @Eq EReal (V m c main_v54 (ix2 n p)) 0 := by
  have h : V m c main_v54 = broadcastInDim S256x640 ![] bcast_S_S256x640 (constant S_ .f32 0x00000000#32 : FVec Ideal S_ .f32) := by
    show StableHlo.after hostOps0 _ (Proc.devRef .tc main_v54) = _
    after_results
  exact (congrFun h _).trans zero_eq

/-- The modulation, reshaped to six rows and copied to every sequence. -/
theorem V_mods (c : Dev nD) (b : Fin 32) (k : Fin 6) (e : Fin 1024) :
    @Eq EReal (V m c main_v1 (ix3 b k e)) (modArr (m ((c : Thread nD τ).loc main_arg1)) (ix3 b k e)) := by
  have h : V m c main_v1 = broadcastInDim S32x6x1024 ![0, 1, 2] bcast_S1x6x1024_S32x6x1024_0_1_2 (shapeCast S1x6x1024 (m ((c : Thread nD τ).loc main_arg1)) shapeCasts_S6144_S1x6x1024) := by
    show StableHlo.after hostOps0 _ (Proc.devRef .tc main_v1) = _
    after_results
    rfl
  exact (congrFun h _).trans (Block.modArr_at _ _ _ b k e)

/-! ## The windows -/

/-- The sequence of a grid point. -/
def bOf (t : Fin cfg0.N) : Fin 32 := ⟨t.val, t.isLt⟩

theorem idx0 (t : Fin cfg0.N) : win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0) t
theorem idx1 (t : Fin cfg0.N) : win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0) t
theorem idx2 (t : Fin cfg0.N) : win0_2.index t (0 : Fin 2) = 0 ∧ win0_2.index t (1 : Fin 2) = 0 :=
  (by decide +kernel : ∀ t : Fin grid0.N, win0_2.index t (0 : Fin 2) = 0 ∧ win0_2.index t (1 : Fin 2) = 0) t
theorem idx4 (t : Fin cfg0.N) : win0_4.index t (0 : Fin 2) = 0 ∧ win0_4.index t (1 : Fin 2) = 0 :=
  (by decide +kernel : ∀ t : Fin grid0.N, win0_4.index t (0 : Fin 2) = 0 ∧ win0_4.index t (1 : Fin 2) = 0) t

/-! The places of the blocks' entries. -/

theorem at_h (t : Fin cfg0.N) (r : Fin 256) (e : Fin 1024) :
    ((cfg0.win 0).blk t).view.emb (ix3 0 r e) = (ix3 (bOf t) r e : S32x256x1024.Idx) := by
  obtain ⟨e0, e1, e2⟩ := idx0 t
  refine funext fun a => Fin.ext ?_
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 1024 + 1 * e.val = e.val; omega

theorem at_mods (t : Fin cfg0.N) (k : Fin 6) (e : Fin 1024) : ((cfg0.win 1).blk t).view.emb (ix3 0 k e) = (ix3 (bOf t) k e : S32x6x1024.Idx) := by
  obtain ⟨e0, e1, e2⟩ := idx1 t
  refine funext fun a => Fin.ext ?_
  match a with
  | ⟨0, _⟩ => show win0_1.index t (0 : Fin 3) * 1 + 1 * 0 = t.val; omega
  | ⟨1, _⟩ => show win0_1.index t (1 : Fin 3) * 6 + 1 * k.val = k.val; omega
  | ⟨2, _⟩ => show win0_1.index t (2 : Fin 3) * 1024 + 1 * e.val = e.val; omega

theorem at_g (t : Fin cfg0.N) (k : Fin 4) (e : Fin 1024) : ((cfg0.win 2).blk t).view.emb (ix2 k e) = (ix2 k e : S4x1024.Idx) := by
  obtain ⟨e0, e1⟩ := idx2 t
  refine funext fun a => Fin.ext ?_
  match a with
  | ⟨0, _⟩ => show win0_2.index t (0 : Fin 2) * 4 + 1 * k.val = k.val; omega
  | ⟨1, _⟩ => show win0_2.index t (1 : Fin 2) * 1024 + 1 * e.val = e.val; omega

theorem at_w (t : Fin cfg0.N) (k : Fin 1024) (p : Fin 1792) : ((cfg0.win 3).blk t).view.emb (ix2 k p) = (ix2 k p : S1024x1792.Idx) := by
  obtain ⟨e0, e1⟩ := idx2 t
  refine funext fun a => Fin.ext ?_
  match a with
  | ⟨0, _⟩ => show win0_2.index t (0 : Fin 2) * 1024 + 1 * k.val = k.val; omega
  | ⟨1, _⟩ => show win0_2.index t (1 : Fin 2) * 1792 + 1 * p.val = p.val; omega

theorem at_table (t : Fin cfg0.N) (r : Fin 256) (p : Fin 640) : ((cfg0.win 4).blk t).view.emb (ix2 r p) = (ix2 r p : S256x640.Idx) := by
  obtain ⟨e0, e1⟩ := idx4 t
  refine funext fun a => Fin.ext ?_
  match a with
  | ⟨0, _⟩ => show win0_4.index t (0 : Fin 2) * 256 + 1 * r.val = r.val; omega
  | ⟨1, _⟩ => show win0_4.index t (1 : Fin 2) * 640 + 1 * p.val = p.val; omega

theorem at_512 (t : Fin cfg0.N) (r : Fin 256) (l : Fin 512) :
    ((cfg0.win 6).blk t).view.emb (ix3 0 r l) = (ix3 (bOf t) r l : S32x256x512.Idx) := by
  obtain ⟨e0, e1, e2⟩ := idx0 t
  refine funext fun a => Fin.ext ?_
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 512 + 1 * l.val = l.val; omega

theorem at_128 (t : Fin cfg0.N) (r : Fin 256) (l : Fin 128) :
    ((cfg0.win 7).blk t).view.emb (ix3 0 r l) = (ix3 (bOf t) r l : S32x256x128.Idx) := by
  obtain ⟨e0, e1, e2⟩ := idx0 t
  refine funext fun a => Fin.ext ?_
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 128 + 1 * l.val = l.val; omega

theorem at_256 (t : Fin cfg0.N) (r : Fin 256) (l : Fin 256) :
    ((cfg0.win 9).blk t).view.emb (ix3 0 r l) = (ix3 (bOf t) r l : S32x256x256.Idx) := by
  obtain ⟨e0, e1, e2⟩ := idx0 t
  refine funext fun a => Fin.ext ?_
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 256 + 1 * l.val = l.val; omega

end Cert.CtxProj

end
-- ==== Proof.ProjCtxArray.lean ====
/- The context's input projection kernel's six result arrays as functions of the argument arrays. -/
module

public import proofs.«01_k».proof.Proof.ProjCtxWindow

@[expose] public section

set_option backward.proofsInPublic true

noncomputable section

open scoped BigOperators

namespace Cert.CtxProj

open Idealize.ShloMosaic Idealize.ShloMosaic.ValueIdx Idealize.ShloMosaic.TcCoe Idealize.SL.Sem Cert.InProjCtxIdeal Cert.InProjCtxIdeal.Gen
  Cert.InProjCtxIdeal.Value
open Cert.Proj (scale scales scales_apply px Gv Gc Gz Gu Sq Sk bx bt)
open Cert.Block (modArr zero_eq)

variable (m : (ℓ : Loc nD τ sig) → Buf (Elt Ideal) ℓ) (ρ : Dev nD → PrngReg)

/-- The gains' block is the whole array. -/
theorem gains_at (c : Dev nD) (t : Fin cfg0.N) (k : Fin 4) (e : Fin 1024) :
    @Eq EReal (iblk m c 2 t (ix2 k e)) (m ((c : Thread nD τ).loc main_arg2) (ix2 k e)) := by
  have h0 : @Eq EReal (iblk m c 2 t (ix2 k e)) (V m c main_arg2 (((cfg0.win 2).blk t).view.emb (ix2 k e))) := by
    unfold iblk
    rfl
  rw [h0, at_g, V_main_arg2 m c]

/-- The weights' block is the whole array. -/
theorem weights_at (c : Dev nD) (t : Fin cfg0.N) (k : Fin 1024) (p : Fin 1792) :
    @Eq EReal (iblk m c 3 t (ix2 k p)) (m ((c : Thread nD τ).loc main_arg3) (ix2 k p)) := by
  have h0 : @Eq EReal (iblk m c 3 t (ix2 k p)) (V m c main_v55 (((cfg0.win 3).blk t).view.emb (ix2 k p))) := by
    unfold iblk
    rfl
  rw [h0, at_w, V_weight m c]

/-- The tables' blocks are the whole tables. -/
theorem cos_at (c : Dev nD) (t : Fin cfg0.N) (r : Fin 256) (p : Fin 640) : @Eq EReal (iblk m c 4 t (ix2 r p)) (scale p) :=
  (congrArg (V m c main_v53) (at_table t r p)).trans (V_cos m c r p)

theorem sin_at (c : Dev nD) (t : Fin cfg0.N) (r : Fin 256) (p : Fin 640) : @Eq EReal (iblk m c 5 t (ix2 r p)) 0 :=
  (congrArg (V m c main_v54) (at_table t r p)).trans (V_sin m c r p)

/-- A block's projected row is the token's. -/
theorem bx_eq (c : Dev nD) (t : Fin cfg0.N) (r : Fin 256) (p : Fin 1792) :
    bx (iblk m c 0 t) (iblk m c 1 t) (iblk m c 2 t) (iblk m c 3 t) r p
      = px (m ((c : Thread nD τ).loc main_arg0)) (modArr (m ((c : Thread nD τ).loc main_arg1))) (m ((c : Thread nD τ).loc main_arg2)) (m ((c : Thread nD τ).loc main_arg3))
          (bOf t) r p := by
  have e0 : ∀ e : Fin 1024, @Eq EReal (iblk m c 0 t (ix3 0 r e)) (m ((c : Thread nD τ).loc main_arg0) (ix3 (bOf t) r e)) := fun e =>
    (congrArg (V m c main_arg0) (at_h t r e)).trans (congrFun (V_main_arg0 m c) _)
  have e1 : ∀ (k : Fin 6) (e : Fin 1024), @Eq EReal (iblk m c 1 t (ix3 0 k e)) (modArr (m ((c : Thread nD τ).loc main_arg1)) (ix3 (bOf t) k e)) := fun k e =>
    (congrArg (V m c main_v1) (at_mods t k e)).trans (V_mods m c (bOf t) k e)
  unfold bx px
  rw [funext e0, funext (e1 1), funext (e1 0), funext (gains_at m c t 0), funext fun k => funext (weights_at m c t k)]

/-- The columns that the tables multiply are the token's, scaled: the turned row is multiplied by zero. -/
theorem bt_eq (c : Dev nD) (t : Fin cfg0.N) (r : Fin 256) (p : Fin 640) :
    bt (iblk m c 0 t) (iblk m c 1 t) (iblk m c 2 t) (iblk m c 3 t) (iblk m c 4 t) (iblk m c 5 t) r p
      = px (m ((c : Thread nD τ).loc main_arg0)) (modArr (m ((c : Thread nD τ).loc main_arg1))) (m ((c : Thread nD τ).loc main_arg2)) (m ((c : Thread nD τ).loc main_arg3)) (bOf t) r ⟨p.val, by omega⟩ * scale p := by
  unfold bt
  rw [bx_eq, bx_eq, cos_at, sin_at, mul_zero, add_zero]

/-- The six arrays of the kernel's arguments. -/
abbrev KQ (c : Dev nD) : FVec Ideal S32x256x512 .bf16 :=
  Sq (m ((c : Thread nD τ).loc main_arg0)) (modArr (m ((c : Thread nD τ).loc main_arg1))) (m ((c : Thread nD τ).loc main_arg2)) (m ((c : Thread nD τ).loc main_arg3))
abbrev KK (c : Dev nD) : FVec Ideal S32x256x128 .bf16 :=
  Sk (m ((c : Thread nD τ).loc main_arg0)) (modArr (m ((c : Thread nD τ).loc main_arg1))) (m ((c : Thread nD τ).loc main_arg2)) (m ((c : Thread nD τ).loc main_arg3))
abbrev KV (c : Dev nD) : FVec Ideal S32x256x128 .bf16 :=
  Gv (m ((c : Thread nD τ).loc main_arg0)) (modArr (m ((c : Thread nD τ).loc main_arg1))) (m ((c : Thread nD τ).loc main_arg2)) (m ((c : Thread nD τ).loc main_arg3))
abbrev KC (c : Dev nD) : FVec Ideal S32x256x256 .f32 :=
  Gc (m ((c : Thread nD τ).loc main_arg0)) (modArr (m ((c : Thread nD τ).loc main_arg1))) (m ((c : Thread nD τ).loc main_arg2)) (m ((c : Thread nD τ).loc main_arg3))
abbrev KZ (c : Dev nD) : FVec Ideal S32x256x256 .f32 :=
  Gz (m ((c : Thread nD τ).loc main_arg0)) (modArr (m ((c : Thread nD τ).loc main_arg1))) (m ((c : Thread nD τ).loc main_arg2)) (m ((c : Thread nD τ).loc main_arg3))
abbrev KU (c : Dev nD) : FVec Ideal S32x256x256 .f32 :=
  Gu (m ((c : Thread nD τ).loc main_arg0)) (modArr (m ((c : Thread nD τ).loc main_arg1))) (m ((c : Thread nD τ).loc main_arg2)) (m ((c : Thread nD τ).loc main_arg3))

theorem flushed_q (c : Dev nD) (t : Fin cfg0.N) : (dats m 0 c).flushed 6 t = ((cfg0.win 6).blk t).view.read (Elt Ideal) (KQ m c) := by
  rw [flushed6]
  funext j
  obtain ⟨a, r, l, rfl⟩ : ∃ (a : Fin 1) (r : Fin 256) (l : Fin 512), j = ix3 a r l := ⟨_, _, _, eq_ix3 _⟩
  obtain rfl : a = 0 := Subsingleton.elim _ _
  show out0_6 (F := Ideal) (iblk m c 0 t) (iblk m c 1 t) (iblk m c 2 t) (iblk m c 3 t) (iblk m c 4 t) (iblk m c 5 t) (ix3 0 r l) = KQ m c (((cfg0.win 6).blk t).view.emb (ix3 0 r l))
  refine Eq.trans ?_ (congrArg (KQ m c) (at_512 t r l)).symm
  refine (out6_apply _ _ _ _ _ _ r l).trans ?_
  exact (bt_eq m c t r _).trans (congrArg (px (m ((c : Thread nD τ).loc main_arg0)) (modArr (m ((c : Thread nD τ).loc main_arg1))) (m ((c : Thread nD τ).loc main_arg2)) (m ((c : Thread nD τ).loc main_arg3)) (bOf t) r _ * ·) (if_pos l.isLt))

theorem final_q (c : Dev nD) : (dats m 0 c).arrAt 6 cfg0.N = KQ m c := by
  refine (dats m 0 c).arrAt_eq_of_cover 6 (KQ m c) (fun t _ => flushed_q m c t) fun i => ?_
  obtain ⟨b, n, l, rfl⟩ : ∃ (b : Fin 32) (n : Fin 256) (l : Fin 512), i = ix3 b n l := ⟨_, _, _, eq_ix3 _⟩
  refine ⟨b, flush0_6 _, ?_⟩
  have h := ((cfg0.win 6).blk b).view.emb_mem_set (ix3 0 n l)
  rwa [show ((cfg0.win 6).blk b).view.emb (ix3 0 n l) = ix3 b n l from (at_512 b n l).trans rfl] at h

theorem flushed_k (c : Dev nD) (t : Fin cfg0.N) : (dats m 0 c).flushed 7 t = ((cfg0.win 7).blk t).view.read (Elt Ideal) (KK m c) := by
  rw [flushed7]
  funext j
  obtain ⟨a, r, l, rfl⟩ : ∃ (a : Fin 1) (r : Fin 256) (l : Fin 128), j = ix3 a r l := ⟨_, _, _, eq_ix3 _⟩
  obtain rfl : a = 0 := Subsingleton.elim _ _
  show out0_7 (F := Ideal) (iblk m c 0 t) (iblk m c 1 t) (iblk m c 2 t) (iblk m c 3 t) (iblk m c 4 t) (iblk m c 5 t) (ix3 0 r l) = KK m c (((cfg0.win 7).blk t).view.emb (ix3 0 r l))
  refine Eq.trans ?_ (congrArg (KK m c) (at_128 t r l)).symm
  refine (out7_apply _ _ _ _ _ _ r l).trans ?_
  exact (bt_eq m c t r _).trans ((congrArg (px (m ((c : Thread nD τ).loc main_arg0)) (modArr (m ((c : Thread nD τ).loc main_arg1))) (m ((c : Thread nD τ).loc main_arg2)) (m ((c : Thread nD τ).loc main_arg3)) (bOf t) r _ * ·)
    ((if_neg (by show ¬512 + l.val < 512; omega)).trans Cert.Block.one_eq)).trans (mul_one _))

theorem final_k (c : Dev nD) : (dats m 0 c).arrAt 7 cfg0.N = KK m c := by
  refine (dats m 0 c).arrAt_eq_of_cover 7 (KK m c) (fun t _ => flushed_k m c t) fun i => ?_
  obtain ⟨b, n, l, rfl⟩ : ∃ (b : Fin 32) (n : Fin 256) (l : Fin 128), i = ix3 b n l := ⟨_, _, _, eq_ix3 _⟩
  refine ⟨b, flush0_7 _, ?_⟩
  have h := ((cfg0.win 7).blk b).view.emb_mem_set (ix3 0 n l)
  rwa [show ((cfg0.win 7).blk b).view.emb (ix3 0 n l) = ix3 b n l from (at_128 b n l).trans rfl] at h

theorem flushed_v (c : Dev nD) (t : Fin cfg0.N) : (dats m 0 c).flushed 8 t = ((cfg0.win 8).blk t).view.read (Elt Ideal) (KV m c) := by
  rw [flushed8]
  funext j
  obtain ⟨a, r, l, rfl⟩ : ∃ (a : Fin 1) (r : Fin 256) (l : Fin 128), j = ix3 a r l := ⟨_, _, _, eq_ix3 _⟩
  obtain rfl : a = 0 := Subsingleton.elim _ _
  show out0_8 (F := Ideal) (iblk m c 0 t) (iblk m c 1 t) (iblk m c 2 t) (iblk m c 3 t) (iblk m c 4 t) (iblk m c 5 t) (ix3 0 r l) = KV m c (((cfg0.win 8).blk t).view.emb (ix3 0 r l))
  refine Eq.trans ?_ (congrArg (KV m c) (at_128 t r l)).symm
  refine (out8_apply _ _ _ _ _ _ r l).trans ?_
  exact bx_eq m c t r _

theorem final_v (c : Dev nD) : (dats m 0 c).arrAt 8 cfg0.N = KV m c := by
  refine (dats m 0 c).arrAt_eq_of_cover 8 (KV m c) (fun t _ => flushed_v m c t) fun i => ?_
  obtain ⟨b, n, l, rfl⟩ : ∃ (b : Fin 32) (n : Fin 256) (l : Fin 128), i = ix3 b n l := ⟨_, _, _, eq_ix3 _⟩
  refine ⟨b, flush0_8 _, ?_⟩
  have h := ((cfg0.win 8).blk b).view.emb_mem_set (ix3 0 n l)
  rwa [show ((cfg0.win 8).blk b).view.emb (ix3 0 n l) = ix3 b n l from (at_128 b n l).trans rfl] at h

theorem flushed_c (c : Dev nD) (t : Fin cfg0.N) : (dats m 0 c).flushed 9 t = ((cfg0.win 9).blk t).view.read (Elt Ideal) (KC m c) := by
  rw [flushed9]
  funext j
  obtain ⟨a, r, l, rfl⟩ : ∃ (a : Fin 1) (r : Fin 256) (l : Fin 256), j = ix3 a r l := ⟨_, _, _, eq_ix3 _⟩
  obtain rfl : a = 0 := Subsingleton.elim _ _
  show out0_9 (F := Ideal) (iblk m c 0 t) (iblk m c 1 t) (iblk m c 2 t) (iblk m c 3 t) (iblk m c 4 t) (iblk m c 5 t) (ix3 0 r l) = KC m c (((cfg0.win 9).blk t).view.emb (ix3 0 r l))
  refine Eq.trans ?_ (congrArg (KC m c) (at_256 t r l)).symm
  refine (out9_apply _ _ _ _ _ _ r l).trans ?_
  exact bx_eq m c t r _

theorem final_c (c : Dev nD) : (dats m 0 c).arrAt 9 cfg0.N = KC m c := by
  refine (dats m 0 c).arrAt_eq_of_cover 9 (KC m c) (fun t _ => flushed_c m c t) fun i => ?_
  obtain ⟨b, n, l, rfl⟩ : ∃ (b : Fin 32) (n : Fin 256) (l : Fin 256), i = ix3 b n l := ⟨_, _, _, eq_ix3 _⟩
  refine ⟨b, flush0_9 _, ?_⟩
  have h := ((cfg0.win 9).blk b).view.emb_mem_set (ix3 0 n l)
  rwa [show ((cfg0.win 9).blk b).view.emb (ix3 0 n l) = ix3 b n l from (at_256 b n l).trans rfl] at h

theorem flushed_z (c : Dev nD) (t : Fin cfg0.N) : (dats m 0 c).flushed 10 t = ((cfg0.win 10).blk t).view.read (Elt Ideal) (KZ m c) := by
  rw [flushed10]
  funext j
  obtain ⟨a, r, l, rfl⟩ : ∃ (a : Fin 1) (r : Fin 256) (l : Fin 256), j = ix3 a r l := ⟨_, _, _, eq_ix3 _⟩
  obtain rfl : a = 0 := Subsingleton.elim _ _
  show out0_10 (F := Ideal) (iblk m c 0 t) (iblk m c 1 t) (iblk m c 2 t) (iblk m c 3 t) (iblk m c 4 t) (iblk m c 5 t) (ix3 0 r l) = KZ m c (((cfg0.win 10).blk t).view.emb (ix3 0 r l))
  refine Eq.trans ?_ (congrArg (KZ m c) (at_256 t r l)).symm
  refine (out10_apply _ _ _ _ _ _ r l).trans ?_
  exact congrArg₂ (· * ·) (bx_eq m c t r _) (bx_eq m c t r _)

theorem final_z (c : Dev nD) : (dats m 0 c).arrAt 10 cfg0.N = KZ m c := by
  refine (dats m 0 c).arrAt_eq_of_cover 10 (KZ m c) (fun t _ => flushed_z m c t) fun i => ?_
  obtain ⟨b, n, l, rfl⟩ : ∃ (b : Fin 32) (n : Fin 256) (l : Fin 256), i = ix3 b n l := ⟨_, _, _, eq_ix3 _⟩
  refine ⟨b, flush0_10 _, ?_⟩
  have h := ((cfg0.win 10).blk b).view.emb_mem_set (ix3 0 n l)
  rwa [show ((cfg0.win 10).blk b).view.emb (ix3 0 n l) = ix3 b n l from (at_256 b n l).trans rfl] at h

theorem flushed_u (c : Dev nD) (t : Fin cfg0.N) : (dats m 0 c).flushed 11 t = ((cfg0.win 11).blk t).view.read (Elt Ideal) (KU m c) := by
  rw [flushed11]
  funext j
  obtain ⟨a, r, l, rfl⟩ : ∃ (a : Fin 1) (r : Fin 256) (l : Fin 256), j = ix3 a r l := ⟨_, _, _, eq_ix3 _⟩
  obtain rfl : a = 0 := Subsingleton.elim _ _
  show out0_11 (F := Ideal) (iblk m c 0 t) (iblk m c 1 t) (iblk m c 2 t) (iblk m c 3 t) (iblk m c 4 t) (iblk m c 5 t) (ix3 0 r l) = KU m c (((cfg0.win 11).blk t).view.emb (ix3 0 r l))
  refine Eq.trans ?_ (congrArg (KU m c) (at_256 t r l)).symm
  refine (out11_apply _ _ _ _ _ _ r l).trans ?_
  exact bx_eq m c t r _

theorem final_u (c : Dev nD) : (dats m 0 c).arrAt 11 cfg0.N = KU m c := by
  refine (dats m 0 c).arrAt_eq_of_cover 11 (KU m c) (fun t _ => flushed_u m c t) fun i => ?_
  obtain ⟨b, n, l, rfl⟩ : ∃ (b : Fin 32) (n : Fin 256) (l : Fin 256), i = ix3 b n l := ⟨_, _, _, eq_ix3 _⟩
  refine ⟨b, flush0_11 _, ?_⟩
  have h := ((cfg0.win 11).blk b).view.emb_mem_set (ix3 0 n l)
  rwa [show ((cfg0.win 11).blk b).view.emb (ix3 0 n l) = ix3 b n l from (at_256 b n l).trans rfl] at h

end Cert.CtxProj

end
-- ==== Proof.ProjCtxRef.lean ====
/- The context's reference projection's six arrays. -/
module

public import proofs.«01_k».proof.Proof.Gen.InProjCtxReferenceIdeal.Read
public import proofs.«01_k».proof.Proof.BlockCtxRef
public import proofs.«01_k».proof.Proof.ProjMath

@[expose] public section

set_option backward.proofsInPublic true

noncomputable section

open scoped BigOperators

namespace Cert.CtxProj

open Idealize.ShloMosaic Idealize.ShloMosaic.ValueIdx Cert.InProjCtxReferenceIdeal Cert.InProjCtxReferenceIdeal.Gen Cert.InProjCtxReferenceIdeal.Read
open Cert.Proj (eighth proj px Gv Gc Gz Gu Sq Sk)
open Cert.Block (modArr)

variable (x0 : FVec Ideal S32x256x1024 .f32) (x1 : FVec Ideal S6144 .f32) (x2 : FVec Ideal S4x1024 .f32) (x3 : FVec Ideal S1024x1792 .f32)
  (b : Fin 32) (n : Fin 256)

/-! ## The projection -/

theorem shift_row (e : Fin 1024) : val_main_v0 (F := Ideal) x1 (ix1 e) = modArr x1 (ix3 b 0 e) := by
  rw [val_main_v0_apply]
  exact congrArg x1 (funext fun a => Fin.ext (by match a with | ⟨0, _⟩ => show e.val = 1024 * 0 + e.val; omega))
theorem scale_row (e : Fin 1024) : val_main_v1 (F := Ideal) x1 (ix1 e) = modArr x1 (ix3 b 1 e) := by
  rw [val_main_v1_apply]
  exact congrArg x1 (funext fun a => Fin.ext (by match a with | ⟨0, _⟩ => rfl))
theorem gain_row (e : Fin 1024) : val_main_v7 (F := Ideal) x2 (ix1 e) = x2 (ix2 0 e) := by
  rw [val_main_v7_apply, val_main_v6_apply]
  exact congrArg x2 (funext fun a => Fin.ext (by match a with | ⟨0, _⟩ => rfl | ⟨1, _⟩ => show e.val % 1024 = e.val; omega))

/-- The normed and modulated row. -/
theorem in_row (e : Fin 1024) : @Eq EReal (val_main_v28 (F := Ideal) x0 x1 x2 (ix3 b n e))
    (Block.modulated (fun e => x0 (ix3 b n e)) (fun e => x2 (ix2 0 e)) (fun e => modArr x1 (ix3 b 1 e)) (fun e => modArr x1 (ix3 b 0 e)) e) := by
  rw [val_main_v28_apply, val_main_v25_apply]
  unfold Block.modulated
  refine congrArg₂ (· + ·) (congrArg₂ (· * ·) ?_ ?_) ((CtxBlock.bc_row _ b n e).trans (shift_row x1 b e))
  · refine (CtxBlock.normArr_apply x0 (val_main_v7 (F := Ideal) x2) b n e).trans ?_
    rw [funext (gain_row x2)]
  · refine (CtxBlock.bc_row _ b n e).trans ?_
    rw [val_main_v22_apply, val_main_v21_apply, scale_row x1 b]
    rfl

theorem proj_row (p : Fin 1792) : @Eq EReal (val_main_v29 (F := Ideal) x0 x1 x2 x3 (ix3 b n p)) (px x0 (modArr x1) x2 x3 b n p) := by
  rw [val_main_v29_apply]
  unfold px proj
  refine Finset.sum_congr rfl fun k _ => congrArg₂ (· * ·) ?_ (congrArg x3 (funext fun a => by match a with | ⟨0, _⟩ => rfl | ⟨1, _⟩ => rfl))
  refine Eq.trans (congrArg (val_main_v28 (F := Ideal) x0 x1 x2) ?_) (in_row x0 x1 x2 b n k)
  exact funext fun a => by match a with | ⟨0, _⟩ => rfl | ⟨1, _⟩ => rfl | ⟨2, _⟩ => rfl

/-- Some columns of the projection. -/
theorem cut_row {N : ℕ} (o : ℕ) (h : S32x256x1792.Slices ![0, 0, o] ⟨3, ![32, 256, N]⟩) (l : Fin N) (ho : o + l.val < 1792) :
    @Eq EReal (extractStridedSlice ⟨3, ![32, 256, N]⟩ ![0, 0, o] (val_main_v29 (F := Ideal) x0 x1 x2 x3) h (ix3 b n l)) (px x0 (modArr x1) x2 x3 b n ⟨o + l.val, ho⟩) :=
  (extractStridedSlice_apply _ _ _ (ix3 b n l) (ix3 b n ⟨o + l.val, ho⟩)
    (by intro d; match d with | ⟨0, _⟩ => exact (Nat.zero_add _).symm | ⟨1, _⟩ => exact (Nat.zero_add _).symm | ⟨2, _⟩ => rfl)).trans (proj_row x0 x1 x2 x3 b n _)

/-! ## The six arrays -/

theorem ref_q : val_main_v39 (F := Ideal) x0 x1 x2 x3 = Sq x0 (modArr x1) x2 x3 := by
  funext i
  obtain ⟨b, n, p, rfl⟩ : ∃ (b : Fin 32) (n : Fin 256) (p : Fin 512), i = ix3 b n p := ⟨_, _, _, eq_ix3 _⟩
  rw [val_main_v39_apply, val_main_v38_apply, val_main_v37_apply]
  refine congrArg (· * eighth) ((cut_row x0 x1 x2 x3 b n 0 slices_S32x256x1792_S32x256x512_0_0_0 p (by omega)).trans ?_)
  exact congrArg (px x0 (modArr x1) x2 x3 b n) (Fin.ext (Nat.zero_add _))

theorem ref_k : val_main_v40 (F := Ideal) x0 x1 x2 x3 = Sk x0 (modArr x1) x2 x3 := by
  funext i
  obtain ⟨b, n, p, rfl⟩ : ∃ (b : Fin 32) (n : Fin 256) (p : Fin 128), i = ix3 b n p := ⟨_, _, _, eq_ix3 _⟩
  rw [val_main_v40_apply]
  exact cut_row x0 x1 x2 x3 b n 512 slices_S32x256x1792_S32x256x128_0_0_512 p (by omega)

theorem ref_v : val_main_v41 (F := Ideal) x0 x1 x2 x3 = Gv x0 (modArr x1) x2 x3 := by
  funext i
  obtain ⟨b, n, p, rfl⟩ : ∃ (b : Fin 32) (n : Fin 256) (p : Fin 128), i = ix3 b n p := ⟨_, _, _, eq_ix3 _⟩
  rw [val_main_v41_apply]
  exact cut_row x0 x1 x2 x3 b n 640 slices_S32x256x1792_S32x256x128_0_0_640 p (by omega)

theorem ref_c : val_main_v33 (F := Ideal) x0 x1 x2 x3 = Gc x0 (modArr x1) x2 x3 := by
  funext i
  obtain ⟨b, n, p, rfl⟩ : ∃ (b : Fin 32) (n : Fin 256) (p : Fin 256), i = ix3 b n p := ⟨_, _, _, eq_ix3 _⟩
  exact cut_row x0 x1 x2 x3 b n 768 slices_S32x256x1792_S32x256x256_0_0_768 p (by omega)

theorem ref_z : val_main_v42 (F := Ideal) x0 x1 x2 x3 = Gz x0 (modArr x1) x2 x3 := by
  funext i
  obtain ⟨b, n, p, rfl⟩ : ∃ (b : Fin 32) (n : Fin 256) (p : Fin 256), i = ix3 b n p := ⟨_, _, _, eq_ix3 _⟩
  rw [val_main_v42_apply]
  exact congrArg₂ (fun x y : EReal => x * y) (cut_row x0 x1 x2 x3 b n 1024 slices_S32x256x1792_S32x256x256_0_0_1024 p (by omega))
    (cut_row x0 x1 x2 x3 b n 1280 slices_S32x256x1792_S32x256x256_0_0_1280 p (by omega))

theorem ref_u : val_main_v36 (F := Ideal) x0 x1 x2 x3 = Gu x0 (modArr x1) x2 x3 := by
  funext i
  obtain ⟨b, n, p, rfl⟩ : ∃ (b : Fin 32) (n : Fin 256) (p : Fin 256), i = ix3 b n p := ⟨_, _, _, eq_ix3 _⟩
  exact cut_row x0 x1 x2 x3 b n 1536 slices_S32x256x1792_S32x256x256_0_0_1536 p (by omega)

end Cert.CtxProj

end
-- ==== Proof.ProjCtxClaim.lean ====
/- The context's input projection's value claim: the kernel and the reference leave the same six arrays. -/
module

public import proofs.«01_k».proof.Defs
public import proofs.«01_k».proof.Proof.Gen.InProjCtxReferenceIdeal.Run
public import proofs.«01_k».proof.Proof.ProjCtxArray
public import proofs.«01_k».proof.Proof.ProjCtxRef

@[expose] public section

noncomputable section

namespace Cert.CtxProj

open Cert.Proj (six_congr Sq Sk Gv Gc Gz Gu)
open Cert.Block (modArr)
open Idealize.ShloMosaic Idealize.ShloMosaic.ValueIdx Idealize.SL.Sem

/-- The value claim. -/
theorem algebraic :
    haveI := Cert.InProjCtxIdeal.Gen.facts
    haveI := Cert.InProjCtxReferenceIdeal.Gen.facts
    Cert.algebraic_InProjCtxIdeal_InProjCtxReferenceIdeal := by
  intro m ρ m' ρ' _ hargs
  refine ⟨fun c => KQ m c, fun c => KK m c, fun c => KV m c, fun c => KC m c, fun c => KZ m c, fun c => KU m c, ?_, ?_⟩
  · refine (θ_run _ _ _).mono (fun r h c => ?_) (Cert.InProjCtxIdeal.Value.run_blocks m ρ)
    obtain ⟨hq, hk, hv, hc, hz, hu, rest⟩ := h c
    exact ⟨hq.trans (final_q m c), hk.trans (final_k m c), hv.trans (final_v m c), hc.trans (final_c m c), hz.trans (final_z m c), hu.trans (final_u m c), rest⟩
  · refine (θ_run _ _ _).mono (fun r h c => ?_) (Cert.InProjCtxReferenceIdeal.Value.run m' ρ')
    obtain ⟨a0, a1, a2, a3⟩ := hargs c
    obtain ⟨hq, hk, hv, hc, hz, hu, rest⟩ := h c
    refine ⟨hq.trans ?_, hk.trans ?_, hv.trans ?_, hc.trans ?_, hz.trans ?_, hu.trans ?_, rest⟩
    · rw [Cert.InProjCtxReferenceIdeal.Read.val_main_v39_eq, ref_q]
      exact six_congr Sq a0 (congrArg modArr a1) a2 a3
    · rw [Cert.InProjCtxReferenceIdeal.Read.val_main_v40_eq, ref_k]
      exact six_congr Sk a0 (congrArg modArr a1) a2 a3
    · refine (Cert.InProjCtxReferenceIdeal.Read.val_main_v41_eq _ _ _ _).trans ((ref_v _ _ _ _).trans ?_)
      exact six_congr Gv a0 (congrArg modArr a1) a2 a3
    · refine (Cert.InProjCtxReferenceIdeal.Read.val_main_v33_eq _ _ _ _).trans ((ref_c _ _ _ _).trans ?_)
      exact six_congr Gc a0 (congrArg modArr a1) a2 a3
    · refine (Cert.InProjCtxReferenceIdeal.Read.val_main_v42_eq _ _ _ _).trans ((ref_z _ _ _ _).trans ?_)
      exact six_congr Gz a0 (congrArg modArr a1) a2 a3
    · refine (Cert.InProjCtxReferenceIdeal.Read.val_main_v36_eq _ _ _ _).trans ((ref_u _ _ _ _).trans ?_)
      exact six_congr Gu a0 (congrArg modArr a1) a2 a3

end Cert.CtxProj

end
-- ==== Proof.AdaMods.lean ====
/- The modulations: an activated row times a layer's weights plus its bias. The kernel's stored block at an index. -/
module

public import proofs.«01_k».proof.Proof.Gen.ModsIdeal.Value
public import proofs.«01_k».proof.Proof.BlockBlock

@[expose] public section

set_option backward.proofsInPublic true

noncomputable section

open scoped BigOperators

namespace Cert.Ada

open Idealize.ShloMosaic Idealize.ShloMosaic.ValueIdx Cert.ModsIdeal Cert.ModsIdeal.Gen

/-- An entry times its logistic function. -/
def act (x : EReal) : EReal := x * Ideal.div Block.one (Block.one + Ideal.exp (-x))

/-- A modulation of a row: the activated row against a column of weights, plus the bias. -/
def dense (x w : Fin 1024 → EReal) (b : EReal) : EReal := (∑ k : Fin 1024, act (x k) * w k) + b

/-- The modulations of every row by every layer. -/
def G (x : FVec Ideal S40x1024 .f32) (w : FVec Ideal S4x1024x6144 .f32) (b : FVec Ideal S4x6144 .f32) : FVec Ideal S4x40x6144 .f32 :=
  fun i => dense (fun k => x (ix2 (i 1) k)) (fun k => w (ix3 (i 0) k (i 2))) (b (ix2 (i 0) (i 2)))

theorem dot_dense (x : FVec Ideal S40x1024 .bf16) (w : FVec Ideal S1024x1024 .bf16) (r : Fin 40) (e : Fin 1024) :
    matmul dot_S40x1024_S1024x1024_S40x1024_1_0_0_1_n_n none x w (constant S40x1024 .f32 0x00000000#32) (ix2 r e)
      = ∑ k : Fin 1024, x (ix2 r k) * w (ix2 k e) := by
  refine (Ideal.matmul_constant_zero_apply _ none x w (ix2 r e)).trans ?_
  rw [← Equiv.sum_comp (contrEquiv1 dot_S40x1024_S1024x1024_S40x1024_1_0_0_1_n_n 1024 rfl rfl).symm]
  refine Finset.sum_congr rfl fun k _ => congrArg₂ (· * ·) (congrArg x ?_) (congrArg w ?_)
  · funext d; match d with | ⟨0, _⟩ => rfl | ⟨1, _⟩ => rfl
  · funext d; match d with | ⟨0, _⟩ => rfl | ⟨1, _⟩ => rfl

theorem drop_weights (v : FVec Ideal S1x1024x1024 .f32) (k e : Fin 1024) :
    shapeCast S1024x1024 v shapeCasts_S1x1024x1024_S1024x1024 (ix2 k e) = v (ix3 0 k e) :=
  shapeCast_apply _ _ _ _ (by rw [Shape.rowMajor_val_two, Shape.rowMajor_val_three]; simp)

theorem bias_row (v : FVec Ideal S1x1x1024 .f32) (r : Fin 40) (e : Fin 1024) :
    broadcastTo S40x1024 (shapeCast S1x1024 v shapeCasts_S1x1x1024_S1x1024) broadcasts_S1x1024_S40x1024 (ix2 r e) = v (ix3 0 0 e) := by
  rw [broadcastTo_apply _ _ _ (ix2 0 e) (by intro d; match d with | ⟨0, _⟩ => rfl | ⟨1, _⟩ => rfl)]
  exact shapeCast_apply _ _ _ _ (by rw [Shape.rowMajor_val_two, Shape.rowMajor_val_three]; simp)

theorem pay1_apply (v0 : FVec Ideal S40x1024 .f32) (v10 : FVec Ideal S1x1024x1024 .f32) (v14 : FVec Ideal S1x1x1024 .f32) (r : Fin 40) (e : Fin 1024) :
    @Eq EReal (k0_pay1 (F := Ideal) v0 v10 v14 (ix3 0 r e)) (dense (fun k => v0 (ix2 r k)) (fun k => v10 (ix3 0 k e)) (v14 (ix3 0 0 e))) := by
  unfold k0_pay1
  rw [shapeCast_apply _ _ _ (ix2 r e) (by rw [Shape.rowMajor_val_two, Shape.rowMajor_val_three]; simp), addf_apply, dot_dense, bias_row]
  unfold dense act
  simp only [mulf_apply, addf_apply, subf_apply, divf_apply, truncf_apply, Block.exp_at, drop_weights, broadcast_apply, Block.scalar_at, Block.zero_eq, zero_sub]

/-- The block a grid point stores. -/
theorem out3_apply (x0 : FVec Ideal S40x1024 .f32) (x1 : FVec Ideal S1x1024x1024 .f32) (x2 : FVec Ideal S1x1x1024 .f32) (r : Fin 40) (e : Fin 1024) :
    @Eq EReal (out0_3 (F := Ideal) x0 x1 x2 (ix3 0 r e)) (dense (fun k => x0 (ix2 r k)) (fun k => x1 (ix3 0 k e)) (x2 (ix3 0 0 e))) := by
  unfold out0_3
  rw [View.canon_unit_zero Block.zero3, show View.ld (Val := Elt Ideal) (e' := .f32) x0 r0_0 = x0 from Block.ld_whole _ _ Block.zero2 _,
    show View.ld (Val := Elt Ideal) (e' := .f32) x1 r0_1 = x1 from Block.ld_whole _ _ Block.zero3 _,
    show View.ld (Val := Elt Ideal) (e' := .f32) x2 r0_2 = x2 from Block.ld_whole _ _ Block.zero3 _]
  exact pay1_apply x0 x1 x2 r e

end Cert.Ada

end
-- ==== Proof.AdaClaim.lean ====
/- The modulations' value claim: the kernel and the reference leave the same array. -/
module

public import proofs.«01_k».proof.Defs
public import proofs.«01_k».proof.Proof.Gen.ModsReferenceIdeal.Read
public import proofs.«01_k».proof.Proof.AdaMods

@[expose] public section

set_option backward.proofsInPublic true

noncomputable section

open scoped BigOperators

namespace Cert.Ada

open Idealize.ShloMosaic Idealize.ShloMosaic.ValueIdx Idealize.ShloMosaic.TcCoe Idealize.SL.Sem Cert.ModsIdeal Cert.ModsIdeal.Gen Cert.ModsIdeal.Value

section

variable (m : (ℓ : Loc nD τ sig) → Buf (Elt Ideal) ℓ)

/-- The layer of a grid point, and a column of its block among the layer's. -/
def lOf (t : Fin cfg0.N) : Fin 4 := ⟨t.val / 6, by have h : t.val < 24 := t.isLt; omega⟩
def cOf (t : Fin cfg0.N) (e : Fin 1024) : Fin 6144 := ⟨1024 * (t.val % 6) + e.val, by omega⟩

theorem idx_rows (t : Fin cfg0.N) : win0_0.index t (0 : Fin 2) = 0 ∧ win0_0.index t (1 : Fin 2) = 0 :=
  (by decide +kernel : ∀ t : Fin grid0.N, win0_0.index t (0 : Fin 2) = 0 ∧ win0_0.index t (1 : Fin 2) = 0) t
theorem idx_out (t : Fin cfg0.N) : win0_3.index t (0 : Fin 3) = t.val / 6 ∧ win0_3.index t (1 : Fin 3) = 0 ∧ win0_3.index t (2 : Fin 3) = t.val % 6 :=
  (by decide +kernel : ∀ t : Fin grid0.N, win0_3.index t (0 : Fin 3) = t.val / 6 ∧ win0_3.index t (1 : Fin 3) = 0 ∧ win0_3.index t (2 : Fin 3) = t.val % 6) t

theorem at_rows (t : Fin cfg0.N) (r : Fin 40) (k : Fin 1024) : ((cfg0.win 0).blk t).view.emb (ix2 r k) = (ix2 r k : S40x1024.Idx) := by
  obtain ⟨e0, e1⟩ := idx_rows t
  refine funext fun a => Fin.ext ?_
  match a with
  | ⟨0, _⟩ => show win0_0.index t (0 : Fin 2) * 40 + 1 * r.val = r.val; omega
  | ⟨1, _⟩ => show win0_0.index t (1 : Fin 2) * 1024 + 1 * k.val = k.val; omega

theorem at_weights (t : Fin cfg0.N) (k e : Fin 1024) : ((cfg0.win 1).blk t).view.emb (ix3 0 k e) = (ix3 (lOf t) k (cOf t e) : S4x1024x6144.Idx) := by
  obtain ⟨e0, e1, e2⟩ := idx_out t
  refine funext fun a => Fin.ext ?_
  match a with
  | ⟨0, _⟩ => show win0_3.index t (0 : Fin 3) * 1 + 1 * 0 = t.val / 6; omega
  | ⟨1, _⟩ => show win0_3.index t (1 : Fin 3) * 1024 + 1 * k.val = k.val; omega
  | ⟨2, _⟩ => show win0_3.index t (2 : Fin 3) * 1024 + 1 * e.val = 1024 * (t.val % 6) + e.val; omega

theorem at_bias (t : Fin cfg0.N) (e : Fin 1024) : ((cfg0.win 2).blk t).view.emb (ix3 0 0 e) = (ix3 (lOf t) 0 (cOf t e) : S4x1x6144.Idx) := by
  obtain ⟨e0, e1, e2⟩ := idx_out t
  refine funext fun a => Fin.ext ?_
  match a with
  | ⟨0, _⟩ => show win0_3.index t (0 : Fin 3) * 1 + 1 * 0 = t.val / 6; omega
  | ⟨1, _⟩ => show win0_3.index t (1 : Fin 3) * 1 + 1 * 0 = 0; omega
  | ⟨2, _⟩ => show win0_3.index t (2 : Fin 3) * 1024 + 1 * e.val = 1024 * (t.val % 6) + e.val; omega

theorem at_out (t : Fin cfg0.N) (r : Fin 40) (e : Fin 1024) : ((cfg0.win 3).blk t).view.emb (ix3 0 r e) = (ix3 (lOf t) r (cOf t e) : S4x40x6144.Idx) := by
  obtain ⟨e0, e1, e2⟩ := idx_out t
  refine funext fun a => Fin.ext ?_
  match a with
  | ⟨0, _⟩ => show win0_3.index t (0 : Fin 3) * 1 + 1 * 0 = t.val / 6; omega
  | ⟨1, _⟩ => show win0_3.index t (1 : Fin 3) * 40 + 1 * r.val = r.val; omega
  | ⟨2, _⟩ => show win0_3.index t (2 : Fin 3) * 1024 + 1 * e.val = 1024 * (t.val % 6) + e.val; omega

/-- The host lays the biases out with a middle axis before the call. -/
theorem V_bias (c : Dev nD) : V m c main_v0 = shapeCast S4x1x6144 (m ((c : Thread nD τ).loc main_arg2)) shapeCasts_S4x6144_S4x1x6144 := by
  show StableHlo.after hostOps0 _ (Proc.devRef .tc main_v0) = _
  after_results
  rfl

theorem bias_cast (b : FVec Ideal S4x6144 .f32) (l : Fin 4) (e : Fin 6144) :
    shapeCast S4x1x6144 b shapeCasts_S4x6144_S4x1x6144 (ix3 l 0 e) = b (ix2 l e) :=
  shapeCast_apply _ _ _ _ (by
    rw [Shape.rowMajor_val_two, Shape.rowMajor_val_three]
    show l.val * 6144 + e.val = (l.val * 1 + 0) * 6144 + e.val
    omega)

theorem rows_at (c : Dev nD) (t : Fin cfg0.N) (r : Fin 40) (k : Fin 1024) :
    @Eq EReal (iblk m c 0 t (ix2 r k)) (m ((c : Thread nD τ).loc main_arg0) (ix2 r k)) := by
  have h0 : @Eq EReal (iblk m c 0 t (ix2 r k)) (V m c main_arg0 (((cfg0.win 0).blk t).view.emb (ix2 r k))) := by
    unfold iblk
    rfl
  rw [h0, at_rows, V_main_arg0 m c]

theorem weights_at (c : Dev nD) (t : Fin cfg0.N) (k e : Fin 1024) :
    @Eq EReal (iblk m c 1 t (ix3 0 k e)) (m ((c : Thread nD τ).loc main_arg1) (ix3 (lOf t) k (cOf t e))) := by
  have h0 : @Eq EReal (iblk m c 1 t (ix3 0 k e)) (V m c main_arg1 (((cfg0.win 1).blk t).view.emb (ix3 0 k e))) := by
    unfold iblk
    rfl
  rw [h0, at_weights, V_main_arg1 m c]

theorem bias_at (c : Dev nD) (t : Fin cfg0.N) (e : Fin 1024) :
    @Eq EReal (iblk m c 2 t (ix3 0 0 e)) (m ((c : Thread nD τ).loc main_arg2) (ix2 (lOf t) (cOf t e))) := by
  have h0 : @Eq EReal (iblk m c 2 t (ix3 0 0 e)) (V m c main_v0 (((cfg0.win 2).blk t).view.emb (ix3 0 0 e))) := by
    unfold iblk
    rfl
  rw [h0, at_bias, V_bias m c]
  exact bias_cast _ _ _

/-- The array of the kernel's arguments. -/
abbrev K (c : Dev nD) : FVec Ideal S4x40x6144 .f32 :=
  G (m ((c : Thread nD τ).loc main_arg0)) (m ((c : Thread nD τ).loc main_arg1)) (m ((c : Thread nD τ).loc main_arg2))

theorem flushed_eq (c : Dev nD) (t : Fin cfg0.N) : (dats m 0 c).flushed 3 t = ((cfg0.win 3).blk t).view.read (Elt Ideal) (K m c) := by
  rw [flushed3]
  funext j
  obtain ⟨a, r, e, rfl⟩ : ∃ (a : Fin 1) (r : Fin 40) (e : Fin 1024), j = ix3 a r e := ⟨_, _, _, eq_ix3 _⟩
  obtain rfl : a = 0 := Subsingleton.elim _ _
  show out0_3 (F := Ideal) (iblk m c 0 t) (iblk m c 1 t) (iblk m c 2 t) (ix3 0 r e) = K m c (((cfg0.win 3).blk t).view.emb (ix3 0 r e))
  refine Eq.trans ?_ (congrArg (K m c) (at_out t r e)).symm
  refine (out3_apply _ _ _ r e).trans ?_
  rw [funext (rows_at m c t r), funext fun k => weights_at m c t k e, bias_at m c t e]
  rfl

theorem final_eq (c : Dev nD) : (dats m 0 c).arrAt 3 cfg0.N = K m c := by
  refine (dats m 0 c).arrAt_eq_of_cover 3 (K m c) (fun t _ => flushed_eq m c t) fun i => ?_
  obtain ⟨l, r, e, rfl⟩ : ∃ (l : Fin 4) (r : Fin 40) (e : Fin 6144), i = ix3 l r e := ⟨_, _, _, eq_ix3 _⟩
  have ht : 6 * l.val + e.val / 1024 < 24 := by omega
  refine ⟨⟨6 * l.val + e.val / 1024, ht⟩, flush0_3 _, ?_⟩
  have h := ((cfg0.win 3).blk ⟨6 * l.val + e.val / 1024, ht⟩).view.emb_mem_set (ix3 0 r ⟨e.val % 1024, by omega⟩)
  have e1 : lOf ⟨6 * l.val + e.val / 1024, ht⟩ = l := Fin.ext (by show (6 * l.val + e.val / 1024) / 6 = l.val; omega)
  have e2 : cOf ⟨6 * l.val + e.val / 1024, ht⟩ ⟨e.val % 1024, by omega⟩ = e :=
    Fin.ext (by show 1024 * ((6 * l.val + e.val / 1024) % 6) + e.val % 1024 = e.val; omega)
  rwa [at_out, e1, e2] at h

end

/-- What the reference computes. -/
theorem ref_eq (x : FVec Ideal S40x1024 .f32) (w : FVec Ideal S4x1024x6144 .f32) (b : FVec Ideal S4x6144 .f32) :
    Cert.ModsReferenceIdeal.Read.val_main_v5 (F := Ideal) x w b = G x w b := by
  funext i
  obtain ⟨l, r, e, rfl⟩ : ∃ (l : Fin 4) (r : Fin 40) (e : Fin 6144), i = ix3 l r e := ⟨_, _, _, eq_ix3 _⟩
  rw [Cert.ModsReferenceIdeal.Read.val_main_v5_apply, Cert.ModsReferenceIdeal.Read.val_main_v2_apply, Cert.ModsReferenceIdeal.Read.val_main_v1_apply,
    Cert.ModsReferenceIdeal.Read.val_main_v4_apply, Cert.ModsReferenceIdeal.Read.val_main_v3_apply]
  unfold G dense
  refine congrArg₂ (fun s t : EReal => s + t) (Finset.sum_congr rfl fun k _ => ?_) (congrArg b ?_)
  · refine (congrArg₂ (fun s t : EReal => s * t) (congrArg w (a₂ := ix3 l k e) ?_) ((?_ : _ = act (x (ix2 r k))))).trans (mul_comm _ _)
    · funext d; match d with | ⟨0, _⟩ => rfl | ⟨1, _⟩ => rfl | ⟨2, _⟩ => rfl
    · rw [show Cert.ModsReferenceIdeal.Read.ridx_main_v1 (Cert.ModsReferenceIdeal.Read.idx_main_v2 (ix3 l r e)) k = ix2 r k from
        funext fun d => by match d with | ⟨0, _⟩ => rfl | ⟨1, _⟩ => rfl]
      rw [Cert.ModsReferenceIdeal.Read.val_main_v0_apply, Cert.ModsReferenceIdeal.Read.val_main_call0_v5_apply, Cert.ModsReferenceIdeal.Read.val_main_call0_v4_apply,
        Cert.ModsReferenceIdeal.Read.val_main_call0_v3_apply, Cert.ModsReferenceIdeal.Read.val_main_call0_v2_apply, Cert.ModsReferenceIdeal.Read.val_main_call0_v1_apply]
      rfl
  · funext d; match d with | ⟨0, _⟩ => rfl | ⟨1, _⟩ => rfl

/-- Equal arguments make equal arrays. -/
theorem G_congr {x x' : FVec Ideal S40x1024 .f32} {w w' : FVec Ideal S4x1024x6144 .f32} {b b' : FVec Ideal S4x6144 .f32} (hx : x = x') (hw : w = w') (hb : b = b') :
    G x w b = G x' w' b' := by
  subst hx hw hb
  rfl

/-- The value claim. -/
theorem algebraic :
    haveI := Cert.ModsIdeal.Gen.facts
    haveI := Cert.ModsReferenceIdeal.Gen.facts
    Cert.algebraic_ModsIdeal_ModsReferenceIdeal := by
  intro m ρ m' ρ' _ hargs
  refine ⟨fun c => K m c, ?_, ?_⟩
  · refine (θ_run _ _ _).mono (fun r h c => ?_) (Cert.ModsIdeal.Value.run_blocks m ρ)
    exact ⟨(h c).1.trans (final_eq m c), (h c).2⟩
  · refine (θ_run _ _ _).mono (fun r h c => ?_) (Cert.ModsReferenceIdeal.Value.run m' ρ')
    obtain ⟨a0, a1, a2⟩ := hargs c
    refine ⟨(h c).1.trans ?_, (h c).2⟩
    exact (Cert.ModsReferenceIdeal.Read.val_main_v5_eq _ _ _).trans ((ref_eq _ _ _).trans (G_congr a0 a1 a2))

end Cert.Ada

end
-- ==== Proof.CtxBody.lean ====
/- The context attention's body, read at an index: four heads that share a key and value head are stacked, 256 rows each, and
   attend to all 256 rows of the context; nothing is masked. -/
module

public import proofs.«01_k».proof.Proof.Gen.CtxIdeal.Value
public import proofs.«01_k».proof.Proof.AttnMath
public import proofs.«01_k».proof.Proof.Tools
public import Idealize.ShloMosaic.Lib.ValueIdx

@[expose] public section

set_option backward.proofsInPublic true

noncomputable section

open scoped BigOperators

namespace Cert.CtxAttn

open Idealize.ShloMosaic Idealize.ShloMosaic.ValueIdx Idealize.ShloMosaic.TcCoe Cert.CtxIdeal Cert.CtxIdeal.Gen

/-! ## One row, away from the program -/

/-- The row's maximum, the sink included. -/
def top (s : Fin 256 → EReal) (sk : EReal) : EReal := max (Finset.univ.sup s) sk

/-- The row's denominator, the sink included. -/
def den (s : Fin 256 → EReal) (sk : EReal) : EReal := (∑ j, Ideal.exp (s j - top s sk)) + Ideal.exp (sk - top s sk)

/-- The row's result: the values weighted by the probabilities. -/
def mean (s : Fin 256 → EReal) (sk : EReal) (v : Fin 256 → EReal) : EReal :=
  ∑ j, v j * Ideal.div (Ideal.exp (s j - top s sk)) (den s sk)

/-- Where no score is `⊤` and the sink is real, dividing the weighted sum by the denominator is weighting by the probabilities. -/
theorem div_sum (s : Fin 256 → EReal) (sk : EReal) (v : Fin 256 → EReal) (hs : ∀ j, s j ≠ ⊤) (hk : ∃ r : ℝ, sk = r) :
    Ideal.div (∑ j, Ideal.exp (s j - top s sk) * v j) (den s sk) = mean s sk v := by
  obtain ⟨k, rfl⟩ := hk
  obtain ⟨m, hm⟩ : ∃ m : ℝ, top s k = m := by
    have hlt : top s k < ⊤ := max_lt ((Finset.sup_lt_iff bot_lt_top).mpr fun j _ => lt_top_iff_ne_top.mpr (hs j)) (EReal.coe_lt_top k)
    exact ⟨_, (EReal.coe_toReal hlt.ne (lt_of_lt_of_le (EReal.bot_lt_coe k) (le_max_right _ _)).ne').symm⟩
  obtain ⟨a, ha, ea⟩ := Attn.sum_real_nonneg Finset.univ (fun j => Ideal.exp (s j - top s k)) fun j _ => by
    rw [hm]; exact Attn.exp_sub_real _ m (hs j)
  have hd : den s k = ((a + Real.exp (k - m) : ℝ) : EReal) := by
    unfold den
    rw [ea, hm, ← EReal.coe_sub, Ideal.exp_coe, EReal.coe_add]
  have hpos : 0 < a + Real.exp (k - m) := by positivity
  unfold mean
  simp only [hd, Ideal.div_coe hpos.ne']
  rw [Attn.sum_mul_coe _ _ _ (by positivity)]
  exact Finset.sum_congr rfl fun j _ => by rw [mul_comm (Ideal.exp _) (v j), mul_assoc]

/-! ## Four stacked heads -/

/-- The scores. -/
def scores (q : FVec Ideal S1024x64 .bf16) (k : FVec Ideal S256x64 .bf16) : FVec Ideal S1024x256 .f32 :=
  matmul dot_S1024x64_S256x64_S1024x256_1_1_0_0_n_n none q k (constant S1024x256 .f32 0x00000000#32)

/-- Each row's maximum. -/
def tops (s : FVec Ideal S1024x256 .f32) (sk : FVec Ideal S1024x1 .f32) : FVec Ideal S1024x1 .f32 :=
  maximumf (shapeCast S1024x1 (multiReduction .maximumf [1] S1024 s 0xFF800000#32 reduces_S1024x256_S1024 (.inl rfl) rfl) shapeCasts_S1024_S1024x1) sk

/-- The exponentials. -/
def exps (s : FVec Ideal S1024x256 .f32) (sk : FVec Ideal S1024x1 .f32) : FVec Ideal S1024x256 .f32 :=
  exp (subf s (broadcastTo S1024x256 (tops s sk) broadcasts_S1024x1_S1024x256))

/-- Each row's denominator. -/
def dens (s : FVec Ideal S1024x256 .f32) (sk : FVec Ideal S1024x1 .f32) : FVec Ideal S1024x1 .f32 :=
  addf (shapeCast S1024x1 (multiReduction .add [1] S1024 (exps s sk) 0x00000000#32 reduces_S1024x256_S1024 (.inl rfl) rfl) shapeCasts_S1024_S1024x1)
    (exp (subf sk (tops s sk)))

/-- The four heads' result. -/
def heads (q : FVec Ideal S1024x64 .bf16) (k v : FVec Ideal S256x64 .bf16) (sk : FVec Ideal S1024x1 .f32) : FVec Ideal S1024x64 .f32 :=
  divf (matmul dot_S1024x256_S256x64_S1024x64_1_0_0_1_n_n none (truncf .bf16 (exps (scores q k) sk) bitsLt_bf16_f32) v
      (constant S1024x64 .f32 0x00000000#32))
    (broadcastTo S1024x64 (dens (scores q k) sk) broadcasts_S1024x1_S1024x64)

theorem scores_apply (q : FVec Ideal S1024x64 .bf16) (k : FVec Ideal S256x64 .bf16) (a : Fin 1024) (c : Fin 256) :
    scores q k (ix2 a c) = ∑ e : Fin 64, q (ix2 a e) * k (ix2 c e) := by
  refine (Ideal.matmul_constant_zero_apply _ none q k (ix2 a c)).trans ?_
  rw [← Equiv.sum_comp (contrEquiv1 dot_S1024x64_S256x64_S1024x256_1_1_0_0_n_n 64 rfl rfl).symm]
  refine Finset.sum_congr rfl fun e _ => ?_
  congr 2 <;> (funext d; match d with | ⟨0, _⟩ => rfl | ⟨1, _⟩ => rfl)

theorem tops_apply (s : FVec Ideal S1024x256 .f32) (sk : FVec Ideal S1024x1 .f32) (a : Fin 1024) :
    tops s sk (ix2 a 0) = top (fun c => s (ix2 a c)) (sk (ix2 a 0)) := by
  unfold tops top
  rw [maximumf_apply, shapeCast_apply _ _ _ (ix1 a) (by rw [Shape.rowMajor_val_two, Shape.rowMajor_val_one]; simp)]
  refine congrArg₂ max ((Ideal.multiReduction_maximumf_single s _ _ _ _ (ix1 a)).trans ?_) rfl
  have hb : FloatOps.ofBits (F := Ideal) .f32 0xFF800000#32 = (⊥ : EReal) := by
    show Ideal.ofBits .f32 0xFF800000#32 = _
    simp [Ideal.ofBits, Ideal.ieee]
  rw [hb]
  show Finset.univ.sup _ = _
  refine Finset.sup_congr rfl fun c _ => congrArg s (funext fun d => ?_)
  match d with | ⟨0, _⟩ => rfl | ⟨1, _⟩ => rfl

theorem exps_apply (s : FVec Ideal S1024x256 .f32) (sk : FVec Ideal S1024x1 .f32) (a : Fin 1024) (c : Fin 256) :
    exps s sk (ix2 a c) = Ideal.exp (s (ix2 a c) - top (fun c => s (ix2 a c)) (sk (ix2 a 0))) := by
  unfold exps
  show Ideal.exp (_ - _) = _
  rw [broadcastTo_apply _ _ (ix2 a c) (ix2 a 0) (by intro d; match d with | ⟨0, _⟩ => rfl | ⟨1, _⟩ => rfl), tops_apply]

theorem dens_apply (s : FVec Ideal S1024x256 .f32) (sk : FVec Ideal S1024x1 .f32) (a : Fin 1024) :
    dens s sk (ix2 a 0) = den (fun c => s (ix2 a c)) (sk (ix2 a 0)) := by
  unfold dens den
  rw [addf_apply, shapeCast_apply _ _ _ (ix1 a) (by rw [Shape.rowMajor_val_two, Shape.rowMajor_val_one]; simp), ← tops_apply]
  refine congrArg₂ (· + ·) ((Ideal.multiReduction_add_single (exps s sk) _ _ _ _ (ix1 a)).trans ?_) rfl
  refine Finset.sum_congr rfl fun c _ => ?_
  rw [tops_apply]
  refine Eq.trans (congrArg (exps s sk) (funext fun d => ?_)) (exps_apply s sk a c)
  match d with | ⟨0, _⟩ => rfl | ⟨1, _⟩ => rfl

/-- A row of the four heads. -/
theorem heads_apply (q : FVec Ideal S1024x64 .bf16) (k v : FVec Ideal S256x64 .bf16) (sk : FVec Ideal S1024x1 .f32) (a : Fin 1024) (d : Fin 64)
    (hs : ∀ c, scores q k (ix2 a c) ≠ ⊤) (hk : ∃ r : ℝ, @Eq EReal (sk (ix2 a 0)) r) :
    heads q k v sk (ix2 a d) = mean (fun c => scores q k (ix2 a c)) (sk (ix2 a 0)) (fun c => v (ix2 c d)) := by
  refine Eq.trans ?_ (div_sum (fun c => scores q k (ix2 a c)) (sk (ix2 a 0)) (fun c => v (ix2 c d)) hs hk)
  unfold heads
  show Ideal.div _ _ = _
  rw [broadcastTo_apply _ _ (ix2 a d) (ix2 a 0) (by intro d; match d with | ⟨0, _⟩ => rfl | ⟨1, _⟩ => rfl), dens_apply]
  congr 1
  refine (Ideal.matmul_constant_zero_apply _ none _ v (ix2 a d)).trans ?_
  rw [← Equiv.sum_comp (contrEquiv1 dot_S1024x256_S256x64_S1024x64_1_0_0_1_n_n 256 rfl rfl).symm]
  refine Finset.sum_congr rfl fun c _ => congrArg₂ (· * ·) ?_ ?_
  · refine Eq.trans (congrArg (exps (scores q k) sk) (funext fun d => ?_)) (exps_apply _ sk a c)
    match d with | ⟨0, _⟩ => rfl | ⟨1, _⟩ => rfl
  · refine congrArg v (funext fun d => ?_)
    match d with | ⟨0, _⟩ => rfl | ⟨1, _⟩ => rfl

/-! ## The block -/

/-- The queries' columns of head `g` of the four that go with key head `kv`. -/
theorem q_slices (kv : Fin 2) (g : Fin 4) : S256x512.Slices ![0, 256 * kv.val + 64 * g.val] S256x64 := by
  fin_cases kv <;> fin_cases g <;> decide

theorem kv_slices (kv : Fin 2) : S256x128.Slices ![0, 64 * kv.val] S256x64 := by
  fin_cases kv <;> decide

theorem out_slices (g : Fin 4) : S1024x64.Slices ![256 * g.val, 0] S256x64 := by
  fin_cases g <;> decide

/-- Four heads' queries stacked. -/
def stackQ (kv : Fin 2) (q : FVec Ideal S256x512 .bf16) : FVec Ideal S1024x64 .bf16 :=
  concatenate S1024x64 0 (List.ofFn fun g : Fin 4 => ⟨S256x64, extractStridedSlice S256x64 ![0, 256 * kv.val + 64 * g.val] q (q_slices kv g)⟩)
    concatenates_S256x64_S256x64_S256x64_S256x64_S1024x64_d0

/-- Four sinks stacked. -/
def stackS (x : Fin 4 → EReal) : FVec Ideal S1024x1 .f32 :=
  concatenate S1024x1 0 (List.ofFn fun g : Fin 4 => ⟨S256x1, broadcast S256x1 (x g)⟩) concatenates_S256x1_S256x1_S256x1_S256x1_S1024x1_d0

theorem stackQ_apply (kv : Fin 2) (q : FVec Ideal S256x512 .bf16) (g : Fin 4) (r : Fin 256) (e : Fin 64) :
    stackQ kv q (ix2 ⟨256 * g.val + r.val, by omega⟩ e) = q (ix2 r ⟨256 * kv.val + 64 * g.val + e.val, by omega⟩) := by
  unfold stackQ
  refine (concatenate_ofFn_apply (s₁ := S256x64) 0 (fun g : Fin 4 => extractStridedSlice S256x64 ![0, 256 * kv.val + 64 * g.val] q (q_slices kv g))
    concatenates_S256x64_S256x64_S256x64_S256x64_S1024x64_d0 rfl 256 rfl _ g ?_ (ix2 r e) ?_ ?_).trans ?_
  · show (256 * g.val + r.val) / 256 = g.val
    omega
  · show r.val = (256 * g.val + r.val) % 256
    omega
  · intro b hb
    match b with
    | ⟨0, _⟩ => exact absurd rfl hb
    | ⟨1, _⟩ => rfl
  · refine extractStridedSlice_apply _ _ _ _ _ fun a => ?_
    match a with
    | ⟨0, _⟩ => show r.val = 0 + r.val; omega
    | ⟨1, _⟩ => rfl

theorem stackS_apply (x : Fin 4 → EReal) (g : Fin 4) (r : Fin 256) : stackS x (ix2 ⟨256 * g.val + r.val, by omega⟩ 0) = x g := by
  unfold stackS
  refine (concatenate_ofFn_apply (s₁ := S256x1) 0 (fun g : Fin 4 => broadcast S256x1 (x g))
    concatenates_S256x1_S256x1_S256x1_S256x1_S1024x1_d0 rfl 256 rfl _ g ?_ (ix2 r 0) ?_ ?_).trans rfl
  · show (256 * g.val + r.val) / 256 = g.val
    omega
  · show r.val = (256 * g.val + r.val) % 256
    omega
  · intro b hb
    match b with
    | ⟨0, _⟩ => exact absurd rfl hb
    | ⟨1, _⟩ => rfl

/-- The heads that go with key head `kv`, from the blocks. -/
def group (sk : FVec Ideal S8 .f32) (q : FVec Ideal S1x256x512 .bf16) (k v : FVec Ideal S1x256x128 .bf16) (kv : Fin 2) : FVec Ideal S1024x64 .f32 :=
  heads (stackQ kv (k0_pay4 q)) (extractStridedSlice S256x64 ![0, 64 * kv.val] (k0_pay2 k) (kv_slices kv))
    (extractStridedSlice S256x64 ![0, 64 * kv.val] (k0_pay3 v) (kv_slices kv)) (stackS fun g => sk (ix1 ⟨4 * kv.val + g.val, by omega⟩))

/-- The stored block. -/
def block (sk : FVec Ideal S8 .f32) (q : FVec Ideal S1x256x512 .bf16) (k v : FVec Ideal S1x256x128 .bf16) : FVec Ideal S1x256x512 .bf16 :=
  shapeCast S1x256x512 (truncf .bf16 (concatenate S256x512 1
    (List.ofFn fun n : Fin 8 => ⟨S256x64, extractStridedSlice S256x64 ![256 * (n.val % 4), 0] (group sk q k v ⟨n.val / 4, by omega⟩)
      (out_slices ⟨n.val % 4, by omega⟩)⟩)
    concatenates_S256x64_S256x64_S256x64_S256x64_S256x64_S256x64_S256x64_S256x64_S256x512_d1) bitsLt_bf16_f32) shapeCasts_S256x512_S1x256x512

/-- The block at an index is a row of its group. -/
theorem block_at (sk : FVec Ideal S8 .f32) (q : FVec Ideal S1x256x512 .bf16) (k v : FVec Ideal S1x256x128 .bf16) (kv : Fin 2) (g : Fin 4)
    (r : Fin 256) (d : Fin 64) :
    block sk q k v (ix3 0 r ⟨256 * kv.val + 64 * g.val + d.val, by omega⟩) = group sk q k v kv (ix2 ⟨256 * g.val + r.val, by omega⟩ d) := by
  have hq : (4 * kv.val + g.val) / 4 = kv.val := by omega
  have hr : (4 * kv.val + g.val) % 4 = g.val := by omega
  unfold block
  refine (shapeCast_apply _ _ _ (ix2 r ⟨256 * kv.val + 64 * g.val + d.val, by omega⟩)
    (by rw [Shape.rowMajor_val_two, Shape.rowMajor_val_three]; simp)).trans ?_
  rw [truncf_apply]
  refine (concatenate_ofFn_apply (s₁ := S256x64) 1
    (fun n : Fin 8 => extractStridedSlice S256x64 ![256 * (n.val % 4), 0] (group sk q k v ⟨n.val / 4, by omega⟩) (out_slices ⟨n.val % 4, by omega⟩))
    concatenates_S256x64_S256x64_S256x64_S256x64_S256x64_S256x64_S256x64_S256x64_S256x512_d1 rfl 64 rfl _
    ⟨4 * kv.val + g.val, by omega⟩ ?_ (ix2 r d) ?_ ?_).trans ?_
  · show (256 * kv.val + 64 * g.val + d.val) / 64 = 4 * kv.val + g.val
    omega
  · show d.val = (256 * kv.val + 64 * g.val + d.val) % 64
    omega
  · intro b hb
    match b with
    | ⟨0, _⟩ => rfl
    | ⟨1, _⟩ => exact absurd rfl hb
  · have e : (⟨(4 * kv.val + g.val) / 4, by omega⟩ : Fin 2) = kv := Fin.ext hq
    show extractStridedSlice S256x64 ![256 * ((4 * kv.val + g.val) % 4), 0] (group sk q k v ⟨(4 * kv.val + g.val) / 4, _⟩) _ (ix2 r d) = _
    rw [e]
    refine extractStridedSlice_apply _ _ _ _ _ fun a => ?_
    match a with
    | ⟨0, _⟩ => show 256 * g.val + r.val = 256 * ((4 * kv.val + g.val) % 4) + r.val; rw [hr]
    | ⟨1, _⟩ => show d.val = 0 + d.val; omega

/-- The stored payload is the block. -/
theorem pay_eq (x0 : FVec Ideal S8 .f32) (q : FVec Ideal S1x256x512 .bf16) (k v : FVec Ideal S1x256x128 .bf16) (s : Fin 8 → EReal)
    (hs : ∀ h : Fin 8, s h = x0 (ix1 h)) :
    k0_pay1 (F := Ideal) (k0_pay2 k) (k0_pay3 v) (k0_pay4 q) (k0_pay6 k v q (s 0) (s 1) (s 2) (s 3)) (k0_pay7 k v q (s 0) (s 1) (s 2) (s 3))
      (k0_pay8 k v q (s 0) (s 1) (s 2) (s 3)) (k0_pay9 k v q (s 0) (s 1) (s 2) (s 3)) (s 4) (s 5) (s 6) (s 7) = block x0 q k v := by
  obtain rfl : s = fun h => x0 (ix1 h) := funext hs
  rfl

end Cert.CtxAttn

end
-- ==== Proof.CtxArray.lean ====
/- The context attention's result array as one function of the argument arrays. -/
module

public import proofs.«01_k».proof.Proof.CtxBody

@[expose] public section

set_option backward.proofsInPublic true

noncomputable section

open scoped BigOperators

namespace Cert.CtxAttn

open Idealize.ShloMosaic Idealize.ShloMosaic.ValueIdx Idealize.ShloMosaic.TcCoe Idealize.SL.Sem Cert.CtxIdeal Cert.CtxIdeal.Gen
  Cert.CtxIdeal.Value

/-- The score of row `n`'s head `4 * kv + g` against row `p` of the keys of batch `b`. -/
def score (Q : FVec Ideal S32x256x512 .bf16) (K : FVec Ideal S32x256x128 .bf16) (b : Fin 32) (n : Fin 256) (kv : Fin 2) (g : Fin 4) (p : Fin 256) : EReal :=
  ∑ e : Fin 64, Q (ix3 b n ⟨256 * kv.val + 64 * g.val + e.val, by omega⟩) * K (ix3 b p ⟨64 * kv.val + e.val, by omega⟩)

/-- The attention of row `n`, head `4 * kv + g`, at its column `d`. -/
def result (s : FVec Ideal S8 .f32) (Q : FVec Ideal S32x256x512 .bf16) (K V : FVec Ideal S32x256x128 .bf16) (b : Fin 32) (n : Fin 256) (kv : Fin 2)
    (g : Fin 4) (d : Fin 64) : EReal :=
  mean (score Q K b n kv g) (s (ix1 ⟨4 * kv.val + g.val, by omega⟩)) fun p => V (ix3 b p ⟨64 * kv.val + d.val, by omega⟩)

/-- The array of `result`s. -/
def G (s : FVec Ideal S8 .f32) (Q : FVec Ideal S32x256x512 .bf16) (K V : FVec Ideal S32x256x128 .bf16) : FVec Ideal S32x256x512 .bf16 := fun j =>
  result s Q K V (j 0) (j 1) ⟨(j 2).val / 256, by have h : (j 2).val < 512 := (j 2).isLt; omega⟩ ⟨(j 2).val / 64 % 4, by omega⟩
    ⟨(j 2).val % 64, by omega⟩

/-- A column is a column of a head. -/
theorem exists_col (e : Fin 512) : ∃ (kv : Fin 2) (g : Fin 4) (d : Fin 64), e = ⟨256 * kv.val + 64 * g.val + d.val, by omega⟩ :=
  ⟨⟨e.val / 256, by omega⟩, ⟨e.val / 64 % 4, by omega⟩, ⟨e.val % 64, by omega⟩,
    Fin.ext (by show e.val = 256 * (e.val / 256) + 64 * (e.val / 64 % 4) + e.val % 64; omega)⟩

theorem G_apply (s : FVec Ideal S8 .f32) (Q : FVec Ideal S32x256x512 .bf16) (K V : FVec Ideal S32x256x128 .bf16) (b : Fin 32) (n : Fin 256)
    (kv : Fin 2) (g : Fin 4) (d : Fin 64) :
    G s Q K V (ix3 b n ⟨256 * kv.val + 64 * g.val + d.val, by omega⟩) = result s Q K V b n kv g d := by
  have h1 : (256 * kv.val + 64 * g.val + d.val) / 256 = kv.val := by omega
  have h2 : (256 * kv.val + 64 * g.val + d.val) / 64 % 4 = g.val := by omega
  have h3 : (256 * kv.val + 64 * g.val + d.val) % 64 = d.val := by omega
  show result s Q K V b n ⟨(256 * kv.val + 64 * g.val + d.val) / 256, _⟩ ⟨(256 * kv.val + 64 * g.val + d.val) / 64 % 4, _⟩
    ⟨(256 * kv.val + 64 * g.val + d.val) % 64, _⟩ = _
  simp only [h1, h2, h3]

/-- The stored block at an index, from what the blocks hold. -/
theorem block_apply (b : Fin 32) (s : FVec Ideal S8 .f32) (Q : FVec Ideal S32x256x512 .bf16) (K V : FVec Ideal S32x256x128 .bf16)
    (q : FVec Ideal S1x256x512 .bf16) (k v : FVec Ideal S1x256x128 .bf16) (hq : ∀ r e, q (ix3 0 r e) = Q (ix3 b r e))
    (hk : ∀ r e, k (ix3 0 r e) = K (ix3 b r e)) (hv : ∀ r e, v (ix3 0 r e) = V (ix3 b r e))
    (hs : ∀ n kv g p, score Q K b n kv g p ≠ ⊤) (hsk : ∀ h, ∃ x : ℝ, @Eq EReal (s h) x) (r : Fin 256) (kv : Fin 2) (g : Fin 4) (d : Fin 64) :
    block s q k v (ix3 0 r ⟨256 * kv.val + 64 * g.val + d.val, by omega⟩) = result s Q K V b r kv g d := by
  have hcol : ∀ (x : FVec Ideal S1x256x128 .bf16) (c : Fin 256) (e : Fin 64),
      extractStridedSlice S256x64 ![0, 64 * kv.val] (shapeCast S256x128 x shapeCasts_S1x256x128_S256x128) (kv_slices kv) (ix2 c e)
        = x (ix3 0 c ⟨64 * kv.val + e.val, by omega⟩) := fun x c e => by
    refine (extractStridedSlice_apply _ _ _ _ (ix2 c ⟨64 * kv.val + e.val, by omega⟩) fun a => ?_).trans ?_
    · match a with
      | ⟨0, _⟩ => show c.val = 0 + c.val; omega
      | ⟨1, _⟩ => rfl
    · exact shapeCast_apply _ _ _ _ (by rw [Shape.rowMajor_val_two, Shape.rowMajor_val_three]; simp)
  have hrow : ∀ e : Fin 64, stackQ kv (k0_pay4 q) (ix2 ⟨256 * g.val + r.val, by omega⟩ e) = q (ix3 0 r ⟨256 * kv.val + 64 * g.val + e.val, by omega⟩) := fun e => by
    rw [stackQ_apply]
    unfold k0_pay4
    exact shapeCast_apply _ _ _ _ (by rw [Shape.rowMajor_val_two, Shape.rowMajor_val_three]; simp)
  have hsc : ∀ c, scores (stackQ kv (k0_pay4 q)) (extractStridedSlice S256x64 ![0, 64 * kv.val] (k0_pay2 k) (kv_slices kv))
      (ix2 ⟨256 * g.val + r.val, by omega⟩ c) = score Q K b r kv g c := fun c => by
    rw [scores_apply]
    refine Finset.sum_congr rfl fun e _ => ?_
    rw [hrow, hq, ← hk]
    exact congrArg _ (hcol k c e)
  rw [block_at]
  unfold group
  rw [heads_apply _ _ _ _ _ _ (fun c => by rw [hsc]; exact hs _ _ _ _) (by rw [stackS_apply]; exact hsk _), stackS_apply]
  unfold result
  congr 1
  · exact funext hsc
  · exact funext fun c => (hcol v c d).trans (hv _ _)

/-- The body leaves the block in the output's staging buffer. -/
theorem out_eq (c : Dev nD) (i : grid0.Coords) (arg1 : Memref sig .tc .smem S8 .f32) (harg1 : arg1.IsWhole)
    (arg2 : Memref sig .tc .vmem S1x256x512 .bf16) (harg2 : arg2.IsWhole) (arg3 : Memref sig .tc .vmem S1x256x128 .bf16) (harg3 : arg3.IsWhole)
    (arg4 : Memref sig .tc .vmem S1x256x128 .bf16) (harg4 : arg4.IsWhole) (arg5 : Memref sig .tc .vmem S1x256x512 .bf16) (harg5 : arg5.IsWhole)
    (x0 : Vec Ideal S8 .f32) (x1 : Vec Ideal S1x256x512 .bf16) (x2 x3 : Vec Ideal S1x256x128 .bf16) :
    out0_A_4 (F := Ideal) c i arg1 harg1 arg2 harg2 arg3 harg3 arg4 harg4 arg5 harg5 x0 x1 x2 x3 = block x0 x1 x2 x3 := by
  have hz : (![0, 0, 0] : Fin 3 → Nat) = fun _ => 0 := funext fun a => by fin_cases a <;> rfl
  have hw : ∀ (k : ℕ) (hk : k < 8) (inb : ∀ a, (![k] : Fin 1 → ℕ) a + S1.size a ≤ S8.size a) (x : S1.Idx),
      View.readAt (Elt Ideal) arg1.view (Rect.unit (s := S8) ![k] S1.size inb).toLoadRect (harg1.unread x0) x = x0 (ix1 ⟨k, hk⟩) := fun k hk inb x => by
    rw [harg1.readAt_unread]
    refine congrArg x0 (funext fun a => Fin.ext ?_)
    match a with
    | ⟨0, _⟩ =>
      have h0 : (x 0).val < 1 := (x 0).isLt
      show k + 1 * (x 0).val = k
      omega
  unfold out0_A_4
  rw [View.read_writes_junk_eq_canon]
  dsimp only [kernelRun0_A]
  refine (View.canon_unit_zero hz inb_S1x256x512_S1x256x512_0_0_0 _).trans ?_
  simp only [kernelRun0_A.sl.r_14, kernelRun0_A.sl.r_13, kernelRun0_A.sl.r_12, kernelRun0_A.sl.r_11, kernelRun0_A.sl.r_10, kernelRun0_A.sl.r_9,
    kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r]
  rw [Tools.readAt_whole harg2 x1, Tools.readAt_whole harg3 x2, Tools.readAt_whole harg4 x3]
  rw [hw 0 (by omega), hw 1 (by omega), hw 2 (by omega), hw 3 (by omega), hw 4 (by omega), hw 5 (by omega), hw 6 (by omega), hw 7 (by omega)]
  exact pay_eq x0 x1 x2 x3 (fun h => x0 (ix1 h)) fun _ => rfl

/-! ## The windows -/

/-- Every array's block of point `t` is batch `t`. -/
theorem idx (t : Fin cfg0.N) : win0_0.index t (0 : Fin 1) = 0
    ∧ (win0_1.index t (0 : Fin 3) = t.val ∧ win0_1.index t (1 : Fin 3) = 0 ∧ win0_1.index t (2 : Fin 3) = 0)
    ∧ win0_2.index t (0 : Fin 3) = t.val ∧ win0_2.index t (1 : Fin 3) = 0 ∧ win0_2.index t (2 : Fin 3) = 0 :=
  (by decide +kernel : ∀ t : Fin grid0.N, win0_0.index t (0 : Fin 1) = 0
    ∧ (win0_1.index t (0 : Fin 3) = t.val ∧ win0_1.index t (1 : Fin 3) = 0 ∧ win0_1.index t (2 : Fin 3) = 0)
    ∧ win0_2.index t (0 : Fin 3) = t.val ∧ win0_2.index t (1 : Fin 3) = 0 ∧ win0_2.index t (2 : Fin 3) = 0) t

/-- The batch of a grid point. -/
def bOf (t : Fin cfg0.N) : Fin 32 := ⟨t.val, t.isLt⟩

/-- A row of the queries' block, and of the result's. -/
theorem emb_q (t : Fin cfg0.N) (r : Fin 256) (e : Fin 512) : ((cfg0.win 1).blk t).view.emb (ix3 0 r e) = (ix3 (bOf t) r e : S32x256x512.Idx) := by
  obtain ⟨_, ⟨e0, e1, e2⟩, _⟩ := idx t
  refine funext fun a => Fin.ext ?_
  match a with
  | ⟨0, _⟩ => show win0_1.index t (0 : Fin 3) * 1 + 1 * 0 = t.val; omega
  | ⟨1, _⟩ => show win0_1.index t (1 : Fin 3) * 256 + 1 * r.val = r.val; omega
  | ⟨2, _⟩ => show win0_1.index t (2 : Fin 3) * 512 + 1 * e.val = e.val; omega

/-- A row of the keys' block, and of the values'. -/
theorem emb_k (t : Fin cfg0.N) (r : Fin 256) (e : Fin 128) : ((cfg0.win 2).blk t).view.emb (ix3 0 r e) = (ix3 (bOf t) r e : S32x256x128.Idx) := by
  obtain ⟨_, _, e0, e1, e2⟩ := idx t
  refine funext fun a => Fin.ext ?_
  match a with
  | ⟨0, _⟩ => show win0_2.index t (0 : Fin 3) * 1 + 1 * 0 = t.val; omega
  | ⟨1, _⟩ => show win0_2.index t (1 : Fin 3) * 256 + 1 * r.val = r.val; omega
  | ⟨2, _⟩ => show win0_2.index t (2 : Fin 3) * 128 + 1 * e.val = e.val; omega

variable (m : (ℓ : Loc nD τ sig) → Buf (Elt Ideal) ℓ) (c : Dev nD)

/-- The sinks are read whole. -/
theorem iblk0_eq (t : Fin cfg0.N) : iblk m c 0 t = V m c main_arg0 := by
  funext j
  show V m c main_arg0 (((cfg0.win 0).blk t).view.emb j) = V m c main_arg0 j
  refine congrArg (V m c main_arg0) (funext fun a => Fin.ext ?_)
  obtain ⟨e, _⟩ := idx t
  match a with
  | ⟨0, _⟩ => show win0_0.index t (0 : Fin 1) * 8 + 1 * (j 0).val = (j 0).val; omega

/-- The array that the call leaves. -/
abbrev GV : FVec Ideal S32x256x512 .bf16 := G (V m c main_arg0) (V m c main_v2) (V m c main_v3) (V m c main_v4)

section

variable (hs : ∀ b n kv g p, score (V m c main_v2) (V m c main_v3) b n kv g p ≠ ⊤)
  (hsk : ∀ h, ∃ x : ℝ, @Eq EReal (V m c main_arg0 h) (x : EReal))

include hs hsk

/-- What a point writes back is its block of the array. -/
theorem flushed_eq (t : Fin cfg0.N) : (dats m 0 c).flushed 4 t = ((cfg0.win 4).blk t).view.read (Elt Ideal) (GV m c) := by
  rw [flushed4_A, out_eq]
  funext j
  obtain ⟨a, r, e, rfl⟩ : ∃ (a : Fin 1) (r : Fin 256) (e : Fin 512), j = ix3 a r e := ⟨_, _, _, eq_ix3 _⟩
  obtain rfl : a = 0 := Subsingleton.elim _ _
  obtain ⟨kv, g, d, rfl⟩ := exists_col e
  show block (iblk m c 0 t) (iblk m c 1 t) (iblk m c 2 t) (iblk m c 3 t) (ix3 0 r ⟨256 * kv.val + 64 * g.val + d.val, by omega⟩)
    = GV m c (((cfg0.win 1).blk t).view.emb (ix3 0 r ⟨256 * kv.val + 64 * g.val + d.val, by omega⟩))
  rw [emb_q, iblk0_eq]
  refine Eq.trans ?_ (G_apply _ _ _ _ _ _ kv g d).symm
  exact block_apply (bOf t) (V m c main_arg0) (V m c main_v2) (V m c main_v3) (V m c main_v4) (iblk m c 1 t) (iblk m c 2 t) (iblk m c 3 t)
    (fun r e => congrArg (V m c main_v2) (emb_q t r e)) (fun r e => congrArg (V m c main_v3) (emb_k t r e))
    (fun r e => congrArg (V m c main_v4) (emb_k t r e)) (hs _) hsk r kv g d

/-- The array after the run. -/
theorem final : (dats m 0 c).arrAt 4 cfg0.N = GV m c := by
  refine (dats m 0 c).arrAt_eq_of_cover 4 (GV m c) (fun t _ => flushed_eq m c hs hsk t) fun i => ?_
  obtain ⟨b, n, e, rfl⟩ : ∃ (b : Fin 32) (n : Fin 256) (e : Fin 512), i = ix3 b n e := ⟨_, _, _, eq_ix3 _⟩
  refine ⟨(⟨b.val, b.isLt⟩ : Fin cfg0.N), flush0_4 _, ?_⟩
  have h := ((cfg0.win 4).blk (⟨b.val, b.isLt⟩ : Fin cfg0.N)).view.emb_mem_set (ix3 0 n e)
  have he : ((cfg0.win 4).blk (⟨b.val, b.isLt⟩ : Fin cfg0.N)).view.emb (ix3 0 n e) = (ix3 b n e : S32x256x512.Idx) :=
    emb_q (⟨b.val, b.isLt⟩ : Fin cfg0.N) n e
  rw [he] at h
  exact h

end

/-! ## The host's operations -/

/-- The queries as the call takes them. -/
def scaled (x : FVec Ideal S32x256x512 .f32) : FVec Ideal S32x256x512 .bf16 := fun j => x j * FloatOps.ofBits (F := Ideal) .f32 0x3E000000#32

theorem V_main_v2 : V m c main_v2 = scaled (m ((c : Thread nD τ).loc main_arg1)) := by
  show StableHlo.after hostOps0 _ (Proc.devRef .tc main_v2) = _
  after_results
  rfl
theorem V_main_v3 : V m c main_v3 = m ((c : Thread nD τ).loc main_arg2) := by
  show StableHlo.after hostOps0 _ (Proc.devRef .tc main_v3) = _
  after_results
  rfl
theorem V_main_v4 : V m c main_v4 = m ((c : Thread nD τ).loc main_arg3) := by
  show StableHlo.after hostOps0 _ (Proc.devRef .tc main_v4) = _
  after_results
  rfl

end Cert.CtxAttn

end
-- ==== Proof.CtxRef.lean ====
/- The context attention's reference read at an index: the same row. -/
module

public import proofs.«01_k».proof.Proof.Gen.CtxReferenceIdeal.Read
public import proofs.«01_k».proof.Proof.CtxArray
public import proofs.«01_k».proof.Proof.AttnRef
public import Idealize.ShloMosaic.Lib.KernelVsHost

@[expose] public section

set_option backward.proofsInPublic true

noncomputable section

open scoped BigOperators

namespace Cert.CtxAttn

open Idealize.ShloMosaic Idealize.ShloMosaic.ValueIdx Cert.CtxReferenceIdeal Cert.CtxReferenceIdeal.Gen Cert.CtxReferenceIdeal.Read

/-- A sum over the scores and the sink. -/
theorem sum_logits (f : Fin 257 → EReal) : ∑ k, f k = (∑ j : Fin 256, f ⟨j.val, by omega⟩) + f ⟨256, by omega⟩ := Fin.sum_univ_castSucc f

/-- The maximum of the scores and the sink. -/
theorem sup_logits (f : Fin 257 → EReal) : Finset.univ.sup f = max (Finset.univ.sup fun j : Fin 256 => f ⟨j.val, by omega⟩) (f ⟨256, by omega⟩) := by
  refine le_antisymm (Finset.sup_le fun k _ => ?_) (max_le (Finset.sup_le fun j _ => Finset.le_sup (Finset.mem_univ _)) (Finset.le_sup (Finset.mem_univ _)))
  rcases Nat.lt_or_ge k.val 256 with h | h
  · exact le_max_of_le_left (Finset.le_sup (f := fun j : Fin 256 => f ⟨j.val, by omega⟩) (Finset.mem_univ ⟨k.val, h⟩))
  · have e : k = ⟨256, by omega⟩ := Fin.ext (by show k.val = 256; omega)
    exact (congrArg f e).le.trans (le_max_right _ _)

variable (x0 : FVec Ideal S8 .f32) (x1 : FVec Ideal S32x256x512 .f32) (x2 x3 : FVec Ideal S32x256x128 .f32)

/-- The reshaped keys (and values) at an index. -/
theorem ref_k (b : Fin 32) (n : Fin 256) (kv : Fin 2) (e : Fin 64) :
    val_main_v1 (F := Ideal) x2 (ix4 b n kv e) = x2 (ix3 b n ⟨64 * kv.val + e.val, by omega⟩) := by
  rw [val_main_v1_apply]
  refine congrArg x2 (funext fun a => Fin.ext ?_)
  match a with
  | ⟨0, _⟩ => show (((b.val * 256 + n.val) * 2 + kv.val) * 64 + e.val) / 32768 = b.val; omega
  | ⟨1, _⟩ => show (((b.val * 256 + n.val) * 2 + kv.val) * 64 + e.val) / 128 % 256 = n.val; omega
  | ⟨2, _⟩ => show (((b.val * 256 + n.val) * 2 + kv.val) * 64 + e.val) % 128 = 64 * kv.val + e.val; omega

/-- The score. -/
theorem ref_score (b : Fin 32) (kv : Fin 2) (g : Fin 4) (n p : Fin 256) :
    val_main_v7 (F := Ideal) x1 x2 (ix5 b kv g n p) = score (scaled x1) x2 b n kv g p := by
  rw [val_main_v7_apply, val_main_v5_apply, val_main_v4_apply, val_main_v6_apply, val_main_cst_apply]
  show (_ : EReal) * _ = _
  rw [Attn.c_eighth, Attn.sum_mul_coe _ _ _ (by norm_num)]
  refine Finset.sum_congr rfl fun e _ => ?_
  have e1 : val_main_v1 (F := Ideal) x2 (lidx_main_v4 (idx_main_v5 (ix5 b kv g n p)) e) = x2 (ix3 b p ⟨64 * kv.val + e.val, by omega⟩) := by
    rw [← ref_k x2 b p kv e]
    refine congrArg _ (funext fun a => ?_)
    match a with | ⟨0, _⟩ => rfl | ⟨1, _⟩ => rfl | ⟨2, _⟩ => rfl | ⟨3, _⟩ => rfl
  have e2 : val_main_v0 (F := Ideal) x1 (ridx_main_v4 (idx_main_v5 (ix5 b kv g n p)) e)
      = x1 (ix3 b n ⟨256 * kv.val + 64 * g.val + e.val, by omega⟩) := by
    rw [val_main_v0_apply]
    refine congrArg x1 (funext fun a => Fin.ext ?_)
    match a with
    | ⟨0, _⟩ => show ((((b.val * 256 + n.val) * 2 + kv.val) * 4 + g.val) * 64 + e.val) / 131072 = b.val; omega
    | ⟨1, _⟩ => show ((((b.val * 256 + n.val) * 2 + kv.val) * 4 + g.val) * 64 + e.val) / 512 % 256 = n.val; omega
    | ⟨2, _⟩ => show ((((b.val * 256 + n.val) * 2 + kv.val) * 4 + g.val) * 64 + e.val) % 512 = 256 * kv.val + 64 * g.val + e.val; omega
  rw [e1, e2]
  unfold scaled
  rw [Attn.c_eighth]
  show x2 _ * x1 _ * _ = x1 _ * _ * x2 _
  rw [mul_comm (x2 _) (x1 _), mul_right_comm]

section

variable (b : Fin 32) (kv : Fin 2) (g : Fin 4) (n : Fin 256)

/-- The row's scores and its sink. -/
abbrev sRow : Fin 256 → EReal := score (scaled x1) x2 b n kv g
abbrev sSink : EReal := x0 (ix1 ⟨4 * kv.val + g.val, by omega⟩)

/-- The parts of the joined logits. -/
abbrev parts (y1 : S32x2x4x256x256.Idx → EReal) (y2 : S32x2x4x256x1.Idx → EReal) : List ((s : Shape) × (s.Idx → EReal)) :=
  [⟨S32x2x4x256x256, y1⟩, ⟨S32x2x4x256x1, y2⟩]

theorem logit_score (p : Fin 256) : val_main_v10 (F := Ideal) x0 x1 x2 (ix5 b kv g n ⟨p.val, by omega⟩) = sRow x1 x2 b kv g n p := by
  refine Eq.trans ?_ (ref_score x1 x2 b kv g n p)
  exact concatenate_apply_piece (t := S32x2x4x256x257) 4 (parts (val_main_v7 (F := Ideal) x1 x2) (val_main_v9 (F := Ideal) x0)) _ _ 0
    (by show 0 < 2; omega) S32x2x4x256x256 _ rfl rfl 0 rfl (ix5 b kv g n p)
    (fun a ha => by match a with | ⟨0, _⟩ => rfl | ⟨1, _⟩ => rfl | ⟨2, _⟩ => rfl | ⟨3, _⟩ => rfl | ⟨4, _⟩ => exact absurd rfl ha) (Nat.zero_add _)

theorem logit_sink : val_main_v10 (F := Ideal) x0 x1 x2 (ix5 b kv g n ⟨256, by omega⟩) = sSink x0 kv g := by
  have hs : val_main_v9 (F := Ideal) x0 (ix5 b kv g n 0) = sSink x0 kv g := by
    rw [val_main_v9_apply, val_main_v8_apply, val_main_v3_apply]
    refine congrArg x0 (funext fun a => Fin.ext ?_)
    match a with
    | ⟨0, _⟩ => show kv.val * 4 + g.val = 4 * kv.val + g.val; omega
  refine Eq.trans ?_ hs
  exact concatenate_apply_piece (t := S32x2x4x256x257) 4 (parts (val_main_v7 (F := Ideal) x1 x2) (val_main_v9 (F := Ideal) x0)) _ _ 1
    (by show 1 < 2; omega) S32x2x4x256x1 _ rfl rfl 256 (by simp) (ix5 b kv g n 0)
    (fun a ha => by match a with | ⟨0, _⟩ => rfl | ⟨1, _⟩ => rfl | ⟨2, _⟩ => rfl | ⟨3, _⟩ => rfl | ⟨4, _⟩ => exact absurd rfl ha) rfl

/-- The row's maximum. -/
theorem ref_max : val_main_v13 (F := Ideal) x0 x1 x2 (ix4 b kv g n) = top (sRow x1 x2 b kv g n) (sSink x0 kv g) := by
  rw [val_main_v13_apply, val_main_v12_apply, val_main_cst_1_apply, Attn.c_negInf]
  show max (⊥ : EReal) _ = _
  rw [max_eq_right bot_le]
  have h : val_main_v11 (F := Ideal) x0 x1 x2 (ix4 b kv g n) = Finset.univ.sup fun k : Fin 257 => val_main_v10 (F := Ideal) x0 x1 x2 (ix5 b kv g n k) := by
    unfold val_main_v11 val_main_cst_0
    refine (congrFun (hostReduce_maximumf_eq_multiReduction (F := Ideal) (φ := .f32) (s := S32x2x4x256x257) (val_main_v10 (F := Ideal) x0 x1 x2) 0xFF800000#32
      reducesTo_S32x2x4x256x257_S32x2x4x256_d4 h_S_ (show S32x2x4x256x257.Reduces [4] S32x2x4x256 by decide) (.inl rfl) rfl) (ix4 b kv g n)).trans ?_
    refine (Ideal.multiReduction_maximumf_single _ _ _ _ _ (ix4 b kv g n)).trans ?_
    rw [Attn.c_negInf]
    show Finset.univ.sup _ = _
    refine Finset.sup_congr rfl fun k _ => congrArg (val_main_v10 (F := Ideal) x0 x1 x2) (funext fun a => ?_)
    match a with | ⟨0, _⟩ => rfl | ⟨1, _⟩ => rfl | ⟨2, _⟩ => rfl | ⟨3, _⟩ => rfl | ⟨4, _⟩ => rfl
  rw [h, sup_logits]
  unfold top
  simp only [logit_score, logit_sink]

/-- An exponential. -/
theorem ref_exp (k : Fin 257) : val_main_v17 (F := Ideal) x0 x1 x2 (ix5 b kv g n k)
    = Ideal.exp (val_main_v10 (F := Ideal) x0 x1 x2 (ix5 b kv g n k) - top (sRow x1 x2 b kv g n) (sSink x0 kv g)) := by
  rw [val_main_v17_apply, val_main_v16_apply, val_main_v15_apply, val_main_v14_apply]
  show Ideal.exp (_ - _) = _
  rw [← ref_max]
  congr 3
  funext a
  match a with | ⟨0, _⟩ => rfl | ⟨1, _⟩ => rfl | ⟨2, _⟩ => rfl | ⟨3, _⟩ => rfl

/-- The row's denominator. -/
theorem ref_den : val_main_v18 (F := Ideal) x0 x1 x2 (ix4 b kv g n) = den (sRow x1 x2 b kv g n) (sSink x0 kv g) := by
  rw [val_main_v18_apply, val_main_cst_2_apply]
  have h0 : FloatOps.ofBits (F := Ideal) .f32 0x00000000#32 = (0 : EReal) := by
    show Ideal.ofBits .f32 0x00000000#32 = _
    simp [Ideal.ofBits, Ideal.ieee]
  have h : ∀ k, val_main_v17 (F := Ideal) x0 x1 x2 (idx_main_v18 (ix4 b kv g n) k)
      = Ideal.exp (val_main_v10 (F := Ideal) x0 x1 x2 (ix5 b kv g n k) - top (sRow x1 x2 b kv g n) (sSink x0 kv g)) := fun k => by
    rw [← ref_exp]
    refine congrArg _ (funext fun a => ?_)
    match a with | ⟨0, _⟩ => rfl | ⟨1, _⟩ => rfl | ⟨2, _⟩ => rfl | ⟨3, _⟩ => rfl | ⟨4, _⟩ => rfl
  rw [h0, zero_add]
  simp only [h]
  rw [sum_logits]
  unfold den
  simp only [logit_score, logit_sink]

/-- A probability. -/
theorem ref_prob (p : Fin 256) : val_main_v22 (F := Ideal) x0 x1 x2 (ix5 b kv g n p)
    = Ideal.div (Ideal.exp (sRow x1 x2 b kv g n p - top (sRow x1 x2 b kv g n) (sSink x0 kv g))) (den (sRow x1 x2 b kv g n) (sSink x0 kv g)) := by
  have e : idx_main_v22 (ix5 b kv g n p) = ix5 b kv g n ⟨p.val, by omega⟩ := by
    refine funext fun a => ?_
    match a with | ⟨0, _⟩ => rfl | ⟨1, _⟩ => rfl | ⟨2, _⟩ => rfl | ⟨3, _⟩ => rfl | ⟨4, _⟩ => rfl
  rw [val_main_v22_apply, e, val_main_v21_apply, val_main_v20_apply, val_main_v19_apply, ref_exp, logit_score, ← ref_den]
  show Ideal.div _ _ = _
  congr 2
  funext a
  match a with | ⟨0, _⟩ => rfl | ⟨1, _⟩ => rfl | ⟨2, _⟩ => rfl | ⟨3, _⟩ => rfl

end

/-- The reference's result is the same array. -/
theorem ref_eq : val_main_v26 (F := Ideal) x0 x1 x2 x3 = G x0 (scaled x1) x2 x3 := by
  funext j
  obtain ⟨b, n, e, rfl⟩ : ∃ (b : Fin 32) (n : Fin 256) (e : Fin 512), j = ix3 b n e := ⟨_, _, _, eq_ix3 _⟩
  obtain ⟨kv, g, d, rfl⟩ := exists_col e
  rw [G_apply, val_main_v26_apply]
  show val_main_v25 (F := Ideal) x0 x1 x2 x3 _ = _
  rw [val_main_v25_apply]
  have hi : idx_main_v25 (ix3 b n ⟨256 * kv.val + 64 * g.val + d.val, by omega⟩) = ix5 b n kv g d := by
    refine funext fun a => Fin.ext ?_
    match a with
    | ⟨0, _⟩ => show ((b.val * 256 + n.val) * 512 + (256 * kv.val + 64 * g.val + d.val)) / 131072 = b.val; omega
    | ⟨1, _⟩ => show ((b.val * 256 + n.val) * 512 + (256 * kv.val + 64 * g.val + d.val)) / 512 % 256 = n.val; omega
    | ⟨2, _⟩ => show ((b.val * 256 + n.val) * 512 + (256 * kv.val + 64 * g.val + d.val)) / 256 % 2 = kv.val; omega
    | ⟨3, _⟩ => show ((b.val * 256 + n.val) * 512 + (256 * kv.val + 64 * g.val + d.val)) / 64 % 4 = g.val; omega
    | ⟨4, _⟩ => show ((b.val * 256 + n.val) * 512 + (256 * kv.val + 64 * g.val + d.val)) % 64 = d.val; omega
  rw [hi, val_main_v24_apply, val_main_v23_apply]
  unfold result mean
  refine Finset.sum_congr rfl fun p _ => ?_
  have e1 : val_main_v2 (F := Ideal) x3 (lidx_main_v23 (idx_main_v24 (ix5 b n kv g d)) p) = x3 (ix3 b p ⟨64 * kv.val + d.val, by omega⟩) := by
    rw [← ref_k x3 b p kv d]
    refine congrArg (val_main_v1 (F := Ideal) x3) (funext fun a => ?_)
    match a with | ⟨0, _⟩ => rfl | ⟨1, _⟩ => rfl | ⟨2, _⟩ => rfl | ⟨3, _⟩ => rfl
  have e2 : ridx_main_v23 (idx_main_v24 (ix5 b n kv g d)) p = ix5 b kv g n p := by
    refine funext fun a => ?_
    match a with | ⟨0, _⟩ => rfl | ⟨1, _⟩ => rfl | ⟨2, _⟩ => rfl | ⟨3, _⟩ => rfl | ⟨4, _⟩ => rfl
  rw [e1, e2, ref_prob]

end Cert.CtxAttn

end
-- ==== Proof.CtxClaim.lean ====
/- The context attention's value claim: from finite queries, keys and sinks, the call and the reference leave one array. -/
module

public import proofs.«01_k».proof.Defs
public import proofs.«01_k».proof.Proof.Gen.CtxReferenceIdeal.Run
public import proofs.«01_k».proof.Proof.CtxRef
public import proofs.«01_k».proof.Proof.AttnClaim

@[expose] public section

set_option backward.proofsInPublic true

noncomputable section

open scoped BigOperators

namespace Cert.CtxAttn

open Idealize.ShloMosaic Idealize.ShloMosaic.ValueIdx Idealize.SL.Sem

/-- The precondition's shape relations. -/
theorem pre_facts : Cert.Pre_finite_ctx_scores.Facts := ⟨by decide, by decide, by decide⟩

/-- A score of real queries against real keys is no infinity. -/
theorem score_ne_top (Q : FVec Ideal Cert.CtxIdeal.S32x256x512 .f32) (K : FVec Ideal Cert.CtxIdeal.S32x256x128 .f32)
    (hQ : ∀ i, ∃ r : ℝ, @Eq EReal (Q i) r) (hK : ∀ i, ∃ r : ℝ, @Eq EReal (K i) r) (b : Fin 32) (n : Fin 256) (kv : Fin 2) (g : Fin 4) (p : Fin 256) :
    score (scaled Q) K b n kv g p ≠ ⊤ := by
  obtain ⟨r, hr⟩ : ∃ r : ℝ, score (scaled Q) K b n kv g p = r := by
    refine Attn.sum_real _ _ fun e _ => ?_
    obtain ⟨a, ha⟩ := hQ (ix3 b n ⟨256 * kv.val + 64 * g.val + e.val, by omega⟩)
    obtain ⟨k, hk⟩ := hK (ix3 b p ⟨64 * kv.val + e.val, by omega⟩)
    refine ⟨a * (1 / 8) * k, ?_⟩
    unfold scaled
    rw [Attn.c_eighth, ha, hk, EReal.coe_mul, EReal.coe_mul]
  rw [hr]
  exact EReal.coe_ne_top r

/-- The value claim. -/
theorem algebraic :
    haveI := Cert.CtxIdeal.Gen.facts
    haveI := Cert.CtxReferenceIdeal.Gen.facts
    haveI := pre_facts
    Cert.algebraic_CtxIdeal_CtxReferenceIdeal_pre_finite_ctx_scores := by
  intro m ρ m' ρ' hpre hargs
  refine ⟨fun c => G (m ((c.tc : Thread Cert.CtxIdeal.nD Cert.CtxIdeal.τ).loc Cert.CtxIdeal.main_arg0))
      (scaled (m ((c.tc : Thread Cert.CtxIdeal.nD Cert.CtxIdeal.τ).loc Cert.CtxIdeal.main_arg1)))
      (m ((c.tc : Thread Cert.CtxIdeal.nD Cert.CtxIdeal.τ).loc Cert.CtxIdeal.main_arg2))
      (m ((c.tc : Thread Cert.CtxIdeal.nD Cert.CtxIdeal.τ).loc Cert.CtxIdeal.main_arg3)), ?_, ?_⟩
  · refine (θ_run _ _ _).mono (fun r h c => ⟨(h c).1.trans ((final m c ?_ ?_).trans ?_), (h c).2⟩) (Cert.CtxIdeal.Value.run_blocks m ρ)
    · intro b n kv g p
      rw [V_main_v2, V_main_v3]
      exact score_ne_top _ _ (Attn.real_of_lt _ _ (hpre c).2.1) (Attn.real_of_lt _ _ (hpre c).2.2) b n kv g p
    · intro h
      rw [Cert.CtxIdeal.Gen.V_main_arg0]
      exact Attn.real_of_lt _ _ (hpre c).1 h
    · unfold GV
      rw [V_main_v2, V_main_v3, V_main_v4, Cert.CtxIdeal.Gen.V_main_arg0]
  · refine (θ_run _ _ _).mono (fun r h c => ⟨(h c).1.trans ?_, (h c).2⟩) (Cert.CtxReferenceIdeal.Value.run m' ρ')
    obtain ⟨a0, a1, a2, a3⟩ := hargs c
    rw [Cert.CtxReferenceIdeal.Read.val_main_v26_eq, ref_eq, a0, a1, a2, a3]

end Cert.CtxAttn

end
-- ==== Proof.lean ====
/- The certificate's claim, put together: the frames of the seven calls and of their references, that the ideal programs are
   the calls', and what the calls compute. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Block.Frame
public import proofs.«01_k».proof.Proof.Gen.BlockIdeal.Frame
public import proofs.«01_k».proof.Proof.Gen.BlockIdeal.Value
public import proofs.«01_k».proof.Proof.Gen.BlockReferenceIdeal.Run
public import proofs.«01_k».proof.Proof.Gen.BlockReferenceIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InProjReferenceIdeal.Run
public import proofs.«01_k».proof.Proof.Gen.InProjReferenceIdeal.Read
public import proofs.«01_k».proof.Proof.Gen.Mods.Frame
public import proofs.«01_k».proof.Proof.Gen.ModsIdeal.Frame
public import proofs.«01_k».proof.Proof.Gen.ModsIdeal.Value
public import proofs.«01_k».proof.Proof.Gen.ModsReferenceIdeal.Run
public import proofs.«01_k».proof.Proof.Gen.ModsReferenceIdeal.Read
public import proofs.«01_k».proof.Proof.Gen.Ctx.Frame
public import proofs.«01_k».proof.Proof.Gen.CtxIdeal.Frame
public import proofs.«01_k».proof.Proof.Gen.CtxIdeal.Value
public import proofs.«01_k».proof.Proof.Gen.CtxReferenceIdeal.Run
public import proofs.«01_k».proof.Proof.Gen.CtxReferenceIdeal.Read
public import proofs.«01_k».proof.Proof.Gen.Pre_finite_ctx_scores
public import proofs.«01_k».proof.Proof.Gen.BlockCtx.Frame
public import proofs.«01_k».proof.Proof.Gen.BlockCtxIdeal.Frame
public import proofs.«01_k».proof.Proof.Gen.BlockCtxIdeal.Value
public import proofs.«01_k».proof.Proof.Gen.BlockCtxReferenceIdeal.Run
public import proofs.«01_k».proof.Proof.Gen.BlockCtxReferenceIdeal.Read
public import proofs.«01_k».proof.Proof.Gen.InProjCtx.Frame
public import proofs.«01_k».proof.Proof.Gen.InProjCtxIdeal.Frame
public import proofs.«01_k».proof.Proof.Gen.InProjCtxIdeal.Value
public import proofs.«01_k».proof.Proof.Gen.InProjCtxReferenceIdeal.Run
public import proofs.«01_k».proof.Proof.Gen.InProjCtxReferenceIdeal.Read
public import proofs.«01_k».proof.Proof.AttnClaim
public import proofs.«01_k».proof.Proof.BlockCtxClaim
public import proofs.«01_k».proof.Proof.BlockClaim
public import proofs.«01_k».proof.Proof.ProjClaim
public import proofs.«01_k».proof.Proof.ProjCtxClaim
public import proofs.«01_k».proof.Proof.AdaClaim
public import proofs.«01_k».proof.Proof.CtxClaim

@[expose] public section

noncomputable section

namespace Cert.Proof

open Idealize.ShloMosaic Idealize.SL.Sem

/-- The attention's reference runs, keeps its arguments and ends with every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the mixing block's reference. -/
theorem frame_block_reference : Cert.quiescent_BlockReferenceIdeal (hBlockReferenceIdeal := Cert.BlockReferenceIdeal.Gen.facts) := fun m ρ _ =>
  (θ_run Cert.BlockReferenceIdeal.defs _ _).mono (fun r h => ⟨fun c => (h c).2, sem_eq_zero_of_no_sems (by decide) r.2⟩)
    (Cert.BlockReferenceIdeal.Value.run (F := Ideal) m ρ)

/-- The same of the context's mixing block's reference. -/
theorem frame_block_ctx_reference : Cert.quiescent_BlockCtxReferenceIdeal (hBlockCtxReferenceIdeal := Cert.BlockCtxReferenceIdeal.Gen.facts) := fun m ρ _ =>
  (θ_run Cert.BlockCtxReferenceIdeal.defs _ _).mono (fun r h => ⟨fun c => (h c).2, sem_eq_zero_of_no_sems (by decide) r.2⟩)
    (Cert.BlockCtxReferenceIdeal.Value.run (F := Ideal) m ρ)

/-- The same of the input projection's reference. -/
theorem frame_inproj_reference : Cert.quiescent_InProjReferenceIdeal (hInProjReferenceIdeal := Cert.InProjReferenceIdeal.Gen.facts) := fun m ρ _ =>
  (θ_run Cert.InProjReferenceIdeal.defs _ _).mono (fun r h => ⟨fun c => (h c).2.2.2.2.2.2, sem_eq_zero_of_no_sems (by decide) r.2⟩)
    (Cert.InProjReferenceIdeal.Value.run (F := Ideal) m ρ)

/-- The same of the context's input projection's reference. -/
theorem frame_inproj_ctx_reference : Cert.quiescent_InProjCtxReferenceIdeal (hInProjCtxReferenceIdeal := Cert.InProjCtxReferenceIdeal.Gen.facts) := fun m ρ _ =>
  (θ_run Cert.InProjCtxReferenceIdeal.defs _ _).mono (fun r h => ⟨fun c => (h c).2.2.2.2.2.2, sem_eq_zero_of_no_sems (by decide) r.2⟩)
    (Cert.InProjCtxReferenceIdeal.Value.run (F := Ideal) m ρ)

/-- The same of the modulations' reference. -/
theorem frame_mods_reference : Cert.quiescent_ModsReferenceIdeal (hModsReferenceIdeal := Cert.ModsReferenceIdeal.Gen.facts) := fun m ρ _ =>
  (θ_run Cert.ModsReferenceIdeal.defs _ _).mono (fun r h => ⟨fun c => (h c).2, sem_eq_zero_of_no_sems (by decide) r.2⟩)
    (Cert.ModsReferenceIdeal.Value.run (F := Ideal) m ρ)

/-- The same of the context attention's reference. -/
theorem frame_ctx_reference : Cert.quiescent_CtxReferenceIdeal (hCtxReferenceIdeal := Cert.CtxReferenceIdeal.Gen.facts) := fun m ρ _ =>
  (θ_run Cert.CtxReferenceIdeal.defs _ _).mono (fun r h => ⟨fun c => (h c).2, sem_eq_zero_of_no_sems (by decide) r.2⟩)
    (Cert.CtxReferenceIdeal.Value.run (F := Ideal) m ρ)

/-- The claim. -/
theorem claim : Cert.Claim :=
  ⟨Cert.Kernel.Gen.facts, Cert.KernelIdeal.Gen.facts, Cert.ReferenceIdeal.Gen.facts, Cert.Block.Gen.facts, Cert.BlockIdeal.Gen.facts,
    Cert.BlockReferenceIdeal.Gen.facts, Cert.InProj.Gen.facts, Cert.InProjIdeal.Gen.facts, Cert.InProjReferenceIdeal.Gen.facts,
    Cert.Mods.Gen.facts, Cert.ModsIdeal.Gen.facts, Cert.ModsReferenceIdeal.Gen.facts, Cert.Ctx.Gen.facts, Cert.CtxIdeal.Gen.facts,
    Cert.CtxReferenceIdeal.Gen.facts, Cert.BlockCtx.Gen.facts, Cert.BlockCtxIdeal.Gen.facts, Cert.BlockCtxReferenceIdeal.Gen.facts,
    Cert.InProjCtx.Gen.facts, Cert.InProjCtxIdeal.Gen.facts, Cert.InProjCtxReferenceIdeal.Gen.facts,
    Cert.Attn.pre_facts, Cert.CtxAttn.pre_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Block.Gen.frame m ρ, fun m ρ _ => Cert.BlockIdeal.Gen.frame m ρ, frame_block_reference,
    fun m ρ _ => Cert.InProj.Gen.frame m ρ, fun m ρ _ => Cert.InProjIdeal.Gen.frame m ρ, frame_inproj_reference,
    fun m ρ _ => Cert.Mods.Gen.frame m ρ, fun m ρ _ => Cert.ModsIdeal.Gen.frame m ρ, frame_mods_reference,
    fun m ρ _ => Cert.Ctx.Gen.frame m ρ, fun m ρ _ => Cert.CtxIdeal.Gen.frame m ρ, fun m ρ _ => Cert.CtxIdeal.Gen.frame m ρ,
    frame_ctx_reference, fun m ρ _ => frame_ctx_reference m ρ trivial,
    fun m ρ _ => Cert.BlockCtx.Gen.frame m ρ, fun m ρ _ => Cert.BlockCtxIdeal.Gen.frame m ρ, frame_block_ctx_reference,
    fun m ρ _ => Cert.InProjCtx.Gen.frame m ρ, fun m ρ _ => Cert.InProjCtxIdeal.Gen.frame m ρ, frame_inproj_ctx_reference,
    IdealRules.named_const.statement Cert.KernelIdeal.κ "mask" .f32 0xF149F2CA#32 ⊥ rfl, Cert.Attn.algebraic,
    trivial, Cert.Block.algebraic, trivial, Cert.Proj.algebraic, trivial, Cert.Ada.algebraic, trivial, Cert.CtxAttn.algebraic,
    trivial, Cert.CtxBlock.algebraic, trivial, Cert.CtxProj.algebraic⟩

end Cert.Proof

end
